-- ==== Defs.lean ====
def Pre_Kernel [hPre_indices_fit : Cert.Pre_indices_fit.Facts] (m : (ℓ : Loc Cert.Kernel.nD Cert.Kernel.τ Cert.Kernel.sig) → Buf (Elt Bits) ℓ) : Prop :=
  ∀ c : Dev Cert.Kernel.nD,
    (Cert.Pre_indices_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_indices_fit : Cert.Pre_indices_fit.Facts] (m : (ℓ : Loc Cert.KernelIdeal.nD Cert.KernelIdeal.τ Cert.KernelIdeal.sig) → Buf (Elt Ideal) ℓ) : Prop :=
  ∀ c : Dev Cert.KernelIdeal.nD,
    (Cert.Pre_indices_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_fit [hPre_indices_fit : Cert.Pre_indices_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_indices_fit : Cert.Pre_indices_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_indices_fit : Cert.Pre_indices_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_indices_fit [hReferenceIdeal : Cert.ReferenceIdeal.Facts] [hPre_indices_fit : Cert.Pre_indices_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_indices_fit : Cert.Pre_indices_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_indices_fit : Cert.Pre_indices_fit.Facts),
    quiescent_Kernel (hKernel := hKernel) (hPre_indices_fit := hPre_indices_fit)
    ∧ quiescent_KernelIdeal (hKernelIdeal := hKernelIdeal) (hPre_indices_fit := hPre_indices_fit)
    ∧ quiescent_ReferenceIdeal (hReferenceIdeal := hReferenceIdeal)
    ∧ quiescent_ReferenceIdeal_pre_indices_fit (hReferenceIdeal := hReferenceIdeal) (hPre_indices_fit := hPre_indices_fit)
    ∧ preserves_Kernel_KernelIdeal
    ∧ algebraic_KernelIdeal_ReferenceIdeal (hKernelIdeal := hKernelIdeal) (hReferenceIdeal := hReferenceIdeal) (hPre_indices_fit := hPre_indices_fit)
-- ==== Pre_indices_fit.lean ====
abbrev S16384 : Shape := ⟨1, ![16384]⟩
abbrev S1000000x32 : Shape := ⟨2, ![1000000, 32]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩

class Facts : Prop where
  bcast_S_S16384 : S_.BroadcastsInDim S16384 (![] : Fin 0 → Fin S16384.rank)
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  natLt_1_32 : 1 < 32
  reducesTo_S16384x16384_S16384_d1 : S16384x16384.ReducesTo [1] S16384
  h_S_ : 0 < S_.numel

variable [Facts]

def fn_part3 {F : FTy → Type} [FloatOps F] (main_v28 : IVec S16384 1) (main_v46 : IVec S16384 32) (main_v54 : IVec S16384 1) (main_v55 : IVec S16384 32) : IVec S16384 1 :=
  let main_v56 : IVec S16384 1 := cmpi .sle main_v46 main_v55
  let main_v57 : IVec S16384 1 := andi main_v54 main_v56
  let main_v58 : IVec S16384 1 := andi main_v28 main_v57
  main_v58

def fn_part2 {F : FTy → Type} [FloatOps F] (main_arg1 : IVec S16384 32) (main_v28 : IVec S16384 1) (main_v32 : IVec S16384 32) (main_v37 : IVec S16384x16384 1) : IVec S16384 1 :=
  let main_v38 : IVec S16384x16384 32 := (extui 32 · natLt_1_32) main_v37
  let main_c_9 : IVec S_ 32 := constantI S_ 32 0#32
  let main_v39 : IVec S16384 32 := (fun x v => Host.reduce IntOp.addi x v reducesTo_S16384x16384_S16384_d1 h_S_) main_v38 main_c_9
  let main_v40 : IVec S16384x1 32 := broadcastInDim S16384x1 ![0] bcast_S16384_S16384x1_0 main_v32
  let main_v41 : IVec S1x16384 32 := broadcastInDim S1x16384 ![1] bcast_S16384_S1x16384_1 main_v32
  let main_v42 : IVec S16384x16384 32 := broadcastInDim S16384x16384 ![0, 1] bcast_S16384x1_S16384x16384_0_1 main_v40
  let main_v43 : IVec S16384x16384 32 := broadcastInDim S16384x16384 ![0, 1] bcast_S1x16384_S16384x16384_0_1 main_v41
  let main_v44 : IVec S16384x16384 1 := cmpi .eq main_v42 main_v43
  let main_v45 : IVec S16384x16384 32 := (extui 32 · natLt_1_32) main_v44
  let main_c_10 : IVec S_ 32 := constantI S_ 32 0#32
  let main_v46 : IVec S16384 32 := (fun x v => Host.reduce IntOp.addi x v reducesTo_S16384x16384_S16384_d1 h_S_) main_v45 main_c_10
  let main_c_11 : IVec S_ 32 := constantI S_ 32 0#32
  let main_v47 : IVec S16384 32 := broadcastInDim S16384 ![] bcast_S_S16384 main_c_11
  let main_v48 : IVec S16384 1 := cmpi .sge main_arg1 main_v47
  let main_c_12 : IVec S_ 32 := constantI S_ 32 1000000#32
  let main_v49 : IVec S16384 32 := broadcastInDim S16384 ![] bcast_S_S16384 main_c_12
  let main_v50 : IVec S16384 1 := cmpi .slt main_arg1 main_v49
  let main_v51 : IVec S16384 1 := andi main_v48 main_v50
  let main_c_13 : IVec S_ 32 := constantI S_ 32 16#32
  let main_v52 : IVec S16384 32 := broadcastInDim S16384 ![] bcast_S_S16384 main_c_13
  let main_v53 : IVec S16384 1 := cmpi .sle main_v39 main_v52
  let main_v54 : IVec S16384 1 := andi main_v51 main_v53
  let main_c_14 : IVec S_ 32 := constantI S_ 32 1008#32
  let main_v55 : IVec S16384 32 := broadcastInDim S16384 ![] bcast_S_S16384 main_c_14
  fn_part3 (F := F) main_v28 main_v46 main_v54 main_v55

def fn_part1 {F : FTy → Type} [FloatOps F] (main_arg0 : IVec S16384 32) (main_arg1 : IVec S16384 32) (main_v10 : IVec S16384 32) (main_v17 : IVec S16384 32) (main_v18 : IVec S16384 32) : IVec S16384 1 :=
  let main_v19 : IVec S16384 1 := cmpi .sge main_arg0 main_v18
  let main_c_4 : IVec S_ 32 := constantI S_ 32 1000000#32
  let main_v20 : IVec S16384 32 := broadcastInDim S16384 ![] bcast_S_S16384 main_c_4
  let main_v21 : IVec S16384 1 := cmpi .slt main_arg0 main_v20
  let main_v22 : IVec S16384 1 := andi main_v19 main_v21
  let main_c_5 : IVec S_ 32 := constantI S_ 32 16#32
  let main_v23 : IVec S16384 32 := broadcastInDim S16384 ![] bcast_S_S16384 main_c_5
  let main_v24 : IVec S16384 1 := cmpi .sle main_v10 main_v23
  let main_v25 : IVec S16384 1 := andi main_v22 main_v24
  let main_c_6 : IVec S_ 32 := constantI S_ 32 1008#32
  let main_v26 : IVec S16384 32 := broadcastInDim S16384 ![] bcast_S_S16384 main_c_6
  let main_v27 : IVec S16384 1 := cmpi .sle main_v17 main_v26
  let main_v28 : IVec S16384 1 := andi main_v25 main_v27
  let main_c_7 : IVec S_ 32 := constantI S_ 32 7#32
  let main_v29 : IVec S16384 32 := broadcastInDim S16384 ![] bcast_S_S16384 main_c_7
  let main_v30 : IVec S16384 32 := Host.shrui main_arg1 main_v29
  let main_c_8 : IVec S_ 32 := constantI S_ 32 31#32
  let main_v31 : IVec S16384 32 := broadcastInDim S16384 ![] bcast_S_S16384 main_c_8
  let main_v32 : IVec S16384 32 := andi main_v30 main_v31
  let main_v33 : IVec S16384x1 32 := broadcastInDim S16384x1 ![0] bcast_S16384_S16384x1_0 main_v30
  let main_v34 : IVec S1x16384 32 := broadcastInDim S1x16384 ![1] bcast_S16384_S1x16384_1 main_v30
  let main_v35 : IVec S16384x16384 32 := broadcastInDim S16384x16384 ![0, 1] bcast_S16384x1_S16384x16384_0_1 main_v33
  let main_v36 : IVec S16384x16384 32 := broadcastInDim S16384x16384 ![0, 1] bcast_S1x16384_S16384x16384_0_1 main_v34
  let main_v37 : IVec S16384x16384 1 := cmpi .eq main_v35 main_v36
  fn_part2 (F := F) main_arg1 main_v28 main_v32 main_v37

def fn {F : FTy → Type} [FloatOps F] (main_arg0 : IVec S16384 32) (main_arg1 : IVec S16384 32) (main_arg2 : FVec F S1000000x32 .f32) (main_arg3 : FVec F S1000000x32 .f32) : IVec S16384 1 :=
  let main_c : IVec S_ 32 := constantI S_ 32 7#32
  let main_v0 : IVec S16384 32 := broadcastInDim S16384 ![] bcast_S_S16384 main_c
  let main_v1 : IVec S16384 32 := Host.shrui main_arg0 main_v0
  let main_c_0 : IVec S_ 32 := constantI S_ 32 31#32
  let main_v2 : IVec S16384 32 := broadcastInDim S16384 ![] bcast_S_S16384 main_c_0
  let main_v3 : IVec S16384 32 := andi main_v1 main_v2
  let main_v4 : IVec S16384x1 32 := broadcastInDim S16384x1 ![0] bcast_S16384_S16384x1_0 main_v1
  let main_v5 : IVec S1x16384 32 := broadcastInDim S1x16384 ![1] bcast_S16384_S1x16384_1 main_v1
  let main_v6 : IVec S16384x16384 32 := broadcastInDim S16384x16384 ![0, 1] bcast_S16384x1_S16384x16384_0_1 main_v4
  let main_v7 : IVec S16384x16384 32 := broadcastInDim S16384x16384 ![0, 1] bcast_S1x16384_S16384x16384_0_1 main_v5
  let main_v8 : IVec S16384x16384 1 := cmpi .eq main_v6 main_v7
  let main_v9 : IVec S16384x16384 32 := (extui 32 · natLt_1_32) main_v8
  let main_c_1 : IVec S_ 32 := constantI S_ 32 0#32
  let main_v10 : IVec S16384 32 := (fun x v => Host.reduce IntOp.addi x v reducesTo_S16384x16384_S16384_d1 h_S_) main_v9 main_c_1
  let main_v11 : IVec S16384x1 32 := broadcastInDim S16384x1 ![0] bcast_S16384_S16384x1_0 main_v3
  let main_v12 : IVec S1x16384 32 := broadcastInDim S1x16384 ![1] bcast_S16384_S1x16384_1 main_v3
  let main_v13 : IVec S16384x16384 32 := broadcastInDim S16384x16384 ![0, 1] bcast_S16384x1_S16384x16384_0_1 main_v11
  let main_v14 : IVec S16384x16384 32 := broadcastInDim S16384x16384 ![0, 1] bcast_S1x16384_S16384x16384_0_1 main_v12
  let main_v15 : IVec S16384x16384 1 := cmpi .eq main_v13 main_v14
  let main_v16 : IVec S16384x16384 32 := (extui 32 · natLt_1_32) main_v15
  let main_c_2 : IVec S_ 32 := constantI S_ 32 0#32
  let main_v17 : IVec S16384 32 := (fun x v => Host.reduce IntOp.addi x v reducesTo_S16384x16384_S16384_d1 h_S_) main_v16 main_c_2
  let main_c_3 : IVec S_ 32 := constantI S_ 32 0#32
  let main_v18 : IVec S16384 32 := broadcastInDim S16384 ![] bcast_S_S16384 main_c_3
  fn_part1 (F := F) main_arg0 main_arg1 main_v10 main_v17 main_v18
-- ==== Kernel.lean ====
abbrev S16384 : Shape := ⟨1, ![16384]⟩
abbrev S1000000x32 : Shape := ⟨2, ![1000000, 32]⟩
abbrev S32x1000000 : Shape := ⟨2, ![32, 1000000]⟩
abbrev S_ : Shape := ⟨0, ![]⟩
abbrev S32x1000064 : Shape := ⟨2, ![32, 1000064]⟩
abbrev S524288 : Shape := ⟨1, ![524288]⟩
abbrev S1008 : Shape := ⟨1, ![1008]⟩
abbrev S4096 : Shape := ⟨1, ![4096]⟩
abbrev S256 : Shape := ⟨1, ![256]⟩
abbrev S8x32x128 : Shape := ⟨3, ![8, 32, 128]⟩
abbrev S16x32 : Shape := ⟨2, ![16, 32]⟩
abbrev S8 : Shape := ⟨1, ![8]⟩
abbrev S16 : Shape := ⟨1, ![16]⟩
abbrev S1 : Shape := ⟨1, ![1]⟩
abbrev S1x32x128 : Shape := ⟨3, ![1, 32, 128]⟩
abbrev S32x128 : Shape := ⟨2, ![32, 128]⟩
abbrev S1x16 : Shape := ⟨2, ![1, 16]⟩
abbrev S1x32 : Shape := ⟨2, ![1, 32]⟩
abbrev S32 : Shape := ⟨1, ![32]⟩
abbrev S512 : Shape := ⟨1, ![512]⟩

abbrev nBuf : Table → Nat
  | .hbm => 15
  | .local .scVector .smem => 2
  | .local .scVector .vmem => 10
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x32, .f32⟩
  | .hbm, ⟨3, _⟩ => ⟨S1000000x32, .f32⟩
  | .hbm, ⟨4, _⟩ => ⟨S32x1000000, .f32⟩
  | .hbm, ⟨5, _⟩ => ⟨S_, .i32⟩
  | .hbm, ⟨6, _⟩ => ⟨S_, .f32⟩
  | .hbm, ⟨7, _⟩ => ⟨S32x1000064, .f32⟩
  | .hbm, ⟨8, _⟩ => ⟨S32x1000000, .f32⟩
  | .hbm, ⟨9, _⟩ => ⟨S_, .i32⟩
  | .hbm, ⟨10, _⟩ => ⟨S_, .f32⟩
  | .hbm, ⟨11, _⟩ => ⟨S32x1000064, .f32⟩
  | .hbm, ⟨12, _⟩ => ⟨S524288, .f32⟩
  | .hbm, ⟨13, _⟩ => ⟨S524288, .f32⟩
  | .hbm, ⟨14, _⟩ => ⟨S16384, .f32⟩
  | .local .scVector .smem, ⟨0, _⟩ => ⟨S256, .i32⟩
  | .local .scVector .smem, ⟨1, _⟩ => ⟨S256, .i32⟩
  | .local .scVector .vmem, ⟨0, _⟩ => ⟨S16384, .i32⟩
  | .local .scVector .vmem, ⟨1, _⟩ => ⟨S1008, .i32⟩
  | .local .scVector .vmem, ⟨2, _⟩ => ⟨S1008, .i32⟩
  | .local .scVector .vmem, ⟨3, _⟩ => ⟨S4096, .i32⟩
  | .local .scVector .vmem, ⟨4, _⟩ => ⟨S4096, .i32⟩
  | .local .scVector .vmem, ⟨5, _⟩ => ⟨S8x32x128, .f32⟩
  | .local .scVector .vmem, ⟨6, _⟩ => ⟨S16x32, .f32⟩
  | .local .scVector .vmem, ⟨7, _⟩ => ⟨S16384, .f32⟩
  | .local .scVector .vmem, ⟨8, _⟩ => ⟨S16384, .f32⟩
  | .local .scVector .vmem, ⟨9, _⟩ => ⟨S512, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_arg0_scv : Ref sig .scVector := ⟨.hbm, 0, rfl⟩
abbrev main_arg1_scv : Ref sig .scVector := ⟨.hbm, 1, rfl⟩
abbrev main_v1_scv : Ref sig .scVector := ⟨.hbm, 7, rfl⟩
abbrev main_v3_scv : Ref sig .scVector := ⟨.hbm, 11, rfl⟩
abbrev main_v4_0_scv : Ref sig .scVector := ⟨.hbm, 12, rfl⟩
abbrev main_v4_1_scv : Ref sig .scVector := ⟨.hbm, 13, rfl⟩
abbrev main_v5_scv : Ref sig .scVector := ⟨.hbm, 14, rfl⟩
abbrev cc0_scratch5 : Ref sig .scVector := ⟨.smem, 0, rfl⟩
abbrev cc0_scratch6 : Ref sig .scVector := ⟨.smem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch7 : Ref sig .scVector := ⟨.vmem, 5, rfl⟩
abbrev cc0_scratch8 : Ref sig .scVector := ⟨.vmem, 6, rfl⟩
abbrev cc1_scratch0 : Ref sig .scVector := ⟨.vmem, 7, rfl⟩
abbrev cc1_scratch1 : Ref sig .scVector := ⟨.vmem, 8, rfl⟩
abbrev cc1_scratch2 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c256_i32 : BitVec 32 := 256#32
  let v3 : BitVec 32 := Scalar.addi c0_i32_0 c256_i32
  let c1_i32 : BitVec 32 := 1#32
  ⟨c0_i32_0, v3, c1_i32⟩
def k0_off1 (k0_t1 : Fin k0_t1_loop.trips) : Fin 1 → Nat :=
  let c0_i32_0 : BitVec 32 := 0#32
  let c1_i32 : BitVec 32 := 1#32
  let arg19 : BitVec 32 := Scf.iv c0_i32_0 c1_i32 k0_t1
  let v85 : Index := Scalar.indexCast arg19
  ![v85.toNat]
@[reducible] def k0_t2_loop : Scf.Loop 32 :=
  let c0_i32_3 : BitVec 32 := 0#32
  let c1024_i32 : BitVec 32 := 1024#32
  let v5 : BitVec 32 := Scalar.addi c0_i32_3 c1024_i32
  let c1_i32_4 : BitVec 32 := 1#32
  ⟨c0_i32_3, v5, c1_i32_4⟩
def k0_off2 (k0_t2 : Fin k0_t2_loop.trips) : Fin 1 → Nat :=
  let c0_i32_3 : BitVec 32 := 0#32
  let c1_i32_4 : BitVec 32 := 1#32
  let arg19 : BitVec 32 := Scf.iv c0_i32_3 c1_i32_4 k0_t2
  let c16_i32_71 : BitVec 32 := 16#32
  let v85 : BitVec 32 := Scalar.muli arg19 c16_i32_71
  let v86 : Index := Scalar.indexCast v85
  ![v86.toNat]

def k0_chk1 (v110 : IVec S16 32) : Prop :=
  (∀ a x, ((![v110] : Fin 1 → IVec S16 32) a x).toNat < S1008.size a) ∧
  (∀ a x, ((![v110] : Fin 1 → IVec S16 32) a x).toNat < S1008.size a)
theorem k0_idx1_inb : ∀ (v110 : IVec S16 32) (k0_hw1 : k0_chk1 v110), ∀ a x, ((![v110] : Fin 1 → IVec S16 32) a x).toNat < S1008.size a := fun v110 k0_hw1 => k0_hw1.1
theorem k0_idx2_inb : ∀ (v110 : IVec S16 32) (k0_hw1 : k0_chk1 v110), ∀ a x, ((![v110] : Fin 1 → IVec S16 32) a x).toNat < S1008.size a := fun v110 k0_hw1 => k0_hw1.2
@[reducible] def k0_t3_loop (v6 : BitVec 32) : Scf.Loop 32 :=
  let c0_i32_14 : BitVec 32 := 0#32
  let c16_i32 : BitVec 32 := 16#32
  let v7 : BitVec 32 := Scalar.addi v6 c16_i32
  let c1_i32_6 : BitVec 32 := 1#32
  let v8 : BitVec 32 := Scalar.subi v7 c1_i32_6
  let c0_i32_8 : BitVec 32 := 0#32
  let v10 : BitVec 1 := Scalar.cmpi .sgt v8 c0_i32_8
  let v11 : BitVec 32 := Scalar.extui v10
  let c0_i32_9 : BitVec 32 := 0#32
  let v12 : BitVec 1 := Scalar.cmpi .slt v8 c0_i32_9
  let v13 : BitVec 32 := Scalar.extui v12
  let v14 : BitVec 32 := Scalar.subi v11 v13
  let c16_i32_7 : BitVec 32 := 16#32
  let c0_i32_10 : BitVec 32 := 0#32
  let v15 : BitVec 1 := Scalar.cmpi .sgt c16_i32_7 c0_i32_10
  let v16 : BitVec 32 := Scalar.extui v15
  let c0_i32_11 : BitVec 32 := 0#32
  let v17 : BitVec 1 := Scalar.cmpi .slt c16_i32_7 c0_i32_11
  let v18 : BitVec 32 := Scalar.extui v17
  let v19 : BitVec 32 := Scalar.subi v16 v18
  let v20 : BitVec 1 := Scalar.cmpi .ne v14 v19
  let v21 : BitVec 32 := Scalar.remsi v8 c16_i32_7
  let c0_i32_12 : BitVec 32 := 0#32
  let v22 : BitVec 1 := Scalar.cmpi .ne v21 c0_i32_12
  let v23 : BitVec 1 := Scalar.andi v20 v22
  let v9 : BitVec 32 := Scalar.divsi v8 c16_i32_7
  let c1_i32_13 : BitVec 32 := 1#32
  let v24 : BitVec 32 := Scalar.subi v9 c1_i32_13
  let v25 : BitVec 32 := Scalar.select v23 v24 v9
  let v26 : BitVec 32 := Scalar.subi v25 c0_i32_14
  let c1_i32_16 : BitVec 32 := 1#32
  let v28 : BitVec 32 := Scalar.divsi v26 c1_i32_16
  let v29 : BitVec 32 := Scalar.muli v28 c1_i32_16
  let v30 : BitVec 32 := Scalar.addi c0_i32_14 v29
  let c1_i32_17 : BitVec 32 := 1#32
  ⟨c0_i32_14, v30, c1_i32_17⟩

def k0_off3 (v6 : BitVec 32) (k0_t3 : Fin (k0_t3_loop v6).trips) : Fin 1 → Nat :=
  let c0_i32_14 : BitVec 32 := 0#32
  let c1_i32_17 : BitVec 32 := 1#32
  let arg19 : BitVec 32 := Scf.iv c0_i32_14 c1_i32_17 k0_t3
  let c16_i32_71 : BitVec 32 := 16#32
  let v85 : BitVec 32 := Scalar.muli arg19 c16_i32_71
  let v86 : Index := Scalar.indexCast v85
  ![v86.toNat]
def k0_off4 (v102 : BitVec 32) : Fin 1 → Nat :=
  let v103 : Index := Scalar.indexCast v102
  ![v103.toNat]

def k0_chk3 (v102 : BitVec 32) : Prop :=
  (∀ a, (k0_off4 v102) a + S1.size a ≤ S256.size a)
theorem k0_off4_inb : ∀ (v102 : BitVec 32) (k0_hw3 : k0_chk3 v102), ∀ a, (k0_off4 v102) a + S1.size a ≤ S256.size a := fun v102 k0_hw3 => k0_hw3

def k0_off5 (v115 : BitVec 32) : Fin 1 → Nat :=
  let v116 : Index := Scalar.indexCast v115
  ![v116.toNat]

def k0_chk4 (v115 : BitVec 32) : Prop :=
  (∀ a, (k0_off5 v115) a + S1.size a ≤ S256.size a)
theorem k0_off5_inb : ∀ (v115 : BitVec 32) (k0_hw4 : k0_chk4 v115), ∀ a, (k0_off5 v115) a + S1.size a ≤ S256.size a := fun v115 k0_hw4 => k0_hw4

def k0_off6 (v128 : BitVec 32) : Fin 1 → Nat :=
  let v129 : Index := Scalar.indexCast v128
  ![v129.toNat]

def k0_chk5 (v128 : BitVec 32) : Prop :=
  (∀ a, (k0_off6 v128) a + S1.size a ≤ S256.size a)
theorem k0_off6_inb : ∀ (v128 : BitVec 32) (k0_hw5 : k0_chk5 v128), ∀ a, (k0_off6 v128) a + S1.size a ≤ S256.size a := fun v128 k0_hw5 => k0_hw5

def k0_off7 (v141 : BitVec 32) : Fin 1 → Nat :=
  let v142 : Index := Scalar.indexCast v141
  ![v142.toNat]

def k0_chk6 (v141 : BitVec 32) : Prop :=
  (∀ a, (k0_off7 v141) a + S1.size a ≤ S256.size a)
theorem k0_off7_inb : ∀ (v141 : BitVec 32) (k0_hw6 : k0_chk6 v141), ∀ a, (k0_off7 v141) a + S1.size a ≤ S256.size a := fun v141 k0_hw6 => k0_hw6

def k0_off8 (v154 : BitVec 32) : Fin 1 → Nat :=
  let v155 : Index := Scalar.indexCast v154
  ![v155.toNat]

def k0_chk7 (v154 : BitVec 32) : Prop :=
  (∀ a, (k0_off8 v154) a + S1.size a ≤ S256.size a)
theorem k0_off8_inb : ∀ (v154 : BitVec 32) (k0_hw7 : k0_chk7 v154), ∀ a, (k0_off8 v154) a + S1.size a ≤ S256.size a := fun v154 k0_hw7 => k0_hw7

def k0_off9 (v167 : BitVec 32) : Fin 1 → Nat :=
  let v168 : Index := Scalar.indexCast v167
  ![v168.toNat]

def k0_chk8 (v167 : BitVec 32) : Prop :=
  (∀ a, (k0_off9 v167) a + S1.size a ≤ S256.size a)
theorem k0_off9_inb : ∀ (v167 : BitVec 32) (k0_hw8 : k0_chk8 v167), ∀ a, (k0_off9 v167) a + S1.size a ≤ S256.size a := fun v167 k0_hw8 => k0_hw8

def k0_off10 (v180 : BitVec 32) : Fin 1 → Nat :=
  let v181 : Index := Scalar.indexCast v180
  ![v181.toNat]

def k0_chk9 (v180 : BitVec 32) : Prop :=
  (∀ a, (k0_off10 v180) a + S1.size a ≤ S256.size a)
theorem k0_off10_inb : ∀ (v180 : BitVec 32) (k0_hw9 : k0_chk9 v180), ∀ a, (k0_off10 v180) a + S1.size a ≤ S256.size a := fun v180 k0_hw9 => k0_hw9

def k0_off11 (v193 : BitVec 32) : Fin 1 → Nat :=
  let v194 : Index := Scalar.indexCast v193
  ![v194.toNat]

def k0_chk10 (v193 : BitVec 32) : Prop :=
  (∀ a, (k0_off11 v193) a + S1.size a ≤ S256.size a)
theorem k0_off11_inb : ∀ (v193 : BitVec 32) (k0_hw10 : k0_chk10 v193), ∀ a, (k0_off11 v193) a + S1.size a ≤ S256.size a := fun v193 k0_hw10 => k0_hw10

def k0_off12 (v206 : BitVec 32) : Fin 1 → Nat :=
  let v207 : Index := Scalar.indexCast v206
  ![v207.toNat]

def k0_chk11 (v206 : BitVec 32) : Prop :=
  (∀ a, (k0_off12 v206) a + S1.size a ≤ S256.size a)
theorem k0_off12_inb : ∀ (v206 : BitVec 32) (k0_hw11 : k0_chk11 v206), ∀ a, (k0_off12 v206) a + S1.size a ≤ S256.size a := fun v206 k0_hw11 => k0_hw11

def k0_off13 (v219 : BitVec 32) : Fin 1 → Nat :=
  let v220 : Index := Scalar.indexCast v219
  ![v220.toNat]

def k0_chk12 (v219 : BitVec 32) : Prop :=
  (∀ a, (k0_off13 v219) a + S1.size a ≤ S256.size a)
theorem k0_off13_inb : ∀ (v219 : BitVec 32) (k0_hw12 : k0_chk12 v219), ∀ a, (k0_off13 v219) a + S1.size a ≤ S256.size a := fun v219 k0_hw12 => k0_hw12

def k0_off14 (v232 : BitVec 32) : Fin 1 → Nat :=
  let v233 : Index := Scalar.indexCast v232
  ![v233.toNat]

def k0_chk13 (v232 : BitVec 32) : Prop :=
  (∀ a, (k0_off14 v232) a + S1.size a ≤ S256.size a)
theorem k0_off14_inb : ∀ (v232 : BitVec 32) (k0_hw13 : k0_chk13 v232), ∀ a, (k0_off14 v232) a + S1.size a ≤ S256.size a := fun v232 k0_hw13 => k0_hw13

def k0_off15 (v245 : BitVec 32) : Fin 1 → Nat :=
  let v246 : Index := Scalar.indexCast v245
  ![v246.toNat]

def k0_chk14 (v245 : BitVec 32) : Prop :=
  (∀ a, (k0_off15 v245) a + S1.size a ≤ S256.size a)
theorem k0_off15_inb : ∀ (v245 : BitVec 32) (k0_hw14 : k0_chk14 v245), ∀ a, (k0_off15 v245) a + S1.size a ≤ S256.size a := fun v245 k0_hw14 => k0_hw14

def k0_off16 (v258 : BitVec 32) : Fin 1 → Nat :=
  let v259 : Index := Scalar.indexCast v258
  ![v259.toNat]

def k0_chk15 (v258 : BitVec 32) : Prop :=
  (∀ a, (k0_off16 v258) a + S1.size a ≤ S256.size a)
theorem k0_off16_inb : ∀ (v258 : BitVec 32) (k0_hw15 : k0_chk15 v258), ∀ a, (k0_off16 v258) a + S1.size a ≤ S256.size a := fun v258 k0_hw15 => k0_hw15

def k0_off17 (v271 : BitVec 32) : Fin 1 → Nat :=
  let v272 : Index := Scalar.indexCast v271
  ![v272.toNat]

def k0_chk16 (v271 : BitVec 32) : Prop :=
  (∀ a, (k0_off17 v271) a + S1.size a ≤ S256.size a)
theorem k0_off17_inb : ∀ (v271 : BitVec 32) (k0_hw16 : k0_chk16 v271), ∀ a, (k0_off17 v271) a + S1.size a ≤ S256.size a := fun v271 k0_hw16 => k0_hw16

def k0_off18 (v284 : BitVec 32) : Fin 1 → Nat :=
  let v285 : Index := Scalar.indexCast v284
  ![v285.toNat]

def k0_chk17 (v284 : BitVec 32) : Prop :=
  (∀ a, (k0_off18 v284) a + S1.size a ≤ S256.size a)
theorem k0_off18_inb : ∀ (v284 : BitVec 32) (k0_hw17 : k0_chk17 v284), ∀ a, (k0_off18 v284) a + S1.size a ≤ S256.size a := fun v284 k0_hw17 => k0_hw17

def k0_off19 (v297 : BitVec 32) : Fin 1 → Nat :=
  let v298 : Index := Scalar.indexCast v297
  ![v298.toNat]

def k0_chk18 (v297 : BitVec 32) : Prop :=
  (∀ a, (k0_off19 v297) a + S1.size a ≤ S256.size a)
theorem k0_off19_inb : ∀ (v297 : BitVec 32) (k0_hw18 : k0_chk18 v297), ∀ a, (k0_off19 v297) a + S1.size a ≤ S256.size a := fun v297 k0_hw18 => k0_hw18

def k0_chk19 (v308 : IVec S16 32) : Prop :=
  (∀ a x, ((![v308] : Fin 1 → IVec S16 32) a x).toNat < S4096.size a) ∧
  (∀ a x, ((![v308] : Fin 1 → IVec S16 32) a x).toNat < S4096.size a)
theorem k0_idx3_inb : ∀ (v308 : IVec S16 32) (k0_hw19 : k0_chk19 v308), ∀ a x, ((![v308] : Fin 1 → IVec S16 32) a x).toNat < S4096.size a := fun v308 k0_hw19 => k0_hw19.1
theorem k0_idx4_inb : ∀ (v308 : IVec S16 32) (k0_hw19 : k0_chk19 v308), ∀ a x, ((![v308] : Fin 1 → IVec S16 32) a x).toNat < S4096.size a := fun v308 k0_hw19 => k0_hw19.2
@[reducible] def k0_t4_loop (v6 : BitVec 32) : Scf.Loop 32 :=
  let c0_i32_14 : BitVec 32 := 0#32
  let c16_i32 : BitVec 32 := 16#32
  let v7 : BitVec 32 := Scalar.addi v6 c16_i32
  let c1_i32_6 : BitVec 32 := 1#32
  let v8 : BitVec 32 := Scalar.subi v7 c1_i32_6
  let c0_i32_8 : BitVec 32 := 0#32
  let v10 : BitVec 1 := Scalar.cmpi .sgt v8 c0_i32_8
  let v11 : BitVec 32 := Scalar.extui v10
  let c0_i32_9 : BitVec 32 := 0#32
  let v12 : BitVec 1 := Scalar.cmpi .slt v8 c0_i32_9
  let v13 : BitVec 32 := Scalar.extui v12
  let v14 : BitVec 32 := Scalar.subi v11 v13
  let c16_i32_7 : BitVec 32 := 16#32
  let c0_i32_10 : BitVec 32 := 0#32
  let v15 : BitVec 1 := Scalar.cmpi .sgt c16_i32_7 c0_i32_10
  let v16 : BitVec 32 := Scalar.extui v15
  let c0_i32_11 : BitVec 32 := 0#32
  let v17 : BitVec 1 := Scalar.cmpi .slt c16_i32_7 c0_i32_11
  let v18 : BitVec 32 := Scalar.extui v17
  let v19 : BitVec 32 := Scalar.subi v16 v18
  let v20 : BitVec 1 := Scalar.cmpi .ne v14 v19
  let v21 : BitVec 32 := Scalar.remsi v8 c16_i32_7
  let c0_i32_12 : BitVec 32 := 0#32
  let v22 : BitVec 1 := Scalar.cmpi .ne v21 c0_i32_12
  let v23 : BitVec 1 := Scalar.andi v20 v22
  let v9 : BitVec 32 := Scalar.divsi v8 c16_i32_7
  let c1_i32_13 : BitVec 32 := 1#32
  let v24 : BitVec 32 := Scalar.subi v9 c1_i32_13
  let v25 : BitVec 32 := Scalar.select v23 v24 v9
  let v26 : BitVec 32 := Scalar.subi v25 c0_i32_14
  let c1_i32_16 : BitVec 32 := 1#32
  let v28 : BitVec 32 := Scalar.divsi v26 c1_i32_16
  let v29 : BitVec 32 := Scalar.muli v28 c1_i32_16
  let v30 : BitVec 32 := Scalar.addi c0_i32_14 v29
  let v27 : BitVec 32 := Scalar.addi c0_i32_14 v26
  let c1_i32_18 : BitVec 32 := 1#32
  ⟨v30, v27, c1_i32_18⟩
def k0_off20 (v6 : BitVec 32) (k0_t4 : Fin (k0_t4_loop v6).trips) : Fin 1 → Nat :=
  let c0_i32_14 : BitVec 32 := 0#32
  let c16_i32 : BitVec 32 := 16#32
  let v7 : BitVec 32 := Scalar.addi v6 c16_i32
  let c1_i32_6 : BitVec 32 := 1#32
  let v8 : BitVec 32 := Scalar.subi v7 c1_i32_6
  let c0_i32_8 : BitVec 32 := 0#32
  let v10 : BitVec 1 := Scalar.cmpi .sgt v8 c0_i32_8
  let v11 : BitVec 32 := Scalar.extui v10
  let c0_i32_9 : BitVec 32 := 0#32
  let v12 : BitVec 1 := Scalar.cmpi .slt v8 c0_i32_9
  let v13 : BitVec 32 := Scalar.extui v12
  let v14 : BitVec 32 := Scalar.subi v11 v13
  let c16_i32_7 : BitVec 32 := 16#32
  let c0_i32_10 : BitVec 32 := 0#32
  let v15 : BitVec 1 := Scalar.cmpi .sgt c16_i32_7 c0_i32_10
  let v16 : BitVec 32 := Scalar.extui v15
  let c0_i32_11 : BitVec 32 := 0#32
  let v17 : BitVec 1 := Scalar.cmpi .slt c16_i32_7 c0_i32_11
  let v18 : BitVec 32 := Scalar.extui v17
  let v19 : BitVec 32 := Scalar.subi v16 v18
  let v20 : BitVec 1 := Scalar.cmpi .ne v14 v19
  let v21 : BitVec 32 := Scalar.remsi v8 c16_i32_7
  let c0_i32_12 : BitVec 32 := 0#32
  let v22 : BitVec 1 := Scalar.cmpi .ne v21 c0_i32_12
  let v23 : BitVec 1 := Scalar.andi v20 v22
  let v9 : BitVec 32 := Scalar.divsi v8 c16_i32_7
  let c1_i32_13 : BitVec 32 := 1#32
  let v24 : BitVec 32 := Scalar.subi v9 c1_i32_13
  let v25 : BitVec 32 := Scalar.select v23 v24 v9
  let v26 : BitVec 32 := Scalar.subi v25 c0_i32_14
  let c1_i32_16 : BitVec 32 := 1#32
  let v28 : BitVec 32 := Scalar.divsi v26 c1_i32_16
  let v29 : BitVec 32 := Scalar.muli v28 c1_i32_16
  let v30 : BitVec 32 := Scalar.addi c0_i32_14 v29
  let c1_i32_18 : BitVec 32 := 1#32
  let arg19 : BitVec 32 := Scf.iv v30 c1_i32_18 k0_t4
  let c16_i32_71 : BitVec 32 := 16#32
  let v85 : BitVec 32 := Scalar.muli arg19 c16_i32_71
  let v86 : Index := Scalar.indexCast v85
  ![v86.toNat]

def k0_chk2 (v6 : BitVec 32) : Prop :=
  ((k0_t3_loop v6).OK) ∧
  (∀ k0_t3 : Fin (k0_t3_loop v6).trips, ∀ a, (k0_off3 v6 k0_t3) a + S16.size a ≤ S1008.size a) ∧
  ((k0_t4_loop v6).OK) ∧
  (∀ k0_t4 : Fin (k0_t4_loop v6).trips, ∀ a, (k0_off20 v6 k0_t4) a + S16.size a ≤ S1008.size a)
theorem k0_t3_ok : ∀ (v6 : BitVec 32) (k0_hw2 : k0_chk2 v6), (k0_t3_loop v6).OK := fun v6 k0_hw2 => k0_hw2.1
theorem k0_off3_inb : ∀ (v6 : BitVec 32) (k0_hw2 : k0_chk2 v6) (k0_t3 : Fin (k0_t3_loop v6).trips), ∀ a, (k0_off3 v6 k0_t3) a + S16.size a ≤ S1008.size a := fun v6 k0_hw2 k0_t3 => k0_hw2.2.1 k0_t3
theorem k0_t4_ok : ∀ (v6 : BitVec 32) (k0_hw2 : k0_chk2 v6), (k0_t4_loop v6).OK := fun v6 k0_hw2 => k0_hw2.2.2.1
theorem k0_off20_inb : ∀ (v6 : BitVec 32) (k0_hw2 : k0_chk2 v6) (k0_t4 : Fin (k0_t4_loop v6).trips), ∀ a, (k0_off20 v6 k0_t4) a + S16.size a ≤ S1008.size a := fun v6 k0_hw2 k0_t4 => k0_hw2.2.2.2 k0_t4

def k0_off21 (v102 : BitVec 32) : Fin 1 → Nat :=
  let v103 : Index := Scalar.indexCast v102
  ![v103.toNat]

def k0_chk20 (v102 : BitVec 32) : Prop :=
  (∀ a, (k0_off21 v102) a + S1.size a ≤ S256.size a)
theorem k0_off21_inb : ∀ (v102 : BitVec 32) (k0_hw20 : k0_chk20 v102), ∀ a, (k0_off21 v102) a + S1.size a ≤ S256.size a := fun v102 k0_hw20 => k0_hw20

def k0_off22 (v115 : BitVec 32) : Fin 1 → Nat :=
  let v116 : Index := Scalar.indexCast v115
  ![v116.toNat]

def k0_chk21 (v115 : BitVec 32) : Prop :=
  (∀ a, (k0_off22 v115) a + S1.size a ≤ S256.size a)
theorem k0_off22_inb : ∀ (v115 : BitVec 32) (k0_hw21 : k0_chk21 v115), ∀ a, (k0_off22 v115) a + S1.size a ≤ S256.size a := fun v115 k0_hw21 => k0_hw21

def k0_off23 (v128 : BitVec 32) : Fin 1 → Nat :=
  let v129 : Index := Scalar.indexCast v128
  ![v129.toNat]

def k0_chk22 (v128 : BitVec 32) : Prop :=
  (∀ a, (k0_off23 v128) a + S1.size a ≤ S256.size a)
theorem k0_off23_inb : ∀ (v128 : BitVec 32) (k0_hw22 : k0_chk22 v128), ∀ a, (k0_off23 v128) a + S1.size a ≤ S256.size a := fun v128 k0_hw22 => k0_hw22

def k0_off24 (v141 : BitVec 32) : Fin 1 → Nat :=
  let v142 : Index := Scalar.indexCast v141
  ![v142.toNat]

def k0_chk23 (v141 : BitVec 32) : Prop :=
  (∀ a, (k0_off24 v141) a + S1.size a ≤ S256.size a)
theorem k0_off24_inb : ∀ (v141 : BitVec 32) (k0_hw23 : k0_chk23 v141), ∀ a, (k0_off24 v141) a + S1.size a ≤ S256.size a := fun v141 k0_hw23 => k0_hw23

def k0_off25 (v154 : BitVec 32) : Fin 1 → Nat :=
  let v155 : Index := Scalar.indexCast v154
  ![v155.toNat]

def k0_chk24 (v154 : BitVec 32) : Prop :=
  (∀ a, (k0_off25 v154) a + S1.size a ≤ S256.size a)
theorem k0_off25_inb : ∀ (v154 : BitVec 32) (k0_hw24 : k0_chk24 v154), ∀ a, (k0_off25 v154) a + S1.size a ≤ S256.size a := fun v154 k0_hw24 => k0_hw24

def k0_off26 (v167 : BitVec 32) : Fin 1 → Nat :=
  let v168 : Index := Scalar.indexCast v167
  ![v168.toNat]

def k0_chk25 (v167 : BitVec 32) : Prop :=
  (∀ a, (k0_off26 v167) a + S1.size a ≤ S256.size a)
theorem k0_off26_inb : ∀ (v167 : BitVec 32) (k0_hw25 : k0_chk25 v167), ∀ a, (k0_off26 v167) a + S1.size a ≤ S256.size a := fun v167 k0_hw25 => k0_hw25

def k0_off27 (v180 : BitVec 32) : Fin 1 → Nat :=
  let v181 : Index := Scalar.indexCast v180
  ![v181.toNat]

def k0_chk26 (v180 : BitVec 32) : Prop :=
  (∀ a, (k0_off27 v180) a + S1.size a ≤ S256.size a)
theorem k0_off27_inb : ∀ (v180 : BitVec 32) (k0_hw26 : k0_chk26 v180), ∀ a, (k0_off27 v180) a + S1.size a ≤ S256.size a := fun v180 k0_hw26 => k0_hw26

def k0_off28 (v193 : BitVec 32) : Fin 1 → Nat :=
  let v194 : Index := Scalar.indexCast v193
  ![v194.toNat]

def k0_chk27 (v193 : BitVec 32) : Prop :=
  (∀ a, (k0_off28 v193) a + S1.size a ≤ S256.size a)
theorem k0_off28_inb : ∀ (v193 : BitVec 32) (k0_hw27 : k0_chk27 v193), ∀ a, (k0_off28 v193) a + S1.size a ≤ S256.size a := fun v193 k0_hw27 => k0_hw27

def k0_off29 (v206 : BitVec 32) : Fin 1 → Nat :=
  let v207 : Index := Scalar.indexCast v206
  ![v207.toNat]

def k0_chk28 (v206 : BitVec 32) : Prop :=
  (∀ a, (k0_off29 v206) a + S1.size a ≤ S256.size a)
theorem k0_off29_inb : ∀ (v206 : BitVec 32) (k0_hw28 : k0_chk28 v206), ∀ a, (k0_off29 v206) a + S1.size a ≤ S256.size a := fun v206 k0_hw28 => k0_hw28

def k0_off30 (v219 : BitVec 32) : Fin 1 → Nat :=
  let v220 : Index := Scalar.indexCast v219
  ![v220.toNat]

def k0_chk29 (v219 : BitVec 32) : Prop :=
  (∀ a, (k0_off30 v219) a + S1.size a ≤ S256.size a)
theorem k0_off30_inb : ∀ (v219 : BitVec 32) (k0_hw29 : k0_chk29 v219), ∀ a, (k0_off30 v219) a + S1.size a ≤ S256.size a := fun v219 k0_hw29 => k0_hw29

def k0_off31 (v232 : BitVec 32) : Fin 1 → Nat :=
  let v233 : Index := Scalar.indexCast v232
  ![v233.toNat]

def k0_chk30 (v232 : BitVec 32) : Prop :=
  (∀ a, (k0_off31 v232) a + S1.size a ≤ S256.size a)
theorem k0_off31_inb : ∀ (v232 : BitVec 32) (k0_hw30 : k0_chk30 v232), ∀ a, (k0_off31 v232) a + S1.size a ≤ S256.size a := fun v232 k0_hw30 => k0_hw30

def k0_off32 (v245 : BitVec 32) : Fin 1 → Nat :=
  let v246 : Index := Scalar.indexCast v245
  ![v246.toNat]

def k0_chk31 (v245 : BitVec 32) : Prop :=
  (∀ a, (k0_off32 v245) a + S1.size a ≤ S256.size a)
theorem k0_off32_inb : ∀ (v245 : BitVec 32) (k0_hw31 : k0_chk31 v245), ∀ a, (k0_off32 v245) a + S1.size a ≤ S256.size a := fun v245 k0_hw31 => k0_hw31

def k0_off33 (v258 : BitVec 32) : Fin 1 → Nat :=
  let v259 : Index := Scalar.indexCast v258
  ![v259.toNat]

def k0_chk32 (v258 : BitVec 32) : Prop :=
  (∀ a, (k0_off33 v258) a + S1.size a ≤ S256.size a)
theorem k0_off33_inb : ∀ (v258 : BitVec 32) (k0_hw32 : k0_chk32 v258), ∀ a, (k0_off33 v258) a + S1.size a ≤ S256.size a := fun v258 k0_hw32 => k0_hw32

def k0_off34 (v271 : BitVec 32) : Fin 1 → Nat :=
  let v272 : Index := Scalar.indexCast v271
  ![v272.toNat]

def k0_chk33 (v271 : BitVec 32) : Prop :=
  (∀ a, (k0_off34 v271) a + S1.size a ≤ S256.size a)
theorem k0_off34_inb : ∀ (v271 : BitVec 32) (k0_hw33 : k0_chk33 v271), ∀ a, (k0_off34 v271) a + S1.size a ≤ S256.size a := fun v271 k0_hw33 => k0_hw33

def k0_off35 (v284 : BitVec 32) : Fin 1 → Nat :=
  let v285 : Index := Scalar.indexCast v284
  ![v285.toNat]

def k0_chk34 (v284 : BitVec 32) : Prop :=
  (∀ a, (k0_off35 v284) a + S1.size a ≤ S256.size a)
theorem k0_off35_inb : ∀ (v284 : BitVec 32) (k0_hw34 : k0_chk34 v284), ∀ a, (k0_off35 v284) a + S1.size a ≤ S256.size a := fun v284 k0_hw34 => k0_hw34

def k0_off36 (v297 : BitVec 32) : Fin 1 → Nat :=
  let v298 : Index := Scalar.indexCast v297
  ![v298.toNat]

def k0_chk35 (v297 : BitVec 32) : Prop :=
  (∀ a, (k0_off36 v297) a + S1.size a ≤ S256.size a)
theorem k0_off36_inb : ∀ (v297 : BitVec 32) (k0_hw35 : k0_chk35 v297), ∀ a, (k0_off36 v297) a + S1.size a ≤ S256.size a := fun v297 k0_hw35 => k0_hw35

def k0_chk36 (v308 : IVec S16 32) : Prop :=
  (∀ a x, ((![v308] : Fin 1 → IVec S16 32) a x).toNat < S4096.size a) ∧
  (∀ a x, ((![v308] : Fin 1 → IVec S16 32) a x).toNat < S4096.size a)
theorem k0_idx5_inb : ∀ (v308 : IVec S16 32) (k0_hw36 : k0_chk36 v308), ∀ a x, ((![v308] : Fin 1 → IVec S16 32) a x).toNat < S4096.size a := fun v308 k0_hw36 => k0_hw36.1
theorem k0_idx6_inb : ∀ (v308 : IVec S16 32) (k0_hw36 : k0_chk36 v308), ∀ a x, ((![v308] : Fin 1 → IVec S16 32) a x).toNat < S4096.size a := fun v308 k0_hw36 => k0_hw36.2
@[reducible] def k0_t5_loop : Scf.Loop 32 :=
  let c0_i32_20 : BitVec 32 := 0#32
  let c245_i32 : BitVec 32 := 245#32
  let v33 : BitVec 32 := Scalar.addi c0_i32_20 c245_i32
  let c1_i32_21 : BitVec 32 := 1#32
  ⟨c0_i32_20, v33, c1_i32_21⟩
def k0_off37 (k0_t5 : Fin k0_t5_loop.trips) : Fin 1 → Nat :=
  let c0_i32_20 : BitVec 32 := 0#32
  let c1_i32_21 : BitVec 32 := 1#32
  let arg19 : BitVec 32 := Scf.iv c0_i32_20 c1_i32_21 k0_t5
  let v85 : Index := Scalar.indexCast arg19
  ![v85.toNat]
def k0_off38 (arg20 : BitVec 32) : Fin 1 → Nat :=
  let v91 : Index := Scalar.indexCast arg20
  ![v91.toNat]
def k0_cond1 (v86 : BitVec 32) : BitVec 1 :=
  let c0_i32_71 : BitVec 32 := 0#32
  let v87 : BitVec 1 := Scalar.cmpi .sgt v86 c0_i32_71
  let v88 : BitVec 32 := Scalar.extui v87
  let c0_i32_72 : BitVec 32 := 0#32
  let v89 : BitVec 1 := Scalar.cmpi .ne v88 c0_i32_72
  v89

def k0_chk37 (arg20 : BitVec 32) (v86 : BitVec 32) : Prop :=
  (∀ (k0_h1 : k0_cond1 v86 = 1#1), ∀ a, (k0_off38 arg20) a + S1.size a ≤ S256.size a)
theorem k0_off38_inb : ∀ (arg20 : BitVec 32) (v86 : BitVec 32) (k0_hw37 : k0_chk37 arg20 v86), ∀ (k0_h1 : k0_cond1 v86 = 1#1), ∀ a, (k0_off38 arg20) a + S1.size a ≤ S256.size a := fun arg20 v86 k0_hw37 k0_h1 => k0_hw37 k0_h1

@[reducible] def k0_t6_loop : Scf.Loop 32 :=
  let c0_i32_24 : BitVec 32 := 0#32
  let c8_i32 : BitVec 32 := 8#32
  let v35 : BitVec 32 := Scalar.addi c0_i32_24 c8_i32
  let c1_i32_25 : BitVec 32 := 1#32
  ⟨c0_i32_24, v35, c1_i32_25⟩
def k0_off39 (k0_t6 : Fin k0_t6_loop.trips) : Fin 1 → Nat :=
  let c0_i32_24 : BitVec 32 := 0#32
  let c1_i32_25 : BitVec 32 := 1#32
  let arg19 : BitVec 32 := Scf.iv c0_i32_24 c1_i32_25 k0_t6
  let v88 : Index := Scalar.indexCast arg19
  ![v88.toNat]
def k0_mult1 (i : grid0.Coords) (v89 : BitVec 32) : BitVec 32 :=
  let c32_i32 : BitVec 32 := 32#32
  let v90 : BitVec 32 := Scalar.muli v89 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v91 : BitVec 32 := Scalar.addi v90 v1
  let c128_i32 : BitVec 32 := 128#32
  let v92 : BitVec 32 := Scalar.muli v91 c128_i32
  v92
def k0_cond2 (v34 : BitVec 32) (k0_t6 : Fin k0_t6_loop.trips) : BitVec 1 :=
  let c0_i32_24 : BitVec 32 := 0#32
  let c1_i32_25 : BitVec 32 := 1#32
  let arg19 : BitVec 32 := Scf.iv c0_i32_24 c1_i32_25 k0_t6
  let v85 : BitVec 1 := Scalar.cmpi .slt arg19 v34
  let v86 : BitVec 32 := Scalar.extui v85
  let c0_i32_71 : BitVec 32 := 0#32
  let v87 : BitVec 1 := Scalar.cmpi .ne v86 c0_i32_71
  v87

def k0_off40 (k0_t6 : Fin k0_t6_loop.trips) : Fin 3 → Nat :=
  let c0_i32_24 : BitVec 32 := 0#32
  let c1_i32_25 : BitVec 32 := 1#32
  let arg19 : BitVec 32 := Scf.iv c0_i32_24 c1_i32_25 k0_t6
  let c8_i32_73 : BitVec 32 := 8#32
  let v94 : BitVec 32 := Scalar.remsi arg19 c8_i32_73
  let c0_i32_75 : BitVec 32 := 0#32
  let c0_i32_76 : BitVec 32 := 0#32
  ![v94.toNat, 0, 0]
def k0_off41 (i : grid0.Coords) (v89 : BitVec 32) : Fin 2 → Nat :=
  let c0_i32_77 : BitVec 32 := 0#32
  let c32_i32 : BitVec 32 := 32#32
  let v90 : BitVec 32 := Scalar.muli v89 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v91 : BitVec 32 := Scalar.addi v90 v1
  let c128_i32 : BitVec 32 := 128#32
  let v92 : BitVec 32 := Scalar.muli v91 c128_i32
  let v93 : BitVec 32 := v92
  ![0, v93.toNat]

def k0_chk38 (i : grid0.Coords) (v34 : BitVec 32) (k0_t6 : Fin k0_t6_loop.trips) (v89 : BitVec 32) : Prop :=
  (∀ (k0_h2 : k0_cond2 v34 k0_t6 = 1#1), 128 ∣ (k0_mult1 i v89).toNat) ∧
  (∀ (k0_h2 : k0_cond2 v34 k0_t6 = 1#1), ∀ a, (k0_off41 i v89) a + S32x128.size a ≤ S32x1000064.size a)
theorem k0_mult1_dvd : ∀ (i : grid0.Coords) (v34 : BitVec 32) (k0_t6 : Fin k0_t6_loop.trips) (v89 : BitVec 32) (k0_hw38 : k0_chk38 i v34 k0_t6 v89), ∀ (k0_h2 : k0_cond2 v34 k0_t6 = 1#1), 128 ∣ (k0_mult1 i v89).toNat := fun i v34 k0_t6 v89 k0_hw38 k0_h2 => k0_hw38.1 k0_h2
theorem k0_off41_inb : ∀ (i : grid0.Coords) (v34 : BitVec 32) (k0_t6 : Fin k0_t6_loop.trips) (v89 : BitVec 32) (k0_hw38 : k0_chk38 i v34 k0_t6 v89), ∀ (k0_h2 : k0_cond2 v34 k0_t6 = 1#1), ∀ a, (k0_off41 i v89) a + S32x128.size a ≤ S32x1000064.size a := fun i v34 k0_t6 v89 k0_hw38 k0_h2 => k0_hw38.2 k0_h2

def k0_off42 (k0_t6 : Fin k0_t6_loop.trips) : Fin 1 → Nat :=
  let c0_i32_24 : BitVec 32 := 0#32
  let c1_i32_25 : BitVec 32 := 1#32
  let arg19 : BitVec 32 := Scf.iv c0_i32_24 c1_i32_25 k0_t6
  let c8_i32_74 : BitVec 32 := 8#32
  let v95 : BitVec 32 := Scalar.remsi arg19 c8_i32_74
  ![v95.toNat]
@[reducible] def k0_t7_loop (v34 : BitVec 32) : Scf.Loop 32 :=
  let c0_i32_27 : BitVec 32 := 0#32
  let v37 : BitVec 32 := Scalar.subi v34 c0_i32_27
  let c1_i32_29 : BitVec 32 := 1#32
  let v39 : BitVec 32 := Scalar.divsi v37 c1_i32_29
  let v40 : BitVec 32 := Scalar.muli v39 c1_i32_29
  let v41 : BitVec 32 := Scalar.addi c0_i32_27 v40
  let c1_i32_30 : BitVec 32 := 1#32
  ⟨c0_i32_27, v41, c1_i32_30⟩

def k0_off43 (v34 : BitVec 32) (k0_t7 : Fin (k0_t7_loop v34).trips) : Fin 3 → Nat :=
  let c0_i32_27 : BitVec 32 := 0#32
  let c1_i32_30 : BitVec 32 := 1#32
  let arg19 : BitVec 32 := Scf.iv c0_i32_27 c1_i32_30 k0_t7
  let c8_i32_71 : BitVec 32 := 8#32
  let v85 : BitVec 32 := Scalar.remsi arg19 c8_i32_71
  let c0_i32_72 : BitVec 32 := 0#32
  let c0_i32_73 : BitVec 32 := 0#32
  ![v85.toNat, 0, 0]
def k0_off44 (v34 : BitVec 32) (k0_t7 : Fin (k0_t7_loop v34).trips) : Fin 1 → Nat :=
  let c0_i32_27 : BitVec 32 := 0#32
  let c1_i32_30 : BitVec 32 := 1#32
  let arg19 : BitVec 32 := Scf.iv c0_i32_27 c1_i32_30 k0_t7
  let c8_i32_71 : BitVec 32 := 8#32
  let v85 : BitVec 32 := Scalar.remsi arg19 c8_i32_71
  ![v85.toNat]
def k0_off45 (v34 : BitVec 32) (k0_t7 : Fin (k0_t7_loop v34).trips) : Fin 1 → Nat :=
  let c0_i32_27 : BitVec 32 := 0#32
  let c1_i32_30 : BitVec 32 := 1#32
  let arg19 : BitVec 32 := Scf.iv c0_i32_27 c1_i32_30 k0_t7
  let v94 : Index := Scalar.indexCast arg19
  ![v94.toNat]
def k0_off46 (v95 : BitVec 32) : Fin 1 → Nat :=
  let v96 : Index := Scalar.indexCast v95
  ![v96.toNat]

def k0_chk40 (v95 : BitVec 32) : Prop :=
  (∀ a, (k0_off46 v95) a + S1.size a ≤ S256.size a)
theorem k0_off46_inb : ∀ (v95 : BitVec 32) (k0_hw40 : k0_chk40 v95), ∀ a, (k0_off46 v95) a + S1.size a ≤ S256.size a := fun v95 k0_hw40 => k0_hw40

@[reducible] def k0_t8_loop (v97 : BitVec 32) : Scf.Loop 32 :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let c1_i32_84 : BitVec 32 := 1#32
  ⟨c0_i32_81, v103, c1_i32_84⟩

def k0_chk42 (v119 : IVec S16 32) : Prop :=
  (∀ a x, ((![v119] : Fin 1 → IVec S16 32) a x).toNat < S4096.size a)
theorem k0_idx7_inb : ∀ (v119 : IVec S16 32) (k0_hw42 : k0_chk42 v119), ∀ a x, ((![v119] : Fin 1 → IVec S16 32) a x).toNat < S4096.size a := fun v119 k0_hw42 => k0_hw42

def k0_chk43 (v123 : IVec S16 32) : Prop :=
  (∀ a x, ((![v123] : Fin 1 → IVec S16 32) a x).toNat < S4096.size a)
theorem k0_idx8_inb : ∀ (v123 : IVec S16 32) (k0_hw43 : k0_chk43 v123), ∀ a x, ((![v123] : Fin 1 → IVec S16 32) a x).toNat < S4096.size a := fun v123 k0_hw43 => k0_hw43

def k0_chk44 (v2 : IVec S16 32) (v126 : IVec S16 32) (v127 : IVec S16 32) : Prop :=
  (∀ a x, ((![v127, v2, v126] : Fin 3 → IVec S16 32) a x).toNat < S8x32x128.size a)
theorem k0_idx9_inb : ∀ (v2 : IVec S16 32) (v126 : IVec S16 32) (v127 : IVec S16 32) (k0_hw44 : k0_chk44 v2 v126 v127), ∀ a x, ((![v127, v2, v126] : Fin 3 → IVec S16 32) a x).toNat < S8x32x128.size a := fun v2 v126 v127 k0_hw44 => k0_hw44

def k0_chk45 (v126 : IVec S16 32) (v127 : IVec S16 32) (v130 : IVec S16 32) : Prop :=
  (∀ a x, ((![v127, v130, v126] : Fin 3 → IVec S16 32) a x).toNat < S8x32x128.size a)
theorem k0_idx10_inb : ∀ (v126 : IVec S16 32) (v127 : IVec S16 32) (v130 : IVec S16 32) (k0_hw45 : k0_chk45 v126 v127 v130), ∀ a x, ((![v127, v130, v126] : Fin 3 → IVec S16 32) a x).toNat < S8x32x128.size a := fun v126 v127 v130 k0_hw45 => k0_hw45
def k0_off47 (v97 : BitVec 32) (k0_t8 : Fin (k0_t8_loop v97).trips) : Fin 2 → Nat :=
  let c0_i32_81 : BitVec 32 := 0#32
  let c1_i32_84 : BitVec 32 := 1#32
  let arg21 : BitVec 32 := Scf.iv c0_i32_81 c1_i32_84 k0_t8
  let c16_i32_95 : BitVec 32 := 16#32
  let v132 : BitVec 32 := Scalar.remsi arg21 c16_i32_95
  let v133 : Index := Scalar.indexCast v132
  let c0 : Index := 0#32
  ![v133.toNat, 0]
def k0_off48 (v97 : BitVec 32) (k0_t8 : Fin (k0_t8_loop v97).trips) : Fin 2 → Nat :=
  let c0_i32_81 : BitVec 32 := 0#32
  let c1_i32_84 : BitVec 32 := 1#32
  let arg21 : BitVec 32 := Scf.iv c0_i32_81 c1_i32_84 k0_t8
  let c16_i32_95 : BitVec 32 := 16#32
  let v132 : BitVec 32 := Scalar.remsi arg21 c16_i32_95
  let v135 : Index := Scalar.indexCast v132
  let c16 : Index := 16#32
  ![v135.toNat, 16]
def k0_off49 (v97 : BitVec 32) (k0_t8 : Fin (k0_t8_loop v97).trips) : Fin 2 → Nat :=
  let c0_i32_81 : BitVec 32 := 0#32
  let c1_i32_84 : BitVec 32 := 1#32
  let arg21 : BitVec 32 := Scf.iv c0_i32_81 c1_i32_84 k0_t8
  let c16_i32_95 : BitVec 32 := 16#32
  let v132 : BitVec 32 := Scalar.remsi arg21 c16_i32_95
  let c0_i32_96 : BitVec 32 := 0#32
  ![v132.toNat, 0]
def k0_off50 (v138 : BitVec 32) : Fin 1 → Nat :=
  let c32_i32 : BitVec 32 := 32#32
  let v139 : BitVec 32 := Scalar.muli v138 c32_i32
  ![v139.toNat]

def k0_chk46 (v138 : BitVec 32) : Prop :=
  (∀ a, (k0_off50 v138) a + S32.size a ≤ S524288.size a)
theorem k0_off50_inb : ∀ (v138 : BitVec 32) (k0_hw46 : k0_chk46 v138), ∀ a, (k0_off50 v138) a + S32.size a ≤ S524288.size a := fun v138 k0_hw46 => k0_hw46

def k0_off51 (v97 : BitVec 32) (k0_t8 : Fin (k0_t8_loop v97).trips) : Fin 2 → Nat :=
  let c0_i32_81 : BitVec 32 := 0#32
  let c1_i32_84 : BitVec 32 := 1#32
  let arg21 : BitVec 32 := Scf.iv c0_i32_81 c1_i32_84 k0_t8
  let c16_i32_95 : BitVec 32 := 16#32
  let v132 : BitVec 32 := Scalar.remsi arg21 c16_i32_95
  let c0_i32_97 : BitVec 32 := 0#32
  ![v132.toNat, 0]
@[reducible] def k0_t9_loop (v97 : BitVec 32) : Scf.Loop 32 :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let v100 : BitVec 32 := Scalar.addi c0_i32_81 v99
  let c1_i32_85 : BitVec 32 := 1#32
  ⟨v103, v100, c1_i32_85⟩

def k0_chk47 (v119 : IVec S16 32) : Prop :=
  (∀ a x, ((![v119] : Fin 1 → IVec S16 32) a x).toNat < S4096.size a)
theorem k0_idx11_inb : ∀ (v119 : IVec S16 32) (k0_hw47 : k0_chk47 v119), ∀ a x, ((![v119] : Fin 1 → IVec S16 32) a x).toNat < S4096.size a := fun v119 k0_hw47 => k0_hw47

def k0_chk48 (v123 : IVec S16 32) : Prop :=
  (∀ a x, ((![v123] : Fin 1 → IVec S16 32) a x).toNat < S4096.size a)
theorem k0_idx12_inb : ∀ (v123 : IVec S16 32) (k0_hw48 : k0_chk48 v123), ∀ a x, ((![v123] : Fin 1 → IVec S16 32) a x).toNat < S4096.size a := fun v123 k0_hw48 => k0_hw48

def k0_chk49 (v2 : IVec S16 32) (v126 : IVec S16 32) (v127 : IVec S16 32) : Prop :=
  (∀ a x, ((![v127, v2, v126] : Fin 3 → IVec S16 32) a x).toNat < S8x32x128.size a)
theorem k0_idx13_inb : ∀ (v2 : IVec S16 32) (v126 : IVec S16 32) (v127 : IVec S16 32) (k0_hw49 : k0_chk49 v2 v126 v127), ∀ a x, ((![v127, v2, v126] : Fin 3 → IVec S16 32) a x).toNat < S8x32x128.size a := fun v2 v126 v127 k0_hw49 => k0_hw49

def k0_chk50 (v126 : IVec S16 32) (v127 : IVec S16 32) (v130 : IVec S16 32) : Prop :=
  (∀ a x, ((![v127, v130, v126] : Fin 3 → IVec S16 32) a x).toNat < S8x32x128.size a)
theorem k0_idx14_inb : ∀ (v126 : IVec S16 32) (v127 : IVec S16 32) (v130 : IVec S16 32) (k0_hw50 : k0_chk50 v126 v127 v130), ∀ a x, ((![v127, v130, v126] : Fin 3 → IVec S16 32) a x).toNat < S8x32x128.size a := fun v126 v127 v130 k0_hw50 => k0_hw50
def k0_off52 (v97 : BitVec 32) (k0_t9 : Fin (k0_t9_loop v97).trips) : Fin 2 → Nat :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let c1_i32_85 : BitVec 32 := 1#32
  let arg21 : BitVec 32 := Scf.iv v103 c1_i32_85 k0_t9
  let c16_i32_95 : BitVec 32 := 16#32
  let v132 : BitVec 32 := Scalar.remsi arg21 c16_i32_95
  let v133 : Index := Scalar.indexCast v132
  let c0 : Index := 0#32
  ![v133.toNat, 0]
def k0_off53 (v97 : BitVec 32) (k0_t9 : Fin (k0_t9_loop v97).trips) : Fin 2 → Nat :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let c1_i32_85 : BitVec 32 := 1#32
  let arg21 : BitVec 32 := Scf.iv v103 c1_i32_85 k0_t9
  let c16_i32_95 : BitVec 32 := 16#32
  let v132 : BitVec 32 := Scalar.remsi arg21 c16_i32_95
  let v135 : Index := Scalar.indexCast v132
  let c16 : Index := 16#32
  ![v135.toNat, 16]
def k0_off54 (v97 : BitVec 32) (k0_t9 : Fin (k0_t9_loop v97).trips) : Fin 2 → Nat :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let c1_i32_85 : BitVec 32 := 1#32
  let arg21 : BitVec 32 := Scf.iv v103 c1_i32_85 k0_t9
  let c16_i32_95 : BitVec 32 := 16#32
  let v132 : BitVec 32 := Scalar.remsi arg21 c16_i32_95
  let c0_i32_96 : BitVec 32 := 0#32
  ![v132.toNat, 0]
def k0_off55 (v138 : BitVec 32) : Fin 1 → Nat :=
  let c32_i32 : BitVec 32 := 32#32
  let v139 : BitVec 32 := Scalar.muli v138 c32_i32
  ![v139.toNat]

def k0_chk51 (v138 : BitVec 32) : Prop :=
  (∀ a, (k0_off55 v138) a + S32.size a ≤ S524288.size a)
theorem k0_off55_inb : ∀ (v138 : BitVec 32) (k0_hw51 : k0_chk51 v138), ∀ a, (k0_off55 v138) a + S32.size a ≤ S524288.size a := fun v138 k0_hw51 => k0_hw51

def k0_off56 (v97 : BitVec 32) (k0_t9 : Fin (k0_t9_loop v97).trips) : Fin 2 → Nat :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let c1_i32_85 : BitVec 32 := 1#32
  let arg21 : BitVec 32 := Scf.iv v103 c1_i32_85 k0_t9
  let c16_i32_95 : BitVec 32 := 16#32
  let v132 : BitVec 32 := Scalar.remsi arg21 c16_i32_95
  let c0_i32_97 : BitVec 32 := 0#32
  ![v132.toNat, 0]
@[reducible] def k0_t10_loop (v97 : BitVec 32) : Scf.Loop 32 :=
  let c0_i32_86 : BitVec 32 := 0#32
  let v106 : BitVec 32 := Scalar.subi v97 c0_i32_86
  let c1_i32_88 : BitVec 32 := 1#32
  let v108 : BitVec 32 := Scalar.divsi v106 c1_i32_88
  let v109 : BitVec 32 := Scalar.muli v108 c1_i32_88
  let v110 : BitVec 32 := Scalar.addi c0_i32_86 v109
  let c1_i32_89 : BitVec 32 := 1#32
  ⟨c0_i32_86, v110, c1_i32_89⟩
@[reducible] def k0_t11_loop (v97 : BitVec 32) : Scf.Loop 32 :=
  let c0_i32_86 : BitVec 32 := 0#32
  let v106 : BitVec 32 := Scalar.subi v97 c0_i32_86
  let c1_i32_88 : BitVec 32 := 1#32
  let v108 : BitVec 32 := Scalar.divsi v106 c1_i32_88
  let v109 : BitVec 32 := Scalar.muli v108 c1_i32_88
  let v110 : BitVec 32 := Scalar.addi c0_i32_86 v109
  let v107 : BitVec 32 := Scalar.addi c0_i32_86 v106
  let c1_i32_90 : BitVec 32 := 1#32
  ⟨v110, v107, c1_i32_90⟩

def k0_chk41 (v97 : BitVec 32) : Prop :=
  ((k0_t8_loop v97).OK) ∧
  (∀ k0_t8 : Fin (k0_t8_loop v97).trips, ∀ a, (k0_off47 v97 k0_t8) a + S1x16.size a ≤ S16x32.size a) ∧
  (∀ k0_t8 : Fin (k0_t8_loop v97).trips, ∀ a, (k0_off48 v97 k0_t8) a + S1x16.size a ≤ S16x32.size a) ∧
  (∀ k0_t8 : Fin (k0_t8_loop v97).trips, ∀ a, (k0_off49 v97 k0_t8) a + S1x32.size a ≤ S16x32.size a) ∧
  (∀ k0_t8 : Fin (k0_t8_loop v97).trips, ∀ a, (k0_off51 v97 k0_t8) a + S1x32.size a ≤ S16x32.size a) ∧
  ((k0_t9_loop v97).OK) ∧
  (∀ k0_t9 : Fin (k0_t9_loop v97).trips, ∀ a, (k0_off52 v97 k0_t9) a + S1x16.size a ≤ S16x32.size a) ∧
  (∀ k0_t9 : Fin (k0_t9_loop v97).trips, ∀ a, (k0_off53 v97 k0_t9) a + S1x16.size a ≤ S16x32.size a) ∧
  (∀ k0_t9 : Fin (k0_t9_loop v97).trips, ∀ a, (k0_off54 v97 k0_t9) a + S1x32.size a ≤ S16x32.size a) ∧
  (∀ k0_t9 : Fin (k0_t9_loop v97).trips, ∀ a, (k0_off56 v97 k0_t9) a + S1x32.size a ≤ S16x32.size a) ∧
  ((k0_t10_loop v97).OK) ∧
  ((k0_t11_loop v97).OK)
theorem k0_t8_ok : ∀ (v97 : BitVec 32) (k0_hw41 : k0_chk41 v97), (k0_t8_loop v97).OK := fun v97 k0_hw41 => k0_hw41.1
theorem k0_off47_inb : ∀ (v97 : BitVec 32) (k0_hw41 : k0_chk41 v97) (k0_t8 : Fin (k0_t8_loop v97).trips), ∀ a, (k0_off47 v97 k0_t8) a + S1x16.size a ≤ S16x32.size a := fun v97 k0_hw41 k0_t8 => k0_hw41.2.1 k0_t8
theorem k0_off48_inb : ∀ (v97 : BitVec 32) (k0_hw41 : k0_chk41 v97) (k0_t8 : Fin (k0_t8_loop v97).trips), ∀ a, (k0_off48 v97 k0_t8) a + S1x16.size a ≤ S16x32.size a := fun v97 k0_hw41 k0_t8 => k0_hw41.2.2.1 k0_t8
theorem k0_off49_inb : ∀ (v97 : BitVec 32) (k0_hw41 : k0_chk41 v97) (k0_t8 : Fin (k0_t8_loop v97).trips), ∀ a, (k0_off49 v97 k0_t8) a + S1x32.size a ≤ S16x32.size a := fun v97 k0_hw41 k0_t8 => k0_hw41.2.2.2.1 k0_t8
theorem k0_off51_inb : ∀ (v97 : BitVec 32) (k0_hw41 : k0_chk41 v97) (k0_t8 : Fin (k0_t8_loop v97).trips), ∀ a, (k0_off51 v97 k0_t8) a + S1x32.size a ≤ S16x32.size a := fun v97 k0_hw41 k0_t8 => k0_hw41.2.2.2.2.1 k0_t8
theorem k0_t9_ok : ∀ (v97 : BitVec 32) (k0_hw41 : k0_chk41 v97), (k0_t9_loop v97).OK := fun v97 k0_hw41 => k0_hw41.2.2.2.2.2.1
theorem k0_off52_inb : ∀ (v97 : BitVec 32) (k0_hw41 : k0_chk41 v97) (k0_t9 : Fin (k0_t9_loop v97).trips), ∀ a, (k0_off52 v97 k0_t9) a + S1x16.size a ≤ S16x32.size a := fun v97 k0_hw41 k0_t9 => k0_hw41.2.2.2.2.2.2.1 k0_t9
theorem k0_off53_inb : ∀ (v97 : BitVec 32) (k0_hw41 : k0_chk41 v97) (k0_t9 : Fin (k0_t9_loop v97).trips), ∀ a, (k0_off53 v97 k0_t9) a + S1x16.size a ≤ S16x32.size a := fun v97 k0_hw41 k0_t9 => k0_hw41.2.2.2.2.2.2.2.1 k0_t9
theorem k0_off54_inb : ∀ (v97 : BitVec 32) (k0_hw41 : k0_chk41 v97) (k0_t9 : Fin (k0_t9_loop v97).trips), ∀ a, (k0_off54 v97 k0_t9) a + S1x32.size a ≤ S16x32.size a := fun v97 k0_hw41 k0_t9 => k0_hw41.2.2.2.2.2.2.2.2.1 k0_t9
theorem k0_off56_inb : ∀ (v97 : BitVec 32) (k0_hw41 : k0_chk41 v97) (k0_t9 : Fin (k0_t9_loop v97).trips), ∀ a, (k0_off56 v97 k0_t9) a + S1x32.size a ≤ S16x32.size a := fun v97 k0_hw41 k0_t9 => k0_hw41.2.2.2.2.2.2.2.2.2.1 k0_t9
theorem k0_t10_ok : ∀ (v97 : BitVec 32) (k0_hw41 : k0_chk41 v97), (k0_t10_loop v97).OK := fun v97 k0_hw41 => k0_hw41.2.2.2.2.2.2.2.2.2.2.1
theorem k0_t11_ok : ∀ (v97 : BitVec 32) (k0_hw41 : k0_chk41 v97), (k0_t11_loop v97).OK := fun v97 k0_hw41 => k0_hw41.2.2.2.2.2.2.2.2.2.2.2

def k0_off57 (v34 : BitVec 32) (k0_t7 : Fin (k0_t7_loop v34).trips) : Fin 1 → Nat :=
  let c0_i32_27 : BitVec 32 := 0#32
  let c1_i32_30 : BitVec 32 := 1#32
  let arg19 : BitVec 32 := Scf.iv c0_i32_27 c1_i32_30 k0_t7
  let c8_i32_94 : BitVec 32 := 8#32
  let v117 : BitVec 32 := Scalar.addi arg19 c8_i32_94
  let v118 : Index := Scalar.indexCast v117
  ![v118.toNat]
def k0_cond3 (v34 : BitVec 32) (k0_t7 : Fin (k0_t7_loop v34).trips) : BitVec 1 :=
  let c0_i32_27 : BitVec 32 := 0#32
  let c1_i32_30 : BitVec 32 := 1#32
  let arg19 : BitVec 32 := Scf.iv c0_i32_27 c1_i32_30 k0_t7
  let c8_i32_91 : BitVec 32 := 8#32
  let v113 : BitVec 32 := Scalar.addi arg19 c8_i32_91
  let v114 : BitVec 1 := Scalar.cmpi .slt v113 v34
  let v115 : BitVec 32 := Scalar.extui v114
  let c0_i32_92 : BitVec 32 := 0#32
  let v116 : BitVec 1 := Scalar.cmpi .ne v115 c0_i32_92
  v116

def k0_mult2 (i : grid0.Coords) (v119 : BitVec 32) : BitVec 32 :=
  let c32_i32 : BitVec 32 := 32#32
  let v120 : BitVec 32 := Scalar.muli v119 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v121 : BitVec 32 := Scalar.addi v120 v1
  let c128_i32 : BitVec 32 := 128#32
  let v122 : BitVec 32 := Scalar.muli v121 c128_i32
  v122

def k0_off58 (v34 : BitVec 32) (k0_t7 : Fin (k0_t7_loop v34).trips) : Fin 3 → Nat :=
  let c0_i32_27 : BitVec 32 := 0#32
  let c1_i32_30 : BitVec 32 := 1#32
  let arg19 : BitVec 32 := Scf.iv c0_i32_27 c1_i32_30 k0_t7
  let c8_i32_94 : BitVec 32 := 8#32
  let v117 : BitVec 32 := Scalar.addi arg19 c8_i32_94
  let c8_i32_95 : BitVec 32 := 8#32
  let v124 : BitVec 32 := Scalar.remsi v117 c8_i32_95
  let c0_i32_97 : BitVec 32 := 0#32
  let c0_i32_98 : BitVec 32 := 0#32
  ![v124.toNat, 0, 0]
def k0_off59 (i : grid0.Coords) (v119 : BitVec 32) : Fin 2 → Nat :=
  let c0_i32_99 : BitVec 32 := 0#32
  let c32_i32 : BitVec 32 := 32#32
  let v120 : BitVec 32 := Scalar.muli v119 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v121 : BitVec 32 := Scalar.addi v120 v1
  let c128_i32 : BitVec 32 := 128#32
  let v122 : BitVec 32 := Scalar.muli v121 c128_i32
  let v123 : BitVec 32 := v122
  ![0, v123.toNat]

def k0_chk52 (i : grid0.Coords) (v34 : BitVec 32) (k0_t7 : Fin (k0_t7_loop v34).trips) (v119 : BitVec 32) : Prop :=
  (∀ (k0_h3 : k0_cond3 v34 k0_t7 = 1#1), 128 ∣ (k0_mult2 i v119).toNat) ∧
  (∀ (k0_h3 : k0_cond3 v34 k0_t7 = 1#1), ∀ a, (k0_off59 i v119) a + S32x128.size a ≤ S32x1000064.size a)
theorem k0_mult2_dvd : ∀ (i : grid0.Coords) (v34 : BitVec 32) (k0_t7 : Fin (k0_t7_loop v34).trips) (v119 : BitVec 32) (k0_hw52 : k0_chk52 i v34 k0_t7 v119), ∀ (k0_h3 : k0_cond3 v34 k0_t7 = 1#1), 128 ∣ (k0_mult2 i v119).toNat := fun i v34 k0_t7 v119 k0_hw52 k0_h3 => k0_hw52.1 k0_h3
theorem k0_off59_inb : ∀ (i : grid0.Coords) (v34 : BitVec 32) (k0_t7 : Fin (k0_t7_loop v34).trips) (v119 : BitVec 32) (k0_hw52 : k0_chk52 i v34 k0_t7 v119), ∀ (k0_h3 : k0_cond3 v34 k0_t7 = 1#1), ∀ a, (k0_off59 i v119) a + S32x128.size a ≤ S32x1000064.size a := fun i v34 k0_t7 v119 k0_hw52 k0_h3 => k0_hw52.2 k0_h3

def k0_off60 (v34 : BitVec 32) (k0_t7 : Fin (k0_t7_loop v34).trips) : Fin 1 → Nat :=
  let c0_i32_27 : BitVec 32 := 0#32
  let c1_i32_30 : BitVec 32 := 1#32
  let arg19 : BitVec 32 := Scf.iv c0_i32_27 c1_i32_30 k0_t7
  let c8_i32_94 : BitVec 32 := 8#32
  let v117 : BitVec 32 := Scalar.addi arg19 c8_i32_94
  let c8_i32_96 : BitVec 32 := 8#32
  let v125 : BitVec 32 := Scalar.remsi v117 c8_i32_96
  ![v125.toNat]
@[reducible] def k0_t12_loop (v34 : BitVec 32) : Scf.Loop 32 :=
  let c0_i32_27 : BitVec 32 := 0#32
  let v37 : BitVec 32 := Scalar.subi v34 c0_i32_27
  let c1_i32_29 : BitVec 32 := 1#32
  let v39 : BitVec 32 := Scalar.divsi v37 c1_i32_29
  let v40 : BitVec 32 := Scalar.muli v39 c1_i32_29
  let v41 : BitVec 32 := Scalar.addi c0_i32_27 v40
  let v38 : BitVec 32 := Scalar.addi c0_i32_27 v37
  let c1_i32_31 : BitVec 32 := 1#32
  ⟨v41, v38, c1_i32_31⟩
def k0_off61 (v34 : BitVec 32) (k0_t12 : Fin (k0_t12_loop v34).trips) : Fin 3 → Nat :=
  let c0_i32_27 : BitVec 32 := 0#32
  let v37 : BitVec 32 := Scalar.subi v34 c0_i32_27
  let c1_i32_29 : BitVec 32 := 1#32
  let v39 : BitVec 32 := Scalar.divsi v37 c1_i32_29
  let v40 : BitVec 32 := Scalar.muli v39 c1_i32_29
  let v41 : BitVec 32 := Scalar.addi c0_i32_27 v40
  let c1_i32_31 : BitVec 32 := 1#32
  let arg19 : BitVec 32 := Scf.iv v41 c1_i32_31 k0_t12
  let c8_i32_71 : BitVec 32 := 8#32
  let v85 : BitVec 32 := Scalar.remsi arg19 c8_i32_71
  let c0_i32_72 : BitVec 32 := 0#32
  let c0_i32_73 : BitVec 32 := 0#32
  ![v85.toNat, 0, 0]
def k0_off62 (v34 : BitVec 32) (k0_t12 : Fin (k0_t12_loop v34).trips) : Fin 1 → Nat :=
  let c0_i32_27 : BitVec 32 := 0#32
  let v37 : BitVec 32 := Scalar.subi v34 c0_i32_27
  let c1_i32_29 : BitVec 32 := 1#32
  let v39 : BitVec 32 := Scalar.divsi v37 c1_i32_29
  let v40 : BitVec 32 := Scalar.muli v39 c1_i32_29
  let v41 : BitVec 32 := Scalar.addi c0_i32_27 v40
  let c1_i32_31 : BitVec 32 := 1#32
  let arg19 : BitVec 32 := Scf.iv v41 c1_i32_31 k0_t12
  let c8_i32_71 : BitVec 32 := 8#32
  let v85 : BitVec 32 := Scalar.remsi arg19 c8_i32_71
  ![v85.toNat]
def k0_off63 (v34 : BitVec 32) (k0_t12 : Fin (k0_t12_loop v34).trips) : Fin 1 → Nat :=
  let c0_i32_27 : BitVec 32 := 0#32
  let v37 : BitVec 32 := Scalar.subi v34 c0_i32_27
  let c1_i32_29 : BitVec 32 := 1#32
  let v39 : BitVec 32 := Scalar.divsi v37 c1_i32_29
  let v40 : BitVec 32 := Scalar.muli v39 c1_i32_29
  let v41 : BitVec 32 := Scalar.addi c0_i32_27 v40
  let c1_i32_31 : BitVec 32 := 1#32
  let arg19 : BitVec 32 := Scf.iv v41 c1_i32_31 k0_t12
  let v94 : Index := Scalar.indexCast arg19
  ![v94.toNat]
def k0_off64 (v95 : BitVec 32) : Fin 1 → Nat :=
  let v96 : Index := Scalar.indexCast v95
  ![v96.toNat]

def k0_chk53 (v95 : BitVec 32) : Prop :=
  (∀ a, (k0_off64 v95) a + S1.size a ≤ S256.size a)
theorem k0_off64_inb : ∀ (v95 : BitVec 32) (k0_hw53 : k0_chk53 v95), ∀ a, (k0_off64 v95) a + S1.size a ≤ S256.size a := fun v95 k0_hw53 => k0_hw53

@[reducible] def k0_t13_loop (v97 : BitVec 32) : Scf.Loop 32 :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let c1_i32_84 : BitVec 32 := 1#32
  ⟨c0_i32_81, v103, c1_i32_84⟩

def k0_chk55 (v119 : IVec S16 32) : Prop :=
  (∀ a x, ((![v119] : Fin 1 → IVec S16 32) a x).toNat < S4096.size a)
theorem k0_idx15_inb : ∀ (v119 : IVec S16 32) (k0_hw55 : k0_chk55 v119), ∀ a x, ((![v119] : Fin 1 → IVec S16 32) a x).toNat < S4096.size a := fun v119 k0_hw55 => k0_hw55

def k0_chk56 (v123 : IVec S16 32) : Prop :=
  (∀ a x, ((![v123] : Fin 1 → IVec S16 32) a x).toNat < S4096.size a)
theorem k0_idx16_inb : ∀ (v123 : IVec S16 32) (k0_hw56 : k0_chk56 v123), ∀ a x, ((![v123] : Fin 1 → IVec S16 32) a x).toNat < S4096.size a := fun v123 k0_hw56 => k0_hw56

def k0_chk57 (v2 : IVec S16 32) (v126 : IVec S16 32) (v127 : IVec S16 32) : Prop :=
  (∀ a x, ((![v127, v2, v126] : Fin 3 → IVec S16 32) a x).toNat < S8x32x128.size a)
theorem k0_idx17_inb : ∀ (v2 : IVec S16 32) (v126 : IVec S16 32) (v127 : IVec S16 32) (k0_hw57 : k0_chk57 v2 v126 v127), ∀ a x, ((![v127, v2, v126] : Fin 3 → IVec S16 32) a x).toNat < S8x32x128.size a := fun v2 v126 v127 k0_hw57 => k0_hw57

def k0_chk58 (v126 : IVec S16 32) (v127 : IVec S16 32) (v130 : IVec S16 32) : Prop :=
  (∀ a x, ((![v127, v130, v126] : Fin 3 → IVec S16 32) a x).toNat < S8x32x128.size a)
theorem k0_idx18_inb : ∀ (v126 : IVec S16 32) (v127 : IVec S16 32) (v130 : IVec S16 32) (k0_hw58 : k0_chk58 v126 v127 v130), ∀ a x, ((![v127, v130, v126] : Fin 3 → IVec S16 32) a x).toNat < S8x32x128.size a := fun v126 v127 v130 k0_hw58 => k0_hw58
def k0_off65 (v97 : BitVec 32) (k0_t13 : Fin (k0_t13_loop v97).trips) : Fin 2 → Nat :=
  let c0_i32_81 : BitVec 32 := 0#32
  let c1_i32_84 : BitVec 32 := 1#32
  let arg21 : BitVec 32 := Scf.iv c0_i32_81 c1_i32_84 k0_t13
  let c16_i32_95 : BitVec 32 := 16#32
  let v132 : BitVec 32 := Scalar.remsi arg21 c16_i32_95
  let v133 : Index := Scalar.indexCast v132
  let c0 : Index := 0#32
  ![v133.toNat, 0]
def k0_off66 (v97 : BitVec 32) (k0_t13 : Fin (k0_t13_loop v97).trips) : Fin 2 → Nat :=
  let c0_i32_81 : BitVec 32 := 0#32
  let c1_i32_84 : BitVec 32 := 1#32
  let arg21 : BitVec 32 := Scf.iv c0_i32_81 c1_i32_84 k0_t13
  let c16_i32_95 : BitVec 32 := 16#32
  let v132 : BitVec 32 := Scalar.remsi arg21 c16_i32_95
  let v135 : Index := Scalar.indexCast v132
  let c16 : Index := 16#32
  ![v135.toNat, 16]
def k0_off67 (v97 : BitVec 32) (k0_t13 : Fin (k0_t13_loop v97).trips) : Fin 2 → Nat :=
  let c0_i32_81 : BitVec 32 := 0#32
  let c1_i32_84 : BitVec 32 := 1#32
  let arg21 : BitVec 32 := Scf.iv c0_i32_81 c1_i32_84 k0_t13
  let c16_i32_95 : BitVec 32 := 16#32
  let v132 : BitVec 32 := Scalar.remsi arg21 c16_i32_95
  let c0_i32_96 : BitVec 32 := 0#32
  ![v132.toNat, 0]
def k0_off68 (v138 : BitVec 32) : Fin 1 → Nat :=
  let c32_i32 : BitVec 32 := 32#32
  let v139 : BitVec 32 := Scalar.muli v138 c32_i32
  ![v139.toNat]

def k0_chk59 (v138 : BitVec 32) : Prop :=
  (∀ a, (k0_off68 v138) a + S32.size a ≤ S524288.size a)
theorem k0_off68_inb : ∀ (v138 : BitVec 32) (k0_hw59 : k0_chk59 v138), ∀ a, (k0_off68 v138) a + S32.size a ≤ S524288.size a := fun v138 k0_hw59 => k0_hw59

def k0_off69 (v97 : BitVec 32) (k0_t13 : Fin (k0_t13_loop v97).trips) : Fin 2 → Nat :=
  let c0_i32_81 : BitVec 32 := 0#32
  let c1_i32_84 : BitVec 32 := 1#32
  let arg21 : BitVec 32 := Scf.iv c0_i32_81 c1_i32_84 k0_t13
  let c16_i32_95 : BitVec 32 := 16#32
  let v132 : BitVec 32 := Scalar.remsi arg21 c16_i32_95
  let c0_i32_97 : BitVec 32 := 0#32
  ![v132.toNat, 0]
@[reducible] def k0_t14_loop (v97 : BitVec 32) : Scf.Loop 32 :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let v100 : BitVec 32 := Scalar.addi c0_i32_81 v99
  let c1_i32_85 : BitVec 32 := 1#32
  ⟨v103, v100, c1_i32_85⟩

def k0_chk60 (v119 : IVec S16 32) : Prop :=
  (∀ a x, ((![v119] : Fin 1 → IVec S16 32) a x).toNat < S4096.size a)
theorem k0_idx19_inb : ∀ (v119 : IVec S16 32) (k0_hw60 : k0_chk60 v119), ∀ a x, ((![v119] : Fin 1 → IVec S16 32) a x).toNat < S4096.size a := fun v119 k0_hw60 => k0_hw60

def k0_chk61 (v123 : IVec S16 32) : Prop :=
  (∀ a x, ((![v123] : Fin 1 → IVec S16 32) a x).toNat < S4096.size a)
theorem k0_idx20_inb : ∀ (v123 : IVec S16 32) (k0_hw61 : k0_chk61 v123), ∀ a x, ((![v123] : Fin 1 → IVec S16 32) a x).toNat < S4096.size a := fun v123 k0_hw61 => k0_hw61

def k0_chk62 (v2 : IVec S16 32) (v126 : IVec S16 32) (v127 : IVec S16 32) : Prop :=
  (∀ a x, ((![v127, v2, v126] : Fin 3 → IVec S16 32) a x).toNat < S8x32x128.size a)
theorem k0_idx21_inb : ∀ (v2 : IVec S16 32) (v126 : IVec S16 32) (v127 : IVec S16 32) (k0_hw62 : k0_chk62 v2 v126 v127), ∀ a x, ((![v127, v2, v126] : Fin 3 → IVec S16 32) a x).toNat < S8x32x128.size a := fun v2 v126 v127 k0_hw62 => k0_hw62

def k0_chk63 (v126 : IVec S16 32) (v127 : IVec S16 32) (v130 : IVec S16 32) : Prop :=
  (∀ a x, ((![v127, v130, v126] : Fin 3 → IVec S16 32) a x).toNat < S8x32x128.size a)
theorem k0_idx22_inb : ∀ (v126 : IVec S16 32) (v127 : IVec S16 32) (v130 : IVec S16 32) (k0_hw63 : k0_chk63 v126 v127 v130), ∀ a x, ((![v127, v130, v126] : Fin 3 → IVec S16 32) a x).toNat < S8x32x128.size a := fun v126 v127 v130 k0_hw63 => k0_hw63
def k0_off70 (v97 : BitVec 32) (k0_t14 : Fin (k0_t14_loop v97).trips) : Fin 2 → Nat :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let c1_i32_85 : BitVec 32 := 1#32
  let arg21 : BitVec 32 := Scf.iv v103 c1_i32_85 k0_t14
  let c16_i32_95 : BitVec 32 := 16#32
  let v132 : BitVec 32 := Scalar.remsi arg21 c16_i32_95
  let v133 : Index := Scalar.indexCast v132
  let c0 : Index := 0#32
  ![v133.toNat, 0]
def k0_off71 (v97 : BitVec 32) (k0_t14 : Fin (k0_t14_loop v97).trips) : Fin 2 → Nat :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let c1_i32_85 : BitVec 32 := 1#32
  let arg21 : BitVec 32 := Scf.iv v103 c1_i32_85 k0_t14
  let c16_i32_95 : BitVec 32 := 16#32
  let v132 : BitVec 32 := Scalar.remsi arg21 c16_i32_95
  let v135 : Index := Scalar.indexCast v132
  let c16 : Index := 16#32
  ![v135.toNat, 16]
def k0_off72 (v97 : BitVec 32) (k0_t14 : Fin (k0_t14_loop v97).trips) : Fin 2 → Nat :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let c1_i32_85 : BitVec 32 := 1#32
  let arg21 : BitVec 32 := Scf.iv v103 c1_i32_85 k0_t14
  let c16_i32_95 : BitVec 32 := 16#32
  let v132 : BitVec 32 := Scalar.remsi arg21 c16_i32_95
  let c0_i32_96 : BitVec 32 := 0#32
  ![v132.toNat, 0]
def k0_off73 (v138 : BitVec 32) : Fin 1 → Nat :=
  let c32_i32 : BitVec 32 := 32#32
  let v139 : BitVec 32 := Scalar.muli v138 c32_i32
  ![v139.toNat]

def k0_chk64 (v138 : BitVec 32) : Prop :=
  (∀ a, (k0_off73 v138) a + S32.size a ≤ S524288.size a)
theorem k0_off73_inb : ∀ (v138 : BitVec 32) (k0_hw64 : k0_chk64 v138), ∀ a, (k0_off73 v138) a + S32.size a ≤ S524288.size a := fun v138 k0_hw64 => k0_hw64

def k0_off74 (v97 : BitVec 32) (k0_t14 : Fin (k0_t14_loop v97).trips) : Fin 2 → Nat :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let c1_i32_85 : BitVec 32 := 1#32
  let arg21 : BitVec 32 := Scf.iv v103 c1_i32_85 k0_t14
  let c16_i32_95 : BitVec 32 := 16#32
  let v132 : BitVec 32 := Scalar.remsi arg21 c16_i32_95
  let c0_i32_97 : BitVec 32 := 0#32
  ![v132.toNat, 0]
@[reducible] def k0_t15_loop (v97 : BitVec 32) : Scf.Loop 32 :=
  let c0_i32_86 : BitVec 32 := 0#32
  let v106 : BitVec 32 := Scalar.subi v97 c0_i32_86
  let c1_i32_88 : BitVec 32 := 1#32
  let v108 : BitVec 32 := Scalar.divsi v106 c1_i32_88
  let v109 : BitVec 32 := Scalar.muli v108 c1_i32_88
  let v110 : BitVec 32 := Scalar.addi c0_i32_86 v109
  let c1_i32_89 : BitVec 32 := 1#32
  ⟨c0_i32_86, v110, c1_i32_89⟩
@[reducible] def k0_t16_loop (v97 : BitVec 32) : Scf.Loop 32 :=
  let c0_i32_86 : BitVec 32 := 0#32
  let v106 : BitVec 32 := Scalar.subi v97 c0_i32_86
  let c1_i32_88 : BitVec 32 := 1#32
  let v108 : BitVec 32 := Scalar.divsi v106 c1_i32_88
  let v109 : BitVec 32 := Scalar.muli v108 c1_i32_88
  let v110 : BitVec 32 := Scalar.addi c0_i32_86 v109
  let v107 : BitVec 32 := Scalar.addi c0_i32_86 v106
  let c1_i32_90 : BitVec 32 := 1#32
  ⟨v110, v107, c1_i32_90⟩

def k0_chk54 (v97 : BitVec 32) : Prop :=
  ((k0_t13_loop v97).OK) ∧
  (∀ k0_t13 : Fin (k0_t13_loop v97).trips, ∀ a, (k0_off65 v97 k0_t13) a + S1x16.size a ≤ S16x32.size a) ∧
  (∀ k0_t13 : Fin (k0_t13_loop v97).trips, ∀ a, (k0_off66 v97 k0_t13) a + S1x16.size a ≤ S16x32.size a) ∧
  (∀ k0_t13 : Fin (k0_t13_loop v97).trips, ∀ a, (k0_off67 v97 k0_t13) a + S1x32.size a ≤ S16x32.size a) ∧
  (∀ k0_t13 : Fin (k0_t13_loop v97).trips, ∀ a, (k0_off69 v97 k0_t13) a + S1x32.size a ≤ S16x32.size a) ∧
  ((k0_t14_loop v97).OK) ∧
  (∀ k0_t14 : Fin (k0_t14_loop v97).trips, ∀ a, (k0_off70 v97 k0_t14) a + S1x16.size a ≤ S16x32.size a) ∧
  (∀ k0_t14 : Fin (k0_t14_loop v97).trips, ∀ a, (k0_off71 v97 k0_t14) a + S1x16.size a ≤ S16x32.size a) ∧
  (∀ k0_t14 : Fin (k0_t14_loop v97).trips, ∀ a, (k0_off72 v97 k0_t14) a + S1x32.size a ≤ S16x32.size a) ∧
  (∀ k0_t14 : Fin (k0_t14_loop v97).trips, ∀ a, (k0_off74 v97 k0_t14) a + S1x32.size a ≤ S16x32.size a) ∧
  ((k0_t15_loop v97).OK) ∧
  ((k0_t16_loop v97).OK)
theorem k0_t13_ok : ∀ (v97 : BitVec 32) (k0_hw54 : k0_chk54 v97), (k0_t13_loop v97).OK := fun v97 k0_hw54 => k0_hw54.1
theorem k0_off65_inb : ∀ (v97 : BitVec 32) (k0_hw54 : k0_chk54 v97) (k0_t13 : Fin (k0_t13_loop v97).trips), ∀ a, (k0_off65 v97 k0_t13) a + S1x16.size a ≤ S16x32.size a := fun v97 k0_hw54 k0_t13 => k0_hw54.2.1 k0_t13
theorem k0_off66_inb : ∀ (v97 : BitVec 32) (k0_hw54 : k0_chk54 v97) (k0_t13 : Fin (k0_t13_loop v97).trips), ∀ a, (k0_off66 v97 k0_t13) a + S1x16.size a ≤ S16x32.size a := fun v97 k0_hw54 k0_t13 => k0_hw54.2.2.1 k0_t13
theorem k0_off67_inb : ∀ (v97 : BitVec 32) (k0_hw54 : k0_chk54 v97) (k0_t13 : Fin (k0_t13_loop v97).trips), ∀ a, (k0_off67 v97 k0_t13) a + S1x32.size a ≤ S16x32.size a := fun v97 k0_hw54 k0_t13 => k0_hw54.2.2.2.1 k0_t13
theorem k0_off69_inb : ∀ (v97 : BitVec 32) (k0_hw54 : k0_chk54 v97) (k0_t13 : Fin (k0_t13_loop v97).trips), ∀ a, (k0_off69 v97 k0_t13) a + S1x32.size a ≤ S16x32.size a := fun v97 k0_hw54 k0_t13 => k0_hw54.2.2.2.2.1 k0_t13
theorem k0_t14_ok : ∀ (v97 : BitVec 32) (k0_hw54 : k0_chk54 v97), (k0_t14_loop v97).OK := fun v97 k0_hw54 => k0_hw54.2.2.2.2.2.1
theorem k0_off70_inb : ∀ (v97 : BitVec 32) (k0_hw54 : k0_chk54 v97) (k0_t14 : Fin (k0_t14_loop v97).trips), ∀ a, (k0_off70 v97 k0_t14) a + S1x16.size a ≤ S16x32.size a := fun v97 k0_hw54 k0_t14 => k0_hw54.2.2.2.2.2.2.1 k0_t14
theorem k0_off71_inb : ∀ (v97 : BitVec 32) (k0_hw54 : k0_chk54 v97) (k0_t14 : Fin (k0_t14_loop v97).trips), ∀ a, (k0_off71 v97 k0_t14) a + S1x16.size a ≤ S16x32.size a := fun v97 k0_hw54 k0_t14 => k0_hw54.2.2.2.2.2.2.2.1 k0_t14
theorem k0_off72_inb : ∀ (v97 : BitVec 32) (k0_hw54 : k0_chk54 v97) (k0_t14 : Fin (k0_t14_loop v97).trips), ∀ a, (k0_off72 v97 k0_t14) a + S1x32.size a ≤ S16x32.size a := fun v97 k0_hw54 k0_t14 => k0_hw54.2.2.2.2.2.2.2.2.1 k0_t14
theorem k0_off74_inb : ∀ (v97 : BitVec 32) (k0_hw54 : k0_chk54 v97) (k0_t14 : Fin (k0_t14_loop v97).trips), ∀ a, (k0_off74 v97 k0_t14) a + S1x32.size a ≤ S16x32.size a := fun v97 k0_hw54 k0_t14 => k0_hw54.2.2.2.2.2.2.2.2.2.1 k0_t14
theorem k0_t15_ok : ∀ (v97 : BitVec 32) (k0_hw54 : k0_chk54 v97), (k0_t15_loop v97).OK := fun v97 k0_hw54 => k0_hw54.2.2.2.2.2.2.2.2.2.2.1
theorem k0_t16_ok : ∀ (v97 : BitVec 32) (k0_hw54 : k0_chk54 v97), (k0_t16_loop v97).OK := fun v97 k0_hw54 => k0_hw54.2.2.2.2.2.2.2.2.2.2.2

def k0_off75 (v34 : BitVec 32) (k0_t12 : Fin (k0_t12_loop v34).trips) : Fin 1 → Nat :=
  let c0_i32_27 : BitVec 32 := 0#32
  let v37 : BitVec 32 := Scalar.subi v34 c0_i32_27
  let c1_i32_29 : BitVec 32 := 1#32
  let v39 : BitVec 32 := Scalar.divsi v37 c1_i32_29
  let v40 : BitVec 32 := Scalar.muli v39 c1_i32_29
  let v41 : BitVec 32 := Scalar.addi c0_i32_27 v40
  let c1_i32_31 : BitVec 32 := 1#32
  let arg19 : BitVec 32 := Scf.iv v41 c1_i32_31 k0_t12
  let c8_i32_94 : BitVec 32 := 8#32
  let v117 : BitVec 32 := Scalar.addi arg19 c8_i32_94
  let v118 : Index := Scalar.indexCast v117
  ![v118.toNat]
def k0_cond4 (v34 : BitVec 32) (k0_t12 : Fin (k0_t12_loop v34).trips) : BitVec 1 :=
  let c0_i32_27 : BitVec 32 := 0#32
  let v37 : BitVec 32 := Scalar.subi v34 c0_i32_27
  let c1_i32_29 : BitVec 32 := 1#32
  let v39 : BitVec 32 := Scalar.divsi v37 c1_i32_29
  let v40 : BitVec 32 := Scalar.muli v39 c1_i32_29
  let v41 : BitVec 32 := Scalar.addi c0_i32_27 v40
  let c1_i32_31 : BitVec 32 := 1#32
  let arg19 : BitVec 32 := Scf.iv v41 c1_i32_31 k0_t12
  let c8_i32_91 : BitVec 32 := 8#32
  let v113 : BitVec 32 := Scalar.addi arg19 c8_i32_91
  let v114 : BitVec 1 := Scalar.cmpi .slt v113 v34
  let v115 : BitVec 32 := Scalar.extui v114
  let c0_i32_92 : BitVec 32 := 0#32
  let v116 : BitVec 1 := Scalar.cmpi .ne v115 c0_i32_92
  v116

def k0_mult3 (i : grid0.Coords) (v119 : BitVec 32) : BitVec 32 :=
  let c32_i32 : BitVec 32 := 32#32
  let v120 : BitVec 32 := Scalar.muli v119 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v121 : BitVec 32 := Scalar.addi v120 v1
  let c128_i32 : BitVec 32 := 128#32
  let v122 : BitVec 32 := Scalar.muli v121 c128_i32
  v122

def k0_off76 (v34 : BitVec 32) (k0_t12 : Fin (k0_t12_loop v34).trips) : Fin 3 → Nat :=
  let c0_i32_27 : BitVec 32 := 0#32
  let v37 : BitVec 32 := Scalar.subi v34 c0_i32_27
  let c1_i32_29 : BitVec 32 := 1#32
  let v39 : BitVec 32 := Scalar.divsi v37 c1_i32_29
  let v40 : BitVec 32 := Scalar.muli v39 c1_i32_29
  let v41 : BitVec 32 := Scalar.addi c0_i32_27 v40
  let c1_i32_31 : BitVec 32 := 1#32
  let arg19 : BitVec 32 := Scf.iv v41 c1_i32_31 k0_t12
  let c8_i32_94 : BitVec 32 := 8#32
  let v117 : BitVec 32 := Scalar.addi arg19 c8_i32_94
  let c8_i32_95 : BitVec 32 := 8#32
  let v124 : BitVec 32 := Scalar.remsi v117 c8_i32_95
  let c0_i32_97 : BitVec 32 := 0#32
  let c0_i32_98 : BitVec 32 := 0#32
  ![v124.toNat, 0, 0]
def k0_off77 (i : grid0.Coords) (v119 : BitVec 32) : Fin 2 → Nat :=
  let c0_i32_99 : BitVec 32 := 0#32
  let c32_i32 : BitVec 32 := 32#32
  let v120 : BitVec 32 := Scalar.muli v119 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v121 : BitVec 32 := Scalar.addi v120 v1
  let c128_i32 : BitVec 32 := 128#32
  let v122 : BitVec 32 := Scalar.muli v121 c128_i32
  let v123 : BitVec 32 := v122
  ![0, v123.toNat]

def k0_chk65 (i : grid0.Coords) (v34 : BitVec 32) (k0_t12 : Fin (k0_t12_loop v34).trips) (v119 : BitVec 32) : Prop :=
  (∀ (k0_h4 : k0_cond4 v34 k0_t12 = 1#1), 128 ∣ (k0_mult3 i v119).toNat) ∧
  (∀ (k0_h4 : k0_cond4 v34 k0_t12 = 1#1), ∀ a, (k0_off77 i v119) a + S32x128.size a ≤ S32x1000064.size a)
theorem k0_mult3_dvd : ∀ (i : grid0.Coords) (v34 : BitVec 32) (k0_t12 : Fin (k0_t12_loop v34).trips) (v119 : BitVec 32) (k0_hw65 : k0_chk65 i v34 k0_t12 v119), ∀ (k0_h4 : k0_cond4 v34 k0_t12 = 1#1), 128 ∣ (k0_mult3 i v119).toNat := fun i v34 k0_t12 v119 k0_hw65 k0_h4 => k0_hw65.1 k0_h4
theorem k0_off77_inb : ∀ (i : grid0.Coords) (v34 : BitVec 32) (k0_t12 : Fin (k0_t12_loop v34).trips) (v119 : BitVec 32) (k0_hw65 : k0_chk65 i v34 k0_t12 v119), ∀ (k0_h4 : k0_cond4 v34 k0_t12 = 1#1), ∀ a, (k0_off77 i v119) a + S32x128.size a ≤ S32x1000064.size a := fun i v34 k0_t12 v119 k0_hw65 k0_h4 => k0_hw65.2 k0_h4

def k0_off78 (v34 : BitVec 32) (k0_t12 : Fin (k0_t12_loop v34).trips) : Fin 1 → Nat :=
  let c0_i32_27 : BitVec 32 := 0#32
  let v37 : BitVec 32 := Scalar.subi v34 c0_i32_27
  let c1_i32_29 : BitVec 32 := 1#32
  let v39 : BitVec 32 := Scalar.divsi v37 c1_i32_29
  let v40 : BitVec 32 := Scalar.muli v39 c1_i32_29
  let v41 : BitVec 32 := Scalar.addi c0_i32_27 v40
  let c1_i32_31 : BitVec 32 := 1#32
  let arg19 : BitVec 32 := Scf.iv v41 c1_i32_31 k0_t12
  let c8_i32_94 : BitVec 32 := 8#32
  let v117 : BitVec 32 := Scalar.addi arg19 c8_i32_94
  let c8_i32_96 : BitVec 32 := 8#32
  let v125 : BitVec 32 := Scalar.remsi v117 c8_i32_96
  ![v125.toNat]

def k0_chk39 (v34 : BitVec 32) : Prop :=
  ((k0_t7_loop v34).OK) ∧
  (∀ k0_t7 : Fin (k0_t7_loop v34).trips, ∀ a, (k0_off43 v34 k0_t7) a + S1x32x128.size a ≤ S8x32x128.size a) ∧
  (∀ k0_t7 : Fin (k0_t7_loop v34).trips, ∀ a, (k0_off44 v34 k0_t7) a + S1.size a ≤ S8.size a) ∧
  (∀ k0_t7 : Fin (k0_t7_loop v34).trips, ∀ a, (k0_off45 v34 k0_t7) a + S1.size a ≤ S256.size a) ∧
  (∀ k0_t7 : Fin (k0_t7_loop v34).trips, ∀ (k0_h3 : k0_cond3 v34 k0_t7 = 1#1), ∀ a, (k0_off57 v34 k0_t7) a + S1.size a ≤ S256.size a) ∧
  (∀ k0_t7 : Fin (k0_t7_loop v34).trips, ∀ (k0_h3 : k0_cond3 v34 k0_t7 = 1#1), ∀ a, (k0_off58 v34 k0_t7) a + S1x32x128.size a ≤ S8x32x128.size a) ∧
  (∀ k0_t7 : Fin (k0_t7_loop v34).trips, ∀ (k0_h3 : k0_cond3 v34 k0_t7 = 1#1), ∀ a, (k0_off60 v34 k0_t7) a + S1.size a ≤ S8.size a) ∧
  ((k0_t12_loop v34).OK) ∧
  (∀ k0_t12 : Fin (k0_t12_loop v34).trips, ∀ a, (k0_off61 v34 k0_t12) a + S1x32x128.size a ≤ S8x32x128.size a) ∧
  (∀ k0_t12 : Fin (k0_t12_loop v34).trips, ∀ a, (k0_off62 v34 k0_t12) a + S1.size a ≤ S8.size a) ∧
  (∀ k0_t12 : Fin (k0_t12_loop v34).trips, ∀ a, (k0_off63 v34 k0_t12) a + S1.size a ≤ S256.size a) ∧
  (∀ k0_t12 : Fin (k0_t12_loop v34).trips, ∀ (k0_h4 : k0_cond4 v34 k0_t12 = 1#1), ∀ a, (k0_off75 v34 k0_t12) a + S1.size a ≤ S256.size a) ∧
  (∀ k0_t12 : Fin (k0_t12_loop v34).trips, ∀ (k0_h4 : k0_cond4 v34 k0_t12 = 1#1), ∀ a, (k0_off76 v34 k0_t12) a + S1x32x128.size a ≤ S8x32x128.size a) ∧
  (∀ k0_t12 : Fin (k0_t12_loop v34).trips, ∀ (k0_h4 : k0_cond4 v34 k0_t12 = 1#1), ∀ a, (k0_off78 v34 k0_t12) a + S1.size a ≤ S8.size a)
theorem k0_t7_ok : ∀ (v34 : BitVec 32) (k0_hw39 : k0_chk39 v34), (k0_t7_loop v34).OK := fun v34 k0_hw39 => k0_hw39.1
theorem k0_off43_inb : ∀ (v34 : BitVec 32) (k0_hw39 : k0_chk39 v34) (k0_t7 : Fin (k0_t7_loop v34).trips), ∀ a, (k0_off43 v34 k0_t7) a + S1x32x128.size a ≤ S8x32x128.size a := fun v34 k0_hw39 k0_t7 => k0_hw39.2.1 k0_t7
theorem k0_off44_inb : ∀ (v34 : BitVec 32) (k0_hw39 : k0_chk39 v34) (k0_t7 : Fin (k0_t7_loop v34).trips), ∀ a, (k0_off44 v34 k0_t7) a + S1.size a ≤ S8.size a := fun v34 k0_hw39 k0_t7 => k0_hw39.2.2.1 k0_t7
theorem k0_off45_inb : ∀ (v34 : BitVec 32) (k0_hw39 : k0_chk39 v34) (k0_t7 : Fin (k0_t7_loop v34).trips), ∀ a, (k0_off45 v34 k0_t7) a + S1.size a ≤ S256.size a := fun v34 k0_hw39 k0_t7 => k0_hw39.2.2.2.1 k0_t7
theorem k0_off57_inb : ∀ (v34 : BitVec 32) (k0_hw39 : k0_chk39 v34) (k0_t7 : Fin (k0_t7_loop v34).trips), ∀ (k0_h3 : k0_cond3 v34 k0_t7 = 1#1), ∀ a, (k0_off57 v34 k0_t7) a + S1.size a ≤ S256.size a := fun v34 k0_hw39 k0_t7 k0_h3 => k0_hw39.2.2.2.2.1 k0_t7 k0_h3
theorem k0_off58_inb : ∀ (v34 : BitVec 32) (k0_hw39 : k0_chk39 v34) (k0_t7 : Fin (k0_t7_loop v34).trips), ∀ (k0_h3 : k0_cond3 v34 k0_t7 = 1#1), ∀ a, (k0_off58 v34 k0_t7) a + S1x32x128.size a ≤ S8x32x128.size a := fun v34 k0_hw39 k0_t7 k0_h3 => k0_hw39.2.2.2.2.2.1 k0_t7 k0_h3
theorem k0_off60_inb : ∀ (v34 : BitVec 32) (k0_hw39 : k0_chk39 v34) (k0_t7 : Fin (k0_t7_loop v34).trips), ∀ (k0_h3 : k0_cond3 v34 k0_t7 = 1#1), ∀ a, (k0_off60 v34 k0_t7) a + S1.size a ≤ S8.size a := fun v34 k0_hw39 k0_t7 k0_h3 => k0_hw39.2.2.2.2.2.2.1 k0_t7 k0_h3
theorem k0_t12_ok : ∀ (v34 : BitVec 32) (k0_hw39 : k0_chk39 v34), (k0_t12_loop v34).OK := fun v34 k0_hw39 => k0_hw39.2.2.2.2.2.2.2.1
theorem k0_off61_inb : ∀ (v34 : BitVec 32) (k0_hw39 : k0_chk39 v34) (k0_t12 : Fin (k0_t12_loop v34).trips), ∀ a, (k0_off61 v34 k0_t12) a + S1x32x128.size a ≤ S8x32x128.size a := fun v34 k0_hw39 k0_t12 => k0_hw39.2.2.2.2.2.2.2.2.1 k0_t12
theorem k0_off62_inb : ∀ (v34 : BitVec 32) (k0_hw39 : k0_chk39 v34) (k0_t12 : Fin (k0_t12_loop v34).trips), ∀ a, (k0_off62 v34 k0_t12) a + S1.size a ≤ S8.size a := fun v34 k0_hw39 k0_t12 => k0_hw39.2.2.2.2.2.2.2.2.2.1 k0_t12
theorem k0_off63_inb : ∀ (v34 : BitVec 32) (k0_hw39 : k0_chk39 v34) (k0_t12 : Fin (k0_t12_loop v34).trips), ∀ a, (k0_off63 v34 k0_t12) a + S1.size a ≤ S256.size a := fun v34 k0_hw39 k0_t12 => k0_hw39.2.2.2.2.2.2.2.2.2.2.1 k0_t12
theorem k0_off75_inb : ∀ (v34 : BitVec 32) (k0_hw39 : k0_chk39 v34) (k0_t12 : Fin (k0_t12_loop v34).trips), ∀ (k0_h4 : k0_cond4 v34 k0_t12 = 1#1), ∀ a, (k0_off75 v34 k0_t12) a + S1.size a ≤ S256.size a := fun v34 k0_hw39 k0_t12 k0_h4 => k0_hw39.2.2.2.2.2.2.2.2.2.2.2.1 k0_t12 k0_h4
theorem k0_off76_inb : ∀ (v34 : BitVec 32) (k0_hw39 : k0_chk39 v34) (k0_t12 : Fin (k0_t12_loop v34).trips), ∀ (k0_h4 : k0_cond4 v34 k0_t12 = 1#1), ∀ a, (k0_off76 v34 k0_t12) a + S1x32x128.size a ≤ S8x32x128.size a := fun v34 k0_hw39 k0_t12 k0_h4 => k0_hw39.2.2.2.2.2.2.2.2.2.2.2.2.1 k0_t12 k0_h4
theorem k0_off78_inb : ∀ (v34 : BitVec 32) (k0_hw39 : k0_chk39 v34) (k0_t12 : Fin (k0_t12_loop v34).trips), ∀ (k0_h4 : k0_cond4 v34 k0_t12 = 1#1), ∀ a, (k0_off78 v34 k0_t12) a + S1.size a ≤ S8.size a := fun v34 k0_hw39 k0_t12 k0_h4 => k0_hw39.2.2.2.2.2.2.2.2.2.2.2.2.2 k0_t12 k0_h4

@[reducible] def k0_t17_loop : Scf.Loop 32 :=
  let c0_i32_33 : BitVec 32 := 0#32
  let c256_i32_34 : BitVec 32 := 256#32
  let v44 : BitVec 32 := Scalar.addi c0_i32_33 c256_i32_34
  let c1_i32_35 : BitVec 32 := 1#32
  ⟨c0_i32_33, v44, c1_i32_35⟩
def k0_off79 (k0_t17 : Fin k0_t17_loop.trips) : Fin 1 → Nat :=
  let c0_i32_33 : BitVec 32 := 0#32
  let c1_i32_35 : BitVec 32 := 1#32
  let arg19 : BitVec 32 := Scf.iv c0_i32_33 c1_i32_35 k0_t17
  let v85 : Index := Scalar.indexCast arg19
  ![v85.toNat]
@[reducible] def k0_t18_loop : Scf.Loop 32 :=
  let c0_i32_38 : BitVec 32 := 0#32
  let c1024_i32_39 : BitVec 32 := 1024#32
  let v46 : BitVec 32 := Scalar.addi c0_i32_38 c1024_i32_39
  let c1_i32_40 : BitVec 32 := 1#32
  ⟨c0_i32_38, v46, c1_i32_40⟩
def k0_off80 (k0_t18 : Fin k0_t18_loop.trips) : Fin 1 → Nat :=
  let c0_i32_38 : BitVec 32 := 0#32
  let c1_i32_40 : BitVec 32 := 1#32
  let arg19 : BitVec 32 := Scf.iv c0_i32_38 c1_i32_40 k0_t18
  let c16_i32_71 : BitVec 32 := 16#32
  let v85 : BitVec 32 := Scalar.muli arg19 c16_i32_71
  let v86 : Index := Scalar.indexCast v85
  ![v86.toNat]

def k0_chk66 (v110 : IVec S16 32) : Prop :=
  (∀ a x, ((![v110] : Fin 1 → IVec S16 32) a x).toNat < S1008.size a) ∧
  (∀ a x, ((![v110] : Fin 1 → IVec S16 32) a x).toNat < S1008.size a)
theorem k0_idx23_inb : ∀ (v110 : IVec S16 32) (k0_hw66 : k0_chk66 v110), ∀ a x, ((![v110] : Fin 1 → IVec S16 32) a x).toNat < S1008.size a := fun v110 k0_hw66 => k0_hw66.1
theorem k0_idx24_inb : ∀ (v110 : IVec S16 32) (k0_hw66 : k0_chk66 v110), ∀ a x, ((![v110] : Fin 1 → IVec S16 32) a x).toNat < S1008.size a := fun v110 k0_hw66 => k0_hw66.2
@[reducible] def k0_t19_loop (v47 : BitVec 32) : Scf.Loop 32 :=
  let c0_i32_51 : BitVec 32 := 0#32
  let c16_i32_42 : BitVec 32 := 16#32
  let v48 : BitVec 32 := Scalar.addi v47 c16_i32_42
  let c1_i32_43 : BitVec 32 := 1#32
  let v49 : BitVec 32 := Scalar.subi v48 c1_i32_43
  let c0_i32_45 : BitVec 32 := 0#32
  let v51 : BitVec 1 := Scalar.cmpi .sgt v49 c0_i32_45
  let v52 : BitVec 32 := Scalar.extui v51
  let c0_i32_46 : BitVec 32 := 0#32
  let v53 : BitVec 1 := Scalar.cmpi .slt v49 c0_i32_46
  let v54 : BitVec 32 := Scalar.extui v53
  let v55 : BitVec 32 := Scalar.subi v52 v54
  let c16_i32_44 : BitVec 32 := 16#32
  let c0_i32_47 : BitVec 32 := 0#32
  let v56 : BitVec 1 := Scalar.cmpi .sgt c16_i32_44 c0_i32_47
  let v57 : BitVec 32 := Scalar.extui v56
  let c0_i32_48 : BitVec 32 := 0#32
  let v58 : BitVec 1 := Scalar.cmpi .slt c16_i32_44 c0_i32_48
  let v59 : BitVec 32 := Scalar.extui v58
  let v60 : BitVec 32 := Scalar.subi v57 v59
  let v61 : BitVec 1 := Scalar.cmpi .ne v55 v60
  let v62 : BitVec 32 := Scalar.remsi v49 c16_i32_44
  let c0_i32_49 : BitVec 32 := 0#32
  let v63 : BitVec 1 := Scalar.cmpi .ne v62 c0_i32_49
  let v64 : BitVec 1 := Scalar.andi v61 v63
  let v50 : BitVec 32 := Scalar.divsi v49 c16_i32_44
  let c1_i32_50 : BitVec 32 := 1#32
  let v65 : BitVec 32 := Scalar.subi v50 c1_i32_50
  let v66 : BitVec 32 := Scalar.select v64 v65 v50
  let v67 : BitVec 32 := Scalar.subi v66 c0_i32_51
  let c1_i32_53 : BitVec 32 := 1#32
  let v69 : BitVec 32 := Scalar.divsi v67 c1_i32_53
  let v70 : BitVec 32 := Scalar.muli v69 c1_i32_53
  let v71 : BitVec 32 := Scalar.addi c0_i32_51 v70
  let c1_i32_54 : BitVec 32 := 1#32
  ⟨c0_i32_51, v71, c1_i32_54⟩

def k0_off81 (v47 : BitVec 32) (k0_t19 : Fin (k0_t19_loop v47).trips) : Fin 1 → Nat :=
  let c0_i32_51 : BitVec 32 := 0#32
  let c1_i32_54 : BitVec 32 := 1#32
  let arg19 : BitVec 32 := Scf.iv c0_i32_51 c1_i32_54 k0_t19
  let c16_i32_71 : BitVec 32 := 16#32
  let v85 : BitVec 32 := Scalar.muli arg19 c16_i32_71
  let v86 : Index := Scalar.indexCast v85
  ![v86.toNat]
def k0_off82 (v102 : BitVec 32) : Fin 1 → Nat :=
  let v103 : Index := Scalar.indexCast v102
  ![v103.toNat]

def k0_chk68 (v102 : BitVec 32) : Prop :=
  (∀ a, (k0_off82 v102) a + S1.size a ≤ S256.size a)
theorem k0_off82_inb : ∀ (v102 : BitVec 32) (k0_hw68 : k0_chk68 v102), ∀ a, (k0_off82 v102) a + S1.size a ≤ S256.size a := fun v102 k0_hw68 => k0_hw68

def k0_off83 (v115 : BitVec 32) : Fin 1 → Nat :=
  let v116 : Index := Scalar.indexCast v115
  ![v116.toNat]

def k0_chk69 (v115 : BitVec 32) : Prop :=
  (∀ a, (k0_off83 v115) a + S1.size a ≤ S256.size a)
theorem k0_off83_inb : ∀ (v115 : BitVec 32) (k0_hw69 : k0_chk69 v115), ∀ a, (k0_off83 v115) a + S1.size a ≤ S256.size a := fun v115 k0_hw69 => k0_hw69

def k0_off84 (v128 : BitVec 32) : Fin 1 → Nat :=
  let v129 : Index := Scalar.indexCast v128
  ![v129.toNat]

def k0_chk70 (v128 : BitVec 32) : Prop :=
  (∀ a, (k0_off84 v128) a + S1.size a ≤ S256.size a)
theorem k0_off84_inb : ∀ (v128 : BitVec 32) (k0_hw70 : k0_chk70 v128), ∀ a, (k0_off84 v128) a + S1.size a ≤ S256.size a := fun v128 k0_hw70 => k0_hw70

def k0_off85 (v141 : BitVec 32) : Fin 1 → Nat :=
  let v142 : Index := Scalar.indexCast v141
  ![v142.toNat]

def k0_chk71 (v141 : BitVec 32) : Prop :=
  (∀ a, (k0_off85 v141) a + S1.size a ≤ S256.size a)
theorem k0_off85_inb : ∀ (v141 : BitVec 32) (k0_hw71 : k0_chk71 v141), ∀ a, (k0_off85 v141) a + S1.size a ≤ S256.size a := fun v141 k0_hw71 => k0_hw71

def k0_off86 (v154 : BitVec 32) : Fin 1 → Nat :=
  let v155 : Index := Scalar.indexCast v154
  ![v155.toNat]

def k0_chk72 (v154 : BitVec 32) : Prop :=
  (∀ a, (k0_off86 v154) a + S1.size a ≤ S256.size a)
theorem k0_off86_inb : ∀ (v154 : BitVec 32) (k0_hw72 : k0_chk72 v154), ∀ a, (k0_off86 v154) a + S1.size a ≤ S256.size a := fun v154 k0_hw72 => k0_hw72

def k0_off87 (v167 : BitVec 32) : Fin 1 → Nat :=
  let v168 : Index := Scalar.indexCast v167
  ![v168.toNat]

def k0_chk73 (v167 : BitVec 32) : Prop :=
  (∀ a, (k0_off87 v167) a + S1.size a ≤ S256.size a)
theorem k0_off87_inb : ∀ (v167 : BitVec 32) (k0_hw73 : k0_chk73 v167), ∀ a, (k0_off87 v167) a + S1.size a ≤ S256.size a := fun v167 k0_hw73 => k0_hw73

def k0_off88 (v180 : BitVec 32) : Fin 1 → Nat :=
  let v181 : Index := Scalar.indexCast v180
  ![v181.toNat]

def k0_chk74 (v180 : BitVec 32) : Prop :=
  (∀ a, (k0_off88 v180) a + S1.size a ≤ S256.size a)
theorem k0_off88_inb : ∀ (v180 : BitVec 32) (k0_hw74 : k0_chk74 v180), ∀ a, (k0_off88 v180) a + S1.size a ≤ S256.size a := fun v180 k0_hw74 => k0_hw74

def k0_off89 (v193 : BitVec 32) : Fin 1 → Nat :=
  let v194 : Index := Scalar.indexCast v193
  ![v194.toNat]

def k0_chk75 (v193 : BitVec 32) : Prop :=
  (∀ a, (k0_off89 v193) a + S1.size a ≤ S256.size a)
theorem k0_off89_inb : ∀ (v193 : BitVec 32) (k0_hw75 : k0_chk75 v193), ∀ a, (k0_off89 v193) a + S1.size a ≤ S256.size a := fun v193 k0_hw75 => k0_hw75

def k0_off90 (v206 : BitVec 32) : Fin 1 → Nat :=
  let v207 : Index := Scalar.indexCast v206
  ![v207.toNat]

def k0_chk76 (v206 : BitVec 32) : Prop :=
  (∀ a, (k0_off90 v206) a + S1.size a ≤ S256.size a)
theorem k0_off90_inb : ∀ (v206 : BitVec 32) (k0_hw76 : k0_chk76 v206), ∀ a, (k0_off90 v206) a + S1.size a ≤ S256.size a := fun v206 k0_hw76 => k0_hw76

def k0_off91 (v219 : BitVec 32) : Fin 1 → Nat :=
  let v220 : Index := Scalar.indexCast v219
  ![v220.toNat]

def k0_chk77 (v219 : BitVec 32) : Prop :=
  (∀ a, (k0_off91 v219) a + S1.size a ≤ S256.size a)
theorem k0_off91_inb : ∀ (v219 : BitVec 32) (k0_hw77 : k0_chk77 v219), ∀ a, (k0_off91 v219) a + S1.size a ≤ S256.size a := fun v219 k0_hw77 => k0_hw77

def k0_off92 (v232 : BitVec 32) : Fin 1 → Nat :=
  let v233 : Index := Scalar.indexCast v232
  ![v233.toNat]

def k0_chk78 (v232 : BitVec 32) : Prop :=
  (∀ a, (k0_off92 v232) a + S1.size a ≤ S256.size a)
theorem k0_off92_inb : ∀ (v232 : BitVec 32) (k0_hw78 : k0_chk78 v232), ∀ a, (k0_off92 v232) a + S1.size a ≤ S256.size a := fun v232 k0_hw78 => k0_hw78

def k0_off93 (v245 : BitVec 32) : Fin 1 → Nat :=
  let v246 : Index := Scalar.indexCast v245
  ![v246.toNat]

def k0_chk79 (v245 : BitVec 32) : Prop :=
  (∀ a, (k0_off93 v245) a + S1.size a ≤ S256.size a)
theorem k0_off93_inb : ∀ (v245 : BitVec 32) (k0_hw79 : k0_chk79 v245), ∀ a, (k0_off93 v245) a + S1.size a ≤ S256.size a := fun v245 k0_hw79 => k0_hw79

def k0_off94 (v258 : BitVec 32) : Fin 1 → Nat :=
  let v259 : Index := Scalar.indexCast v258
  ![v259.toNat]

def k0_chk80 (v258 : BitVec 32) : Prop :=
  (∀ a, (k0_off94 v258) a + S1.size a ≤ S256.size a)
theorem k0_off94_inb : ∀ (v258 : BitVec 32) (k0_hw80 : k0_chk80 v258), ∀ a, (k0_off94 v258) a + S1.size a ≤ S256.size a := fun v258 k0_hw80 => k0_hw80

def k0_off95 (v271 : BitVec 32) : Fin 1 → Nat :=
  let v272 : Index := Scalar.indexCast v271
  ![v272.toNat]

def k0_chk81 (v271 : BitVec 32) : Prop :=
  (∀ a, (k0_off95 v271) a + S1.size a ≤ S256.size a)
theorem k0_off95_inb : ∀ (v271 : BitVec 32) (k0_hw81 : k0_chk81 v271), ∀ a, (k0_off95 v271) a + S1.size a ≤ S256.size a := fun v271 k0_hw81 => k0_hw81

def k0_off96 (v284 : BitVec 32) : Fin 1 → Nat :=
  let v285 : Index := Scalar.indexCast v284
  ![v285.toNat]

def k0_chk82 (v284 : BitVec 32) : Prop :=
  (∀ a, (k0_off96 v284) a + S1.size a ≤ S256.size a)
theorem k0_off96_inb : ∀ (v284 : BitVec 32) (k0_hw82 : k0_chk82 v284), ∀ a, (k0_off96 v284) a + S1.size a ≤ S256.size a := fun v284 k0_hw82 => k0_hw82

def k0_off97 (v297 : BitVec 32) : Fin 1 → Nat :=
  let v298 : Index := Scalar.indexCast v297
  ![v298.toNat]

def k0_chk83 (v297 : BitVec 32) : Prop :=
  (∀ a, (k0_off97 v297) a + S1.size a ≤ S256.size a)
theorem k0_off97_inb : ∀ (v297 : BitVec 32) (k0_hw83 : k0_chk83 v297), ∀ a, (k0_off97 v297) a + S1.size a ≤ S256.size a := fun v297 k0_hw83 => k0_hw83

def k0_chk84 (v308 : IVec S16 32) : Prop :=
  (∀ a x, ((![v308] : Fin 1 → IVec S16 32) a x).toNat < S4096.size a) ∧
  (∀ a x, ((![v308] : Fin 1 → IVec S16 32) a x).toNat < S4096.size a)
theorem k0_idx25_inb : ∀ (v308 : IVec S16 32) (k0_hw84 : k0_chk84 v308), ∀ a x, ((![v308] : Fin 1 → IVec S16 32) a x).toNat < S4096.size a := fun v308 k0_hw84 => k0_hw84.1
theorem k0_idx26_inb : ∀ (v308 : IVec S16 32) (k0_hw84 : k0_chk84 v308), ∀ a x, ((![v308] : Fin 1 → IVec S16 32) a x).toNat < S4096.size a := fun v308 k0_hw84 => k0_hw84.2
@[reducible] def k0_t20_loop (v47 : BitVec 32) : Scf.Loop 32 :=
  let c0_i32_51 : BitVec 32 := 0#32
  let c16_i32_42 : BitVec 32 := 16#32
  let v48 : BitVec 32 := Scalar.addi v47 c16_i32_42
  let c1_i32_43 : BitVec 32 := 1#32
  let v49 : BitVec 32 := Scalar.subi v48 c1_i32_43
  let c0_i32_45 : BitVec 32 := 0#32
  let v51 : BitVec 1 := Scalar.cmpi .sgt v49 c0_i32_45
  let v52 : BitVec 32 := Scalar.extui v51
  let c0_i32_46 : BitVec 32 := 0#32
  let v53 : BitVec 1 := Scalar.cmpi .slt v49 c0_i32_46
  let v54 : BitVec 32 := Scalar.extui v53
  let v55 : BitVec 32 := Scalar.subi v52 v54
  let c16_i32_44 : BitVec 32 := 16#32
  let c0_i32_47 : BitVec 32 := 0#32
  let v56 : BitVec 1 := Scalar.cmpi .sgt c16_i32_44 c0_i32_47
  let v57 : BitVec 32 := Scalar.extui v56
  let c0_i32_48 : BitVec 32 := 0#32
  let v58 : BitVec 1 := Scalar.cmpi .slt c16_i32_44 c0_i32_48
  let v59 : BitVec 32 := Scalar.extui v58
  let v60 : BitVec 32 := Scalar.subi v57 v59
  let v61 : BitVec 1 := Scalar.cmpi .ne v55 v60
  let v62 : BitVec 32 := Scalar.remsi v49 c16_i32_44
  let c0_i32_49 : BitVec 32 := 0#32
  let v63 : BitVec 1 := Scalar.cmpi .ne v62 c0_i32_49
  let v64 : BitVec 1 := Scalar.andi v61 v63
  let v50 : BitVec 32 := Scalar.divsi v49 c16_i32_44
  let c1_i32_50 : BitVec 32 := 1#32
  let v65 : BitVec 32 := Scalar.subi v50 c1_i32_50
  let v66 : BitVec 32 := Scalar.select v64 v65 v50
  let v67 : BitVec 32 := Scalar.subi v66 c0_i32_51
  let c1_i32_53 : BitVec 32 := 1#32
  let v69 : BitVec 32 := Scalar.divsi v67 c1_i32_53
  let v70 : BitVec 32 := Scalar.muli v69 c1_i32_53
  let v71 : BitVec 32 := Scalar.addi c0_i32_51 v70
  let v68 : BitVec 32 := Scalar.addi c0_i32_51 v67
  let c1_i32_55 : BitVec 32 := 1#32
  ⟨v71, v68, c1_i32_55⟩
def k0_off98 (v47 : BitVec 32) (k0_t20 : Fin (k0_t20_loop v47).trips) : Fin 1 → Nat :=
  let c0_i32_51 : BitVec 32 := 0#32
  let c16_i32_42 : BitVec 32 := 16#32
  let v48 : BitVec 32 := Scalar.addi v47 c16_i32_42
  let c1_i32_43 : BitVec 32 := 1#32
  let v49 : BitVec 32 := Scalar.subi v48 c1_i32_43
  let c0_i32_45 : BitVec 32 := 0#32
  let v51 : BitVec 1 := Scalar.cmpi .sgt v49 c0_i32_45
  let v52 : BitVec 32 := Scalar.extui v51
  let c0_i32_46 : BitVec 32 := 0#32
  let v53 : BitVec 1 := Scalar.cmpi .slt v49 c0_i32_46
  let v54 : BitVec 32 := Scalar.extui v53
  let v55 : BitVec 32 := Scalar.subi v52 v54
  let c16_i32_44 : BitVec 32 := 16#32
  let c0_i32_47 : BitVec 32 := 0#32
  let v56 : BitVec 1 := Scalar.cmpi .sgt c16_i32_44 c0_i32_47
  let v57 : BitVec 32 := Scalar.extui v56
  let c0_i32_48 : BitVec 32 := 0#32
  let v58 : BitVec 1 := Scalar.cmpi .slt c16_i32_44 c0_i32_48
  let v59 : BitVec 32 := Scalar.extui v58
  let v60 : BitVec 32 := Scalar.subi v57 v59
  let v61 : BitVec 1 := Scalar.cmpi .ne v55 v60
  let v62 : BitVec 32 := Scalar.remsi v49 c16_i32_44
  let c0_i32_49 : BitVec 32 := 0#32
  let v63 : BitVec 1 := Scalar.cmpi .ne v62 c0_i32_49
  let v64 : BitVec 1 := Scalar.andi v61 v63
  let v50 : BitVec 32 := Scalar.divsi v49 c16_i32_44
  let c1_i32_50 : BitVec 32 := 1#32
  let v65 : BitVec 32 := Scalar.subi v50 c1_i32_50
  let v66 : BitVec 32 := Scalar.select v64 v65 v50
  let v67 : BitVec 32 := Scalar.subi v66 c0_i32_51
  let c1_i32_53 : BitVec 32 := 1#32
  let v69 : BitVec 32 := Scalar.divsi v67 c1_i32_53
  let v70 : BitVec 32 := Scalar.muli v69 c1_i32_53
  let v71 : BitVec 32 := Scalar.addi c0_i32_51 v70
  let c1_i32_55 : BitVec 32 := 1#32
  let arg19 : BitVec 32 := Scf.iv v71 c1_i32_55 k0_t20
  let c16_i32_71 : BitVec 32 := 16#32
  let v85 : BitVec 32 := Scalar.muli arg19 c16_i32_71
  let v86 : Index := Scalar.indexCast v85
  ![v86.toNat]

def k0_chk67 (v47 : BitVec 32) : Prop :=
  ((k0_t19_loop v47).OK) ∧
  (∀ k0_t19 : Fin (k0_t19_loop v47).trips, ∀ a, (k0_off81 v47 k0_t19) a + S16.size a ≤ S1008.size a) ∧
  ((k0_t20_loop v47).OK) ∧
  (∀ k0_t20 : Fin (k0_t20_loop v47).trips, ∀ a, (k0_off98 v47 k0_t20) a + S16.size a ≤ S1008.size a)
theorem k0_t19_ok : ∀ (v47 : BitVec 32) (k0_hw67 : k0_chk67 v47), (k0_t19_loop v47).OK := fun v47 k0_hw67 => k0_hw67.1
theorem k0_off81_inb : ∀ (v47 : BitVec 32) (k0_hw67 : k0_chk67 v47) (k0_t19 : Fin (k0_t19_loop v47).trips), ∀ a, (k0_off81 v47 k0_t19) a + S16.size a ≤ S1008.size a := fun v47 k0_hw67 k0_t19 => k0_hw67.2.1 k0_t19
theorem k0_t20_ok : ∀ (v47 : BitVec 32) (k0_hw67 : k0_chk67 v47), (k0_t20_loop v47).OK := fun v47 k0_hw67 => k0_hw67.2.2.1
theorem k0_off98_inb : ∀ (v47 : BitVec 32) (k0_hw67 : k0_chk67 v47) (k0_t20 : Fin (k0_t20_loop v47).trips), ∀ a, (k0_off98 v47 k0_t20) a + S16.size a ≤ S1008.size a := fun v47 k0_hw67 k0_t20 => k0_hw67.2.2.2 k0_t20

def k0_off99 (v102 : BitVec 32) : Fin 1 → Nat :=
  let v103 : Index := Scalar.indexCast v102
  ![v103.toNat]

def k0_chk85 (v102 : BitVec 32) : Prop :=
  (∀ a, (k0_off99 v102) a + S1.size a ≤ S256.size a)
theorem k0_off99_inb : ∀ (v102 : BitVec 32) (k0_hw85 : k0_chk85 v102), ∀ a, (k0_off99 v102) a + S1.size a ≤ S256.size a := fun v102 k0_hw85 => k0_hw85

def k0_off100 (v115 : BitVec 32) : Fin 1 → Nat :=
  let v116 : Index := Scalar.indexCast v115
  ![v116.toNat]

def k0_chk86 (v115 : BitVec 32) : Prop :=
  (∀ a, (k0_off100 v115) a + S1.size a ≤ S256.size a)
theorem k0_off100_inb : ∀ (v115 : BitVec 32) (k0_hw86 : k0_chk86 v115), ∀ a, (k0_off100 v115) a + S1.size a ≤ S256.size a := fun v115 k0_hw86 => k0_hw86

def k0_off101 (v128 : BitVec 32) : Fin 1 → Nat :=
  let v129 : Index := Scalar.indexCast v128
  ![v129.toNat]

def k0_chk87 (v128 : BitVec 32) : Prop :=
  (∀ a, (k0_off101 v128) a + S1.size a ≤ S256.size a)
theorem k0_off101_inb : ∀ (v128 : BitVec 32) (k0_hw87 : k0_chk87 v128), ∀ a, (k0_off101 v128) a + S1.size a ≤ S256.size a := fun v128 k0_hw87 => k0_hw87

def k0_off102 (v141 : BitVec 32) : Fin 1 → Nat :=
  let v142 : Index := Scalar.indexCast v141
  ![v142.toNat]

def k0_chk88 (v141 : BitVec 32) : Prop :=
  (∀ a, (k0_off102 v141) a + S1.size a ≤ S256.size a)
theorem k0_off102_inb : ∀ (v141 : BitVec 32) (k0_hw88 : k0_chk88 v141), ∀ a, (k0_off102 v141) a + S1.size a ≤ S256.size a := fun v141 k0_hw88 => k0_hw88

def k0_off103 (v154 : BitVec 32) : Fin 1 → Nat :=
  let v155 : Index := Scalar.indexCast v154
  ![v155.toNat]

def k0_chk89 (v154 : BitVec 32) : Prop :=
  (∀ a, (k0_off103 v154) a + S1.size a ≤ S256.size a)
theorem k0_off103_inb : ∀ (v154 : BitVec 32) (k0_hw89 : k0_chk89 v154), ∀ a, (k0_off103 v154) a + S1.size a ≤ S256.size a := fun v154 k0_hw89 => k0_hw89

def k0_off104 (v167 : BitVec 32) : Fin 1 → Nat :=
  let v168 : Index := Scalar.indexCast v167
  ![v168.toNat]

def k0_chk90 (v167 : BitVec 32) : Prop :=
  (∀ a, (k0_off104 v167) a + S1.size a ≤ S256.size a)
theorem k0_off104_inb : ∀ (v167 : BitVec 32) (k0_hw90 : k0_chk90 v167), ∀ a, (k0_off104 v167) a + S1.size a ≤ S256.size a := fun v167 k0_hw90 => k0_hw90

def k0_off105 (v180 : BitVec 32) : Fin 1 → Nat :=
  let v181 : Index := Scalar.indexCast v180
  ![v181.toNat]

def k0_chk91 (v180 : BitVec 32) : Prop :=
  (∀ a, (k0_off105 v180) a + S1.size a ≤ S256.size a)
theorem k0_off105_inb : ∀ (v180 : BitVec 32) (k0_hw91 : k0_chk91 v180), ∀ a, (k0_off105 v180) a + S1.size a ≤ S256.size a := fun v180 k0_hw91 => k0_hw91

def k0_off106 (v193 : BitVec 32) : Fin 1 → Nat :=
  let v194 : Index := Scalar.indexCast v193
  ![v194.toNat]

def k0_chk92 (v193 : BitVec 32) : Prop :=
  (∀ a, (k0_off106 v193) a + S1.size a ≤ S256.size a)
theorem k0_off106_inb : ∀ (v193 : BitVec 32) (k0_hw92 : k0_chk92 v193), ∀ a, (k0_off106 v193) a + S1.size a ≤ S256.size a := fun v193 k0_hw92 => k0_hw92

def k0_off107 (v206 : BitVec 32) : Fin 1 → Nat :=
  let v207 : Index := Scalar.indexCast v206
  ![v207.toNat]

def k0_chk93 (v206 : BitVec 32) : Prop :=
  (∀ a, (k0_off107 v206) a + S1.size a ≤ S256.size a)
theorem k0_off107_inb : ∀ (v206 : BitVec 32) (k0_hw93 : k0_chk93 v206), ∀ a, (k0_off107 v206) a + S1.size a ≤ S256.size a := fun v206 k0_hw93 => k0_hw93

def k0_off108 (v219 : BitVec 32) : Fin 1 → Nat :=
  let v220 : Index := Scalar.indexCast v219
  ![v220.toNat]

def k0_chk94 (v219 : BitVec 32) : Prop :=
  (∀ a, (k0_off108 v219) a + S1.size a ≤ S256.size a)
theorem k0_off108_inb : ∀ (v219 : BitVec 32) (k0_hw94 : k0_chk94 v219), ∀ a, (k0_off108 v219) a + S1.size a ≤ S256.size a := fun v219 k0_hw94 => k0_hw94

def k0_off109 (v232 : BitVec 32) : Fin 1 → Nat :=
  let v233 : Index := Scalar.indexCast v232
  ![v233.toNat]

def k0_chk95 (v232 : BitVec 32) : Prop :=
  (∀ a, (k0_off109 v232) a + S1.size a ≤ S256.size a)
theorem k0_off109_inb : ∀ (v232 : BitVec 32) (k0_hw95 : k0_chk95 v232), ∀ a, (k0_off109 v232) a + S1.size a ≤ S256.size a := fun v232 k0_hw95 => k0_hw95

def k0_off110 (v245 : BitVec 32) : Fin 1 → Nat :=
  let v246 : Index := Scalar.indexCast v245
  ![v246.toNat]

def k0_chk96 (v245 : BitVec 32) : Prop :=
  (∀ a, (k0_off110 v245) a + S1.size a ≤ S256.size a)
theorem k0_off110_inb : ∀ (v245 : BitVec 32) (k0_hw96 : k0_chk96 v245), ∀ a, (k0_off110 v245) a + S1.size a ≤ S256.size a := fun v245 k0_hw96 => k0_hw96

def k0_off111 (v258 : BitVec 32) : Fin 1 → Nat :=
  let v259 : Index := Scalar.indexCast v258
  ![v259.toNat]

def k0_chk97 (v258 : BitVec 32) : Prop :=
  (∀ a, (k0_off111 v258) a + S1.size a ≤ S256.size a)
theorem k0_off111_inb : ∀ (v258 : BitVec 32) (k0_hw97 : k0_chk97 v258), ∀ a, (k0_off111 v258) a + S1.size a ≤ S256.size a := fun v258 k0_hw97 => k0_hw97

def k0_off112 (v271 : BitVec 32) : Fin 1 → Nat :=
  let v272 : Index := Scalar.indexCast v271
  ![v272.toNat]

def k0_chk98 (v271 : BitVec 32) : Prop :=
  (∀ a, (k0_off112 v271) a + S1.size a ≤ S256.size a)
theorem k0_off112_inb : ∀ (v271 : BitVec 32) (k0_hw98 : k0_chk98 v271), ∀ a, (k0_off112 v271) a + S1.size a ≤ S256.size a := fun v271 k0_hw98 => k0_hw98

def k0_off113 (v284 : BitVec 32) : Fin 1 → Nat :=
  let v285 : Index := Scalar.indexCast v284
  ![v285.toNat]

def k0_chk99 (v284 : BitVec 32) : Prop :=
  (∀ a, (k0_off113 v284) a + S1.size a ≤ S256.size a)
theorem k0_off113_inb : ∀ (v284 : BitVec 32) (k0_hw99 : k0_chk99 v284), ∀ a, (k0_off113 v284) a + S1.size a ≤ S256.size a := fun v284 k0_hw99 => k0_hw99

def k0_off114 (v297 : BitVec 32) : Fin 1 → Nat :=
  let v298 : Index := Scalar.indexCast v297
  ![v298.toNat]

def k0_chk100 (v297 : BitVec 32) : Prop :=
  (∀ a, (k0_off114 v297) a + S1.size a ≤ S256.size a)
theorem k0_off114_inb : ∀ (v297 : BitVec 32) (k0_hw100 : k0_chk100 v297), ∀ a, (k0_off114 v297) a + S1.size a ≤ S256.size a := fun v297 k0_hw100 => k0_hw100

def k0_chk101 (v308 : IVec S16 32) : Prop :=
  (∀ a x, ((![v308] : Fin 1 → IVec S16 32) a x).toNat < S4096.size a) ∧
  (∀ a x, ((![v308] : Fin 1 → IVec S16 32) a x).toNat < S4096.size a)
theorem k0_idx27_inb : ∀ (v308 : IVec S16 32) (k0_hw101 : k0_chk101 v308), ∀ a x, ((![v308] : Fin 1 → IVec S16 32) a x).toNat < S4096.size a := fun v308 k0_hw101 => k0_hw101.1
theorem k0_idx28_inb : ∀ (v308 : IVec S16 32) (k0_hw101 : k0_chk101 v308), ∀ a x, ((![v308] : Fin 1 → IVec S16 32) a x).toNat < S4096.size a := fun v308 k0_hw101 => k0_hw101.2
@[reducible] def k0_t21_loop : Scf.Loop 32 :=
  let c0_i32_57 : BitVec 32 := 0#32
  let c245_i32_58 : BitVec 32 := 245#32
  let v74 : BitVec 32 := Scalar.addi c0_i32_57 c245_i32_58
  let c1_i32_59 : BitVec 32 := 1#32
  ⟨c0_i32_57, v74, c1_i32_59⟩
def k0_off115 (k0_t21 : Fin k0_t21_loop.trips) : Fin 1 → Nat :=
  let c0_i32_57 : BitVec 32 := 0#32
  let c1_i32_59 : BitVec 32 := 1#32
  let arg19 : BitVec 32 := Scf.iv c0_i32_57 c1_i32_59 k0_t21
  let v85 : Index := Scalar.indexCast arg19
  ![v85.toNat]
def k0_off116 (arg20 : BitVec 32) : Fin 1 → Nat :=
  let v91 : Index := Scalar.indexCast arg20
  ![v91.toNat]
def k0_cond5 (v86 : BitVec 32) : BitVec 1 :=
  let c0_i32_71 : BitVec 32 := 0#32
  let v87 : BitVec 1 := Scalar.cmpi .sgt v86 c0_i32_71
  let v88 : BitVec 32 := Scalar.extui v87
  let c0_i32_72 : BitVec 32 := 0#32
  let v89 : BitVec 1 := Scalar.cmpi .ne v88 c0_i32_72
  v89

def k0_chk102 (arg20 : BitVec 32) (v86 : BitVec 32) : Prop :=
  (∀ (k0_h5 : k0_cond5 v86 = 1#1), ∀ a, (k0_off116 arg20) a + S1.size a ≤ S256.size a)
theorem k0_off116_inb : ∀ (arg20 : BitVec 32) (v86 : BitVec 32) (k0_hw102 : k0_chk102 arg20 v86), ∀ (k0_h5 : k0_cond5 v86 = 1#1), ∀ a, (k0_off116 arg20) a + S1.size a ≤ S256.size a := fun arg20 v86 k0_hw102 k0_h5 => k0_hw102 k0_h5

@[reducible] def k0_t22_loop : Scf.Loop 32 :=
  let c0_i32_62 : BitVec 32 := 0#32
  let c8_i32_63 : BitVec 32 := 8#32
  let v76 : BitVec 32 := Scalar.addi c0_i32_62 c8_i32_63
  let c1_i32_64 : BitVec 32 := 1#32
  ⟨c0_i32_62, v76, c1_i32_64⟩
def k0_off117 (k0_t22 : Fin k0_t22_loop.trips) : Fin 1 → Nat :=
  let c0_i32_62 : BitVec 32 := 0#32
  let c1_i32_64 : BitVec 32 := 1#32
  let arg19 : BitVec 32 := Scf.iv c0_i32_62 c1_i32_64 k0_t22
  let v88 : Index := Scalar.indexCast arg19
  ![v88.toNat]
def k0_mult4 (i : grid0.Coords) (v89 : BitVec 32) : BitVec 32 :=
  let c32_i32 : BitVec 32 := 32#32
  let v90 : BitVec 32 := Scalar.muli v89 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v91 : BitVec 32 := Scalar.addi v90 v1
  let c128_i32 : BitVec 32 := 128#32
  let v92 : BitVec 32 := Scalar.muli v91 c128_i32
  v92
def k0_cond6 (v75 : BitVec 32) (k0_t22 : Fin k0_t22_loop.trips) : BitVec 1 :=
  let c0_i32_62 : BitVec 32 := 0#32
  let c1_i32_64 : BitVec 32 := 1#32
  let arg19 : BitVec 32 := Scf.iv c0_i32_62 c1_i32_64 k0_t22
  let v85 : BitVec 1 := Scalar.cmpi .slt arg19 v75
  let v86 : BitVec 32 := Scalar.extui v85
  let c0_i32_71 : BitVec 32 := 0#32
  let v87 : BitVec 1 := Scalar.cmpi .ne v86 c0_i32_71
  v87

def k0_off118 (k0_t22 : Fin k0_t22_loop.trips) : Fin 3 → Nat :=
  let c0_i32_62 : BitVec 32 := 0#32
  let c1_i32_64 : BitVec 32 := 1#32
  let arg19 : BitVec 32 := Scf.iv c0_i32_62 c1_i32_64 k0_t22
  let c8_i32_73 : BitVec 32 := 8#32
  let v94 : BitVec 32 := Scalar.remsi arg19 c8_i32_73
  let c0_i32_75 : BitVec 32 := 0#32
  let c0_i32_76 : BitVec 32 := 0#32
  ![v94.toNat, 0, 0]
def k0_off119 (i : grid0.Coords) (v89 : BitVec 32) : Fin 2 → Nat :=
  let c0_i32_77 : BitVec 32 := 0#32
  let c32_i32 : BitVec 32 := 32#32
  let v90 : BitVec 32 := Scalar.muli v89 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v91 : BitVec 32 := Scalar.addi v90 v1
  let c128_i32 : BitVec 32 := 128#32
  let v92 : BitVec 32 := Scalar.muli v91 c128_i32
  let v93 : BitVec 32 := v92
  ![0, v93.toNat]

def k0_chk103 (i : grid0.Coords) (v75 : BitVec 32) (k0_t22 : Fin k0_t22_loop.trips) (v89 : BitVec 32) : Prop :=
  (∀ (k0_h6 : k0_cond6 v75 k0_t22 = 1#1), 128 ∣ (k0_mult4 i v89).toNat) ∧
  (∀ (k0_h6 : k0_cond6 v75 k0_t22 = 1#1), ∀ a, (k0_off119 i v89) a + S32x128.size a ≤ S32x1000064.size a)
theorem k0_mult4_dvd : ∀ (i : grid0.Coords) (v75 : BitVec 32) (k0_t22 : Fin k0_t22_loop.trips) (v89 : BitVec 32) (k0_hw103 : k0_chk103 i v75 k0_t22 v89), ∀ (k0_h6 : k0_cond6 v75 k0_t22 = 1#1), 128 ∣ (k0_mult4 i v89).toNat := fun i v75 k0_t22 v89 k0_hw103 k0_h6 => k0_hw103.1 k0_h6
theorem k0_off119_inb : ∀ (i : grid0.Coords) (v75 : BitVec 32) (k0_t22 : Fin k0_t22_loop.trips) (v89 : BitVec 32) (k0_hw103 : k0_chk103 i v75 k0_t22 v89), ∀ (k0_h6 : k0_cond6 v75 k0_t22 = 1#1), ∀ a, (k0_off119 i v89) a + S32x128.size a ≤ S32x1000064.size a := fun i v75 k0_t22 v89 k0_hw103 k0_h6 => k0_hw103.2 k0_h6

def k0_off120 (k0_t22 : Fin k0_t22_loop.trips) : Fin 1 → Nat :=
  let c0_i32_62 : BitVec 32 := 0#32
  let c1_i32_64 : BitVec 32 := 1#32
  let arg19 : BitVec 32 := Scf.iv c0_i32_62 c1_i32_64 k0_t22
  let c8_i32_74 : BitVec 32 := 8#32
  let v95 : BitVec 32 := Scalar.remsi arg19 c8_i32_74
  ![v95.toNat]
@[reducible] def k0_t23_loop (v75 : BitVec 32) : Scf.Loop 32 :=
  let c0_i32_66 : BitVec 32 := 0#32
  let v78 : BitVec 32 := Scalar.subi v75 c0_i32_66
  let c1_i32_68 : BitVec 32 := 1#32
  let v80 : BitVec 32 := Scalar.divsi v78 c1_i32_68
  let v81 : BitVec 32 := Scalar.muli v80 c1_i32_68
  let v82 : BitVec 32 := Scalar.addi c0_i32_66 v81
  let c1_i32_69 : BitVec 32 := 1#32
  ⟨c0_i32_66, v82, c1_i32_69⟩

def k0_off121 (v75 : BitVec 32) (k0_t23 : Fin (k0_t23_loop v75).trips) : Fin 3 → Nat :=
  let c0_i32_66 : BitVec 32 := 0#32
  let c1_i32_69 : BitVec 32 := 1#32
  let arg19 : BitVec 32 := Scf.iv c0_i32_66 c1_i32_69 k0_t23
  let c8_i32_71 : BitVec 32 := 8#32
  let v85 : BitVec 32 := Scalar.remsi arg19 c8_i32_71
  let c0_i32_72 : BitVec 32 := 0#32
  let c0_i32_73 : BitVec 32 := 0#32
  ![v85.toNat, 0, 0]
def k0_off122 (v75 : BitVec 32) (k0_t23 : Fin (k0_t23_loop v75).trips) : Fin 1 → Nat :=
  let c0_i32_66 : BitVec 32 := 0#32
  let c1_i32_69 : BitVec 32 := 1#32
  let arg19 : BitVec 32 := Scf.iv c0_i32_66 c1_i32_69 k0_t23
  let c8_i32_71 : BitVec 32 := 8#32
  let v85 : BitVec 32 := Scalar.remsi arg19 c8_i32_71
  ![v85.toNat]
def k0_off123 (v75 : BitVec 32) (k0_t23 : Fin (k0_t23_loop v75).trips) : Fin 1 → Nat :=
  let c0_i32_66 : BitVec 32 := 0#32
  let c1_i32_69 : BitVec 32 := 1#32
  let arg19 : BitVec 32 := Scf.iv c0_i32_66 c1_i32_69 k0_t23
  let v94 : Index := Scalar.indexCast arg19
  ![v94.toNat]
def k0_off124 (v95 : BitVec 32) : Fin 1 → Nat :=
  let v96 : Index := Scalar.indexCast v95
  ![v96.toNat]

def k0_chk105 (v95 : BitVec 32) : Prop :=
  (∀ a, (k0_off124 v95) a + S1.size a ≤ S256.size a)
theorem k0_off124_inb : ∀ (v95 : BitVec 32) (k0_hw105 : k0_chk105 v95), ∀ a, (k0_off124 v95) a + S1.size a ≤ S256.size a := fun v95 k0_hw105 => k0_hw105

@[reducible] def k0_t24_loop (v97 : BitVec 32) : Scf.Loop 32 :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let c1_i32_84 : BitVec 32 := 1#32
  ⟨c0_i32_81, v103, c1_i32_84⟩

def k0_chk107 (v119 : IVec S16 32) : Prop :=
  (∀ a x, ((![v119] : Fin 1 → IVec S16 32) a x).toNat < S4096.size a)
theorem k0_idx29_inb : ∀ (v119 : IVec S16 32) (k0_hw107 : k0_chk107 v119), ∀ a x, ((![v119] : Fin 1 → IVec S16 32) a x).toNat < S4096.size a := fun v119 k0_hw107 => k0_hw107

def k0_chk108 (v123 : IVec S16 32) : Prop :=
  (∀ a x, ((![v123] : Fin 1 → IVec S16 32) a x).toNat < S4096.size a)
theorem k0_idx30_inb : ∀ (v123 : IVec S16 32) (k0_hw108 : k0_chk108 v123), ∀ a x, ((![v123] : Fin 1 → IVec S16 32) a x).toNat < S4096.size a := fun v123 k0_hw108 => k0_hw108

def k0_chk109 (v2 : IVec S16 32) (v126 : IVec S16 32) (v127 : IVec S16 32) : Prop :=
  (∀ a x, ((![v127, v2, v126] : Fin 3 → IVec S16 32) a x).toNat < S8x32x128.size a)
theorem k0_idx31_inb : ∀ (v2 : IVec S16 32) (v126 : IVec S16 32) (v127 : IVec S16 32) (k0_hw109 : k0_chk109 v2 v126 v127), ∀ a x, ((![v127, v2, v126] : Fin 3 → IVec S16 32) a x).toNat < S8x32x128.size a := fun v2 v126 v127 k0_hw109 => k0_hw109

def k0_chk110 (v126 : IVec S16 32) (v127 : IVec S16 32) (v130 : IVec S16 32) : Prop :=
  (∀ a x, ((![v127, v130, v126] : Fin 3 → IVec S16 32) a x).toNat < S8x32x128.size a)
theorem k0_idx32_inb : ∀ (v126 : IVec S16 32) (v127 : IVec S16 32) (v130 : IVec S16 32) (k0_hw110 : k0_chk110 v126 v127 v130), ∀ a x, ((![v127, v130, v126] : Fin 3 → IVec S16 32) a x).toNat < S8x32x128.size a := fun v126 v127 v130 k0_hw110 => k0_hw110
def k0_off125 (v97 : BitVec 32) (k0_t24 : Fin (k0_t24_loop v97).trips) : Fin 2 → Nat :=
  let c0_i32_81 : BitVec 32 := 0#32
  let c1_i32_84 : BitVec 32 := 1#32
  let arg21 : BitVec 32 := Scf.iv c0_i32_81 c1_i32_84 k0_t24
  let c16_i32_95 : BitVec 32 := 16#32
  let v132 : BitVec 32 := Scalar.remsi arg21 c16_i32_95
  let v133 : Index := Scalar.indexCast v132
  let c0 : Index := 0#32
  ![v133.toNat, 0]
def k0_off126 (v97 : BitVec 32) (k0_t24 : Fin (k0_t24_loop v97).trips) : Fin 2 → Nat :=
  let c0_i32_81 : BitVec 32 := 0#32
  let c1_i32_84 : BitVec 32 := 1#32
  let arg21 : BitVec 32 := Scf.iv c0_i32_81 c1_i32_84 k0_t24
  let c16_i32_95 : BitVec 32 := 16#32
  let v132 : BitVec 32 := Scalar.remsi arg21 c16_i32_95
  let v135 : Index := Scalar.indexCast v132
  let c16 : Index := 16#32
  ![v135.toNat, 16]
def k0_off127 (v97 : BitVec 32) (k0_t24 : Fin (k0_t24_loop v97).trips) : Fin 2 → Nat :=
  let c0_i32_81 : BitVec 32 := 0#32
  let c1_i32_84 : BitVec 32 := 1#32
  let arg21 : BitVec 32 := Scf.iv c0_i32_81 c1_i32_84 k0_t24
  let c16_i32_95 : BitVec 32 := 16#32
  let v132 : BitVec 32 := Scalar.remsi arg21 c16_i32_95
  let c0_i32_96 : BitVec 32 := 0#32
  ![v132.toNat, 0]
def k0_off128 (v138 : BitVec 32) : Fin 1 → Nat :=
  let c32_i32 : BitVec 32 := 32#32
  let v139 : BitVec 32 := Scalar.muli v138 c32_i32
  ![v139.toNat]

def k0_chk111 (v138 : BitVec 32) : Prop :=
  (∀ a, (k0_off128 v138) a + S32.size a ≤ S524288.size a)
theorem k0_off128_inb : ∀ (v138 : BitVec 32) (k0_hw111 : k0_chk111 v138), ∀ a, (k0_off128 v138) a + S32.size a ≤ S524288.size a := fun v138 k0_hw111 => k0_hw111

def k0_off129 (v97 : BitVec 32) (k0_t24 : Fin (k0_t24_loop v97).trips) : Fin 2 → Nat :=
  let c0_i32_81 : BitVec 32 := 0#32
  let c1_i32_84 : BitVec 32 := 1#32
  let arg21 : BitVec 32 := Scf.iv c0_i32_81 c1_i32_84 k0_t24
  let c16_i32_95 : BitVec 32 := 16#32
  let v132 : BitVec 32 := Scalar.remsi arg21 c16_i32_95
  let c0_i32_97 : BitVec 32 := 0#32
  ![v132.toNat, 0]
@[reducible] def k0_t25_loop (v97 : BitVec 32) : Scf.Loop 32 :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let v100 : BitVec 32 := Scalar.addi c0_i32_81 v99
  let c1_i32_85 : BitVec 32 := 1#32
  ⟨v103, v100, c1_i32_85⟩

def k0_chk112 (v119 : IVec S16 32) : Prop :=
  (∀ a x, ((![v119] : Fin 1 → IVec S16 32) a x).toNat < S4096.size a)
theorem k0_idx33_inb : ∀ (v119 : IVec S16 32) (k0_hw112 : k0_chk112 v119), ∀ a x, ((![v119] : Fin 1 → IVec S16 32) a x).toNat < S4096.size a := fun v119 k0_hw112 => k0_hw112

def k0_chk113 (v123 : IVec S16 32) : Prop :=
  (∀ a x, ((![v123] : Fin 1 → IVec S16 32) a x).toNat < S4096.size a)
theorem k0_idx34_inb : ∀ (v123 : IVec S16 32) (k0_hw113 : k0_chk113 v123), ∀ a x, ((![v123] : Fin 1 → IVec S16 32) a x).toNat < S4096.size a := fun v123 k0_hw113 => k0_hw113

def k0_chk114 (v2 : IVec S16 32) (v126 : IVec S16 32) (v127 : IVec S16 32) : Prop :=
  (∀ a x, ((![v127, v2, v126] : Fin 3 → IVec S16 32) a x).toNat < S8x32x128.size a)
theorem k0_idx35_inb : ∀ (v2 : IVec S16 32) (v126 : IVec S16 32) (v127 : IVec S16 32) (k0_hw114 : k0_chk114 v2 v126 v127), ∀ a x, ((![v127, v2, v126] : Fin 3 → IVec S16 32) a x).toNat < S8x32x128.size a := fun v2 v126 v127 k0_hw114 => k0_hw114

def k0_chk115 (v126 : IVec S16 32) (v127 : IVec S16 32) (v130 : IVec S16 32) : Prop :=
  (∀ a x, ((![v127, v130, v126] : Fin 3 → IVec S16 32) a x).toNat < S8x32x128.size a)
theorem k0_idx36_inb : ∀ (v126 : IVec S16 32) (v127 : IVec S16 32) (v130 : IVec S16 32) (k0_hw115 : k0_chk115 v126 v127 v130), ∀ a x, ((![v127, v130, v126] : Fin 3 → IVec S16 32) a x).toNat < S8x32x128.size a := fun v126 v127 v130 k0_hw115 => k0_hw115
def k0_off130 (v97 : BitVec 32) (k0_t25 : Fin (k0_t25_loop v97).trips) : Fin 2 → Nat :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let c1_i32_85 : BitVec 32 := 1#32
  let arg21 : BitVec 32 := Scf.iv v103 c1_i32_85 k0_t25
  let c16_i32_95 : BitVec 32 := 16#32
  let v132 : BitVec 32 := Scalar.remsi arg21 c16_i32_95
  let v133 : Index := Scalar.indexCast v132
  let c0 : Index := 0#32
  ![v133.toNat, 0]
def k0_off131 (v97 : BitVec 32) (k0_t25 : Fin (k0_t25_loop v97).trips) : Fin 2 → Nat :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let c1_i32_85 : BitVec 32 := 1#32
  let arg21 : BitVec 32 := Scf.iv v103 c1_i32_85 k0_t25
  let c16_i32_95 : BitVec 32 := 16#32
  let v132 : BitVec 32 := Scalar.remsi arg21 c16_i32_95
  let v135 : Index := Scalar.indexCast v132
  let c16 : Index := 16#32
  ![v135.toNat, 16]
def k0_off132 (v97 : BitVec 32) (k0_t25 : Fin (k0_t25_loop v97).trips) : Fin 2 → Nat :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let c1_i32_85 : BitVec 32 := 1#32
  let arg21 : BitVec 32 := Scf.iv v103 c1_i32_85 k0_t25
  let c16_i32_95 : BitVec 32 := 16#32
  let v132 : BitVec 32 := Scalar.remsi arg21 c16_i32_95
  let c0_i32_96 : BitVec 32 := 0#32
  ![v132.toNat, 0]
def k0_off133 (v138 : BitVec 32) : Fin 1 → Nat :=
  let c32_i32 : BitVec 32 := 32#32
  let v139 : BitVec 32 := Scalar.muli v138 c32_i32
  ![v139.toNat]

def k0_chk116 (v138 : BitVec 32) : Prop :=
  (∀ a, (k0_off133 v138) a + S32.size a ≤ S524288.size a)
theorem k0_off133_inb : ∀ (v138 : BitVec 32) (k0_hw116 : k0_chk116 v138), ∀ a, (k0_off133 v138) a + S32.size a ≤ S524288.size a := fun v138 k0_hw116 => k0_hw116

def k0_off134 (v97 : BitVec 32) (k0_t25 : Fin (k0_t25_loop v97).trips) : Fin 2 → Nat :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let c1_i32_85 : BitVec 32 := 1#32
  let arg21 : BitVec 32 := Scf.iv v103 c1_i32_85 k0_t25
  let c16_i32_95 : BitVec 32 := 16#32
  let v132 : BitVec 32 := Scalar.remsi arg21 c16_i32_95
  let c0_i32_97 : BitVec 32 := 0#32
  ![v132.toNat, 0]
@[reducible] def k0_t26_loop (v97 : BitVec 32) : Scf.Loop 32 :=
  let c0_i32_86 : BitVec 32 := 0#32
  let v106 : BitVec 32 := Scalar.subi v97 c0_i32_86
  let c1_i32_88 : BitVec 32 := 1#32
  let v108 : BitVec 32 := Scalar.divsi v106 c1_i32_88
  let v109 : BitVec 32 := Scalar.muli v108 c1_i32_88
  let v110 : BitVec 32 := Scalar.addi c0_i32_86 v109
  let c1_i32_89 : BitVec 32 := 1#32
  ⟨c0_i32_86, v110, c1_i32_89⟩
@[reducible] def k0_t27_loop (v97 : BitVec 32) : Scf.Loop 32 :=
  let c0_i32_86 : BitVec 32 := 0#32
  let v106 : BitVec 32 := Scalar.subi v97 c0_i32_86
  let c1_i32_88 : BitVec 32 := 1#32
  let v108 : BitVec 32 := Scalar.divsi v106 c1_i32_88
  let v109 : BitVec 32 := Scalar.muli v108 c1_i32_88
  let v110 : BitVec 32 := Scalar.addi c0_i32_86 v109
  let v107 : BitVec 32 := Scalar.addi c0_i32_86 v106
  let c1_i32_90 : BitVec 32 := 1#32
  ⟨v110, v107, c1_i32_90⟩

def k0_chk106 (v97 : BitVec 32) : Prop :=
  ((k0_t24_loop v97).OK) ∧
  (∀ k0_t24 : Fin (k0_t24_loop v97).trips, ∀ a, (k0_off125 v97 k0_t24) a + S1x16.size a ≤ S16x32.size a) ∧
  (∀ k0_t24 : Fin (k0_t24_loop v97).trips, ∀ a, (k0_off126 v97 k0_t24) a + S1x16.size a ≤ S16x32.size a) ∧
  (∀ k0_t24 : Fin (k0_t24_loop v97).trips, ∀ a, (k0_off127 v97 k0_t24) a + S1x32.size a ≤ S16x32.size a) ∧
  (∀ k0_t24 : Fin (k0_t24_loop v97).trips, ∀ a, (k0_off129 v97 k0_t24) a + S1x32.size a ≤ S16x32.size a) ∧
  ((k0_t25_loop v97).OK) ∧
  (∀ k0_t25 : Fin (k0_t25_loop v97).trips, ∀ a, (k0_off130 v97 k0_t25) a + S1x16.size a ≤ S16x32.size a) ∧
  (∀ k0_t25 : Fin (k0_t25_loop v97).trips, ∀ a, (k0_off131 v97 k0_t25) a + S1x16.size a ≤ S16x32.size a) ∧
  (∀ k0_t25 : Fin (k0_t25_loop v97).trips, ∀ a, (k0_off132 v97 k0_t25) a + S1x32.size a ≤ S16x32.size a) ∧
  (∀ k0_t25 : Fin (k0_t25_loop v97).trips, ∀ a, (k0_off134 v97 k0_t25) a + S1x32.size a ≤ S16x32.size a) ∧
  ((k0_t26_loop v97).OK) ∧
  ((k0_t27_loop v97).OK)
theorem k0_t24_ok : ∀ (v97 : BitVec 32) (k0_hw106 : k0_chk106 v97), (k0_t24_loop v97).OK := fun v97 k0_hw106 => k0_hw106.1
theorem k0_off125_inb : ∀ (v97 : BitVec 32) (k0_hw106 : k0_chk106 v97) (k0_t24 : Fin (k0_t24_loop v97).trips), ∀ a, (k0_off125 v97 k0_t24) a + S1x16.size a ≤ S16x32.size a := fun v97 k0_hw106 k0_t24 => k0_hw106.2.1 k0_t24
theorem k0_off126_inb : ∀ (v97 : BitVec 32) (k0_hw106 : k0_chk106 v97) (k0_t24 : Fin (k0_t24_loop v97).trips), ∀ a, (k0_off126 v97 k0_t24) a + S1x16.size a ≤ S16x32.size a := fun v97 k0_hw106 k0_t24 => k0_hw106.2.2.1 k0_t24
theorem k0_off127_inb : ∀ (v97 : BitVec 32) (k0_hw106 : k0_chk106 v97) (k0_t24 : Fin (k0_t24_loop v97).trips), ∀ a, (k0_off127 v97 k0_t24) a + S1x32.size a ≤ S16x32.size a := fun v97 k0_hw106 k0_t24 => k0_hw106.2.2.2.1 k0_t24
theorem k0_off129_inb : ∀ (v97 : BitVec 32) (k0_hw106 : k0_chk106 v97) (k0_t24 : Fin (k0_t24_loop v97).trips), ∀ a, (k0_off129 v97 k0_t24) a + S1x32.size a ≤ S16x32.size a := fun v97 k0_hw106 k0_t24 => k0_hw106.2.2.2.2.1 k0_t24
theorem k0_t25_ok : ∀ (v97 : BitVec 32) (k0_hw106 : k0_chk106 v97), (k0_t25_loop v97).OK := fun v97 k0_hw106 => k0_hw106.2.2.2.2.2.1
theorem k0_off130_inb : ∀ (v97 : BitVec 32) (k0_hw106 : k0_chk106 v97) (k0_t25 : Fin (k0_t25_loop v97).trips), ∀ a, (k0_off130 v97 k0_t25) a + S1x16.size a ≤ S16x32.size a := fun v97 k0_hw106 k0_t25 => k0_hw106.2.2.2.2.2.2.1 k0_t25
theorem k0_off131_inb : ∀ (v97 : BitVec 32) (k0_hw106 : k0_chk106 v97) (k0_t25 : Fin (k0_t25_loop v97).trips), ∀ a, (k0_off131 v97 k0_t25) a + S1x16.size a ≤ S16x32.size a := fun v97 k0_hw106 k0_t25 => k0_hw106.2.2.2.2.2.2.2.1 k0_t25
theorem k0_off132_inb : ∀ (v97 : BitVec 32) (k0_hw106 : k0_chk106 v97) (k0_t25 : Fin (k0_t25_loop v97).trips), ∀ a, (k0_off132 v97 k0_t25) a + S1x32.size a ≤ S16x32.size a := fun v97 k0_hw106 k0_t25 => k0_hw106.2.2.2.2.2.2.2.2.1 k0_t25
theorem k0_off134_inb : ∀ (v97 : BitVec 32) (k0_hw106 : k0_chk106 v97) (k0_t25 : Fin (k0_t25_loop v97).trips), ∀ a, (k0_off134 v97 k0_t25) a + S1x32.size a ≤ S16x32.size a := fun v97 k0_hw106 k0_t25 => k0_hw106.2.2.2.2.2.2.2.2.2.1 k0_t25
theorem k0_t26_ok : ∀ (v97 : BitVec 32) (k0_hw106 : k0_chk106 v97), (k0_t26_loop v97).OK := fun v97 k0_hw106 => k0_hw106.2.2.2.2.2.2.2.2.2.2.1
theorem k0_t27_ok : ∀ (v97 : BitVec 32) (k0_hw106 : k0_chk106 v97), (k0_t27_loop v97).OK := fun v97 k0_hw106 => k0_hw106.2.2.2.2.2.2.2.2.2.2.2

def k0_off135 (v75 : BitVec 32) (k0_t23 : Fin (k0_t23_loop v75).trips) : Fin 1 → Nat :=
  let c0_i32_66 : BitVec 32 := 0#32
  let c1_i32_69 : BitVec 32 := 1#32
  let arg19 : BitVec 32 := Scf.iv c0_i32_66 c1_i32_69 k0_t23
  let c8_i32_94 : BitVec 32 := 8#32
  let v117 : BitVec 32 := Scalar.addi arg19 c8_i32_94
  let v118 : Index := Scalar.indexCast v117
  ![v118.toNat]
def k0_cond7 (v75 : BitVec 32) (k0_t23 : Fin (k0_t23_loop v75).trips) : BitVec 1 :=
  let c0_i32_66 : BitVec 32 := 0#32
  let c1_i32_69 : BitVec 32 := 1#32
  let arg19 : BitVec 32 := Scf.iv c0_i32_66 c1_i32_69 k0_t23
  let c8_i32_91 : BitVec 32 := 8#32
  let v113 : BitVec 32 := Scalar.addi arg19 c8_i32_91
  let v114 : BitVec 1 := Scalar.cmpi .slt v113 v75
  let v115 : BitVec 32 := Scalar.extui v114
  let c0_i32_92 : BitVec 32 := 0#32
  let v116 : BitVec 1 := Scalar.cmpi .ne v115 c0_i32_92
  v116

def k0_mult5 (i : grid0.Coords) (v119 : BitVec 32) : BitVec 32 :=
  let c32_i32 : BitVec 32 := 32#32
  let v120 : BitVec 32 := Scalar.muli v119 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v121 : BitVec 32 := Scalar.addi v120 v1
  let c128_i32 : BitVec 32 := 128#32
  let v122 : BitVec 32 := Scalar.muli v121 c128_i32
  v122

def k0_off136 (v75 : BitVec 32) (k0_t23 : Fin (k0_t23_loop v75).trips) : Fin 3 → Nat :=
  let c0_i32_66 : BitVec 32 := 0#32
  let c1_i32_69 : BitVec 32 := 1#32
  let arg19 : BitVec 32 := Scf.iv c0_i32_66 c1_i32_69 k0_t23
  let c8_i32_94 : BitVec 32 := 8#32
  let v117 : BitVec 32 := Scalar.addi arg19 c8_i32_94
  let c8_i32_95 : BitVec 32 := 8#32
  let v124 : BitVec 32 := Scalar.remsi v117 c8_i32_95
  let c0_i32_97 : BitVec 32 := 0#32
  let c0_i32_98 : BitVec 32 := 0#32
  ![v124.toNat, 0, 0]
def k0_off137 (i : grid0.Coords) (v119 : BitVec 32) : Fin 2 → Nat :=
  let c0_i32_99 : BitVec 32 := 0#32
  let c32_i32 : BitVec 32 := 32#32
  let v120 : BitVec 32 := Scalar.muli v119 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v121 : BitVec 32 := Scalar.addi v120 v1
  let c128_i32 : BitVec 32 := 128#32
  let v122 : BitVec 32 := Scalar.muli v121 c128_i32
  let v123 : BitVec 32 := v122
  ![0, v123.toNat]

def k0_chk117 (i : grid0.Coords) (v75 : BitVec 32) (k0_t23 : Fin (k0_t23_loop v75).trips) (v119 : BitVec 32) : Prop :=
  (∀ (k0_h7 : k0_cond7 v75 k0_t23 = 1#1), 128 ∣ (k0_mult5 i v119).toNat) ∧
  (∀ (k0_h7 : k0_cond7 v75 k0_t23 = 1#1), ∀ a, (k0_off137 i v119) a + S32x128.size a ≤ S32x1000064.size a)
theorem k0_mult5_dvd : ∀ (i : grid0.Coords) (v75 : BitVec 32) (k0_t23 : Fin (k0_t23_loop v75).trips) (v119 : BitVec 32) (k0_hw117 : k0_chk117 i v75 k0_t23 v119), ∀ (k0_h7 : k0_cond7 v75 k0_t23 = 1#1), 128 ∣ (k0_mult5 i v119).toNat := fun i v75 k0_t23 v119 k0_hw117 k0_h7 => k0_hw117.1 k0_h7
theorem k0_off137_inb : ∀ (i : grid0.Coords) (v75 : BitVec 32) (k0_t23 : Fin (k0_t23_loop v75).trips) (v119 : BitVec 32) (k0_hw117 : k0_chk117 i v75 k0_t23 v119), ∀ (k0_h7 : k0_cond7 v75 k0_t23 = 1#1), ∀ a, (k0_off137 i v119) a + S32x128.size a ≤ S32x1000064.size a := fun i v75 k0_t23 v119 k0_hw117 k0_h7 => k0_hw117.2 k0_h7

def k0_off138 (v75 : BitVec 32) (k0_t23 : Fin (k0_t23_loop v75).trips) : Fin 1 → Nat :=
  let c0_i32_66 : BitVec 32 := 0#32
  let c1_i32_69 : BitVec 32 := 1#32
  let arg19 : BitVec 32 := Scf.iv c0_i32_66 c1_i32_69 k0_t23
  let c8_i32_94 : BitVec 32 := 8#32
  let v117 : BitVec 32 := Scalar.addi arg19 c8_i32_94
  let c8_i32_96 : BitVec 32 := 8#32
  let v125 : BitVec 32 := Scalar.remsi v117 c8_i32_96
  ![v125.toNat]
@[reducible] def k0_t28_loop (v75 : BitVec 32) : Scf.Loop 32 :=
  let c0_i32_66 : BitVec 32 := 0#32
  let v78 : BitVec 32 := Scalar.subi v75 c0_i32_66
  let c1_i32_68 : BitVec 32 := 1#32
  let v80 : BitVec 32 := Scalar.divsi v78 c1_i32_68
  let v81 : BitVec 32 := Scalar.muli v80 c1_i32_68
  let v82 : BitVec 32 := Scalar.addi c0_i32_66 v81
  let v79 : BitVec 32 := Scalar.addi c0_i32_66 v78
  let c1_i32_70 : BitVec 32 := 1#32
  ⟨v82, v79, c1_i32_70⟩
def k0_off139 (v75 : BitVec 32) (k0_t28 : Fin (k0_t28_loop v75).trips) : Fin 3 → Nat :=
  let c0_i32_66 : BitVec 32 := 0#32
  let v78 : BitVec 32 := Scalar.subi v75 c0_i32_66
  let c1_i32_68 : BitVec 32 := 1#32
  let v80 : BitVec 32 := Scalar.divsi v78 c1_i32_68
  let v81 : BitVec 32 := Scalar.muli v80 c1_i32_68
  let v82 : BitVec 32 := Scalar.addi c0_i32_66 v81
  let c1_i32_70 : BitVec 32 := 1#32
  let arg19 : BitVec 32 := Scf.iv v82 c1_i32_70 k0_t28
  let c8_i32_71 : BitVec 32 := 8#32
  let v85 : BitVec 32 := Scalar.remsi arg19 c8_i32_71
  let c0_i32_72 : BitVec 32 := 0#32
  let c0_i32_73 : BitVec 32 := 0#32
  ![v85.toNat, 0, 0]
def k0_off140 (v75 : BitVec 32) (k0_t28 : Fin (k0_t28_loop v75).trips) : Fin 1 → Nat :=
  let c0_i32_66 : BitVec 32 := 0#32
  let v78 : BitVec 32 := Scalar.subi v75 c0_i32_66
  let c1_i32_68 : BitVec 32 := 1#32
  let v80 : BitVec 32 := Scalar.divsi v78 c1_i32_68
  let v81 : BitVec 32 := Scalar.muli v80 c1_i32_68
  let v82 : BitVec 32 := Scalar.addi c0_i32_66 v81
  let c1_i32_70 : BitVec 32 := 1#32
  let arg19 : BitVec 32 := Scf.iv v82 c1_i32_70 k0_t28
  let c8_i32_71 : BitVec 32 := 8#32
  let v85 : BitVec 32 := Scalar.remsi arg19 c8_i32_71
  ![v85.toNat]
def k0_off141 (v75 : BitVec 32) (k0_t28 : Fin (k0_t28_loop v75).trips) : Fin 1 → Nat :=
  let c0_i32_66 : BitVec 32 := 0#32
  let v78 : BitVec 32 := Scalar.subi v75 c0_i32_66
  let c1_i32_68 : BitVec 32 := 1#32
  let v80 : BitVec 32 := Scalar.divsi v78 c1_i32_68
  let v81 : BitVec 32 := Scalar.muli v80 c1_i32_68
  let v82 : BitVec 32 := Scalar.addi c0_i32_66 v81
  let c1_i32_70 : BitVec 32 := 1#32
  let arg19 : BitVec 32 := Scf.iv v82 c1_i32_70 k0_t28
  let v94 : Index := Scalar.indexCast arg19
  ![v94.toNat]
def k0_off142 (v95 : BitVec 32) : Fin 1 → Nat :=
  let v96 : Index := Scalar.indexCast v95
  ![v96.toNat]

def k0_chk118 (v95 : BitVec 32) : Prop :=
  (∀ a, (k0_off142 v95) a + S1.size a ≤ S256.size a)
theorem k0_off142_inb : ∀ (v95 : BitVec 32) (k0_hw118 : k0_chk118 v95), ∀ a, (k0_off142 v95) a + S1.size a ≤ S256.size a := fun v95 k0_hw118 => k0_hw118

@[reducible] def k0_t29_loop (v97 : BitVec 32) : Scf.Loop 32 :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let c1_i32_84 : BitVec 32 := 1#32
  ⟨c0_i32_81, v103, c1_i32_84⟩

def k0_chk120 (v119 : IVec S16 32) : Prop :=
  (∀ a x, ((![v119] : Fin 1 → IVec S16 32) a x).toNat < S4096.size a)
theorem k0_idx37_inb : ∀ (v119 : IVec S16 32) (k0_hw120 : k0_chk120 v119), ∀ a x, ((![v119] : Fin 1 → IVec S16 32) a x).toNat < S4096.size a := fun v119 k0_hw120 => k0_hw120

def k0_chk121 (v123 : IVec S16 32) : Prop :=
  (∀ a x, ((![v123] : Fin 1 → IVec S16 32) a x).toNat < S4096.size a)
theorem k0_idx38_inb : ∀ (v123 : IVec S16 32) (k0_hw121 : k0_chk121 v123), ∀ a x, ((![v123] : Fin 1 → IVec S16 32) a x).toNat < S4096.size a := fun v123 k0_hw121 => k0_hw121

def k0_chk122 (v2 : IVec S16 32) (v126 : IVec S16 32) (v127 : IVec S16 32) : Prop :=
  (∀ a x, ((![v127, v2, v126] : Fin 3 → IVec S16 32) a x).toNat < S8x32x128.size a)
theorem k0_idx39_inb : ∀ (v2 : IVec S16 32) (v126 : IVec S16 32) (v127 : IVec S16 32) (k0_hw122 : k0_chk122 v2 v126 v127), ∀ a x, ((![v127, v2, v126] : Fin 3 → IVec S16 32) a x).toNat < S8x32x128.size a := fun v2 v126 v127 k0_hw122 => k0_hw122

def k0_chk123 (v126 : IVec S16 32) (v127 : IVec S16 32) (v130 : IVec S16 32) : Prop :=
  (∀ a x, ((![v127, v130, v126] : Fin 3 → IVec S16 32) a x).toNat < S8x32x128.size a)
theorem k0_idx40_inb : ∀ (v126 : IVec S16 32) (v127 : IVec S16 32) (v130 : IVec S16 32) (k0_hw123 : k0_chk123 v126 v127 v130), ∀ a x, ((![v127, v130, v126] : Fin 3 → IVec S16 32) a x).toNat < S8x32x128.size a := fun v126 v127 v130 k0_hw123 => k0_hw123
def k0_off143 (v97 : BitVec 32) (k0_t29 : Fin (k0_t29_loop v97).trips) : Fin 2 → Nat :=
  let c0_i32_81 : BitVec 32 := 0#32
  let c1_i32_84 : BitVec 32 := 1#32
  let arg21 : BitVec 32 := Scf.iv c0_i32_81 c1_i32_84 k0_t29
  let c16_i32_95 : BitVec 32 := 16#32
  let v132 : BitVec 32 := Scalar.remsi arg21 c16_i32_95
  let v133 : Index := Scalar.indexCast v132
  let c0 : Index := 0#32
  ![v133.toNat, 0]
def k0_off144 (v97 : BitVec 32) (k0_t29 : Fin (k0_t29_loop v97).trips) : Fin 2 → Nat :=
  let c0_i32_81 : BitVec 32 := 0#32
  let c1_i32_84 : BitVec 32 := 1#32
  let arg21 : BitVec 32 := Scf.iv c0_i32_81 c1_i32_84 k0_t29
  let c16_i32_95 : BitVec 32 := 16#32
  let v132 : BitVec 32 := Scalar.remsi arg21 c16_i32_95
  let v135 : Index := Scalar.indexCast v132
  let c16 : Index := 16#32
  ![v135.toNat, 16]
def k0_off145 (v97 : BitVec 32) (k0_t29 : Fin (k0_t29_loop v97).trips) : Fin 2 → Nat :=
  let c0_i32_81 : BitVec 32 := 0#32
  let c1_i32_84 : BitVec 32 := 1#32
  let arg21 : BitVec 32 := Scf.iv c0_i32_81 c1_i32_84 k0_t29
  let c16_i32_95 : BitVec 32 := 16#32
  let v132 : BitVec 32 := Scalar.remsi arg21 c16_i32_95
  let c0_i32_96 : BitVec 32 := 0#32
  ![v132.toNat, 0]
def k0_off146 (v138 : BitVec 32) : Fin 1 → Nat :=
  let c32_i32 : BitVec 32 := 32#32
  let v139 : BitVec 32 := Scalar.muli v138 c32_i32
  ![v139.toNat]

def k0_chk124 (v138 : BitVec 32) : Prop :=
  (∀ a, (k0_off146 v138) a + S32.size a ≤ S524288.size a)
theorem k0_off146_inb : ∀ (v138 : BitVec 32) (k0_hw124 : k0_chk124 v138), ∀ a, (k0_off146 v138) a + S32.size a ≤ S524288.size a := fun v138 k0_hw124 => k0_hw124

def k0_off147 (v97 : BitVec 32) (k0_t29 : Fin (k0_t29_loop v97).trips) : Fin 2 → Nat :=
  let c0_i32_81 : BitVec 32 := 0#32
  let c1_i32_84 : BitVec 32 := 1#32
  let arg21 : BitVec 32 := Scf.iv c0_i32_81 c1_i32_84 k0_t29
  let c16_i32_95 : BitVec 32 := 16#32
  let v132 : BitVec 32 := Scalar.remsi arg21 c16_i32_95
  let c0_i32_97 : BitVec 32 := 0#32
  ![v132.toNat, 0]
@[reducible] def k0_t30_loop (v97 : BitVec 32) : Scf.Loop 32 :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let v100 : BitVec 32 := Scalar.addi c0_i32_81 v99
  let c1_i32_85 : BitVec 32 := 1#32
  ⟨v103, v100, c1_i32_85⟩

def k0_chk125 (v119 : IVec S16 32) : Prop :=
  (∀ a x, ((![v119] : Fin 1 → IVec S16 32) a x).toNat < S4096.size a)
theorem k0_idx41_inb : ∀ (v119 : IVec S16 32) (k0_hw125 : k0_chk125 v119), ∀ a x, ((![v119] : Fin 1 → IVec S16 32) a x).toNat < S4096.size a := fun v119 k0_hw125 => k0_hw125

def k0_chk126 (v123 : IVec S16 32) : Prop :=
  (∀ a x, ((![v123] : Fin 1 → IVec S16 32) a x).toNat < S4096.size a)
theorem k0_idx42_inb : ∀ (v123 : IVec S16 32) (k0_hw126 : k0_chk126 v123), ∀ a x, ((![v123] : Fin 1 → IVec S16 32) a x).toNat < S4096.size a := fun v123 k0_hw126 => k0_hw126

def k0_chk127 (v2 : IVec S16 32) (v126 : IVec S16 32) (v127 : IVec S16 32) : Prop :=
  (∀ a x, ((![v127, v2, v126] : Fin 3 → IVec S16 32) a x).toNat < S8x32x128.size a)
theorem k0_idx43_inb : ∀ (v2 : IVec S16 32) (v126 : IVec S16 32) (v127 : IVec S16 32) (k0_hw127 : k0_chk127 v2 v126 v127), ∀ a x, ((![v127, v2, v126] : Fin 3 → IVec S16 32) a x).toNat < S8x32x128.size a := fun v2 v126 v127 k0_hw127 => k0_hw127

def k0_chk128 (v126 : IVec S16 32) (v127 : IVec S16 32) (v130 : IVec S16 32) : Prop :=
  (∀ a x, ((![v127, v130, v126] : Fin 3 → IVec S16 32) a x).toNat < S8x32x128.size a)
theorem k0_idx44_inb : ∀ (v126 : IVec S16 32) (v127 : IVec S16 32) (v130 : IVec S16 32) (k0_hw128 : k0_chk128 v126 v127 v130), ∀ a x, ((![v127, v130, v126] : Fin 3 → IVec S16 32) a x).toNat < S8x32x128.size a := fun v126 v127 v130 k0_hw128 => k0_hw128
def k0_off148 (v97 : BitVec 32) (k0_t30 : Fin (k0_t30_loop v97).trips) : Fin 2 → Nat :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let c1_i32_85 : BitVec 32 := 1#32
  let arg21 : BitVec 32 := Scf.iv v103 c1_i32_85 k0_t30
  let c16_i32_95 : BitVec 32 := 16#32
  let v132 : BitVec 32 := Scalar.remsi arg21 c16_i32_95
  let v133 : Index := Scalar.indexCast v132
  let c0 : Index := 0#32
  ![v133.toNat, 0]
def k0_off149 (v97 : BitVec 32) (k0_t30 : Fin (k0_t30_loop v97).trips) : Fin 2 → Nat :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let c1_i32_85 : BitVec 32 := 1#32
  let arg21 : BitVec 32 := Scf.iv v103 c1_i32_85 k0_t30
  let c16_i32_95 : BitVec 32 := 16#32
  let v132 : BitVec 32 := Scalar.remsi arg21 c16_i32_95
  let v135 : Index := Scalar.indexCast v132
  let c16 : Index := 16#32
  ![v135.toNat, 16]
def k0_off150 (v97 : BitVec 32) (k0_t30 : Fin (k0_t30_loop v97).trips) : Fin 2 → Nat :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let c1_i32_85 : BitVec 32 := 1#32
  let arg21 : BitVec 32 := Scf.iv v103 c1_i32_85 k0_t30
  let c16_i32_95 : BitVec 32 := 16#32
  let v132 : BitVec 32 := Scalar.remsi arg21 c16_i32_95
  let c0_i32_96 : BitVec 32 := 0#32
  ![v132.toNat, 0]
def k0_off151 (v138 : BitVec 32) : Fin 1 → Nat :=
  let c32_i32 : BitVec 32 := 32#32
  let v139 : BitVec 32 := Scalar.muli v138 c32_i32
  ![v139.toNat]

def k0_chk129 (v138 : BitVec 32) : Prop :=
  (∀ a, (k0_off151 v138) a + S32.size a ≤ S524288.size a)
theorem k0_off151_inb : ∀ (v138 : BitVec 32) (k0_hw129 : k0_chk129 v138), ∀ a, (k0_off151 v138) a + S32.size a ≤ S524288.size a := fun v138 k0_hw129 => k0_hw129

def k0_off152 (v97 : BitVec 32) (k0_t30 : Fin (k0_t30_loop v97).trips) : Fin 2 → Nat :=
  let c0_i32_81 : BitVec 32 := 0#32
  let v99 : BitVec 32 := Scalar.subi v97 c0_i32_81
  let c1_i32_83 : BitVec 32 := 1#32
  let v101 : BitVec 32 := Scalar.divsi v99 c1_i32_83
  let v102 : BitVec 32 := Scalar.muli v101 c1_i32_83
  let v103 : BitVec 32 := Scalar.addi c0_i32_81 v102
  let c1_i32_85 : BitVec 32 := 1#32
  let arg21 : BitVec 32 := Scf.iv v103 c1_i32_85 k0_t30
  let c16_i32_95 : BitVec 32 := 16#32
  let v132 : BitVec 32 := Scalar.remsi arg21 c16_i32_95
  let c0_i32_97 : BitVec 32 := 0#32
  ![v132.toNat, 0]
@[reducible] def k0_t31_loop (v97 : BitVec 32) : Scf.Loop 32 :=
  let c0_i32_86 : BitVec 32 := 0#32
  let v106 : BitVec 32 := Scalar.subi v97 c0_i32_86
  let c1_i32_88 : BitVec 32 := 1#32
  let v108 : BitVec 32 := Scalar.divsi v106 c1_i32_88
  let v109 : BitVec 32 := Scalar.muli v108 c1_i32_88
  let v110 : BitVec 32 := Scalar.addi c0_i32_86 v109
  let c1_i32_89 : BitVec 32 := 1#32
  ⟨c0_i32_86, v110, c1_i32_89⟩
@[reducible] def k0_t32_loop (v97 : BitVec 32) : Scf.Loop 32 :=
  let c0_i32_86 : BitVec 32 := 0#32
  let v106 : BitVec 32 := Scalar.subi v97 c0_i32_86
  let c1_i32_88 : BitVec 32 := 1#32
  let v108 : BitVec 32 := Scalar.divsi v106 c1_i32_88
  let v109 : BitVec 32 := Scalar.muli v108 c1_i32_88
  let v110 : BitVec 32 := Scalar.addi c0_i32_86 v109
  let v107 : BitVec 32 := Scalar.addi c0_i32_86 v106
  let c1_i32_90 : BitVec 32 := 1#32
  ⟨v110, v107, c1_i32_90⟩

def k0_chk119 (v97 : BitVec 32) : Prop :=
  ((k0_t29_loop v97).OK) ∧
  (∀ k0_t29 : Fin (k0_t29_loop v97).trips, ∀ a, (k0_off143 v97 k0_t29) a + S1x16.size a ≤ S16x32.size a) ∧
  (∀ k0_t29 : Fin (k0_t29_loop v97).trips, ∀ a, (k0_off144 v97 k0_t29) a + S1x16.size a ≤ S16x32.size a) ∧
  (∀ k0_t29 : Fin (k0_t29_loop v97).trips, ∀ a, (k0_off145 v97 k0_t29) a + S1x32.size a ≤ S16x32.size a) ∧
  (∀ k0_t29 : Fin (k0_t29_loop v97).trips, ∀ a, (k0_off147 v97 k0_t29) a + S1x32.size a ≤ S16x32.size a) ∧
  ((k0_t30_loop v97).OK) ∧
  (∀ k0_t30 : Fin (k0_t30_loop v97).trips, ∀ a, (k0_off148 v97 k0_t30) a + S1x16.size a ≤ S16x32.size a) ∧
  (∀ k0_t30 : Fin (k0_t30_loop v97).trips, ∀ a, (k0_off149 v97 k0_t30) a + S1x16.size a ≤ S16x32.size a) ∧
  (∀ k0_t30 : Fin (k0_t30_loop v97).trips, ∀ a, (k0_off150 v97 k0_t30) a + S1x32.size a ≤ S16x32.size a) ∧
  (∀ k0_t30 : Fin (k0_t30_loop v97).trips, ∀ a, (k0_off152 v97 k0_t30) a + S1x32.size a ≤ S16x32.size a) ∧
  ((k0_t31_loop v97).OK) ∧
  ((k0_t32_loop v97).OK)
theorem k0_t29_ok : ∀ (v97 : BitVec 32) (k0_hw119 : k0_chk119 v97), (k0_t29_loop v97).OK := fun v97 k0_hw119 => k0_hw119.1
theorem k0_off143_inb : ∀ (v97 : BitVec 32) (k0_hw119 : k0_chk119 v97) (k0_t29 : Fin (k0_t29_loop v97).trips), ∀ a, (k0_off143 v97 k0_t29) a + S1x16.size a ≤ S16x32.size a := fun v97 k0_hw119 k0_t29 => k0_hw119.2.1 k0_t29
theorem k0_off144_inb : ∀ (v97 : BitVec 32) (k0_hw119 : k0_chk119 v97) (k0_t29 : Fin (k0_t29_loop v97).trips), ∀ a, (k0_off144 v97 k0_t29) a + S1x16.size a ≤ S16x32.size a := fun v97 k0_hw119 k0_t29 => k0_hw119.2.2.1 k0_t29
theorem k0_off145_inb : ∀ (v97 : BitVec 32) (k0_hw119 : k0_chk119 v97) (k0_t29 : Fin (k0_t29_loop v97).trips), ∀ a, (k0_off145 v97 k0_t29) a + S1x32.size a ≤ S16x32.size a := fun v97 k0_hw119 k0_t29 => k0_hw119.2.2.2.1 k0_t29
theorem k0_off147_inb : ∀ (v97 : BitVec 32) (k0_hw119 : k0_chk119 v97) (k0_t29 : Fin (k0_t29_loop v97).trips), ∀ a, (k0_off147 v97 k0_t29) a + S1x32.size a ≤ S16x32.size a := fun v97 k0_hw119 k0_t29 => k0_hw119.2.2.2.2.1 k0_t29
theorem k0_t30_ok : ∀ (v97 : BitVec 32) (k0_hw119 : k0_chk119 v97), (k0_t30_loop v97).OK := fun v97 k0_hw119 => k0_hw119.2.2.2.2.2.1
theorem k0_off148_inb : ∀ (v97 : BitVec 32) (k0_hw119 : k0_chk119 v97) (k0_t30 : Fin (k0_t30_loop v97).trips), ∀ a, (k0_off148 v97 k0_t30) a + S1x16.size a ≤ S16x32.size a := fun v97 k0_hw119 k0_t30 => k0_hw119.2.2.2.2.2.2.1 k0_t30
theorem k0_off149_inb : ∀ (v97 : BitVec 32) (k0_hw119 : k0_chk119 v97) (k0_t30 : Fin (k0_t30_loop v97).trips), ∀ a, (k0_off149 v97 k0_t30) a + S1x16.size a ≤ S16x32.size a := fun v97 k0_hw119 k0_t30 => k0_hw119.2.2.2.2.2.2.2.1 k0_t30
theorem k0_off150_inb : ∀ (v97 : BitVec 32) (k0_hw119 : k0_chk119 v97) (k0_t30 : Fin (k0_t30_loop v97).trips), ∀ a, (k0_off150 v97 k0_t30) a + S1x32.size a ≤ S16x32.size a := fun v97 k0_hw119 k0_t30 => k0_hw119.2.2.2.2.2.2.2.2.1 k0_t30
theorem k0_off152_inb : ∀ (v97 : BitVec 32) (k0_hw119 : k0_chk119 v97) (k0_t30 : Fin (k0_t30_loop v97).trips), ∀ a, (k0_off152 v97 k0_t30) a + S1x32.size a ≤ S16x32.size a := fun v97 k0_hw119 k0_t30 => k0_hw119.2.2.2.2.2.2.2.2.2.1 k0_t30
theorem k0_t31_ok : ∀ (v97 : BitVec 32) (k0_hw119 : k0_chk119 v97), (k0_t31_loop v97).OK := fun v97 k0_hw119 => k0_hw119.2.2.2.2.2.2.2.2.2.2.1
theorem k0_t32_ok : ∀ (v97 : BitVec 32) (k0_hw119 : k0_chk119 v97), (k0_t32_loop v97).OK := fun v97 k0_hw119 => k0_hw119.2.2.2.2.2.2.2.2.2.2.2

def k0_off153 (v75 : BitVec 32) (k0_t28 : Fin (k0_t28_loop v75).trips) : Fin 1 → Nat :=
  let c0_i32_66 : BitVec 32 := 0#32
  let v78 : BitVec 32 := Scalar.subi v75 c0_i32_66
  let c1_i32_68 : BitVec 32 := 1#32
  let v80 : BitVec 32 := Scalar.divsi v78 c1_i32_68
  let v81 : BitVec 32 := Scalar.muli v80 c1_i32_68
  let v82 : BitVec 32 := Scalar.addi c0_i32_66 v81
  let c1_i32_70 : BitVec 32 := 1#32
  let arg19 : BitVec 32 := Scf.iv v82 c1_i32_70 k0_t28
  let c8_i32_94 : BitVec 32 := 8#32
  let v117 : BitVec 32 := Scalar.addi arg19 c8_i32_94
  let v118 : Index := Scalar.indexCast v117
  ![v118.toNat]
def k0_cond8 (v75 : BitVec 32) (k0_t28 : Fin (k0_t28_loop v75).trips) : BitVec 1 :=
  let c0_i32_66 : BitVec 32 := 0#32
  let v78 : BitVec 32 := Scalar.subi v75 c0_i32_66
  let c1_i32_68 : BitVec 32 := 1#32
  let v80 : BitVec 32 := Scalar.divsi v78 c1_i32_68
  let v81 : BitVec 32 := Scalar.muli v80 c1_i32_68
  let v82 : BitVec 32 := Scalar.addi c0_i32_66 v81
  let c1_i32_70 : BitVec 32 := 1#32
  let arg19 : BitVec 32 := Scf.iv v82 c1_i32_70 k0_t28
  let c8_i32_91 : BitVec 32 := 8#32
  let v113 : BitVec 32 := Scalar.addi arg19 c8_i32_91
  let v114 : BitVec 1 := Scalar.cmpi .slt v113 v75
  let v115 : BitVec 32 := Scalar.extui v114
  let c0_i32_92 : BitVec 32 := 0#32
  let v116 : BitVec 1 := Scalar.cmpi .ne v115 c0_i32_92
  v116

def k0_mult6 (i : grid0.Coords) (v119 : BitVec 32) : BitVec 32 :=
  let c32_i32 : BitVec 32 := 32#32
  let v120 : BitVec 32 := Scalar.muli v119 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v121 : BitVec 32 := Scalar.addi v120 v1
  let c128_i32 : BitVec 32 := 128#32
  let v122 : BitVec 32 := Scalar.muli v121 c128_i32
  v122

def k0_off154 (v75 : BitVec 32) (k0_t28 : Fin (k0_t28_loop v75).trips) : Fin 3 → Nat :=
  let c0_i32_66 : BitVec 32 := 0#32
  let v78 : BitVec 32 := Scalar.subi v75 c0_i32_66
  let c1_i32_68 : BitVec 32 := 1#32
  let v80 : BitVec 32 := Scalar.divsi v78 c1_i32_68
  let v81 : BitVec 32 := Scalar.muli v80 c1_i32_68
  let v82 : BitVec 32 := Scalar.addi c0_i32_66 v81
  let c1_i32_70 : BitVec 32 := 1#32
  let arg19 : BitVec 32 := Scf.iv v82 c1_i32_70 k0_t28
  let c8_i32_94 : BitVec 32 := 8#32
  let v117 : BitVec 32 := Scalar.addi arg19 c8_i32_94
  let c8_i32_95 : BitVec 32 := 8#32
  let v124 : BitVec 32 := Scalar.remsi v117 c8_i32_95
  let c0_i32_97 : BitVec 32 := 0#32
  let c0_i32_98 : BitVec 32 := 0#32
  ![v124.toNat, 0, 0]
def k0_off155 (i : grid0.Coords) (v119 : BitVec 32) : Fin 2 → Nat :=
  let c0_i32_99 : BitVec 32 := 0#32
  let c32_i32 : BitVec 32 := 32#32
  let v120 : BitVec 32 := Scalar.muli v119 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v121 : BitVec 32 := Scalar.addi v120 v1
  let c128_i32 : BitVec 32 := 128#32
  let v122 : BitVec 32 := Scalar.muli v121 c128_i32
  let v123 : BitVec 32 := v122
  ![0, v123.toNat]

def k0_chk130 (i : grid0.Coords) (v75 : BitVec 32) (k0_t28 : Fin (k0_t28_loop v75).trips) (v119 : BitVec 32) : Prop :=
  (∀ (k0_h8 : k0_cond8 v75 k0_t28 = 1#1), 128 ∣ (k0_mult6 i v119).toNat) ∧
  (∀ (k0_h8 : k0_cond8 v75 k0_t28 = 1#1), ∀ a, (k0_off155 i v119) a + S32x128.size a ≤ S32x1000064.size a)
theorem k0_mult6_dvd : ∀ (i : grid0.Coords) (v75 : BitVec 32) (k0_t28 : Fin (k0_t28_loop v75).trips) (v119 : BitVec 32) (k0_hw130 : k0_chk130 i v75 k0_t28 v119), ∀ (k0_h8 : k0_cond8 v75 k0_t28 = 1#1), 128 ∣ (k0_mult6 i v119).toNat := fun i v75 k0_t28 v119 k0_hw130 k0_h8 => k0_hw130.1 k0_h8
theorem k0_off155_inb : ∀ (i : grid0.Coords) (v75 : BitVec 32) (k0_t28 : Fin (k0_t28_loop v75).trips) (v119 : BitVec 32) (k0_hw130 : k0_chk130 i v75 k0_t28 v119), ∀ (k0_h8 : k0_cond8 v75 k0_t28 = 1#1), ∀ a, (k0_off155 i v119) a + S32x128.size a ≤ S32x1000064.size a := fun i v75 k0_t28 v119 k0_hw130 k0_h8 => k0_hw130.2 k0_h8

def k0_off156 (v75 : BitVec 32) (k0_t28 : Fin (k0_t28_loop v75).trips) : Fin 1 → Nat :=
  let c0_i32_66 : BitVec 32 := 0#32
  let v78 : BitVec 32 := Scalar.subi v75 c0_i32_66
  let c1_i32_68 : BitVec 32 := 1#32
  let v80 : BitVec 32 := Scalar.divsi v78 c1_i32_68
  let v81 : BitVec 32 := Scalar.muli v80 c1_i32_68
  let v82 : BitVec 32 := Scalar.addi c0_i32_66 v81
  let c1_i32_70 : BitVec 32 := 1#32
  let arg19 : BitVec 32 := Scf.iv v82 c1_i32_70 k0_t28
  let c8_i32_94 : BitVec 32 := 8#32
  let v117 : BitVec 32 := Scalar.addi arg19 c8_i32_94
  let c8_i32_96 : BitVec 32 := 8#32
  let v125 : BitVec 32 := Scalar.remsi v117 c8_i32_96
  ![v125.toNat]

def k0_chk104 (v75 : BitVec 32) : Prop :=
  ((k0_t23_loop v75).OK) ∧
  (∀ k0_t23 : Fin (k0_t23_loop v75).trips, ∀ a, (k0_off121 v75 k0_t23) a + S1x32x128.size a ≤ S8x32x128.size a) ∧
  (∀ k0_t23 : Fin (k0_t23_loop v75).trips, ∀ a, (k0_off122 v75 k0_t23) a + S1.size a ≤ S8.size a) ∧
  (∀ k0_t23 : Fin (k0_t23_loop v75).trips, ∀ a, (k0_off123 v75 k0_t23) a + S1.size a ≤ S256.size a) ∧
  (∀ k0_t23 : Fin (k0_t23_loop v75).trips, ∀ (k0_h7 : k0_cond7 v75 k0_t23 = 1#1), ∀ a, (k0_off135 v75 k0_t23) a + S1.size a ≤ S256.size a) ∧
  (∀ k0_t23 : Fin (k0_t23_loop v75).trips, ∀ (k0_h7 : k0_cond7 v75 k0_t23 = 1#1), ∀ a, (k0_off136 v75 k0_t23) a + S1x32x128.size a ≤ S8x32x128.size a) ∧
  (∀ k0_t23 : Fin (k0_t23_loop v75).trips, ∀ (k0_h7 : k0_cond7 v75 k0_t23 = 1#1), ∀ a, (k0_off138 v75 k0_t23) a + S1.size a ≤ S8.size a) ∧
  ((k0_t28_loop v75).OK) ∧
  (∀ k0_t28 : Fin (k0_t28_loop v75).trips, ∀ a, (k0_off139 v75 k0_t28) a + S1x32x128.size a ≤ S8x32x128.size a) ∧
  (∀ k0_t28 : Fin (k0_t28_loop v75).trips, ∀ a, (k0_off140 v75 k0_t28) a + S1.size a ≤ S8.size a) ∧
  (∀ k0_t28 : Fin (k0_t28_loop v75).trips, ∀ a, (k0_off141 v75 k0_t28) a + S1.size a ≤ S256.size a) ∧
  (∀ k0_t28 : Fin (k0_t28_loop v75).trips, ∀ (k0_h8 : k0_cond8 v75 k0_t28 = 1#1), ∀ a, (k0_off153 v75 k0_t28) a + S1.size a ≤ S256.size a) ∧
  (∀ k0_t28 : Fin (k0_t28_loop v75).trips, ∀ (k0_h8 : k0_cond8 v75 k0_t28 = 1#1), ∀ a, (k0_off154 v75 k0_t28) a + S1x32x128.size a ≤ S8x32x128.size a) ∧
  (∀ k0_t28 : Fin (k0_t28_loop v75).trips, ∀ (k0_h8 : k0_cond8 v75 k0_t28 = 1#1), ∀ a, (k0_off156 v75 k0_t28) a + S1.size a ≤ S8.size a)
theorem k0_t23_ok : ∀ (v75 : BitVec 32) (k0_hw104 : k0_chk104 v75), (k0_t23_loop v75).OK := fun v75 k0_hw104 => k0_hw104.1
theorem k0_off121_inb : ∀ (v75 : BitVec 32) (k0_hw104 : k0_chk104 v75) (k0_t23 : Fin (k0_t23_loop v75).trips), ∀ a, (k0_off121 v75 k0_t23) a + S1x32x128.size a ≤ S8x32x128.size a := fun v75 k0_hw104 k0_t23 => k0_hw104.2.1 k0_t23
theorem k0_off122_inb : ∀ (v75 : BitVec 32) (k0_hw104 : k0_chk104 v75) (k0_t23 : Fin (k0_t23_loop v75).trips), ∀ a, (k0_off122 v75 k0_t23) a + S1.size a ≤ S8.size a := fun v75 k0_hw104 k0_t23 => k0_hw104.2.2.1 k0_t23
theorem k0_off123_inb : ∀ (v75 : BitVec 32) (k0_hw104 : k0_chk104 v75) (k0_t23 : Fin (k0_t23_loop v75).trips), ∀ a, (k0_off123 v75 k0_t23) a + S1.size a ≤ S256.size a := fun v75 k0_hw104 k0_t23 => k0_hw104.2.2.2.1 k0_t23
theorem k0_off135_inb : ∀ (v75 : BitVec 32) (k0_hw104 : k0_chk104 v75) (k0_t23 : Fin (k0_t23_loop v75).trips), ∀ (k0_h7 : k0_cond7 v75 k0_t23 = 1#1), ∀ a, (k0_off135 v75 k0_t23) a + S1.size a ≤ S256.size a := fun v75 k0_hw104 k0_t23 k0_h7 => k0_hw104.2.2.2.2.1 k0_t23 k0_h7
theorem k0_off136_inb : ∀ (v75 : BitVec 32) (k0_hw104 : k0_chk104 v75) (k0_t23 : Fin (k0_t23_loop v75).trips), ∀ (k0_h7 : k0_cond7 v75 k0_t23 = 1#1), ∀ a, (k0_off136 v75 k0_t23) a + S1x32x128.size a ≤ S8x32x128.size a := fun v75 k0_hw104 k0_t23 k0_h7 => k0_hw104.2.2.2.2.2.1 k0_t23 k0_h7
theorem k0_off138_inb : ∀ (v75 : BitVec 32) (k0_hw104 : k0_chk104 v75) (k0_t23 : Fin (k0_t23_loop v75).trips), ∀ (k0_h7 : k0_cond7 v75 k0_t23 = 1#1), ∀ a, (k0_off138 v75 k0_t23) a + S1.size a ≤ S8.size a := fun v75 k0_hw104 k0_t23 k0_h7 => k0_hw104.2.2.2.2.2.2.1 k0_t23 k0_h7
theorem k0_t28_ok : ∀ (v75 : BitVec 32) (k0_hw104 : k0_chk104 v75), (k0_t28_loop v75).OK := fun v75 k0_hw104 => k0_hw104.2.2.2.2.2.2.2.1
theorem k0_off139_inb : ∀ (v75 : BitVec 32) (k0_hw104 : k0_chk104 v75) (k0_t28 : Fin (k0_t28_loop v75).trips), ∀ a, (k0_off139 v75 k0_t28) a + S1x32x128.size a ≤ S8x32x128.size a := fun v75 k0_hw104 k0_t28 => k0_hw104.2.2.2.2.2.2.2.2.1 k0_t28
theorem k0_off140_inb : ∀ (v75 : BitVec 32) (k0_hw104 : k0_chk104 v75) (k0_t28 : Fin (k0_t28_loop v75).trips), ∀ a, (k0_off140 v75 k0_t28) a + S1.size a ≤ S8.size a := fun v75 k0_hw104 k0_t28 => k0_hw104.2.2.2.2.2.2.2.2.2.1 k0_t28
theorem k0_off141_inb : ∀ (v75 : BitVec 32) (k0_hw104 : k0_chk104 v75) (k0_t28 : Fin (k0_t28_loop v75).trips), ∀ a, (k0_off141 v75 k0_t28) a + S1.size a ≤ S256.size a := fun v75 k0_hw104 k0_t28 => k0_hw104.2.2.2.2.2.2.2.2.2.2.1 k0_t28
theorem k0_off153_inb : ∀ (v75 : BitVec 32) (k0_hw104 : k0_chk104 v75) (k0_t28 : Fin (k0_t28_loop v75).trips), ∀ (k0_h8 : k0_cond8 v75 k0_t28 = 1#1), ∀ a, (k0_off153 v75 k0_t28) a + S1.size a ≤ S256.size a := fun v75 k0_hw104 k0_t28 k0_h8 => k0_hw104.2.2.2.2.2.2.2.2.2.2.2.1 k0_t28 k0_h8
theorem k0_off154_inb : ∀ (v75 : BitVec 32) (k0_hw104 : k0_chk104 v75) (k0_t28 : Fin (k0_t28_loop v75).trips), ∀ (k0_h8 : k0_cond8 v75 k0_t28 = 1#1), ∀ a, (k0_off154 v75 k0_t28) a + S1x32x128.size a ≤ S8x32x128.size a := fun v75 k0_hw104 k0_t28 k0_h8 => k0_hw104.2.2.2.2.2.2.2.2.2.2.2.2.1 k0_t28 k0_h8
theorem k0_off156_inb : ∀ (v75 : BitVec 32) (k0_hw104 : k0_chk104 v75) (k0_t28 : Fin (k0_t28_loop v75).trips), ∀ (k0_h8 : k0_cond8 v75 k0_t28 = 1#1), ∀ a, (k0_off156 v75 k0_t28) a + S1.size a ≤ S8.size a := fun v75 k0_hw104 k0_t28 k0_h8 => k0_hw104.2.2.2.2.2.2.2.2.2.2.2.2.2 k0_t28 k0_h8

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c32_i32 : BitVec 32 := 32#32
  let v3 : BitVec 32 := Scalar.muli v2 c32_i32
  ![v3.toNat]
@[reducible] def k1_t1_loop : Scf.Loop 32 :=
  let c0_i32_1 : BitVec 32 := 0#32
  let c32_i32_2 : BitVec 32 := 32#32
  let v14 : BitVec 32 := Scalar.addi c0_i32_1 c32_i32_2
  let c1_i32 : BitVec 32 := 1#32
  ⟨c0_i32_1, v14, c1_i32⟩

def k1_chk1 (v24 : IVec S16 32) : Prop :=
  (∀ a x, ((![v24] : Fin 1 → IVec S16 32) a x).toNat < S16384.size a) ∧
  (∀ a x, ((![v24] : Fin 1 → IVec S16 32) a x).toNat < S16384.size a)
theorem k1_idx1_inb : ∀ (v24 : IVec S16 32) (k1_hw1 : k1_chk1 v24), ∀ a x, ((![v24] : Fin 1 → IVec S16 32) a x).toNat < S16384.size a := fun v24 k1_hw1 => k1_hw1.1
theorem k1_idx2_inb : ∀ (v24 : IVec S16 32) (k1_hw1 : k1_chk1 v24), ∀ a x, ((![v24] : Fin 1 → IVec S16 32) a x).toNat < S16384.size a := fun v24 k1_hw1 => k1_hw1.2

def k1_chk2 (v34 : IVec S16 32) : Prop :=
  (∀ a x, ((![v34] : Fin 1 → IVec S16 32) a x).toNat < S16384.size a) ∧
  (∀ a x, ((![v34] : Fin 1 → IVec S16 32) a x).toNat < S16384.size a)
theorem k1_idx3_inb : ∀ (v34 : IVec S16 32) (k1_hw2 : k1_chk2 v34), ∀ a x, ((![v34] : Fin 1 → IVec S16 32) a x).toNat < S16384.size a := fun v34 k1_hw2 => k1_hw2.1
theorem k1_idx4_inb : ∀ (v34 : IVec S16 32) (k1_hw2 : k1_chk2 v34), ∀ a x, ((![v34] : Fin 1 → IVec S16 32) a x).toNat < S16384.size a := fun v34 k1_hw2 => k1_hw2.2

def k1_chk3 (v44 : IVec S16 32) : Prop :=
  (∀ a x, ((![v44] : Fin 1 → IVec S16 32) a x).toNat < S16384.size a) ∧
  (∀ a x, ((![v44] : Fin 1 → IVec S16 32) a x).toNat < S16384.size a)
theorem k1_idx5_inb : ∀ (v44 : IVec S16 32) (k1_hw3 : k1_chk3 v44), ∀ a x, ((![v44] : Fin 1 → IVec S16 32) a x).toNat < S16384.size a := fun v44 k1_hw3 => k1_hw3.1
theorem k1_idx6_inb : ∀ (v44 : IVec S16 32) (k1_hw3 : k1_chk3 v44), ∀ a x, ((![v44] : Fin 1 → IVec S16 32) a x).toNat < S16384.size a := fun v44 k1_hw3 => k1_hw3.2

def k1_chk4 (v54 : IVec S16 32) : Prop :=
  (∀ a x, ((![v54] : Fin 1 → IVec S16 32) a x).toNat < S16384.size a) ∧
  (∀ a x, ((![v54] : Fin 1 → IVec S16 32) a x).toNat < S16384.size a)
theorem k1_idx7_inb : ∀ (v54 : IVec S16 32) (k1_hw4 : k1_chk4 v54), ∀ a x, ((![v54] : Fin 1 → IVec S16 32) a x).toNat < S16384.size a := fun v54 k1_hw4 => k1_hw4.1
theorem k1_idx8_inb : ∀ (v54 : IVec S16 32) (k1_hw4 : k1_chk4 v54), ∀ a x, ((![v54] : Fin 1 → IVec S16 32) a x).toNat < S16384.size a := fun v54 k1_hw4 => k1_hw4.2

def k1_chk5 (v64 : IVec S16 32) : Prop :=
  (∀ a x, ((![v64] : Fin 1 → IVec S16 32) a x).toNat < S16384.size a) ∧
  (∀ a x, ((![v64] : Fin 1 → IVec S16 32) a x).toNat < S16384.size a)
theorem k1_idx9_inb : ∀ (v64 : IVec S16 32) (k1_hw5 : k1_chk5 v64), ∀ a x, ((![v64] : Fin 1 → IVec S16 32) a x).toNat < S16384.size a := fun v64 k1_hw5 => k1_hw5.1
theorem k1_idx10_inb : ∀ (v64 : IVec S16 32) (k1_hw5 : k1_chk5 v64), ∀ a x, ((![v64] : Fin 1 → IVec S16 32) a x).toNat < S16384.size a := fun v64 k1_hw5 => k1_hw5.2

def k1_chk6 (v74 : IVec S16 32) : Prop :=
  (∀ a x, ((![v74] : Fin 1 → IVec S16 32) a x).toNat < S16384.size a) ∧
  (∀ a x, ((![v74] : Fin 1 → IVec S16 32) a x).toNat < S16384.size a)
theorem k1_idx11_inb : ∀ (v74 : IVec S16 32) (k1_hw6 : k1_chk6 v74), ∀ a x, ((![v74] : Fin 1 → IVec S16 32) a x).toNat < S16384.size a := fun v74 k1_hw6 => k1_hw6.1
theorem k1_idx12_inb : ∀ (v74 : IVec S16 32) (k1_hw6 : k1_chk6 v74), ∀ a x, ((![v74] : Fin 1 → IVec S16 32) a x).toNat < S16384.size a := fun v74 k1_hw6 => k1_hw6.2

def k1_chk7 (v84 : IVec S16 32) : Prop :=
  (∀ a x, ((![v84] : Fin 1 → IVec S16 32) a x).toNat < S16384.size a) ∧
  (∀ a x, ((![v84] : Fin 1 → IVec S16 32) a x).toNat < S16384.size a)
theorem k1_idx13_inb : ∀ (v84 : IVec S16 32) (k1_hw7 : k1_chk7 v84), ∀ a x, ((![v84] : Fin 1 → IVec S16 32) a x).toNat < S16384.size a := fun v84 k1_hw7 => k1_hw7.1
theorem k1_idx14_inb : ∀ (v84 : IVec S16 32) (k1_hw7 : k1_chk7 v84), ∀ a x, ((![v84] : Fin 1 → IVec S16 32) a x).toNat < S16384.size a := fun v84 k1_hw7 => k1_hw7.2

def k1_chk8 (v94 : IVec S16 32) : Prop :=
  (∀ a x, ((![v94] : Fin 1 → IVec S16 32) a x).toNat < S16384.size a) ∧
  (∀ a x, ((![v94] : Fin 1 → IVec S16 32) a x).toNat < S16384.size a)
theorem k1_idx15_inb : ∀ (v94 : IVec S16 32) (k1_hw8 : k1_chk8 v94), ∀ a x, ((![v94] : Fin 1 → IVec S16 32) a x).toNat < S16384.size a := fun v94 k1_hw8 => k1_hw8.1
theorem k1_idx16_inb : ∀ (v94 : IVec S16 32) (k1_hw8 : k1_chk8 v94), ∀ a x, ((![v94] : Fin 1 → IVec S16 32) a x).toNat < S16384.size a := fun v94 k1_hw8 => k1_hw8.2

def k1_chk9 (v104 : IVec S16 32) : Prop :=
  (∀ a x, ((![v104] : Fin 1 → IVec S16 32) a x).toNat < S16384.size a) ∧
  (∀ a x, ((![v104] : Fin 1 → IVec S16 32) a x).toNat < S16384.size a)
theorem k1_idx17_inb : ∀ (v104 : IVec S16 32) (k1_hw9 : k1_chk9 v104), ∀ a x, ((![v104] : Fin 1 → IVec S16 32) a x).toNat < S16384.size a := fun v104 k1_hw9 => k1_hw9.1
theorem k1_idx18_inb : ∀ (v104 : IVec S16 32) (k1_hw9 : k1_chk9 v104), ∀ a x, ((![v104] : Fin 1 → IVec S16 32) a x).toNat < S16384.size a := fun v104 k1_hw9 => k1_hw9.2

def k1_chk10 (v114 : IVec S16 32) : Prop :=
  (∀ a x, ((![v114] : Fin 1 → IVec S16 32) a x).toNat < S16384.size a) ∧
  (∀ a x, ((![v114] : Fin 1 → IVec S16 32) a x).toNat < S16384.size a)
theorem k1_idx19_inb : ∀ (v114 : IVec S16 32) (k1_hw10 : k1_chk10 v114), ∀ a x, ((![v114] : Fin 1 → IVec S16 32) a x).toNat < S16384.size a := fun v114 k1_hw10 => k1_hw10.1
theorem k1_idx20_inb : ∀ (v114 : IVec S16 32) (k1_hw10 : k1_chk10 v114), ∀ a x, ((![v114] : Fin 1 → IVec S16 32) a x).toNat < S16384.size a := fun v114 k1_hw10 => k1_hw10.2

def k1_chk11 (v124 : IVec S16 32) : Prop :=
  (∀ a x, ((![v124] : Fin 1 → IVec S16 32) a x).toNat < S16384.size a) ∧
  (∀ a x, ((![v124] : Fin 1 → IVec S16 32) a x).toNat < S16384.size a)
theorem k1_idx21_inb : ∀ (v124 : IVec S16 32) (k1_hw11 : k1_chk11 v124), ∀ a x, ((![v124] : Fin 1 → IVec S16 32) a x).toNat < S16384.size a := fun v124 k1_hw11 => k1_hw11.1
theorem k1_idx22_inb : ∀ (v124 : IVec S16 32) (k1_hw11 : k1_chk11 v124), ∀ a x, ((![v124] : Fin 1 → IVec S16 32) a x).toNat < S16384.size a := fun v124 k1_hw11 => k1_hw11.2

def k1_chk12 (v134 : IVec S16 32) : Prop :=
  (∀ a x, ((![v134] : Fin 1 → IVec S16 32) a x).toNat < S16384.size a) ∧
  (∀ a x, ((![v134] : Fin 1 → IVec S16 32) a x).toNat < S16384.size a)
theorem k1_idx23_inb : ∀ (v134 : IVec S16 32) (k1_hw12 : k1_chk12 v134), ∀ a x, ((![v134] : Fin 1 → IVec S16 32) a x).toNat < S16384.size a := fun v134 k1_hw12 => k1_hw12.1
theorem k1_idx24_inb : ∀ (v134 : IVec S16 32) (k1_hw12 : k1_chk12 v134), ∀ a x, ((![v134] : Fin 1 → IVec S16 32) a x).toNat < S16384.size a := fun v134 k1_hw12 => k1_hw12.2

def k1_chk13 (v144 : IVec S16 32) : Prop :=
  (∀ a x, ((![v144] : Fin 1 → IVec S16 32) a x).toNat < S16384.size a) ∧
  (∀ a x, ((![v144] : Fin 1 → IVec S16 32) a x).toNat < S16384.size a)
theorem k1_idx25_inb : ∀ (v144 : IVec S16 32) (k1_hw13 : k1_chk13 v144), ∀ a x, ((![v144] : Fin 1 → IVec S16 32) a x).toNat < S16384.size a := fun v144 k1_hw13 => k1_hw13.1
theorem k1_idx26_inb : ∀ (v144 : IVec S16 32) (k1_hw13 : k1_chk13 v144), ∀ a x, ((![v144] : Fin 1 → IVec S16 32) a x).toNat < S16384.size a := fun v144 k1_hw13 => k1_hw13.2

def k1_chk14 (v154 : IVec S16 32) : Prop :=
  (∀ a x, ((![v154] : Fin 1 → IVec S16 32) a x).toNat < S16384.size a) ∧
  (∀ a x, ((![v154] : Fin 1 → IVec S16 32) a x).toNat < S16384.size a)
theorem k1_idx27_inb : ∀ (v154 : IVec S16 32) (k1_hw14 : k1_chk14 v154), ∀ a x, ((![v154] : Fin 1 → IVec S16 32) a x).toNat < S16384.size a := fun v154 k1_hw14 => k1_hw14.1
theorem k1_idx28_inb : ∀ (v154 : IVec S16 32) (k1_hw14 : k1_chk14 v154), ∀ a x, ((![v154] : Fin 1 → IVec S16 32) a x).toNat < S16384.size a := fun v154 k1_hw14 => k1_hw14.2

def k1_chk15 (v164 : IVec S16 32) : Prop :=
  (∀ a x, ((![v164] : Fin 1 → IVec S16 32) a x).toNat < S16384.size a) ∧
  (∀ a x, ((![v164] : Fin 1 → IVec S16 32) a x).toNat < S16384.size a)
theorem k1_idx29_inb : ∀ (v164 : IVec S16 32) (k1_hw15 : k1_chk15 v164), ∀ a x, ((![v164] : Fin 1 → IVec S16 32) a x).toNat < S16384.size a := fun v164 k1_hw15 => k1_hw15.1
theorem k1_idx30_inb : ∀ (v164 : IVec S16 32) (k1_hw15 : k1_chk15 v164), ∀ a x, ((![v164] : Fin 1 → IVec S16 32) a x).toNat < S16384.size a := fun v164 k1_hw15 => k1_hw15.2

def k1_chk16 (v174 : IVec S16 32) : Prop :=
  (∀ a x, ((![v174] : Fin 1 → IVec S16 32) a x).toNat < S16384.size a) ∧
  (∀ a x, ((![v174] : Fin 1 → IVec S16 32) a x).toNat < S16384.size a)
theorem k1_idx31_inb : ∀ (v174 : IVec S16 32) (k1_hw16 : k1_chk16 v174), ∀ a x, ((![v174] : Fin 1 → IVec S16 32) a x).toNat < S16384.size a := fun v174 k1_hw16 => k1_hw16.1
theorem k1_idx32_inb : ∀ (v174 : IVec S16 32) (k1_hw16 : k1_chk16 v174), ∀ a x, ((![v174] : Fin 1 → IVec S16 32) a x).toNat < S16384.size a := fun v174 k1_hw16 => k1_hw16.2

def k1_chk17 (v184 : IVec S16 32) : Prop :=
  (∀ a x, ((![v184] : Fin 1 → IVec S16 32) a x).toNat < S16384.size a) ∧
  (∀ a x, ((![v184] : Fin 1 → IVec S16 32) a x).toNat < S16384.size a)
theorem k1_idx33_inb : ∀ (v184 : IVec S16 32) (k1_hw17 : k1_chk17 v184), ∀ a x, ((![v184] : Fin 1 → IVec S16 32) a x).toNat < S16384.size a := fun v184 k1_hw17 => k1_hw17.1
theorem k1_idx34_inb : ∀ (v184 : IVec S16 32) (k1_hw17 : k1_chk17 v184), ∀ a x, ((![v184] : Fin 1 → IVec S16 32) a x).toNat < S16384.size a := fun v184 k1_hw17 => k1_hw17.2

def k1_chk18 (v194 : IVec S16 32) : Prop :=
  (∀ a x, ((![v194] : Fin 1 → IVec S16 32) a x).toNat < S16384.size a) ∧
  (∀ a x, ((![v194] : Fin 1 → IVec S16 32) a x).toNat < S16384.size a)
theorem k1_idx35_inb : ∀ (v194 : IVec S16 32) (k1_hw18 : k1_chk18 v194), ∀ a x, ((![v194] : Fin 1 → IVec S16 32) a x).toNat < S16384.size a := fun v194 k1_hw18 => k1_hw18.1
theorem k1_idx36_inb : ∀ (v194 : IVec S16 32) (k1_hw18 : k1_chk18 v194), ∀ a x, ((![v194] : Fin 1 → IVec S16 32) a x).toNat < S16384.size a := fun v194 k1_hw18 => k1_hw18.2

def k1_chk19 (v204 : IVec S16 32) : Prop :=
  (∀ a x, ((![v204] : Fin 1 → IVec S16 32) a x).toNat < S16384.size a) ∧
  (∀ a x, ((![v204] : Fin 1 → IVec S16 32) a x).toNat < S16384.size a)
theorem k1_idx37_inb : ∀ (v204 : IVec S16 32) (k1_hw19 : k1_chk19 v204), ∀ a x, ((![v204] : Fin 1 → IVec S16 32) a x).toNat < S16384.size a := fun v204 k1_hw19 => k1_hw19.1
theorem k1_idx38_inb : ∀ (v204 : IVec S16 32) (k1_hw19 : k1_chk19 v204), ∀ a x, ((![v204] : Fin 1 → IVec S16 32) a x).toNat < S16384.size a := fun v204 k1_hw19 => k1_hw19.2

def k1_chk20 (v214 : IVec S16 32) : Prop :=
  (∀ a x, ((![v214] : Fin 1 → IVec S16 32) a x).toNat < S16384.size a) ∧
  (∀ a x, ((![v214] : Fin 1 → IVec S16 32) a x).toNat < S16384.size a)
theorem k1_idx39_inb : ∀ (v214 : IVec S16 32) (k1_hw20 : k1_chk20 v214), ∀ a x, ((![v214] : Fin 1 → IVec S16 32) a x).toNat < S16384.size a := fun v214 k1_hw20 => k1_hw20.1
theorem k1_idx40_inb : ∀ (v214 : IVec S16 32) (k1_hw20 : k1_chk20 v214), ∀ a x, ((![v214] : Fin 1 → IVec S16 32) a x).toNat < S16384.size a := fun v214 k1_hw20 => k1_hw20.2

def k1_chk21 (v224 : IVec S16 32) : Prop :=
  (∀ a x, ((![v224] : Fin 1 → IVec S16 32) a x).toNat < S16384.size a) ∧
  (∀ a x, ((![v224] : Fin 1 → IVec S16 32) a x).toNat < S16384.size a)
theorem k1_idx41_inb : ∀ (v224 : IVec S16 32) (k1_hw21 : k1_chk21 v224), ∀ a x, ((![v224] : Fin 1 → IVec S16 32) a x).toNat < S16384.size a := fun v224 k1_hw21 => k1_hw21.1
theorem k1_idx42_inb : ∀ (v224 : IVec S16 32) (k1_hw21 : k1_chk21 v224), ∀ a x, ((![v224] : Fin 1 → IVec S16 32) a x).toNat < S16384.size a := fun v224 k1_hw21 => k1_hw21.2

def k1_chk22 (v234 : IVec S16 32) : Prop :=
  (∀ a x, ((![v234] : Fin 1 → IVec S16 32) a x).toNat < S16384.size a) ∧
  (∀ a x, ((![v234] : Fin 1 → IVec S16 32) a x).toNat < S16384.size a)
theorem k1_idx43_inb : ∀ (v234 : IVec S16 32) (k1_hw22 : k1_chk22 v234), ∀ a x, ((![v234] : Fin 1 → IVec S16 32) a x).toNat < S16384.size a := fun v234 k1_hw22 => k1_hw22.1
theorem k1_idx44_inb : ∀ (v234 : IVec S16 32) (k1_hw22 : k1_chk22 v234), ∀ a x, ((![v234] : Fin 1 → IVec S16 32) a x).toNat < S16384.size a := fun v234 k1_hw22 => k1_hw22.2

def k1_chk23 (v244 : IVec S16 32) : Prop :=
  (∀ a x, ((![v244] : Fin 1 → IVec S16 32) a x).toNat < S16384.size a) ∧
  (∀ a x, ((![v244] : Fin 1 → IVec S16 32) a x).toNat < S16384.size a)
theorem k1_idx45_inb : ∀ (v244 : IVec S16 32) (k1_hw23 : k1_chk23 v244), ∀ a x, ((![v244] : Fin 1 → IVec S16 32) a x).toNat < S16384.size a := fun v244 k1_hw23 => k1_hw23.1
theorem k1_idx46_inb : ∀ (v244 : IVec S16 32) (k1_hw23 : k1_chk23 v244), ∀ a x, ((![v244] : Fin 1 → IVec S16 32) a x).toNat < S16384.size a := fun v244 k1_hw23 => k1_hw23.2

def k1_chk24 (v254 : IVec S16 32) : Prop :=
  (∀ a x, ((![v254] : Fin 1 → IVec S16 32) a x).toNat < S16384.size a) ∧
  (∀ a x, ((![v254] : Fin 1 → IVec S16 32) a x).toNat < S16384.size a)
theorem k1_idx47_inb : ∀ (v254 : IVec S16 32) (k1_hw24 : k1_chk24 v254), ∀ a x, ((![v254] : Fin 1 → IVec S16 32) a x).toNat < S16384.size a := fun v254 k1_hw24 => k1_hw24.1
theorem k1_idx48_inb : ∀ (v254 : IVec S16 32) (k1_hw24 : k1_chk24 v254), ∀ a x, ((![v254] : Fin 1 → IVec S16 32) a x).toNat < S16384.size a := fun v254 k1_hw24 => k1_hw24.2

def k1_chk25 (v264 : IVec S16 32) : Prop :=
  (∀ a x, ((![v264] : Fin 1 → IVec S16 32) a x).toNat < S16384.size a) ∧
  (∀ a x, ((![v264] : Fin 1 → IVec S16 32) a x).toNat < S16384.size a)
theorem k1_idx49_inb : ∀ (v264 : IVec S16 32) (k1_hw25 : k1_chk25 v264), ∀ a x, ((![v264] : Fin 1 → IVec S16 32) a x).toNat < S16384.size a := fun v264 k1_hw25 => k1_hw25.1
theorem k1_idx50_inb : ∀ (v264 : IVec S16 32) (k1_hw25 : k1_chk25 v264), ∀ a x, ((![v264] : Fin 1 → IVec S16 32) a x).toNat < S16384.size a := fun v264 k1_hw25 => k1_hw25.2

def k1_chk26 (v274 : IVec S16 32) : Prop :=
  (∀ a x, ((![v274] : Fin 1 → IVec S16 32) a x).toNat < S16384.size a) ∧
  (∀ a x, ((![v274] : Fin 1 → IVec S16 32) a x).toNat < S16384.size a)
theorem k1_idx51_inb : ∀ (v274 : IVec S16 32) (k1_hw26 : k1_chk26 v274), ∀ a x, ((![v274] : Fin 1 → IVec S16 32) a x).toNat < S16384.size a := fun v274 k1_hw26 => k1_hw26.1
theorem k1_idx52_inb : ∀ (v274 : IVec S16 32) (k1_hw26 : k1_chk26 v274), ∀ a x, ((![v274] : Fin 1 → IVec S16 32) a x).toNat < S16384.size a := fun v274 k1_hw26 => k1_hw26.2

def k1_chk27 (v284 : IVec S16 32) : Prop :=
  (∀ a x, ((![v284] : Fin 1 → IVec S16 32) a x).toNat < S16384.size a) ∧
  (∀ a x, ((![v284] : Fin 1 → IVec S16 32) a x).toNat < S16384.size a)
theorem k1_idx53_inb : ∀ (v284 : IVec S16 32) (k1_hw27 : k1_chk27 v284), ∀ a x, ((![v284] : Fin 1 → IVec S16 32) a x).toNat < S16384.size a := fun v284 k1_hw27 => k1_hw27.1
theorem k1_idx54_inb : ∀ (v284 : IVec S16 32) (k1_hw27 : k1_chk27 v284), ∀ a x, ((![v284] : Fin 1 → IVec S16 32) a x).toNat < S16384.size a := fun v284 k1_hw27 => k1_hw27.2

def k1_chk28 (v294 : IVec S16 32) : Prop :=
  (∀ a x, ((![v294] : Fin 1 → IVec S16 32) a x).toNat < S16384.size a) ∧
  (∀ a x, ((![v294] : Fin 1 → IVec S16 32) a x).toNat < S16384.size a)
theorem k1_idx55_inb : ∀ (v294 : IVec S16 32) (k1_hw28 : k1_chk28 v294), ∀ a x, ((![v294] : Fin 1 → IVec S16 32) a x).toNat < S16384.size a := fun v294 k1_hw28 => k1_hw28.1
theorem k1_idx56_inb : ∀ (v294 : IVec S16 32) (k1_hw28 : k1_chk28 v294), ∀ a x, ((![v294] : Fin 1 → IVec S16 32) a x).toNat < S16384.size a := fun v294 k1_hw28 => k1_hw28.2

def k1_chk29 (v304 : IVec S16 32) : Prop :=
  (∀ a x, ((![v304] : Fin 1 → IVec S16 32) a x).toNat < S16384.size a) ∧
  (∀ a x, ((![v304] : Fin 1 → IVec S16 32) a x).toNat < S16384.size a)
theorem k1_idx57_inb : ∀ (v304 : IVec S16 32) (k1_hw29 : k1_chk29 v304), ∀ a x, ((![v304] : Fin 1 → IVec S16 32) a x).toNat < S16384.size a := fun v304 k1_hw29 => k1_hw29.1
theorem k1_idx58_inb : ∀ (v304 : IVec S16 32) (k1_hw29 : k1_chk29 v304), ∀ a x, ((![v304] : Fin 1 → IVec S16 32) a x).toNat < S16384.size a := fun v304 k1_hw29 => k1_hw29.2

def k1_chk30 (v314 : IVec S16 32) : Prop :=
  (∀ a x, ((![v314] : Fin 1 → IVec S16 32) a x).toNat < S16384.size a) ∧
  (∀ a x, ((![v314] : Fin 1 → IVec S16 32) a x).toNat < S16384.size a)
theorem k1_idx59_inb : ∀ (v314 : IVec S16 32) (k1_hw30 : k1_chk30 v314), ∀ a x, ((![v314] : Fin 1 → IVec S16 32) a x).toNat < S16384.size a := fun v314 k1_hw30 => k1_hw30.1
theorem k1_idx60_inb : ∀ (v314 : IVec S16 32) (k1_hw30 : k1_chk30 v314), ∀ a x, ((![v314] : Fin 1 → IVec S16 32) a x).toNat < S16384.size a := fun v314 k1_hw30 => k1_hw30.2

def k1_chk31 (v324 : IVec S16 32) : Prop :=
  (∀ a x, ((![v324] : Fin 1 → IVec S16 32) a x).toNat < S16384.size a) ∧
  (∀ a x, ((![v324] : Fin 1 → IVec S16 32) a x).toNat < S16384.size a)
theorem k1_idx61_inb : ∀ (v324 : IVec S16 32) (k1_hw31 : k1_chk31 v324), ∀ a x, ((![v324] : Fin 1 → IVec S16 32) a x).toNat < S16384.size a := fun v324 k1_hw31 => k1_hw31.1
theorem k1_idx62_inb : ∀ (v324 : IVec S16 32) (k1_hw31 : k1_chk31 v324), ∀ a x, ((![v324] : Fin 1 → IVec S16 32) a x).toNat < S16384.size a := fun v324 k1_hw31 => k1_hw31.2

def k1_chk32 (v334 : IVec S16 32) : Prop :=
  (∀ a x, ((![v334] : Fin 1 → IVec S16 32) a x).toNat < S16384.size a) ∧
  (∀ a x, ((![v334] : Fin 1 → IVec S16 32) a x).toNat < S16384.size a)
theorem k1_idx63_inb : ∀ (v334 : IVec S16 32) (k1_hw32 : k1_chk32 v334), ∀ a x, ((![v334] : Fin 1 → IVec S16 32) a x).toNat < S16384.size a := fun v334 k1_hw32 => k1_hw32.1
theorem k1_idx64_inb : ∀ (v334 : IVec S16 32) (k1_hw32 : k1_chk32 v334), ∀ a x, ((![v334] : Fin 1 → IVec S16 32) a x).toNat < S16384.size a := fun v334 k1_hw32 => k1_hw32.2
def k1_off2 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c16_i32_41 : BitVec 32 := 16#32
  let v339 : BitVec 32 := Scalar.muli arg10 c16_i32_41
  let v340 : Index := Scalar.indexCast v339
  ![v340.toNat]
def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384 : Shape := ⟨1, ![16384]⟩
abbrev S1000000x32 : Shape := ⟨2, ![1000000, 32]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩

abbrev nBuf : Space → Nat
  | .hbm => 51
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x32, .f32⟩
  | .hbm, ⟨3, _⟩ => ⟨S1000000x32, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x32, .f32⟩
  | .hbm, ⟨23, _⟩ => ⟨S16384x32, .i1⟩
  | .hbm, ⟨24, _⟩ => ⟨S_, .f32⟩
  | .hbm, ⟨25, _⟩ => ⟨S16384x32, .f32⟩
  | .hbm, ⟨26, _⟩ => ⟨S16384x32, .f32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S1, .i32⟩
  | .hbm, ⟨36, _⟩ => ⟨S_, .i32⟩
  | .hbm, ⟨37, _⟩ => ⟨S16384x1, .i32⟩
  | .hbm, ⟨38, _⟩ => ⟨S16384x1, .i1⟩
  | .hbm, ⟨39, _⟩ => ⟨S1x1, .i32⟩
  | .hbm, ⟨40, _⟩ => ⟨S16384x1, .i32⟩
  | .hbm, ⟨41, _⟩ => ⟨S16384x1, .i1⟩
  | .hbm, ⟨42, _⟩ => ⟨S16384x1, .i1⟩
  | .hbm, ⟨43, _⟩ => ⟨S_, .i1⟩
  | .hbm, ⟨44, _⟩ => ⟨S16384, .i1⟩
  | .hbm, ⟨45, _⟩ => ⟨S16384x32, .f32⟩
  | .hbm, ⟨46, _⟩ => ⟨S16384x32, .i1⟩
  | .hbm, ⟨47, _⟩ => ⟨S_, .f32⟩
  | .hbm, ⟨48, _⟩ => ⟨S16384x32, .f32⟩
  | .hbm, ⟨49, _⟩ => ⟨S16384x32, .f32⟩
  | .hbm, ⟨50, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩

abbrev nD : Nat := 1
abbrev τ : Topo := Topo.v7x

variable {F : FTy → Type} [FloatOps F]
-- ==== Proof.Base.lean ====
/-
  The launch set-up (the labels, the resource algebra, the facts of the configuration) and the rules of the
  memory accesses of the two SparseCore calls, stated over arrays: `Arr M h` says that the memref `M` of rank
  one is held outright and reads `h k` at position `k`. Every load, store, gather and scatter of the kernel has
  one rule here.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Batch
public import Idealize.ShloMosaic.Lib.LoopRemainder
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL

abbrev cV (L : grid0.Coords) : Fin τ.nSC := (L 0).castLE hcore0
abbrev jV (L : grid0.Coords) : Fin τ.nSub := (L 1).castLE hsub0
/-- The vector subcore of device `d` at the grid's coordinates `L`. -/
abbrev thr (d : Dev nD) (L : grid0.Coords) : Thread nD τ := V d (cV L) (jV L)

variable [FloatOps F] (d : Dev nD) (L : grid0.Coords)

/-- The weakest precondition of a tile's program. -/
abbrev twp {α : Type} (p : Prog (TpuEff nD τ sig (Elt F) Λ₀ (.scVector (cV L) (jV L))) α) (Q : α → sProp 𝕄) : sProp 𝕄 :=
  wp frame (wpE (defs₀ (F := F)) 𝒱₀ (thr d L) none) Set.univ p Q

theorem wp_done {α : Type} {a : α} {Q : α → sProp 𝕄} : Q a ⊢ twp d L (.ret a) Q := by
  unfold twp
  rw [wp_ret]
  iintro H
  imodintro
  iexact H

/-- An assumption that holds is a step. -/
theorem wp_chk {P : Prop} {dec : Decidable P} (h : P) {α : Type} {k : PLift P → Prog (TpuEff nD τ sig (Elt F) Λ₀ (.scVector (cV L) (jV L))) α} {Q : α → sProp 𝕄} :
    twp d L (k ⟨h⟩) Q ⊢ twp d L (.op (.assume P dec) k) Q := by
  unfold twp
  rw [wp_assume_of _ _ _ _ h]

/-! ## Arrays -/

section Arrays

variable {e : EltTy} {n : ℕ} {cs : CoreSpace}

/-- The memref's contents, read through it, are `h k` at position `k`; the memref is held outright. -/
def Arr {sp : Space} (M : Memref sig .scVector sp ⟨1, ![n]⟩ e) (h : ℕ → Elt F e) : sProp 𝕄 :=
  iprop(∃ f, (M.view.loc (thr d L) ↦[M.view.set]{fullShare} f) ∗ ⌜∀ i : (⟨1, ![n]⟩ : Shape).Idx, M.view.read (Elt F) f i = h (i 0).val⌝)

omit [FloatOps F] in
theorem arr_congr {sp : Space} {M : Memref sig .scVector sp ⟨1, ![n]⟩ e} {h h' : ℕ → Elt F e} (hh : ∀ k, k < n → h k = h' k) :
    Arr d L M h ⊢ Arr d L M h' := by
  unfold Arr
  iintro ⟨%f, H, %hf⟩
  iexists f
  isplitl [H]; · iexact H
  ipureintro; intro i; rw [hf i]; exact hh _ (i 0).isLt

omit [FloatOps F] in
/-- A whole memref held outright is an array at some contents. -/
theorem arr_intro {sp : Space} (M : Memref sig .scVector sp ⟨1, ![n]⟩ e) (f : Buf (Elt F) (M.view.loc (thr d L))) [Nonempty (Elt F e)] :
    (M.view.loc (thr d L) ↦[M.view.set]{fullShare} f : sProp 𝕄) ⊢ iprop(∃ h, Arr d L M h) := by
  classical
  have hx : ∃ h : ℕ → Elt F e, ∀ i : (⟨1, ![n]⟩ : Shape).Idx, M.view.read (Elt F) f i = h (i 0).val := by
    refine ⟨fun k => if hk : ∃ i : (⟨1, ![n]⟩ : Shape).Idx, (i 0).val = k then M.view.read (Elt F) f hk.choose else Classical.arbitrary _, fun i => ?_⟩
    have hk : ∃ j : (⟨1, ![n]⟩ : Shape).Idx, (j 0).val = (i 0).val := ⟨i, rfl⟩
    show _ = dite _ _ _
    rw [dif_pos hk]
    congr 1
    funext a
    obtain rfl := Fin.eq_zero a
    exact Fin.ext hk.choose_spec.symm
  obtain ⟨h, hh⟩ := hx
  iintro H
  iexists h
  unfold Arr
  iexists f
  isplitl [H]; · iexact H
  ipureintro; exact hh

omit [FloatOps F] in
theorem rect_unit_emb {off : Fin 1 → ℕ} {size : Fin 1 → ℕ} (inb : ∀ a, off a + size a ≤ (⟨1, ![n]⟩ : Shape).size a)
    (x : (Rect.unit (s := ⟨1, ![n]⟩) off size inb).shape.Idx) (a : Fin 1) :
    ((Rect.unit (s := ⟨1, ![n]⟩) off size inb).emb x a).val = off a + (x a).val := by
  rw [Rect.emb_apply]
  show off a + 1 * (x a).val = _
  rw [Nat.one_mul]

omit [FloatOps F] in
theorem access_sub {sp : Space} {s : Shape} (M : Memref sig .scVector sp s e) (r : Rect s) :
    (M.access r).set ⊆ M.view.set := by
  intro x hx
  obtain ⟨y, -, rfl⟩ := Finset.mem_map.mp hx
  exact M.view.emb_mem_set _

/-- A load of a run of elements. -/
theorem wp_aload {M : Memref sig .scVector cs ⟨1, ![n]⟩ e} {h : ℕ → Elt F e} {off size : Fin 1 → ℕ}
    {inb : ∀ a, off a + size a ≤ (⟨1, ![n]⟩ : Shape).size a} {hl : M.view.LoadsAt (Rect.unit (s := ⟨1, ![n]⟩) off size inb).toLoadRect} {α : Type}
    {k : ((Rect.unit (s := ⟨1, ![n]⟩) off size inb).shape.Idx → Elt F e) → Prog (TpuEff nD τ sig (Elt F) Λ₀ (.scVector (cV L) (jV L))) α} {Q : α → sProp 𝕄} :
    Arr d L M h ⊢ iprop((Arr d L M h -∗ twp d L (k fun x => h (off 0 + (x 0).val)) Q)
      -∗ twp d L (.op (.load M (Rect.unit (s := ⟨1, ![n]⟩) off size inb).toLoadRect hl) k) Q) := by
  unfold Arr
  iintro ⟨%f, H, %hf⟩ Hk
  iapply (wp_load_rect (defs := defs₀ (F := F)) 𝒱₀ (thr d L) none Set.univ (Q := Q) (m := M) (r := Rect.unit (s := ⟨1, ![n]⟩) off size inb) (hl := hl) (k := k)
    (q := fullShare) (f := f) (S := M.view.set) (access_sub M _)) $$ H
  iintro H
  have e1 : (M.access (Rect.unit (s := ⟨1, ![n]⟩) off size inb)).read (Elt F) f = fun x => h (off 0 + (x 0).val) := by
    funext x
    refine (hf ((Rect.unit (s := ⟨1, ![n]⟩) off size inb).emb x)).trans ?_
    rw [rect_unit_emb inb x 0]
  rw [e1]
  iapply Hk
  iexists f
  isplitl [H]; · iexact H
  ipureintro; exact hf

/-- A load of one element of scalar memory. -/
theorem wp_sload {M : Memref sig .scVector .smem ⟨1, ![n]⟩ e} {h : ℕ → Elt F e} {off : Fin 1 → ℕ}
    {inb : ∀ a, off a + S1.size a ≤ (⟨1, ![n]⟩ : Shape).size a} {h1 : (Rect.unit (s := ⟨1, ![n]⟩) off S1.size inb).shape.numel = 1} {hp : e.packing = 1} {α : Type}
    {k : Elt F e → Prog (TpuEff nD τ sig (Elt F) Λ₀ (.scVector (cV L) (jV L))) α} {Q : α → sProp 𝕄} :
    Arr d L M h ⊢ iprop((Arr d L M h -∗ twp d L (k (h (off 0))) Q)
      -∗ twp d L (smemLoad (p := .scVector (cV L) (jV L)) M (Rect.unit (s := ⟨1, ![n]⟩) off S1.size inb) h1 hp >>= k) Q) := by
  have e0 : smemLoad (p := .scVector (cV L) (jV L)) M (Rect.unit (s := ⟨1, ![n]⟩) off S1.size inb) h1 hp >>= k
      = (.op (.load M (Rect.unit (s := ⟨1, ![n]⟩) off S1.size inb).toLoadRect (View.loadsAt_rect (View.loads_smem_one hp h1)))
          fun f => k (f (Shape.Idx.first (h1.symm ▸ Nat.one_pos))) : Prog (TpuEff nD τ sig (Elt F) Λ₀ (.scVector (cV L) (jV L))) α) := rfl
  have hx : ((Shape.Idx.first (h1.symm ▸ Nat.one_pos) : (Rect.unit (s := ⟨1, ![n]⟩) off S1.size inb).shape.Idx) 0).val = 0 := by
    have : ((Shape.Idx.first (h1.symm ▸ Nat.one_pos) : (Rect.unit (s := ⟨1, ![n]⟩) off S1.size inb).shape.Idx) 0).val < 1 :=
      ((Shape.Idx.first (h1.symm ▸ Nat.one_pos) : (Rect.unit (s := ⟨1, ![n]⟩) off S1.size inb).shape.Idx) 0).isLt
    omega
  have ek : k (h (off 0 + ((Shape.Idx.first (h1.symm ▸ Nat.one_pos) : (Rect.unit (s := ⟨1, ![n]⟩) off S1.size inb).shape.Idx) 0).val)) = k (h (off 0)) := by rw [hx, Nat.add_zero]
  have h3 : Arr d L M h ⊢ iprop((Arr d L M h -∗ twp d L (k (h (off 0 + ((Shape.Idx.first (h1.symm ▸ Nat.one_pos) : (Rect.unit (s := ⟨1, ![n]⟩) off S1.size inb).shape.Idx) 0).val))) Q)
      -∗ twp d L (.op (.load M (Rect.unit (s := ⟨1, ![n]⟩) off S1.size inb).toLoadRect (View.loadsAt_rect (View.loads_smem_one hp h1)))
          fun f => k (f (Shape.Idx.first (h1.symm ▸ Nat.one_pos)))) Q) :=
    wp_aload d L (M := M) (h := h) (inb := inb) (k := fun f => k (f (Shape.Idx.first (h1.symm ▸ Nat.one_pos))))
  rw [ek] at h3
  rw [e0]
  exact h3

/-- A store of one element of scalar memory. -/
theorem wp_sstore {M : Memref sig .scVector .smem ⟨1, ![n]⟩ e} {h : ℕ → Elt F e} {off : Fin 1 → ℕ} {v : Elt F e}
    {inb : ∀ a, off a + S1.size a ≤ (⟨1, ![n]⟩ : Shape).size a} {hx : (M.access (Rect.unit (s := ⟨1, ![n]⟩) off S1.size inb)).Stores Finset.univ}
    {hm : (Finset.univ : Finset (Rect.unit (s := ⟨1, ![n]⟩) off S1.size inb).shape.Idx) = Finset.univ ∨ ∀ a, (Rect.unit (s := ⟨1, ![n]⟩) off S1.size inb).stride a = 1} {α : Type}
    {k : PUnit → Prog (TpuEff nD τ sig (Elt F) Λ₀ (.scVector (cV L) (jV L))) α} {Q : α → sProp 𝕄} :
    Arr d L M h ⊢ iprop((Arr d L M (Function.update h (off 0) v) -∗ twp d L (k ⟨⟩) Q)
      -∗ twp d L (.op (.store M (Rect.unit (s := ⟨1, ![n]⟩) off S1.size inb) (fun _ => v) Finset.univ hx hm) k) Q) := by
  unfold Arr
  iintro ⟨%f, H, %hf⟩ Hk
  iapply (wp_store (defs := defs₀ (F := F)) 𝒱₀ (thr d L) none Set.univ (Q := Q) (m := M) (r := Rect.unit (s := ⟨1, ![n]⟩) off S1.size inb) (w := fun _ => v) (Mk := Finset.univ)
    (hx := hx) (hm := hm) (k := k) (S := M.view.set) (f := f)
    (fun i hi => access_sub M _ ((M.access _).setOn_subset_set _ hi))) $$ H
  iintro H
  iapply Hk
  iexists _
  isplitl [H]; · iexact H
  ipureintro; intro i
  by_cases hi : (i 0).val = off 0
  · have hx1 : i = (Rect.unit (s := ⟨1, ![n]⟩) off S1.size inb).emb (fun a => ⟨0, by obtain rfl := Fin.eq_zero a; exact Nat.one_pos⟩) := by
      funext a; obtain rfl := Fin.eq_zero a
      exact Fin.ext (by rw [rect_unit_emb]; exact hi)
    rw [hi, Function.update_self, hx1]
    exact View.read_slice_write_emb (v := M.view) (Val := Elt F) _ f _ (Finset.mem_univ _)
  · rw [Function.update_of_ne hi, ← hf i]
    refine View.read_slice_write_of_not_mem (v := M.view) (Val := Elt F) _ f _ _ ?_
    intro hm'
    obtain ⟨x, -, hx'⟩ := Finset.mem_map.mp hm'
    refine hi ?_
    rw [← hx', rect_unit_emb]
    have : (x 0).val < 1 := (x 0).isLt
    omega

/-- A gather of elements of tile memory. -/
theorem wp_gather {t : Shape} {M : Memref sig .scVector .vmem ⟨1, ![n]⟩ e} {h : ℕ → Elt F e} {iv : IVec t 32}
    {hi : ∀ (a : Fin 1) x, ((![iv] : Fin 1 → IVec t 32) a x).toNat < (⟨1, ![n]⟩ : Shape).size a} {hl : M.view.Loads} {α : Type}
    {k : Vec F t e → Prog (TpuEff nD τ sig (Elt F) Λ₀ (.scVector (cV L) (jV L))) α} {Q : α → sProp 𝕄} :
    Arr d L M h ⊢ iprop((Arr d L M h -∗ twp d L (k fun x => h (iv x).toNat) Q)
      -∗ twp d L (SparseCore.vectorLoadIdx (p := .scVector (cV L) (jV L)) M ![iv] hi hl >>= k) Q) := by
  unfold Arr
  iintro ⟨%f, H, %hf⟩ Hk
  iapply (SparseCore.wp_vectorLoadIdx (defs := defs₀ (F := F)) 𝒱₀ (thr d L) none Set.univ (Q := Q) (base := M) (idxs := ![iv]) (h := hi) (hl := hl) (k := k)
    (S := M.view.set) (q := fullShare) (f := f) (access_sub M _)) $$ H
  iintro H
  have e1 : loadIdx ((M.access (.whole _)).read (Elt F) f) ![iv] hi = fun x => h (iv x).toNat := by
    funext x
    refine (hf ((Rect.whole _).emb (idxAt ![iv] hi x))).trans ?_
    congr 1
    rw [Rect.emb_apply]
    show 0 + 1 * (iv x).toNat = _
    omega
  rw [e1]
  iapply Hk
  iexists f
  isplitl [H]; · iexact H
  ipureintro; exact hf

/-- A fold of masked point updates, read at one point. -/
theorem foldl_update {ι κ α : Type} (P : κ → Prop) [DecidablePred P] (Q : κ → ι → Prop) [∀ k, DecidablePred (Q k)] (val : κ → α) (i : ι)
    (hinj : ∀ k k', P k → P k' → Q k i → Q k' i → val k = val k') : ∀ (l : List κ) (g : ι → α),
      (∀ k ∈ l, P k → Q k i → l.foldl (fun g k => if P k then fun j => if Q k j then val k else g j else g) g i = val k)
      ∧ ((∀ k ∈ l, P k → ¬ Q k i) → l.foldl (fun g k => if P k then fun j => if Q k j then val k else g j else g) g i = g i) := by
  intro l
  induction l with
  | nil => intro g; exact ⟨fun k hk => absurd hk (List.not_mem_nil), fun _ => rfl⟩
  | cons k₀ l ih =>
    intro g
    have hstep : (if P k₀ then fun j => if Q k₀ j then val k₀ else g j else g) i = if P k₀ ∧ Q k₀ i then val k₀ else g i := by
      by_cases hm : P k₀
      · by_cases hp : Q k₀ i
        · rw [if_pos hm]; exact (if_pos hp).trans (if_pos ⟨hm, hp⟩).symm
        · rw [if_pos hm]; exact (if_neg hp).trans (if_neg fun h => hp h.2).symm
      · rw [if_neg hm, if_neg fun h => hm h.1]
    constructor
    · intro k hk hmk hpk
      rw [List.foldl_cons]
      by_cases hin : ∃ k' ∈ l, P k' ∧ Q k' i
      · obtain ⟨k', hk', hm', hp'⟩ := hin
        rw [hinj _ _ hmk hm' hpk hp']
        exact (ih _).1 k' hk' hm' hp'
      · push Not at hin
        rw [(ih _).2 hin, hstep]
        rcases List.mem_cons.mp hk with rfl | hk
        · rw [if_pos ⟨hmk, hpk⟩]
        · exact absurd hpk (hin k hk hmk)
    · intro h
      rw [List.foldl_cons, (ih _).2 fun k hk => h k (List.mem_cons_of_mem _ hk), hstep, if_neg]
      rintro ⟨hm, hp⟩; exact h k₀ List.mem_cons_self hm hp

/-- A masked scatter whose set lanes name different positions: each set lane's value is at its position, everything
    else is as it was. -/
theorem storeIdx_spec (g : Vec F ⟨1, ![n]⟩ e) (iv : IVec S16 32) (v : Vec F S16 e) (mask : IVec S16 1)
    (hi : ∀ (a : Fin 1) x, ((![iv] : Fin 1 → IVec S16 32) a x).toNat < (⟨1, ![n]⟩ : Shape).size a)
    (hinj : ∀ x y, mask x = 1 → mask y = 1 → (iv x).toNat = (iv y).toNat → x = y) (i : (⟨1, ![n]⟩ : Shape).Idx) :
    (∀ x, mask x = 1 → (iv x).toNat = (i 0).val → storeIdx g ![iv] v mask false hi i = v x)
      ∧ ((∀ x, mask x = 1 → (iv x).toNat ≠ (i 0).val) → storeIdx g ![iv] v mask false hi i = g i) := by
  have hQ : ∀ k : Fin (![16] 0), (∀ a, (i a).val = (idxAt ![iv] hi (Shape.ofLane (d := ![16]) k) a).val) ↔ (iv (Shape.ofLane (d := ![16]) k)).toNat = (i 0).val := fun k =>
    ⟨fun h => (h 0).symm, fun h a => by obtain rfl := Fin.eq_zero a; exact h.symm⟩
  have key := foldl_update (ι := (⟨1, ![n]⟩ : Shape).Idx) (κ := Fin (![16] 0)) (fun k => mask (Shape.ofLane (d := ![16]) k) = 1)
    (fun k j => ∀ a, (j a).val = (idxAt ![iv] hi (Shape.ofLane (d := ![16]) k) a).val) (fun k => v (Shape.ofLane (d := ![16]) k)) i
    (fun k k' h h' q q' => by rw [hinj _ _ h h' (((hQ k).mp q).trans ((hQ k').mp q').symm)]) (List.finRange (![16] 0)) g
  have hlane : ∀ x : S16.Idx, ∃ k : Fin (![16] 0), x = Shape.ofLane (d := ![16]) k := fun x =>
    ⟨x 0, by funext a; obtain rfl := Fin.eq_zero a; rfl⟩
  have e0 : storeIdx g ![iv] v mask false hi = (List.finRange (![16] 0)).foldl (fun g k => if mask (Shape.ofLane (d := ![16]) k) = 1 then
      fun j => if (∀ a, (j a).val = (idxAt ![iv] hi (Shape.ofLane (d := ![16]) k) a).val) then v (Shape.ofLane (d := ![16]) k) else g j else g) g := by
    unfold storeIdx
    simp only [Bool.false_eq_true, if_false]
  rw [e0]
  constructor
  · intro x hm hp
    obtain ⟨k, rfl⟩ := hlane x
    exact key.1 k (List.mem_finRange k) hm ((hQ k).mpr hp)
  · intro h
    exact key.2 fun k _ hm hq => h _ hm ((hQ k).mp hq)

/-- A masked scatter into tile memory whose set lanes name different positions. -/
theorem wp_scatter {M : Memref sig .scVector .vmem ⟨1, ![n]⟩ e} {h : ℕ → Elt F e} {iv : IVec S16 32} {v : Vec F S16 e} {mask : IVec S16 1}
    {hi : ∀ (a : Fin 1) x, ((![iv] : Fin 1 → IVec S16 32) a x).toNat < (⟨1, ![n]⟩ : Shape).size a} {hs : (M.access (.whole _)).Stores Finset.univ} {α : Type}
    (hinj : ∀ x y, mask x = 1 → mask y = 1 → (iv x).toNat = (iv y).toNat → x = y)
    {k : PUnit → Prog (TpuEff nD τ sig (Elt F) Λ₀ (.scVector (cV L) (jV L))) α} {Q : α → sProp 𝕄} :
    Arr d L M h ⊢ iprop((∀ h', ⌜(∀ x, mask x = 1 → h' (iv x).toNat = v x) ∧ ∀ p, (∀ x, mask x = 1 → (iv x).toNat ≠ p) → h' p = h p⌝ -∗ Arr d L M h' -∗ twp d L (k ⟨⟩) Q)
      -∗ twp d L (SparseCore.vectorStoreIdx (p := .scVector (cV L) (jV L)) M ![iv] v mask false hi hs >>= k) Q) := by
  classical
  unfold Arr
  iintro ⟨%f, H, %hf⟩ Hk
  rw [SparseCore.vectorStoreIdx_bind (c := thr d L)]
  iapply (wp_load_rect (defs := defs₀ (F := F)) 𝒱₀ (thr d L) none Set.univ (Q := Q) (m := M) (r := Rect.whole _) (hl := View.loadsAt_rect hs.loads)
    (k := fun f' => .op (.store M (.whole _) (storeIdx f' ![iv] v mask false hi) Finset.univ hs (.inl rfl)) k)
    (q := fullShare) (f := f) (S := M.view.set) (access_sub M _)) $$ H
  iintro H
  iapply (wp_store (defs := defs₀ (F := F)) 𝒱₀ (thr d L) none Set.univ (Q := Q) (m := M) (r := .whole _) (Mk := Finset.univ)
    (hx := hs) (hm := .inl rfl) (k := k) (f := f) (S := M.view.set) (fun i hi => access_sub M _ ((M.access _).setOn_subset_set _ hi))) $$ H
  iintro H
  iapply Hk $$ %(fun p => if hx : ∃ x, mask x = 1 ∧ (iv x).toNat = p then v hx.choose else h p) [] [H]
  · ipureintro
    constructor
    · intro x hm
      have hx : ∃ y, mask y = 1 ∧ (iv y).toNat = (iv x).toNat := ⟨x, hm, rfl⟩
      show dite _ _ _ = _
      rw [dif_pos hx, hinj _ _ hx.choose_spec.1 hm hx.choose_spec.2]
    · intro p hp
      show dite _ _ _ = _
      rw [dif_neg]; rintro ⟨x, hm, hx⟩; exact hp x hm hx
  · iexists _
    isplitl [H]; · iexact H
    ipureintro
    intro i
    have ei : (Rect.whole (⟨1, ![n]⟩ : Shape)).emb i = i := by
      funext a; refine Fin.ext ?_
      rw [Rect.emb_apply]
      show 0 + 1 * (i a).val = _
      omega
    have e1 : (M.access (.whole _)).read (Elt F) f = M.view.read (Elt F) f := by
      funext j
      have ej : (Rect.whole (⟨1, ![n]⟩ : Shape)).emb j = j := by
        funext a; refine Fin.ext ?_
        rw [Rect.emb_apply]
        show 0 + 1 * (j a).val = _
        omega
      exact congrArg (M.view.read (Elt F) f) ej
    have e2 : M.view.read (Elt F) ((M.access (.whole _)).write (Elt F) f (storeIdx ((M.access (.whole _)).read (Elt F) f) ![iv] v mask false hi) Finset.univ) i
        = storeIdx (M.view.read (Elt F) f) ![iv] v mask false hi i := by
      rw [← e1]
      have h2 := View.read_slice_write_emb (v := M.view) (Val := Elt F) (Rect.whole _) f (storeIdx ((M.access (.whole _)).read (Elt F) f) ![iv] v mask false hi) (Finset.mem_univ i)
      rw [ei] at h2
      exact h2
    refine e2.trans ?_
    have hsp := storeIdx_spec (M.view.read (Elt F) f) iv v mask hi hinj i
    by_cases hx : ∃ x, mask x = 1 ∧ (iv x).toNat = (i 0).val
    · show _ = dite _ _ _
      rw [dif_pos hx]; exact hsp.1 _ hx.choose_spec.1 hx.choose_spec.2
    · show _ = dite _ _ _
      rw [dif_neg hx, ← hf i]
      push Not at hx
      exact hsp.2 hx

end Arrays

end Cert.Proof.Gather
-- ==== Proof.Ctx.lean ====
/-
  The arguments of the gather kernel as one record, its loop bodies over that record, and that the second table's
  loops are the first table's with the table, the index array and the output of the two tables exchanged.
-/
module

public import proofs.«01_k».proof.Proof.Base

@[expose] public section

noncomputable section

namespace Cert.Proof.Gather

open Cert.KernelIdeal Cert.KernelIdeal.Gen
open Idealize.ShloMosaic Idealize.SL.Sem

variable {F : FTy → Type}

/-- The arguments of the gather kernel: the tile's coordinates, the index arrays `m2 m3`, the tables `m4 m5`, the
    outputs `m6 m7`, the staged indices `m8`, the selected pairs `m9 m10`, the binned pairs `m11 m12`, the list of
    blocks `m13`, the histogram `m14`, the block buffer `m15`, the row stage `m16`, and the semaphores. -/
structure Ctx where
  L : grid0.Coords
  m2 : Memref sig .scVector .hbm S16384 .i32
  w2 : m2.IsWhole
  m3 : Memref sig .scVector .hbm S16384 .i32
  w3 : m3.IsWhole
  m4 : Memref sig .scVector .hbm S32x1000064 .f32
  w4 : m4.IsWhole
  m5 : Memref sig .scVector .hbm S32x1000064 .f32
  w5 : m5.IsWhole
  m6 : Memref sig .scVector .hbm S524288 .f32
  w6 : m6.IsWhole
  m7 : Memref sig .scVector .hbm S524288 .f32
  w7 : m7.IsWhole
  m8 : Memref sig .scVector .vmem S16384 .i32
  w8 : m8.IsWhole
  m9 : Memref sig .scVector .vmem S1008 .i32
  w9 : m9.IsWhole
  m10 : Memref sig .scVector .vmem S1008 .i32
  w10 : m10.IsWhole
  m11 : Memref sig .scVector .vmem S4096 .i32
  w11 : m11.IsWhole
  m12 : Memref sig .scVector .vmem S4096 .i32
  w12 : m12.IsWhole
  m13 : Memref sig .scVector .smem S256 .i32
  w13 : m13.IsWhole
  m14 : Memref sig .scVector .smem S256 .i32
  w14 : m14.IsWhole
  m15 : Memref sig .scVector .vmem S8x32x128 .f32
  w15 : m15.IsWhole
  m16 : Memref sig .scVector .vmem S16x32 .f32
  w16 : m16.IsWhole
  gsem : DmaSems sig S8
  wsem : DmaSems sig S_
  r0 : DmaSems sig S_
  r1 : DmaSems sig S_

/-- The checks of the binning loop hold for no selected pair. -/
theorem chk2_zero : k0_chk2 0#32 := by decide +kernel

namespace Ctx

variable (X : Ctx)

/-- The same record with the two tables, their index arrays and their outputs exchanged. -/
def swap : Ctx := { X with m2 := X.m3, w2 := X.w3, m3 := X.m3, w3 := X.w3, m4 := X.m5, w4 := X.w5, m5 := X.m5, w5 := X.w5, m6 := X.m7, w6 := X.w7, m7 := X.m7, w7 := X.w7, r0 := X.r1 }

/-- The tile's number. -/
abbrev wid : BitVec 32 := Scalar.addi (Scalar.muli (BitVec.ofNat 32 (X.L 1).val) 2#32) (BitVec.ofNat 32 (X.L 0).val)
/-- The lane numbers. -/
abbrev lanes : IVec S16 32 := iota .scVector S16 32 [0] iota_S16_d0_w32_scVector

variable [FloatOps F]

/-- A program of the tile. -/
abbrev TProg (X : Ctx) (F : FTy → Type) (α : Type) := Prog (TpuEff nD τ sig (Elt F) Λ₀ (.scVector ((X.L 0).castLE hcore0) ((X.L 1).castLE hsub0))) α

/-- The body of the loop: zero the histogram. -/
def zeroBody  : Fin k0_t1_loop.trips → BitVec 32 → TProg X F (BitVec 32) :=
  k0_t1_body (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1

/-- The body of the loop: select the tile's indices. -/
def selBody  : Fin k0_t2_loop.trips → BitVec 32 → TProg X F (BitVec 32) :=
  k0_t2_body (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1

/-- The body of the loop: bin sixteen selected pairs. -/
def binBody (v6 : BitVec 32) (hw : k0_chk2 v6) : Fin (k0_t3_loop v6).trips → BitVec 32 → TProg X F (BitVec 32) :=
  k0_t3_body (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 X.wid lanes v6 hw 0#32 0#32 0#32 1#32

/-- The body of the loop: list a nonempty block. -/
def listBody  : Fin k0_t5_loop.trips → BitVec 32 → TProg X F (BitVec 32) :=
  k0_t5_body (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 0#32 lanes 0#32 chk2_zero 0#32 0#32 0#32 1#32

/-- The body of the loop: fire one of the first eight blocks. -/
def primeBody (v34 : BitVec 32) : Fin k0_t6_loop.trips → BitVec 32 → TProg X F (BitVec 32) :=
  k0_t6_body (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 0#32 lanes 0#32 chk2_zero 0#32 0#32 0#32 1#32 v34

/-- The body of the loop: serve one block. -/
def grpBody (v34 : BitVec 32) (hw : k0_chk39 v34) : Fin (k0_t7_loop v34).trips → BitVec 32 → TProg X F (BitVec 32) :=
  k0_t7_body (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 X.wid lanes 0#32 chk2_zero 0#32 0#32 0#32 1#32 v34 hw

end Ctx

section Tables

variable [FloatOps F] (X : Ctx)

set_option maxRecDepth 65536 in
theorem k0_t17_eq (v1 : BitVec 32) (v2 : IVec S16 32) (v6 : BitVec 32) (h : k0_chk2 v6) (a b c d : BitVec 32) : k0_t17_body (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 v1 v2 v6 h a b c d = Ctx.zeroBody (F := F) X.swap := rfl

set_option maxRecDepth 65536 in
theorem k0_t18_eq (v6 : BitVec 32) (h : k0_chk2 v6) (a b c d : BitVec 32) : k0_t18_body (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 X.wid Ctx.lanes v6 h a b c d = Ctx.selBody (F := F) X.swap := rfl

set_option maxRecDepth 65536 in
theorem k0_t3_eq (v6 : BitVec 32) (h : k0_chk2 v6) (v30 : BitVec 32) : k0_t3_body (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 X.wid Ctx.lanes v6 h 0#32 0#32 v30 1#32 = Ctx.binBody (F := F) X v6 h := rfl

set_option maxRecDepth 65536 in
theorem k0_t5_eq (v1 : BitVec 32) (v2 : IVec S16 32) (v6 : BitVec 32) (h : k0_chk2 v6) (a b c d : BitVec 32) : k0_t5_body (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 v1 v2 v6 h a b c d = Ctx.listBody (F := F) X := rfl

set_option maxRecDepth 65536 in
theorem k0_t6_eq (v1 : BitVec 32) (v2 : IVec S16 32) (v6 : BitVec 32) (h : k0_chk2 v6) (a b c d v34 : BitVec 32) : k0_t6_body (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 v1 v2 v6 h a b c d v34 = Ctx.primeBody (F := F) X v34 := rfl

set_option maxRecDepth 65536 in
theorem k0_t7_eq (v6 : BitVec 32) (h : k0_chk2 v6) (a b c d v34 : BitVec 32) (h' : k0_chk39 v34) : k0_t7_body (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 X.wid Ctx.lanes v6 h a b c d v34 h' = Ctx.grpBody (F := F) X v34 h' := rfl

set_option maxRecDepth 65536 in
theorem k0_t19_eq (v47 : BitVec 32) (h : k0_chk67 v47) : k0_t19_body (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 Ctx.lanes v47 h = Ctx.binBody (F := F) X.swap v47 h := rfl

set_option maxRecDepth 65536 in
theorem k0_t21_eq  : k0_t21_body (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 = Ctx.listBody (F := F) X.swap := rfl

set_option maxRecDepth 65536 in
theorem k0_t22_eq (v75 : BitVec 32) : k0_t22_body (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 v75 = Ctx.primeBody (F := F) X.swap v75 := rfl

set_option maxRecDepth 65536 in
theorem k0_t23_eq (v75 : BitVec 32) (h : k0_chk104 v75) : k0_t23_body (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 X.wid Ctx.lanes v75 h = Ctx.grpBody (F := F) X.swap v75 h := rfl

end Tables

end Cert.Proof.Gather
-- ==== Proof.Trips.lean ====
/-
  The trip counts of the gather kernel's loops and the checks of its run-time bounds, each decided over the finitely
  many words that a count can be.
-/
module

public import proofs.«01_k».proof.Proof.Ctx

@[expose] public section

noncomputable section

namespace Cert.Proof.Gather

open Cert.KernelIdeal Cert.KernelIdeal.Gen
open Idealize.ShloMosaic

/-! ## The loops -/

theorem t1_trips : k0_t1_loop.trips = 256 := by decide +kernel
theorem t2_trips : k0_t2_loop.trips = 1024 := by decide +kernel
theorem t5_trips : k0_t5_loop.trips = 245 := by decide +kernel
theorem t6_trips : k0_t6_loop.trips = 8 := by decide +kernel
theorem t3_trips : ∀ n : Fin 1009, (k0_t3_loop (BitVec.ofNat 32 n)).trips = (n.val + 15) / 16 := by decide +kernel
theorem chk2_all : ∀ n : Fin 1009, k0_chk2 (BitVec.ofNat 32 n) := by decide +kernel
theorem t7_trips : ∀ n : Fin 246, (k0_t7_loop (BitVec.ofNat 32 n)).trips = n.val := by decide +kernel
theorem t8_trips : ∀ n : Fin 17, (k0_t8_loop (BitVec.ofNat 32 n)).trips = n.val := by decide +kernel
theorem t10_trips : ∀ n : Fin 17, (k0_t10_loop (BitVec.ofNat 32 n)).trips = n.val := by decide +kernel
theorem chk41_all : ∀ n : Fin 17, k0_chk41 (BitVec.ofNat 32 n) := by decide +kernel

end Cert.Proof.Gather
-- ==== Proof.Comb.lean ====
/-
  The arithmetic of the selection: which positions a tile owns, how they are numbered, how they are binned by block,
  and how the nonempty blocks are listed. Everything is stated over natural numbers, with `Nat.count`.
-/
module

public import proofs.«01_k».proof.Proof.Base
public import Mathlib.Data.Nat.Count

@[expose] public section

namespace Cert.Proof.Gather

section Count

variable (p : ℕ → Prop) [DecidablePred p]

/-- Every number below a count is the count at some position where the predicate holds. -/
theorem exists_count {n m : ℕ} (h : m < Nat.count p n) : ∃ b, b < n ∧ p b ∧ Nat.count p b = m := by
  induction n with
  | zero => simp at h
  | succ n ih =>
    rw [Nat.count_succ] at h
    by_cases hm : m < Nat.count p n
    · obtain ⟨b, hb, h1, h2⟩ := ih hm
      exact ⟨b, by omega, h1, h2⟩
    · by_cases hp : p n
      · rw [if_pos hp] at h
        exact ⟨n, by omega, hp, by omega⟩
      · rw [if_neg hp] at h; omega

/-- Two positions where the predicate holds and the counts agree are one position. -/
theorem count_inj {a b : ℕ} (ha : p a) (hb : p b) (h : Nat.count p a = Nat.count p b) : a = b :=
  Nat.count_injective ha hb h

theorem count_lt {a n : ℕ} (ha : p a) (h : a < n) : Nat.count p a < Nat.count p n := Nat.count_strict_mono ha h

end Count

variable (ix : ℕ → ℕ) (w : ℕ)

/-- Position `b` belongs to tile `w`. -/
def Own (b : ℕ) : Prop := b < 16384 ∧ ix b / 128 % 32 = w
instance : DecidablePred (Own ix w) := fun b => by unfold Own; infer_instance
/-- The block of a position's index, among the tile's. -/
def lgOf (b : ℕ) : ℕ := ix b / 4096
/-- Position `b` belongs to tile `w` and its index lies in the tile's block `l`. -/
def OwnL (l b : ℕ) : Prop := Own ix w b ∧ lgOf ix b = l
instance (l : ℕ) : DecidablePred (OwnL ix w l) := fun b => by unfold OwnL; infer_instance
/-- How many positions before `n` belong to the tile. -/
def cntO (n : ℕ) : ℕ := Nat.count (Own ix w) n
/-- The rank of a position among those of its block. -/
def rk (b : ℕ) : ℕ := Nat.count (OwnL ix w (lgOf ix b)) b
/-- How many positions a block has. -/
def cg (l : ℕ) : ℕ := Nat.count (OwnL ix w l) 16384
/-- The block has a position. -/
def NonE (l : ℕ) : Prop := 0 < cg ix w l
instance : DecidablePred (NonE ix w) := fun b => by unfold NonE; infer_instance
/-- How many blocks before `l` have a position. -/
def ordL (l : ℕ) : ℕ := Nat.count (NonE ix w) l
/-- How many blocks have a position. -/
def nGrp : ℕ := ordL ix w 245
/-- The place of a position's block in the list of blocks. -/
def go (b : ℕ) : ℕ := ordL ix w (lgOf ix b)

/-- The indices fit the kernel: they are in the table, no block is met more than sixteen times, and no tile is given
    more positions than it can list. -/
structure Fits : Prop where
  range : ∀ b < 16384, ix b < 1000000
  blk : ∀ w < 32, ∀ l, cg ix w l ≤ 16
  tile : ∀ w < 32, cntO ix w 16384 ≤ 1008

theorem ordL_le (l : ℕ) (h : l ≤ 245) : ordL ix w l ≤ 245 := le_trans (Nat.count_le _) h
theorem nGrp_le : nGrp ix w ≤ 245 := ordL_le ix w 245 le_rfl

section Fit

variable {ix w} (hf : Fits ix) (hw : w < 32)

theorem own_lt {b : ℕ} (h : Own ix w b) : b < 16384 := h.1

include hf in
theorem lgOf_lt {b : ℕ} (h : Own ix w b) : lgOf ix b < 245 := by
  have := hf.range b h.1
  unfold lgOf; omega

theorem ownL_self {b : ℕ} (h : Own ix w b) : OwnL ix w (lgOf ix b) b := ⟨h, rfl⟩

theorem rk_lt {b : ℕ} (h : Own ix w b) : rk ix w b < cg ix w (lgOf ix b) := count_lt _ (ownL_self h) h.1

theorem nonE_lg {b : ℕ} (h : Own ix w b) : NonE ix w (lgOf ix b) := Nat.lt_of_le_of_lt (Nat.zero_le _) (rk_lt h)

include hf in
theorem go_lt {b : ℕ} (h : Own ix w b) : go ix w b < nGrp ix w := count_lt _ (nonE_lg h) (lgOf_lt hf h)

include hf hw in
theorem rk_lt16 {b : ℕ} (h : Own ix w b) : rk ix w b < 16 := (rk_lt h).trans_le (hf.blk w hw _)

theorem go_eq_iff {b l : ℕ} (h : Own ix w b) (hl : NonE ix w l) : go ix w b = ordL ix w l ↔ lgOf ix b = l :=
  ⟨fun e => count_inj _ (nonE_lg h) hl e, fun e => by rw [go, e]⟩

/-- Two positions of one block with one rank are one position. -/
theorem rk_inj {a b : ℕ} (ha : Own ix w a) (hb : Own ix w b) (hl : lgOf ix a = lgOf ix b) (hr : rk ix w a = rk ix w b) : a = b := by
  have h1 : OwnL ix w (lgOf ix b) a := ⟨ha, hl⟩
  unfold rk at hr
  rw [hl] at hr
  exact count_inj _ h1 (ownL_self hb) hr

/-- Every rank below a block's count is some position's. -/
theorem exists_member {l m : ℕ} (h : m < cg ix w l) : ∃ b, Own ix w b ∧ lgOf ix b = l ∧ rk ix w b = m := by
  obtain ⟨b, -, ⟨h1, h2⟩, h3⟩ := exists_count _ h
  exact ⟨b, h1, h2, by rw [rk, h2]; exact h3⟩

theorem exists_grp {o : ℕ} (h : o < nGrp ix w) : ∃ l, l < 245 ∧ NonE ix w l ∧ ordL ix w l = o := exists_count _ h

include hf in
/-- A nonempty block lies in the padded table. -/
theorem block_le {l : ℕ} (h : NonE ix w l) : (l * 32 + w) * 128 + 128 ≤ 1000064 := by
  obtain ⟨b, h1, h2, -⟩ := exists_member h
  have h3 := hf.range b h1.1
  have h4 := h1.2
  unfold lgOf at h2
  omega

/-- The index of an owned position, from its block and the column in it. -/
theorem ix_eq {b : ℕ} (h : Own ix w b) : ix b = (lgOf ix b * 32 + w) * 128 + ix b % 128 := by
  have h4 := h.2
  unfold lgOf
  omega

include hf hw in
/-- A binned position lies in the bins. -/
theorem slot_lt {b : ℕ} (h : Own ix w b) : lgOf ix b * 16 + rk ix w b < 4096 := by
  have h1 := lgOf_lt hf h
  have h2 := rk_lt16 hf hw h
  omega

/-! ### The binning's counts -/

variable {lgv : ℕ → ℕ} (hlg : ∀ b, Own ix w b → lgv (cntO ix w b) = lgOf ix b)

include hlg in
/-- Among the first listed positions as many lie in block `l` as among the first positions. -/
theorem count_lgv (l : ℕ) : ∀ b, Nat.count (fun n => lgv n = l) (cntO ix w b) = Nat.count (OwnL ix w l) b := by
  intro b
  induction b with
  | zero => simp [cntO]
  | succ b ih =>
    by_cases h : Own ix w b
    · have h1 : cntO ix w (b + 1) = cntO ix w b + 1 := by unfold cntO; rw [Nat.count_succ, if_pos h]
      rw [h1, Nat.count_succ, ih, Nat.count_succ, hlg b h]
      by_cases h2 : lgOf ix b = l
      · rw [if_pos h2, if_pos ⟨h, h2⟩]
      · rw [if_neg h2, if_neg fun h3 => h2 h3.2]
    · have h1 : cntO ix w (b + 1) = cntO ix w b := by unfold cntO; rw [Nat.count_succ, if_neg h, Nat.add_zero]
      rw [h1, ih, Nat.count_succ, if_neg fun h3 => h h3.1, Nat.add_zero]

include hlg in
/-- Past the last listed position nothing is added to a block. -/
theorem count_lgv_end {l N : ℕ} (hN : cntO ix w 16384 ≤ N) (hl : ∀ n, cntO ix w 16384 ≤ n → lgv n ≠ l) :
    Nat.count (fun n => lgv n = l) N = cg ix w l := by
  rw [← Nat.add_sub_cancel' hN, Nat.count_add, count_lgv hlg l 16384]
  have : ∀ m, Nat.count (fun n => lgv (cntO ix w 16384 + n) = l) m = 0 := by
    intro m
    induction m with
    | zero => exact Nat.count_zero _
    | succ m ih => rw [Nat.count_succ, ih, if_neg (hl _ (Nat.le_add_right _ _))]
  rw [this, Nat.add_zero, cg]

end Fit

end Cert.Proof.Gather
-- ==== Proof.Words.lean ====
/-
  The words the gather kernel computes, as numbers: the lanes of the selection (its mask, its running sum, its
  destinations), the trip counts of its loops, and its offsets.
-/
module

public import proofs.«01_k».proof.Proof.Trips
public import proofs.«01_k».proof.Proof.Comb

@[expose] public section

noncomputable section

namespace Cert.Proof.Gather

open Cert.KernelIdeal Cert.KernelIdeal.Gen
open Idealize.ShloMosaic Idealize.SL.Sem

variable {F : FTy → Type}

/-! ## Words -/

theorem iv_eq (k : ℕ) : Scf.iv 0#32 1#32 k = BitVec.ofNat 32 k := by
  simp [Scf.iv]

theorem lane_lt (x : S16.Idx) : (x 0).val < 16 := (x 0).isLt

theorem lanes_apply (x : S16.Idx) : Ctx.lanes x = BitVec.ofNat 32 (x 0).val := by
  show BitVec.ofNat 32 (0 * 16 + (x 0).val) = _
  rw [Nat.zero_mul, Nat.zero_add]

/-- Lane `j`. -/
def ln (j : Fin 16) : S16.Idx := fun a => ⟨j.val, by obtain rfl := Fin.eq_zero a; exact j.isLt⟩

theorem ln_apply (x : S16.Idx) : ln (x 0) = x := by
  funext a; obtain rfl := Fin.eq_zero a; rfl

theorem idx1_ext {n : ℕ} {x y : (⟨1, ![n]⟩ : Shape).Idx} (h : (x 0).val = (y 0).val) : x = y := by
  funext a; obtain rfl := Fin.eq_zero a; exact Fin.ext h

/-- The tile's number, as a number. -/
def widN (L : grid0.Coords) : ℕ := (L 1).val * 2 + (L 0).val

theorem widN_lt (L : grid0.Coords) : widN L < 32 := by
  have h0 : (L 0).val < 2 := (L 0).isLt
  have h1 : (L 1).val < 16 := (L 1).isLt
  unfold widN; omega

theorem wid_eq (L : grid0.Coords) : Scalar.addi (Scalar.muli (BitVec.ofNat 32 (L 1).val) 2#32) (BitVec.ofNat 32 (L 0).val) = BitVec.ofNat 32 (widN L) := by
  show BitVec.ofNat 32 (L 1).val * 2#32 + BitVec.ofNat 32 (L 0).val = _
  rw [widN, BitVec.ofNat_add, BitVec.ofNat_mul]

theorem ofNat_inj {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

theorem toNat_of {a : ℕ} (ha : a < 2 ^ 32) : (BitVec.ofNat 32 a).toNat = a := by
  rw [BitVec.toNat_ofNat, Nat.mod_eq_of_lt ha]

theorem slt_of {a b : ℕ} (ha : a < 2 ^ 31) (hb : b < 2 ^ 31) : (BitVec.ofNat 32 a).slt (BitVec.ofNat 32 b) = decide (a < b) := by
  rw [BitVec.slt, WordArith.toInt_ofNat_small a ha, WordArith.toInt_ofNat_small b hb]
  exact decide_eq_decide.mpr Int.ofNat_lt

theorem shr_toNat (v : BitVec 32) (n : ℕ) (h : n < 32) : (IntOp.shrui .vector v (BitVec.ofNat 32 n)).toNat = v.toNat / 2 ^ n := by
  have hn : (BitVec.ofNat 32 n).toNat = n := toNat_of (by omega)
  unfold IntOp.shrui
  rw [hn, if_pos h, BitVec.ushiftRight_eq', BitVec.toNat_ushiftRight, hn, Nat.shiftRight_eq_div_pow]

/-! ## The selection's lanes -/

variable (L : grid0.Coords)

/-- A lane is the tile's when its index's block is. -/
theorem sel_mask (v : IVec S16 32) (x : S16.Idx) : k0_pay136 (F := F) L v x = 1 ↔ (v x).toNat / 128 % 32 = widN L := by
  have e : k0_pay136 (F := F) L v x = BitVec.ofBool (IntOp.shrui .vector (v x) 7#32 &&& 31#32 == BitVec.ofNat 32 (widN L)) := by
    rw [← wid_eq]; rfl
  have h1 : (IntOp.shrui .vector (v x) 7#32 &&& 31#32).toNat = (v x).toNat / 128 % 32 := by
    rw [BitVec.toNat_and, shr_toNat (v x) 7 (by omega)]
    exact Nat.and_two_pow_sub_one_eq_mod _ 5
  rw [e, WordArith.ofBool_eq_numeral_one_iff, beq_iff_eq]
  have hw := widN_lt L
  rw [← h1]
  constructor
  · intro h; rw [h, toNat_of (by omega)]
  · intro h; apply BitVec.eq_of_toNat_eq; rw [h, toNat_of (by omega)]

/-- The lanes up to the next one are the lanes up to this one and the next. -/
theorem filter_lanes : ∀ n : Fin 15, (List.finRange (![16] 0)).filter (fun k => decide (0 < k.val ∧ k.val ≤ n.val + 1))
          = (List.finRange (![16] 0)).filter (fun k => decide (0 < k.val ∧ k.val ≤ n.val)) ++ [⟨n.val + 1, Nat.succ_lt_succ n.isLt⟩] := by decide

/-- A running sum of zeros and ones counts. -/
theorem scan_count (v : IVec S16 32) (P : ℕ → Prop) [DecidablePred P] (hv : ∀ x, v x = if P (x 0).val then 1#32 else 0#32) (x : S16.Idx) :
    scan .sum v x = BitVec.ofNat 32 (Nat.count P ((x 0).val + 1)) := by
  have hv' : ∀ k : Fin (![16] 0), v (Shape.ofLane (d := ![16]) k) = if P k.val then 1#32 else 0#32 := fun k => hv _
  have key : ∀ n, n < 16 → ((List.finRange (![16] 0)).filter fun k => decide (0 < k.val ∧ k.val ≤ n)).foldl
      (fun r k => ScanKind.step .sum r (v (Shape.ofLane (d := ![16]) k))) (v (Shape.ofLane (d := ![16]) ⟨0, by decide⟩)) = BitVec.ofNat 32 (Nat.count P (n + 1)) := by
    have hb : ∀ (a : ℕ) (c : Prop) [Decidable c], BitVec.ofNat 32 (a + if c then 1 else 0) = BitVec.ofNat 32 a + if c then 1#32 else 0#32 := by
      intro a c _; split <;> simp [BitVec.ofNat_add]
    intro n hn
    induction n with
    | zero =>
      have : (List.finRange (![16] 0)).filter (fun k => decide (0 < k.val ∧ k.val ≤ 0)) = [] := by decide
      rw [this, List.foldl_nil, hv', Nat.count_succ, Nat.count_zero]
      split <;> simp_all
    | succ n ih =>
      have h := filter_lanes ⟨n, by omega⟩
      simp only at h
      rw [h, List.foldl_append, ih (by omega), List.foldl_cons, List.foldl_nil, hv', Nat.count_succ P (n + 1), hb]
      rfl
  exact key (x 0).val (x 0).isLt

section Sel

variable {hx : ℕ → BitVec 32} {base acc : ℕ} {v : IVec S16 32} (hv : ∀ x, v x = hx (base + (x 0).val)) (hb : base + 16 ≤ 16384)

/-- The index array as numbers. -/
abbrev ixN (hx : ℕ → BitVec 32) : ℕ → ℕ := fun b => (hx b).toNat

include hv hb in
theorem mask_own (x : S16.Idx) : k0_pay136 (F := F) L v x = 1 ↔ Own (ixN hx) (widN L) (base + (x 0).val) := by
  have := lane_lt x
  rw [sel_mask, hv]
  exact ⟨fun h => ⟨by omega, h⟩, fun h => h.2⟩

include hv hb in
theorem csum_eq (x : S16.Idx) : k0_pay137 (F := F) L v x
    = BitVec.ofNat 32 (Nat.count (fun j => Own (ixN hx) (widN L) (base + j)) ((x 0).val + 1)) := by
  refine scan_count _ (fun j => Own (ixN hx) (widN L) (base + j)) (fun y => ?_) x
  show (if k0_pay136 (F := F) L v y = 1 then 1#32 else 0#32) = _
  by_cases h : Own (ixN hx) (widN L) (base + (y 0).val)
  · rw [if_pos ((mask_own L hv hb y).mpr h), if_pos h]
  · rw [if_neg fun h' => h ((mask_own L hv hb y).mp h'), if_neg h]

include hv hb in
/-- The number of the tile's positions after the chunk. -/
theorem acc_next : Scalar.addi (BitVec.ofNat 32 (cntO (ixN hx) (widN L) base)) (extractAt ![0] (k0_pay141 (F := F) L v) inpos_S1_p0)
    = BitVec.ofNat 32 (cntO (ixN hx) (widN L) (base + 16)) := by
  have e : extractAt ![0] (k0_pay141 (F := F) L v) inpos_S1_p0 = k0_pay137 (F := F) L v (ln 15) := by
    unfold k0_pay141 extractAt extractStridedSlice
    exact congrArg (k0_pay137 (F := F) L v) (idx1_ext rfl)
  rw [e, csum_eq L hv hb]
  show BitVec.ofNat 32 _ + BitVec.ofNat 32 _ = _
  rw [← BitVec.ofNat_add, cntO, cntO, Nat.count_add _ base 16]
  rfl

variable (hN : cntO (ixN hx) (widN L) 16384 ≤ 1008)

theorem cnt_mono (ix : ℕ → ℕ) (w : ℕ) {a b : ℕ} (h : a ≤ b) : cntO ix w a ≤ cntO ix w b := Nat.count_monotone _ h

include hv hb hN in
/-- The destination of an owned lane is its place among the tile's positions, and it is written. -/
theorem dest_own (x : S16.Idx) (h : Own (ixN hx) (widN L) (base + (x 0).val)) :
    k0_pay138 (F := F) L (BitVec.ofNat 32 (cntO (ixN hx) (widN L) base)) v x = BitVec.ofNat 32 (cntO (ixN hx) (widN L) (base + (x 0).val)) := by
  show (BitVec.ofNat 32 (cntO (ixN hx) (widN L) base) + k0_pay137 (F := F) L v x) - 1#32 = _
  rw [csum_eq L hv hb, ← BitVec.ofNat_add, Nat.count_succ, if_pos h]
  have : cntO (ixN hx) (widN L) (base + (x 0).val) = cntO (ixN hx) (widN L) base + Nat.count (fun j => Own (ixN hx) (widN L) (base + j)) (x 0).val := by
    rw [cntO, Nat.count_add]; rfl
  rw [this, ← Nat.add_assoc, BitVec.ofNat_add _ 1]
  exact BitVec.add_sub_cancel _ _

include hv hb hN in
theorem okm_iff (x : S16.Idx) : k0_pay139 (F := F) L (BitVec.ofNat 32 (cntO (ixN hx) (widN L) base)) v x = 1 ↔ Own (ixN hx) (widN L) (base + (x 0).val) := by
  have e : k0_pay139 (F := F) L (BitVec.ofNat 32 (cntO (ixN hx) (widN L) base)) v x
      = k0_pay136 (F := F) L v x &&& BitVec.ofBool ((k0_pay138 (F := F) L (BitVec.ofNat 32 (cntO (ixN hx) (widN L) base)) v x).slt 1008#32) := rfl
  have h16 := lane_lt x
  by_cases h : Own (ixN hx) (widN L) (base + (x 0).val)
  · have h1 : cntO (ixN hx) (widN L) (base + (x 0).val) < cntO (ixN hx) (widN L) 16384 := count_lt _ h h.1
    rw [e, (mask_own L hv hb x).mpr h, dest_own L hv hb hN x h, slt_of (by omega) (by omega), decide_eq_true (by omega)]
    simp [h]
  · have h0 : k0_pay136 (F := F) L v x = 0#1 := by
      have := fun h' => h ((mask_own (F := F) L hv hb x).mp h')
      generalize k0_pay136 (F := F) L v x = c at this
      revert c; decide
    rw [e, h0]
    simp [h]

include hv hb hN in
theorem slotw_eq (x : S16.Idx) : (k0_pay140 (F := F) L (BitVec.ofNat 32 (cntO (ixN hx) (widN L) base)) v x).toNat
    = if Own (ixN hx) (widN L) (base + (x 0).val) then cntO (ixN hx) (widN L) (base + (x 0).val) else 0 := by
  have e : k0_pay140 (F := F) L (BitVec.ofNat 32 (cntO (ixN hx) (widN L) base)) v x
      = if k0_pay139 (F := F) L (BitVec.ofNat 32 (cntO (ixN hx) (widN L) base)) v x = 1 then
          k0_pay138 (F := F) L (BitVec.ofNat 32 (cntO (ixN hx) (widN L) base)) v x else 0#32 := rfl
  have h16 := lane_lt x
  by_cases h : Own (ixN hx) (widN L) (base + (x 0).val)
  · have h1 : cntO (ixN hx) (widN L) (base + (x 0).val) < cntO (ixN hx) (widN L) 16384 := count_lt _ h h.1
    rw [e, if_pos ((okm_iff L hv hb hN x).mpr h), dest_own L hv hb hN x h, if_pos h, toNat_of (by omega)]
  · rw [e, if_neg fun h' => h ((okm_iff L hv hb hN x).mp h'), if_neg h]
    rfl

end Sel

theorem bpos_eq (k : Fin k0_t2_loop.trips) (x : S16.Idx) : k0_pay135 k x = BitVec.ofNat 32 (k.val * 16 + (x 0).val) := by
  have e : k0_pay135 k x = Scf.iv 0#32 1#32 k.val * 16#32 + BitVec.ofNat 32 (x 0).val := by rw [← lanes_apply]; rfl
  rw [e, iv_eq, BitVec.ofNat_add, BitVec.ofNat_mul]

end Cert.Proof.Gather
-- ==== Proof.Select.lean ====
/-
  The first stages of a tile's work on one table: the histogram is zeroed, and the tile's positions and their indices
  are selected, in order.
-/
module

public import proofs.«01_k».proof.Proof.Words

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (X : Ctx)

/-! ## The histogram is zeroed -/

/-- The first `k` entries of the histogram are zero. -/
def zeroInv (k : ℕ) : sProp 𝕄 := iprop(∃ h, Arr d X.L X.m14 h ∗ ⌜∀ l < k, h l = 0#32⌝)

theorem off1_eq (k : Fin k0_t1_loop.trips) : k0_off1 k 0 = k.val := by
  have : k.val < 256 := lt_of_lt_of_eq k.isLt t1_trips
  show (Scf.iv 0#32 1#32 k.val).toNat = _
  rw [iv_eq, toNat_of (by omega)]

theorem zero_body (k : Fin k0_t1_loop.trips) (acc : BitVec 32) :
    zeroInv (F := F) d X k.val ⊢ twp d X.L (X.zeroBody (F := F) k acc) (fun _ => zeroInv d X (k.val + 1)) := by
  unfold zeroInv Ctx.zeroBody k0_t1_body
  iintro ⟨%h, H, %hh⟩
  iapply (wp_sload d X.L (M := X.m14) (h := h)) $$ H
  iintro H
  iapply (wp_sstore d X.L (M := X.m14) (h := h)) $$ H
  iintro H
  iapply (wp_done d X.L)
  iexists _
  isplitl [H]; · iexact H
  ipureintro
  intro l hl
  rw [off1_eq]
  by_cases e : l = k.val
  · rw [e, Function.update_self]
  · rw [Function.update_of_ne e]; exact hh l (by omega)

/-! ## The selection -/

/-- The tile's positions before `n`, and their indices, are listed in order. -/
def SelSpec (hx hr hb : ℕ → BitVec 32) (w n : ℕ) : Prop :=
  ∀ b < n, Own (ixN hx) w b → hr (cntO (ixN hx) w b) = hx b ∧ hb (cntO (ixN hx) w b) = BitVec.ofNat 32 b

/-- After `k` chunks the positions of those chunks are listed, and the carried word is how many they are. -/
def selInv (hx : ℕ → BitVec 32) (k : ℕ) (acc : BitVec 32) : sProp 𝕄 :=
  iprop(Arr d X.L X.m8 hx ∗ ∃ hr hb, Arr d X.L X.m9 hr ∗ Arr d X.L X.m10 hb
    ∗ ⌜acc = BitVec.ofNat 32 (cntO (ixN hx) (widN X.L) (k * 16)) ∧ SelSpec hx hr hb (widN X.L) (k * 16)⌝)

theorem off2_eq (k : Fin k0_t2_loop.trips) : k0_off2 k 0 = k.val * 16 := by
  have : k.val < 1024 := lt_of_lt_of_eq k.isLt t2_trips
  show (Scf.iv 0#32 1#32 k.val * 16#32).toNat = _
  rw [iv_eq, show (16#32 : BitVec 32) = BitVec.ofNat 32 16 from rfl, ← BitVec.ofNat_mul, toNat_of (by omega)]

/-- One more chunk is listed. -/
theorem sel_next {hx hr hb hr' hb' : ℕ → BitVec 32} {w k : ℕ} (hs : SelSpec hx hr hb w (k * 16))
    {iv : IVec S16 32} {mask : IVec S16 1} {v bv : IVec S16 32}
    (hm : ∀ x, mask x = 1 ↔ Own (ixN hx) w (k * 16 + (x 0).val))
    (hi : ∀ x, mask x = 1 → (iv x).toNat = cntO (ixN hx) w (k * 16 + (x 0).val))
    (hv : ∀ x, v x = hx (k * 16 + (x 0).val)) (hbv : ∀ x, bv x = BitVec.ofNat 32 (k * 16 + (x 0).val))
    (hr1 : (∀ x, mask x = 1 → hr' (iv x).toNat = v x) ∧ ∀ p, (∀ x, mask x = 1 → (iv x).toNat ≠ p) → hr' p = hr p)
    (hb1 : (∀ x, mask x = 1 → hb' (iv x).toNat = bv x) ∧ ∀ p, (∀ x, mask x = 1 → (iv x).toNat ≠ p) → hb' p = hb p) :
    SelSpec hx hr' hb' w ((k + 1) * 16) := by
  intro b hb ho
  by_cases hlt : b < k * 16
  · have hne : ∀ x, mask x = 1 → (iv x).toNat ≠ cntO (ixN hx) w b := by
      intro x hx1 he
      rw [hi x hx1] at he
      have := count_inj _ ((hm x).mp hx1) ho he
      omega
    rw [hr1.2 _ hne, hb1.2 _ hne]
    exact hs b hlt ho
  · have hx0 : (ln ⟨b - k * 16, by omega⟩ 0).val = b - k * 16 := rfl
    have hbe : k * 16 + (ln ⟨b - k * 16, by omega⟩ 0).val = b := by rw [hx0]; omega
    have hm1 : mask (ln ⟨b - k * 16, by omega⟩) = 1 := (hm _).mpr (by rw [hbe]; exact ho)
    have h1 := hr1.1 _ hm1
    have h2 := hb1.1 _ hm1
    rw [hi _ hm1, hbe] at h1 h2
    rw [h1, h2, hv, hbv, hbe]
    exact ⟨rfl, rfl⟩

theorem sel_body {hx : ℕ → BitVec 32} (hN : cntO (ixN hx) (widN X.L) 16384 ≤ 1008) (k : Fin k0_t2_loop.trips) (acc : BitVec 32) :
    selInv (F := F) d X hx k.val acc ⊢ twp d X.L (X.selBody (F := F) k acc) (fun acc => selInv d X hx (k.val + 1) acc) := by
  have hk : k.val < 1024 := lt_of_lt_of_eq k.isLt t2_trips
  unfold selInv Ctx.selBody k0_t2_body
  iintro ⟨H8, %hr, %hb, H9, H10, %hacc, %hs⟩
  subst hacc
  iapply (wp_aload d X.L (M := X.m8) (h := hx)) $$ H8
  iintro H8
  have hv : ∀ x : S16.Idx, (fun x : S16.Idx => hx (k0_off2 k 0 + (x 0).val)) x = hx (k.val * 16 + (x 0).val) := fun x => by rw [off2_eq]
  generalize hve : (fun x : S16.Idx => hx (k0_off2 k 0 + (x 0).val)) = v at hv
  have hb16 : k.val * 16 + 16 ≤ 16384 := by omega
  have hm := okm_iff (F := F) X.L hv hb16 hN
  have hsl := slotw_eq (F := F) X.L hv hb16 hN
  have hi : ∀ x, k0_pay139 (F := F) X.L (BitVec.ofNat 32 (cntO (ixN hx) (widN X.L) (k.val * 16))) v x = 1 →
      (k0_pay140 (F := F) X.L (BitVec.ofNat 32 (cntO (ixN hx) (widN X.L) (k.val * 16))) v x).toNat = cntO (ixN hx) (widN X.L) (k.val * 16 + (x 0).val) :=
    fun x h => by rw [hsl x, if_pos ((hm x).mp h)]
  have hlt : ∀ x, (k0_pay140 (F := F) X.L (BitVec.ofNat 32 (cntO (ixN hx) (widN X.L) (k.val * 16))) v x).toNat < 1008 := by
    intro x
    rw [hsl x]
    split
    · next h => exact lt_of_lt_of_le (count_lt _ h h.1) hN
    · omega
  have hinj : ∀ x y, k0_pay139 (F := F) X.L (BitVec.ofNat 32 (cntO (ixN hx) (widN X.L) (k.val * 16))) v x = 1 →
      k0_pay139 (F := F) X.L (BitVec.ofNat 32 (cntO (ixN hx) (widN X.L) (k.val * 16))) v y = 1 →
      (k0_pay140 (F := F) X.L (BitVec.ofNat 32 (cntO (ixN hx) (widN X.L) (k.val * 16))) v x).toNat
        = (k0_pay140 (F := F) X.L (BitVec.ofNat 32 (cntO (ixN hx) (widN X.L) (k.val * 16))) v y).toNat → x = y := by
    intro x y h1 h2 he
    rw [hi x h1, hi y h2] at he
    have := count_inj _ ((hm x).mp h1) ((hm y).mp h2) he
    exact idx1_ext (by omega)
  have hck : k0_chk1 (k0_pay140 (F := F) X.L (BitVec.ofNat 32 (cntO (ixN hx) (widN X.L) (k.val * 16))) v) := by
    constructor <;> · intro a x; obtain rfl := Fin.eq_zero a; exact hlt x
  subst hve
  iapply (wp_chk d X.L hck)
  iapply (wp_scatter d X.L (M := X.m9) (h := hr) hinj) $$ H9
  iintro %hr' %hr1 H9
  iapply (wp_scatter d X.L (M := X.m10) (h := hb) hinj) $$ H10
  iintro %hb' %hb1 H10
  iapply (wp_done d X.L)
  isplitl [H8]; · iexact H8
  iexists hr'
  iexists hb'
  isplitl [H9]; · iexact H9
  isplitl [H10]; · iexact H10
  ipureintro
  refine ⟨?_, sel_next hs hm hi hv (fun x => bpos_eq k x) hr1 hb1⟩
  rw [Nat.add_mul, Nat.one_mul]
  exact acc_next (F := F) X.L hv hb16

end Cert.Proof.Gather
-- ==== Proof.Bin.lean ====
/-
  The binning of a tile's selected positions by block: every selected position gets the next free slot of its block,
  sixteen positions a turn, one after the other.
-/
module

public import proofs.«01_k».proof.Proof.Select

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (X : Ctx)

theorem slices_all : ∀ j : Fin 16, S16.Slices ![j.val] S1 := by decide

/-- The block number of lane `j`. -/
abbrev laneW (v : IVec S16 32) (j : Fin 16) : BitVec 32 := extractAt ![0] (extractStridedSlice S1 ![j.val] v (slices_all j)) inpos_S1_p0

theorem laneW_eq (v : IVec S16 32) (j : Fin 16) : laneW v j = v (ln j) := by
  unfold laneW extractAt extractStridedSlice
  exact congrArg v (idx1_ext rfl)

/-- The slot vector after lane `j` has taken slot `h` of block `l`. -/
abbrev laneSel (j : Fin 16) (l h : BitVec 32) (posv : IVec S16 32) : IVec S16 32 :=
  select (cmpi .eq Ctx.lanes (broadcast S16 (BitVec.ofNat 32 j.val))) (broadcast S16 (Scalar.addi (Scalar.muli l 16#32) h)) posv

theorem laneSel_apply (j : Fin 16) (l h : BitVec 32) (posv : IVec S16 32) (x : S16.Idx) :
    laneSel j l h posv x = if (x 0).val = j.val then l * 16#32 + h else posv x := by
  have e : laneSel j l h posv x = if BitVec.ofBool (Ctx.lanes x == BitVec.ofNat 32 j.val) = 1 then l * 16#32 + h else posv x := rfl
  rw [e, lanes_apply]
  have hx := lane_lt x
  have hj := j.isLt
  by_cases he : (x 0).val = j.val
  · rw [if_pos he, he, beq_self_eq_true]; rfl
  · rw [if_neg he, beq_eq_false_iff_ne.mpr (fun h => he (ofNat_inj (by omega) (by omega) h))]; rfl

/-- The last `m` lanes take their slots in turn. -/
def chain {α : Type} (v : IVec S16 32) : (m : ℕ) → m ≤ 16 → IVec S16 32 → (IVec S16 32 → X.TProg F α) → X.TProg F α
  | 0, _, posv, κ => κ posv
  | m + 1, hm, posv, κ => do
    have hw : k0_chk3 (laneW v ⟨15 - m, by omega⟩) := (← Prog.lift (TpuEff.assume (k0_chk3 (laneW v ⟨15 - m, by omega⟩)) (k0_chk3.dec (laneW v ⟨15 - m, by omega⟩)))).down
    let h : Elt F .i32 ← smemLoad X.m14 (Rect.unit (s := S256) (k0_off4 (laneW v ⟨15 - m, by omega⟩)) S1.size (k0_off4_inb _ hw)) numel1_S1 rfl
    let _ : Elt F .i32 ← smemLoad X.m14 (Rect.unit (s := S256) (k0_off4 (laneW v ⟨15 - m, by omega⟩)) S1.size (k0_off4_inb _ hw)) numel1_S1 rfl
    Prog.lift (.store X.m14 (Rect.unit (s := S256) (k0_off4 (laneW v ⟨15 - m, by omega⟩)) S1.size (k0_off4_inb _ hw)) (fun _ => Scalar.addi h 1#32) Finset.univ (View.stores_smem_one rfl numel1_S1) (.inl rfl))
    chain v m (by omega) (laneSel ⟨15 - m, by omega⟩ (laneW v ⟨15 - m, by omega⟩) h posv) κ

/-- A turn of the binning loop, lane by lane. -/
def binTurn (v6 : BitVec 32) (hw : k0_chk2 v6) (k : Fin (k0_t3_loop v6).trips) : X.TProg F (BitVec 32) := do
  let v87 : Vec F S16 .i32 ← Prog.lift (.load X.m9 (Rect.unit (s := S1008) (k0_off3 v6 k) S16.size (k0_off3_inb v6 hw k)).toLoadRect (View.loadsAt_vmem h_S16))
  let v90 : Vec F S16 .i32 ← Prog.lift (.load X.m10 (Rect.unit (s := S1008) (k0_off3 v6 k) S16.size (k0_off3_inb v6 hw k)).toLoadRect (View.loadsAt_vmem h_S16))
  chain X (k0_pay4 (F := F) Ctx.lanes v6 0#32 1#32 k v87) 16 le_rfl (broadcast S16 0#32) fun posv => do
    have hw19 : k0_chk19 posv := (← Prog.lift (TpuEff.assume (k0_chk19 posv) (k0_chk19.dec posv))).down
    SparseCore.vectorStoreIdx X.m11 ![posv] v87 (k0_pay3 Ctx.lanes v6 0#32 1#32 k) false (k0_idx3_inb posv hw19) (View.stores_vmem_bits_univ h_S4096 rfl)
    SparseCore.vectorStoreIdx X.m12 ![posv] v90 (k0_pay3 Ctx.lanes v6 0#32 1#32 k) false (k0_idx4_inb posv hw19) (View.stores_vmem_bits_univ h_S4096 rfl)
    pure 0#32

set_option maxRecDepth 65536 in
set_option maxHeartbeats 4000000 in
theorem binBody_eq (v6 : BitVec 32) (hw : k0_chk2 v6) (k : Fin (k0_t3_loop v6).trips) (acc : BitVec 32) :
    X.binBody (F := F) v6 hw k acc = binTurn X v6 hw k := rfl

/-- The histogram counts the blocks of the first `n` listed positions. -/
def HistSpec (lgv : ℕ → ℕ) (h : ℕ → BitVec 32) (n : ℕ) : Prop :=
  ∀ l < 256, h l = BitVec.ofNat 32 (Nat.count (fun n => lgv n = l) n)

/-- The slot of the `n`-th listed position. -/
def slotN (lgv : ℕ → ℕ) (n : ℕ) : ℕ := lgv n * 16 + Nat.count (fun i => lgv i = lgv n) n

theorem hist_next {lgv : ℕ → ℕ} {h : ℕ → BitVec 32} {n : ℕ} (hl : lgv n < 256) (hh : HistSpec lgv h n) :
    HistSpec lgv (Function.update h (lgv n) (h (lgv n) + 1#32)) (n + 1) := by
  intro l hl'
  rw [Nat.count_succ]
  by_cases e : l = lgv n
  · rw [e, Function.update_self, hh _ hl, if_pos rfl, BitVec.ofNat_add]
  · rw [Function.update_of_ne e, hh l hl', if_neg (fun h => e h.symm), Nat.add_zero]

theorem wp_chain {α : Type} {lgv : ℕ → ℕ} (hl : ∀ n, lgv n < 256) {n0 : ℕ} {v : IVec S16 32} (hv : ∀ x, v x = BitVec.ofNat 32 (lgv (n0 + (x 0).val)))
    {κ : IVec S16 32 → X.TProg F α} {Q : α → sProp 𝕄} : ∀ (m : ℕ) (hm : m ≤ 16) (posv : IVec S16 32) (h : ℕ → BitVec 32),
    HistSpec lgv h (n0 + (16 - m)) → (∀ x : S16.Idx, (x 0).val < 16 - m → posv x = BitVec.ofNat 32 (slotN lgv (n0 + (x 0).val))) →
    Arr (F := F) d X.L X.m14 h ⊢ iprop((∀ (posv' : IVec S16 32) (h' : ℕ → BitVec 32), ⌜HistSpec lgv h' (n0 + 16) ∧ ∀ x : S16.Idx, posv' x = BitVec.ofNat 32 (slotN lgv (n0 + (x 0).val))⌝
      -∗ Arr d X.L X.m14 h' -∗ twp d X.L (κ posv') Q) -∗ twp d X.L (chain X v m hm posv κ) Q) := by
  intro m
  induction m with
  | zero =>
    intro hm posv h hh hp
    iintro H Hk
    iapply Hk $$ [] H
    ipureintro
    exact ⟨hh, fun x => hp x (lane_lt x)⟩
  | succ m ih =>
    intro hm posv h hh hp
    have hn : n0 + (16 - (m + 1)) = n0 + (15 - m) := by omega
    rw [hn] at hh
    have hw : laneW v ⟨15 - m, by omega⟩ = BitVec.ofNat 32 (lgv (n0 + (15 - m))) := by rw [laneW_eq, hv]; rfl
    have hlt := hl (n0 + (15 - m))
    have hoff : k0_off4 (laneW v ⟨15 - m, by omega⟩) 0 = lgv (n0 + (15 - m)) := by
      show (laneW v ⟨15 - m, by omega⟩).toNat = _
      rw [hw, toNat_of (by omega)]
    have hck : k0_chk3 (laneW v ⟨15 - m, by omega⟩) := by
      intro a
      obtain rfl := Fin.eq_zero a
      rw [hoff]
      show _ + 1 ≤ 256
      omega
    iintro H Hk
    unfold chain
    iapply (wp_chk d X.L hck)
    iapply (wp_sload d X.L (M := X.m14) (h := h) (inb := k0_off4_inb _ hck) (h1 := numel1_S1) (hp := rfl)) $$ H
    iintro H
    iapply (wp_sload d X.L (M := X.m14) (h := h) (inb := k0_off4_inb _ hck) (h1 := numel1_S1) (hp := rfl)) $$ H
    iintro H
    iapply (wp_sstore d X.L (M := X.m14) (h := h)) $$ H
    iintro H
    have h3 := ih (by omega) (laneSel ⟨15 - m, by omega⟩ (laneW v ⟨15 - m, by omega⟩) (h (k0_off4 (laneW v ⟨15 - m, by omega⟩) 0)) posv)
      (Function.update h (k0_off4 (laneW v ⟨15 - m, by omega⟩) 0) (Scalar.addi (h (k0_off4 (laneW v ⟨15 - m, by omega⟩) 0)) 1#32))
      (by rw [show n0 + (16 - m) = n0 + (15 - m) + 1 by omega, hoff]; exact hist_next hlt hh)
      (by
        intro x hx
        rw [laneSel_apply]
        by_cases he : (x 0).val = 15 - m
        · rw [if_pos he, hoff, hw, hh _ hlt, he, slotN, BitVec.ofNat_add, BitVec.ofNat_mul]
        · rw [if_neg he]; exact hp x (by omega))
    iapply h3 $$ H
    iexact Hk

/-! ## A turn of the loop -/

/-- Selected pair `n` is in its slot. -/
def SlotSpec (lgv : ℕ → ℕ) (N : ℕ) (hr hb sr sb : ℕ → BitVec 32) (n : ℕ) : Prop :=
  ∀ i < n, i < N → sr (slotN lgv i) = hr i ∧ sb (slotN lgv i) = hb i

/-- The blocks of the listed positions; the listed pairs past the last position count for no block. -/
def lgL (hr : ℕ → BitVec 32) (N : ℕ) (n : ℕ) : ℕ := if n < N then (hr n).toNat / 4096 else 255

/-- After `k` turns the positions of those turns are in their slots. -/
def binInv (hr hb : ℕ → BitVec 32) (N : ℕ) (k : ℕ) : sProp 𝕄 :=
  iprop(Arr d X.L X.m9 hr ∗ Arr d X.L X.m10 hb ∗ ∃ h sr sb, Arr d X.L X.m14 h ∗ Arr d X.L X.m11 sr ∗ Arr d X.L X.m12 sb
    ∗ ⌜HistSpec (lgL hr N) h (k * 16) ∧ SlotSpec (lgL hr N) N hr hb sr sb (k * 16)⌝)

theorem count_pad {lgv : ℕ → ℕ} {N : ℕ} (hN : ∀ n < N, lgv n ≠ 255) : ∀ m, Nat.count (fun i => lgv i = 255) (N + m) ≤ m := by
  intro m
  rw [Nat.count_add]
  have h0 : Nat.count (fun i => lgv i = 255) N = 0 := by
    by_contra hc
    obtain ⟨b, hb, h, -⟩ := exists_count (p := fun i => lgv i = 255) (Nat.pos_of_ne_zero hc)
    exact hN b hb h
  rw [h0, Nat.zero_add]
  exact Nat.count_le _

theorem slot_inj {lgv : ℕ → ℕ} {i j : ℕ} (hi : Nat.count (fun n => lgv n = lgv i) i < 16) (hj : Nat.count (fun n => lgv n = lgv j) j < 16)
    (h : slotN lgv i = slotN lgv j) : i = j := by
  unfold slotN at h
  have h1 : lgv i = lgv j := by omega
  rw [h1] at h hi
  exact count_inj (fun n => lgv n = lgv j) h1 rfl (by omega)

theorem slot_next {lgv : ℕ → ℕ} {N : ℕ} (h16 : ∀ n < N, Nat.count (fun i => lgv i = lgv n) n < 16) {hr hb sr sb sr' sb' : ℕ → BitVec 32} {k : ℕ}
    (hs : SlotSpec lgv N hr hb sr sb (k * 16)) {iv : IVec S16 32} {mask : IVec S16 1} {v bv : IVec S16 32}
    (hm : ∀ x, mask x = 1 ↔ k * 16 + (x 0).val < N) (hi : ∀ x, (iv x).toNat = slotN lgv (k * 16 + (x 0).val))
    (hv : ∀ x, v x = hr (k * 16 + (x 0).val)) (hbv : ∀ x, bv x = hb (k * 16 + (x 0).val))
    (hr1 : (∀ x, mask x = 1 → sr' (iv x).toNat = v x) ∧ ∀ p, (∀ x, mask x = 1 → (iv x).toNat ≠ p) → sr' p = sr p)
    (hb1 : (∀ x, mask x = 1 → sb' (iv x).toNat = bv x) ∧ ∀ p, (∀ x, mask x = 1 → (iv x).toNat ≠ p) → sb' p = sb p) :
    SlotSpec lgv N hr hb sr' sb' ((k + 1) * 16) := by
  intro i hi1 hiN
  by_cases hlt : i < k * 16
  · have hne : ∀ x, mask x = 1 → (iv x).toNat ≠ slotN lgv i := by
      intro x hx he
      rw [hi x] at he
      have := slot_inj (h16 _ ((hm x).mp hx)) (h16 i hiN) he
      omega
    rw [hr1.2 _ hne, hb1.2 _ hne]
    exact hs i hlt hiN
  · have hbe : k * 16 + (ln ⟨i - k * 16, by omega⟩ 0).val = i := by
      show k * 16 + (i - k * 16) = i
      omega
    have hm1 : mask (ln ⟨i - k * 16, by omega⟩) = 1 := (hm _).mpr (by rw [hbe]; exact hiN)
    have h1 := hr1.1 _ hm1
    have h2 := hb1.1 _ hm1
    rw [hi, hbe] at h1 h2
    rw [h1, h2, hv, hbv, hbe]
    exact ⟨rfl, rfl⟩

section Turn

variable {N : ℕ} (hN : N ≤ 1008) (k : Fin (k0_t3_loop (BitVec.ofNat 32 N)).trips)

include hN in
theorem bin_lt : k.val * 16 < N := by
  have : k.val < (N + 15) / 16 := lt_of_lt_of_eq k.isLt (t3_trips ⟨N, by omega⟩)
  omega

include hN in
theorem off3_eq : k0_off3 (BitVec.ofNat 32 N) k 0 = k.val * 16 := by
  have := bin_lt hN k
  show (Scf.iv 0#32 1#32 k.val * 16#32).toNat = _
  rw [iv_eq, show (16#32 : BitVec 32) = BitVec.ofNat 32 16 from rfl, ← BitVec.ofNat_mul, toNat_of (by omega)]

include hN in
theorem binMask (x : S16.Idx) : k0_pay3 Ctx.lanes (BitVec.ofNat 32 N) 0#32 1#32 k x = 1 ↔ k.val * 16 + (x 0).val < N := by
  have := bin_lt hN k
  have := lane_lt x
  have e : k0_pay3 Ctx.lanes (BitVec.ofNat 32 N) 0#32 1#32 k x
      = BitVec.ofBool ((Scf.iv 0#32 1#32 k.val * 16#32 + BitVec.ofNat 32 (x 0).val).slt (BitVec.ofNat 32 N)) := by rw [← lanes_apply]; rfl
  rw [e, iv_eq, show (16#32 : BitVec 32) = BitVec.ofNat 32 16 from rfl, ← BitVec.ofNat_mul, ← BitVec.ofNat_add, slt_of (by omega) (by omega),
    WordArith.ofBool_eq_numeral_one_iff, decide_eq_true_iff]

include hN in
theorem binLg (hr : ℕ → BitVec 32) {v : IVec S16 32} (hv : ∀ x, v x = hr (k.val * 16 + (x 0).val)) (x : S16.Idx) :
    k0_pay4 (F := F) Ctx.lanes (BitVec.ofNat 32 N) 0#32 1#32 k v x = BitVec.ofNat 32 (lgL hr N (k.val * 16 + (x 0).val)) := by
  have e : k0_pay4 (F := F) Ctx.lanes (BitVec.ofNat 32 N) 0#32 1#32 k v x
      = if k0_pay3 Ctx.lanes (BitVec.ofNat 32 N) 0#32 1#32 k x = 1 then IntOp.shrui .vector (v x) 12#32 else 255#32 := rfl
  rw [e]
  unfold lgL
  by_cases h : k.val * 16 + (x 0).val < N
  · rw [if_pos ((binMask hN k x).mpr h), if_pos h, ← hv]
    refine BitVec.eq_of_toNat_eq ?_
    rw [shr_toNat (v x) 12 (by omega), toNat_of (by have := (v x).isLt; omega)]
    rfl
  · rw [if_neg (fun h' => h ((binMask hN k x).mp h')), if_neg h]

theorem bin_body {hr hb : ℕ → BitVec 32} (hlg : ∀ n < N, (hr n).toNat / 4096 < 245)
    (h16 : ∀ n < N, Nat.count (fun i => lgL hr N i = lgL hr N n) n < 16) (hw : k0_chk2 (BitVec.ofNat 32 N)) (hN : N ≤ 1008) (acc : BitVec 32) :
    binInv (F := F) d X hr hb N k.val ⊢ twp d X.L (X.binBody (F := F) (BitVec.ofNat 32 N) hw k acc) (fun _ => binInv d X hr hb N (k.val + 1)) := by
  rw [binBody_eq]
  have hkN := bin_lt hN k
  have hl : ∀ n, lgL hr N n < 256 := by
    intro n; unfold lgL; split
    · next h => have := hlg n h; omega
    · omega
  have hne : ∀ n < N, lgL hr N n ≠ 255 := by
    intro n h; unfold lgL; rw [if_pos h]; have := hlg n h; omega
  have hsl : ∀ x : S16.Idx, slotN (lgL hr N) (k.val * 16 + (x 0).val) < 4096 := by
    intro x
    have hx := lane_lt x
    unfold slotN
    by_cases h : k.val * 16 + (x 0).val < N
    · have h1 := h16 _ h
      have h2 : lgL hr N (k.val * 16 + (x 0).val) < 245 := by unfold lgL; rw [if_pos h]; exact hlg _ h
      omega
    · have h2 : lgL hr N (k.val * 16 + (x 0).val) = 255 := by unfold lgL; rw [if_neg h]
      rw [h2]
      have h3 := count_pad hne (k.val * 16 + (x 0).val - N)
      rw [Nat.add_sub_cancel' (by omega)] at h3
      omega
  unfold binInv binTurn
  iintro ⟨H9, H10, %h, %sr, %sb, H14, H11, H12, %hh, %hs⟩
  iapply (wp_aload d X.L (M := X.m9) (h := hr)) $$ H9
  iintro H9
  iapply (wp_aload d X.L (M := X.m10) (h := hb)) $$ H10
  iintro H10
  have hv : ∀ x : S16.Idx, (fun x : S16.Idx => hr (k0_off3 (BitVec.ofNat 32 N) k 0 + (x 0).val)) x = hr (k.val * 16 + (x 0).val) := fun x => by rw [off3_eq hN k]
  have hbv : ∀ x : S16.Idx, (fun x : S16.Idx => hb (k0_off3 (BitVec.ofNat 32 N) k 0 + (x 0).val)) x = hb (k.val * 16 + (x 0).val) := fun x => by rw [off3_eq hN k]
  iapply (wp_chain d X (lgv := lgL hr N) hl (n0 := k.val * 16) (binLg (F := F) hN k hr hv) 16 le_rfl _ h hh (fun x hx => absurd hx (by omega))) $$ H14
  iintro %posv %h' ⟨%hh', %hp⟩ H14
  have hi : ∀ x, (posv x).toNat = slotN (lgL hr N) (k.val * 16 + (x 0).val) := fun x => by
    rw [hp, toNat_of (by have := hsl x; omega)]
  have hck : k0_chk19 posv := by
    constructor <;> · intro a x; obtain rfl := Fin.eq_zero a; exact lt_of_eq_of_lt (hi x) (hsl x)
  have hinj : ∀ x y, k0_pay3 Ctx.lanes (BitVec.ofNat 32 N) 0#32 1#32 k x = 1 → k0_pay3 Ctx.lanes (BitVec.ofNat 32 N) 0#32 1#32 k y = 1 →
      (posv x).toNat = (posv y).toNat → x = y := by
    intro x y h1 h2 he
    rw [hi x, hi y] at he
    have := slot_inj (h16 _ ((binMask hN k x).mp h1)) (h16 _ ((binMask hN k y).mp h2)) he
    exact idx1_ext (by omega)
  iapply (wp_chk d X.L hck)
  iapply (wp_scatter d X.L (M := X.m11) (h := sr) hinj) $$ H11
  iintro %sr' %hr1 H11
  iapply (wp_scatter d X.L (M := X.m12) (h := sb) hinj) $$ H12
  iintro %sb' %hb1 H12
  iapply (wp_done d X.L)
  isplitl [H9]; · iexact H9
  isplitl [H10]; · iexact H10
  iexists h'
  iexists sr'
  iexists sb'
  isplitl [H14]; · iexact H14
  isplitl [H11]; · iexact H11
  isplitl [H12]; · iexact H12
  ipureintro
  refine ⟨?_, slot_next h16 hs (binMask hN k) hi hv hbv hr1 hb1⟩
  rw [Nat.add_mul, Nat.one_mul]
  exact hh'

end Turn

end Cert.Proof.Gather
-- ==== Proof.List.lean ====
/-
  The list of a tile's nonempty blocks, in order.
-/
module

public import proofs.«01_k».proof.Proof.Bin

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (X : Ctx)

/-- After `k` turns the nonempty blocks below `k` are listed, and the carried word is how many they are. -/
def listInv (ix : ℕ → ℕ) (w : ℕ) (h : ℕ → BitVec 32) (k : ℕ) (acc : BitVec 32) : sProp 𝕄 :=
  iprop(Arr d X.L X.m14 h ∗ ∃ ol, Arr d X.L X.m13 ol
    ∗ ⌜acc = BitVec.ofNat 32 (ordL ix w k) ∧ ∀ l < k, NonE ix w l → ol (ordL ix w l) = BitVec.ofNat 32 l⌝)

theorem cond1_iff {c : ℕ} (hc : c ≤ 16) : k0_cond1 (BitVec.ofNat 32 c) = 1#1 ↔ 0 < c := by
  have : ∀ c : Fin 17, k0_cond1 (BitVec.ofNat 32 c.val) = 1#1 ↔ 0 < c.val := by decide +kernel
  exact this ⟨c, by omega⟩

theorem list_body {ix : ℕ → ℕ} {w : ℕ} {h : ℕ → BitVec 32} (hh : ∀ l < 245, h l = BitVec.ofNat 32 (cg ix w l)) (hcg : ∀ l, cg ix w l ≤ 16)
    (k : Fin k0_t5_loop.trips) (acc : BitVec 32) :
    listInv (F := F) d X ix w h k.val acc ⊢ twp d X.L (X.listBody (F := F) k acc) (fun acc => listInv d X ix w h (k.val + 1) acc) := by
  have hk : k.val < 245 := lt_of_lt_of_eq k.isLt t5_trips
  have hoff : k0_off37 k 0 = k.val := by
    show (Scf.iv 0#32 1#32 k.val).toNat = _
    rw [iv_eq, toNat_of (by omega)]
  have hord := ordL_le ix w k.val (by omega)
  have hv : h (k0_off37 k 0) = BitVec.ofNat 32 (cg ix w k.val) := by rw [hoff, hh _ hk]
  have hsucc : ordL ix w (k.val + 1) = ordL ix w k.val + if NonE ix w k.val then 1 else 0 := Nat.count_succ _ _
  unfold listInv Ctx.listBody k0_t5_body
  iintro ⟨H14, %ol, H13, %hacc, %hl⟩
  subst hacc
  have hoff38 : k0_off38 (BitVec.ofNat 32 (ordL ix w k.val)) 0 = ordL ix w k.val := by
    show (BitVec.ofNat 32 (ordL ix w k.val)).toNat = _
    rw [toNat_of (by omega)]
  have hck : ∀ v, k0_chk37 (BitVec.ofNat 32 (ordL ix w k.val)) v := by
    intro v _ a
    obtain rfl := Fin.eq_zero a
    rw [hoff38]
    show _ + 1 ≤ 256
    omega
  iapply (wp_sload d X.L (M := X.m14) (h := h)) $$ H14
  iintro H14
  iapply (wp_chk d X.L (hck _))
  by_cases hc : NonE ix w k.val
  · have e : k0_cond1 (h (k0_off37 k 0)) = 1#1 := by rw [hv]; exact (cond1_iff (hcg _)).mpr hc
    simp only [dif_pos e]
    iapply (wp_sload d X.L (M := X.m13) (h := ol) (inb := k0_off38_inb _ _ (hck _) e) (h1 := numel1_S1) (hp := rfl)) $$ H13
    iintro H13
    iapply (wp_sstore d X.L (M := X.m13) (h := ol)) $$ H13
    iintro H13
    iapply (wp_done d X.L)
    isplitl [H14]; · iexact H14
    iexists _
    isplitl [H13]; · iexact H13
    ipureintro
    rw [if_pos hc] at hsucc
    refine ⟨by rw [hsucc, BitVec.ofNat_add]; rfl, fun l hl' hne => ?_⟩
    rw [hoff38, iv_eq]
    by_cases he : l = k.val
    · rw [he, Function.update_self]
    · have hlk : l < k.val := by omega
      rw [Function.update_of_ne (show ordL ix w l ≠ ordL ix w k.val from Nat.ne_of_lt (count_lt _ hne hlk))]
      exact hl l hlk hne
  · have e : ¬ k0_cond1 (h (k0_off37 k 0)) = 1#1 := by rw [hv]; exact fun h => hc ((cond1_iff (hcg _)).mp h)
    simp only [dif_neg e]
    iapply (wp_done d X.L)
    isplitl [H14]; · iexact H14
    iexists ol
    isplitl [H13]; · iexact H13
    ipureintro
    rw [if_neg hc] at hsucc
    refine ⟨by rw [hsucc]; rfl, fun l hl' hne => ?_⟩
    by_cases he : l = k.val
    · exact absurd (he ▸ hne) hc
    · exact hl l (by omega) hne

end Cert.Proof.Gather
-- ==== Proof.Gbuf.lean ====
/-
  The buffer of eight blocks, shared between the transfers that fill its slots and the gathers that read it. A slot is
  held at the left half of the full share; the right half of the whole buffer lies in an invariant, together with nothing
  else, until all eight slots' tokens are deposited in it. A transfer into a slot opens the invariant at each of its
  steps and there holds the slot outright; a gather opens it to read the whole buffer.
-/
module

public import Idealize.ShloMosaic.Lib.ValueLayout
public import Idealize.ShloMosaic.Lib.ShareLeaves
public import proofs.«01_k».proof.Proof.List

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (X : Ctx)

abbrev EC : UEmb Counters (MT nD τ sig (HIx 2) (Elt F) ℕ UU ℕ) := countersEmb

open Transfers (tok tok_tok_false Flight)
open Idealize.ShloMosaic.ValueIdx (ix2 ix3 reshapeEquiv_ix2_1ab)

/-- The slot of the block buffer at the offsets `off`. -/
abbrev slotAt (off : Fin 3 → ℕ) (inb : ∀ a, off a + S1x32x128.size a ≤ S8x32x128.size a) : Memref sig .scVector .vmem S32x128 .f32 :=
  (X.m15.slice (Rect.unit (s := S8x32x128) off S1x32x128.size inb) (fun _ => rfl)).squeeze S32x128 squeezes_S1x32x128_S32x128

theorem slot_inb (s : Fin 8) : ∀ a, (![s.val, 0, 0] : Fin 3 → ℕ) a + S1x32x128.size a ≤ S8x32x128.size a := by
  intro a
  have := s.isLt
  fin_cases a
  · show s.val + 1 ≤ 8
    omega
  · show 0 + 32 ≤ 32
    omega
  · show 0 + 128 ≤ 128
    omega

/-- Slot `s` of the block buffer. -/
abbrev slotM (s : Fin 8) := slotAt X ![s.val, 0, 0] (slot_inb s)

theorem slot_idx (s : Fin 8) (r : Fin 32) (c : Fin 128) {hn : S32x128.numel = S1x32x128.numel} :
    (Rect.unit (s := S8x32x128) ![s.val, 0, 0] S1x32x128.size (slot_inb s)).emb (Shape.reshapeEquiv hn (ix2 r c)) = ix3 s r c := by
  rw [reshapeEquiv_ix2_1ab]
  funext a
  apply Fin.ext
  rw [Rect.emb_apply]
  fin_cases a
  · show s.val + 1 * 0 = s.val
    omega
  · show 0 + 1 * r.val = r.val
    omega
  · show 0 + 1 * c.val = c.val
    omega

theorem slot_emb (s : Fin 8) (r : Fin 32) (c : Fin 128) :
    (slotM X s).view.emb (ix2 r c) = X.m15.view.emb (ix3 s r c) :=
  congrArg X.m15.view.emb (slot_idx s r c)

theorem mem_slot (s : Fin 8) (p : X.m15.view.ty.Idx) :
    p ∈ (slotM X s).view.set ↔ ∃ r : Fin 32, ∃ c : Fin 128, X.m15.view.emb (ix3 s r c) = p := by
  constructor
  · intro h
    obtain ⟨i, -, hi⟩ := Finset.mem_map.mp h
    refine ⟨i 0, i 1, ?_⟩
    refine (slot_emb X s (i 0) (i 1)).symm.trans ?_
    rw [← hi]
    congr 1
    funext a
    fin_cases a <;> rfl
  · rintro ⟨r, c, rfl⟩
    rw [← slot_emb]
    exact Finset.mem_map.mpr ⟨_, Finset.mem_univ _, rfl⟩

theorem slot_sub (s : Fin 8) : (slotM X s).view.set ⊆ X.m15.view.set := by
  intro p h
  obtain ⟨r, c, rfl⟩ := (mem_slot X s p).mp h
  exact Finset.mem_map.mpr ⟨_, Finset.mem_univ _, rfl⟩

theorem slot_disj {s t : Fin 8} (h : s ≠ t) : Disjoint (slotM X s).view.set (slotM X t).view.set := by
  rw [Finset.disjoint_left]
  intro p h1 h2
  obtain ⟨r, c, rfl⟩ := (mem_slot X s p).mp h1
  obtain ⟨r', c', e⟩ := (mem_slot X t _).mp h2
  have := congrFun (X.m15.view.emb.injective e) 0
  exact h this.symm

theorem slot_union : X.m15.view.set = Finset.univ.biUnion fun s : Fin 8 => (slotM X s).view.set := by
  ext p
  rw [Finset.mem_biUnion]
  constructor
  · intro h
    obtain ⟨i, -, hi⟩ := Finset.mem_map.mp h
    refine ⟨i 0, Finset.mem_univ _, (mem_slot X _ p).mpr ⟨i 1, i 2, ?_⟩⟩
    rw [← hi]
    congr 1
    funext a
    fin_cases a <;> rfl
  · rintro ⟨s, -, h⟩
    exact slot_sub X s h

abbrev lf : PosShare TreeShare := fullShare.left
abbrev rt : PosShare TreeShare := fullShare.right

/-- What the invariant holds: the right half of the whole buffer, or every slot's token. -/
def gBody (π : Fin 8 → ℕ) : sProp 𝕄 :=
  iprop((∃ f, X.m15.view.loc (thr d X.L) ↦[X.m15.view.set]{rt} f) ∨ bigSep Finset.univ fun s : Fin 8 => tok EC (π s))

instance gBody_storable (π : Fin 8 → ℕ) : Storable (upEmb : UEmb _ 𝕄) (gBody (F := F) d X π) := by
  unfold gBody tok count
  infer_instance

/-- A slot's token refutes that the invariant holds every token. -/
theorem tok_open (π : Fin 8 → ℕ) (s : Fin 8) :
    iprop(tok EC (π s) ∗ gBody (F := F) d X π) ⊢ iprop(tok EC (π s) ∗ ∃ f, X.m15.view.loc (thr d X.L) ↦[X.m15.view.set]{rt} f) := by
  unfold gBody
  iintro ⟨Ht, H⟩
  icases H with (H|H)
  · isplitl [Ht]; · iexact Ht
    iexact H
  · have h := SparseCore.bigSep_erase' (M := 𝕄) (Φ := fun s : Fin 8 => (tok EC (π s) : sProp 𝕄)) (Finset.mem_univ s)
    ihave H := (Entails.of_eq h) $$ H
    icases H with ⟨H1, -⟩
    ihave Hf := (tok_tok_false EC (π s)) $$ [Ht H1]
    · isplitl [Ht] <;> iassumption
    icases Hf with %hf
    exact hf.elim

/-- A slot held at the left half, with its token, reading `h r c` at row `r`, column `c`. -/
def Slot (π : Fin 8 → ℕ) (s : Fin 8) (h : ℕ → ℕ → Elt F .f32) : sProp 𝕄 :=
  iprop((∃ f, (X.m15.view.loc (thr d X.L) ↦[(slotM X s).view.set]{lf} f) ∗ ⌜∀ r : Fin 32, ∀ c : Fin 128, X.m15.view.read (Elt F) f (ix3 s r c) = h r c⌝) ∗ tok EC (π s))

/-- A slot at the left half and the whole buffer at the right half make the slot outright and the rest of the right half. -/
theorem slot_gain (s : Fin 8) (f g : Buf (Elt F) (X.m15.view.loc (thr d X.L))) :
    iprop((X.m15.view.loc (thr d X.L) ↦[(slotM X s).view.set]{lf} f) ∗ (X.m15.view.loc (thr d X.L) ↦[X.m15.view.set]{rt} g))
      ⊢ (iprop((X.m15.view.loc (thr d X.L) ↦[(slotM X s).view.set]{fullShare} f) ∗ (X.m15.view.loc (thr d X.L) ↦[X.m15.view.set \ (slotM X s).view.set]{rt} g)) : sProp 𝕄) := by
  refine (sep_mono_right (pointsTo_split_subset (slot_sub X s)).1).trans ?_
  refine sep_assoc.2.trans (sep_mono_left ?_)
  refine Laws.pure_elim _ pointsTo_agree fun h => ?_
  have e : (X.m15.view.loc (thr d X.L) ↦[(slotM X s).view.set]{rt} g : sProp 𝕄) = X.m15.view.loc (thr d X.L) ↦[(slotM X s).view.set]{rt} f :=
    pointsTo_congr fun i hi => ((h i (Finset.mem_inter.mpr ⟨hi, hi⟩)).1).symm
  rw [e]
  exact (pointsTo_share (PosShare.mem_left_op_right fullShare)).2

/-- And back. -/
theorem slot_give (s : Fin 8) (f g : Buf (Elt F) (X.m15.view.loc (thr d X.L))) :
    iprop((X.m15.view.loc (thr d X.L) ↦[(slotM X s).view.set]{fullShare} f) ∗ (X.m15.view.loc (thr d X.L) ↦[X.m15.view.set \ (slotM X s).view.set]{rt} g))
      ⊢ (iprop((X.m15.view.loc (thr d X.L) ↦[(slotM X s).view.set]{lf} f) ∗ ∃ g', X.m15.view.loc (thr d X.L) ↦[X.m15.view.set]{rt} g') : sProp 𝕄) := by
  refine (sep_mono_left (pointsTo_share (PosShare.mem_left_op_right fullShare)).1).trans ?_
  refine sep_assoc.1.trans (sep_mono_right ?_)
  refine (pointsTo_join_subset (slot_sub X s)).trans ?_
  iintro H
  iexists _
  iexact H

/-- The write update of a transfer into a slot: each step takes the right half out of the invariant. -/
theorem slot_writeUpdate (π : Fin 8 → ℕ) (κ : ℕ) (s : Fin 8) (w : S32x128.Idx → Elt F .f32) (h : ℕ → ℕ → Elt F .f32) :
    iprop(inv κ (gBody (F := F) d X π) ∗ Slot d X π s h)
      ⊢ (writeUpdate (thr d X.L) (slotM X s).view w (Slot d X π s fun r c => w (ix2 (Fin.ofNat 32 r) (Fin.ofNat 128 c))) : sProp 𝕄) := by
  rw [writeUpdate, writeUpdateFrom_def]
  unfold Slot
  iintro ⟨#Hinv, ⟨%f, Hf, -⟩, Ht⟩
  iexists (fun M => iprop((X.m15.view.loc (thr d X.L) ↦[(slotM X s).view.set]{lf} ((slotM X s).view.write (Elt F) f w M)) ∗ tok EC (π s)))
  simp only [View.write_empty]
  isplitl [Hf Ht]
  · isplitl [Hf] <;> iassumption
  isplitr
  · rw [writeSteps_def]
    imodintro
    iintro %M %M' ⟨Hpt, Ht⟩
    imod (inv_acc (Set.mem_univ κ)) $$ Hinv with ⟨Hb, Hclose⟩
    imodintro
    rw [storeSpec_apply]
    ihave Hb := (tok_open d X π s) $$ [Ht Hb]
    · isplitl [Ht] <;> iassumption
    icases Hb with ⟨Ht, %g, Hg⟩
    ihave Hb := (slot_gain d X s _ g) $$ [Hpt Hg]
    · isplitl [Hpt] <;> iassumption
    icases Hb with ⟨Hpt, Hg⟩
    iexists (slotM X s).view.set, ((slotM X s).view.write (Elt F) f w M)
    isplitl [Hpt]; · iexact Hpt
    isplitr; · ipureintro; exact View.setOn_subset_set _ _
    iintro Hpt
    ihave Hb := (slot_give d X s _ g) $$ [Hpt Hg]
    · isplitl [Hpt] <;> iassumption
    icases Hb with ⟨Hpt, Hg⟩
    ihave Hc := Hclose $$ [Hg]
    · unfold gBody
      ileft
      iexact Hg
    imod Hc
    imodintro
    rw [← View.write_write_union]
    isplitl [Hpt] <;> iassumption
  iintro ⟨Hpt, Ht⟩
  isplitl [Hpt]
  · iexists _
    isplitl [Hpt]; · iexact Hpt
    ipureintro
    intro r c
    have e := congrFun (View.read_write_univ (v := (slotM X s).view) (Val := Elt F) f w) (ix2 r c)
    rw [show Fin.ofNat 32 r.val = r from Fin.ext (Nat.mod_eq_of_lt r.isLt), show Fin.ofNat 128 c.val = c from Fin.ext (Nat.mod_eq_of_lt c.isLt)]
    refine Eq.trans ?_ e
    exact congrArg (X.m15.view.read (Elt F) _) (slot_idx s r c).symm
  iexact Ht

/-- The gather from a slot: every lane reads the slot's block at its row and column. -/
theorem wp_gload (π : Fin 8 → ℕ) (κ : ℕ) (s : Fin 8) (h : ℕ → ℕ → Elt F .f32) {t : Shape} {i0 i1 i2 : IVec t 32}
    {hi : ∀ (a : Fin 3) x, ((![i0, i1, i2] : Fin 3 → IVec t 32) a x).toNat < S8x32x128.size a} {hl : X.m15.view.Loads} {α : Type}
    {k : Vec F t .f32 → Prog (TpuEff nD τ sig (Elt F) Λ₀ (.scVector (cV X.L) (jV X.L))) α} {Q : α → sProp 𝕄} (h0 : ∀ x, (i0 x).toNat = s.val) :
    iprop(inv κ (gBody (F := F) d X π) ∗ Slot d X π s h) ⊢ iprop((Slot d X π s h -∗ twp d X.L (k fun x => h (i1 x).toNat (i2 x).toNat) Q)
      -∗ twp d X.L (SparseCore.vectorLoadIdx (p := .scVector (cV X.L) (jV X.L)) X.m15 ![i0, i1, i2] hi hl >>= k) Q) := by
  unfold Slot
  show _ ⊢ iprop(_ -∗ wp frame (wpE (defs₀ (F := F)) 𝒱₀ (thr d X.L) none) Set.univ
    (.op (.load X.m15 (.whole S8x32x128) (View.loadsAt_whole hl)) fun f => k (loadIdx f ![i0, i1, i2] hi)) Q)
  iintro ⟨#Hinv, ⟨%f, Hf, %hf⟩, Ht⟩ Hk
  imod (inv_acc (Set.mem_univ κ)) $$ Hinv with ⟨Hb, Hclose⟩
  ihave Hb := (tok_open d X π s) $$ [Ht Hb]
  · isplitl [Ht] <;> iassumption
  icases Hb with ⟨Ht, %g, Hg⟩
  ihave %hag := pointsTo_agree $$ [Hf Hg]
  · isplitl [Hf] <;> iassumption
  imodintro
  iapply (fp_load (thr d X.L) (f := g) (S := X.m15.view.set) (View.setOn_subset_set _ _)) $$ Hg
  iintro Hg
  ihave Hc := Hclose $$ [Hg]
  · unfold gBody
    ileft
    iexists g
    iexact Hg
  imod Hc
  imodintro
  have e1 : loadIdx (X.m15.view.readAt (Elt F) (LoadRect.whole S8x32x128) g) ![i0, i1, i2] hi = fun x => h (i1 x).toNat (i2 x).toNat := by
    funext x
    have b1 : (i1 x).toNat < 32 := hi 1 x
    have b2 : (i2 x).toNat < 128 := hi 2 x
    have e0 : idxAt ![i0, i1, i2] hi x = ix3 s ⟨_, b1⟩ ⟨_, b2⟩ := by
      funext a
      apply Fin.ext
      fin_cases a
      · exact h0 x
      · rfl
      · rfl
    have e2 := hf ⟨_, b1⟩ ⟨_, b2⟩
    refine Eq.trans ?_ e2
    have hm : X.m15.view.emb (ix3 s ⟨_, b1⟩ ⟨_, b2⟩) ∈ (slotM X s).view.set := (mem_slot X s _).mpr ⟨_, _, rfl⟩
    have e3 := (hag _ (Finset.mem_inter.mpr ⟨hm, slot_sub X s hm⟩)).1
    show X.m15.view.read (Elt F) g ((LoadRect.whole S8x32x128).idx (idxAt ![i0, i1, i2] hi x)) = _
    rw [show (LoadRect.whole S8x32x128).idx (idxAt ![i0, i1, i2] hi x) = idxAt ![i0, i1, i2] hi x from ?_, e0, View.read_apply, View.read_apply, e3]
    funext a
    apply Fin.ext
    show 0 + 1 * _ = _
    omega
  rw [e1]
  iapply Hk
  isplitl [Hf]
  · iexists f
    isplitl [Hf]; · iexact Hf
    ipureintro; exact hf
  iexact Ht

/-- The table, held at share `q`. -/
abbrev Tab (q : PosShare TreeShare) (ft : Buf (Elt F) (X.m4.view.loc (thr d X.L))) : sProp 𝕄 :=
  (X.m4.view.loc (thr d X.L) ↦[X.m4.view.set]{q} ft)

instance slot_storable (π : Fin 8 → ℕ) (s : Fin 8) (h : ℕ → ℕ → Elt F .f32) : Storable (upEmb : UEmb _ 𝕄) (Slot d X π s h) := by
  unfold Slot tok count
  infer_instance

/-- A block's columns, from column `o` on. -/
abbrev colsFrom (T : ℕ → ℕ → Elt F .f32) (o : ℕ) : ℕ → ℕ → Elt F .f32 := fun r c => T r (o + c)

theorem slot_congr (π : Fin 8 → ℕ) (s : Fin 8) {h h' : ℕ → ℕ → Elt F .f32} (e : ∀ r c, r < 32 → c < 128 → h r c = h' r c) :
    Slot (F := F) d X π s h ⊢ Slot d X π s h' := by
  unfold Slot
  iintro ⟨⟨%f, Hf, %hf⟩, Ht⟩
  isplitl [Hf]
  · iexists f
    isplitl [Hf]; · iexact Hf
    ipureintro
    intro r c
    exact (hf r c).trans (e _ _ r.isLt c.isLt)
  iexact Ht

/-- Firing a block's transfer into a slot. -/
theorem wp_fire (π : Fin 8 → ℕ) (κ : ℕ) (s : Fin 8) (h : ℕ → ℕ → Elt F .f32) (q : PosShare TreeShare) (ft : Buf (Elt F) (X.m4.view.loc (thr d X.L)))
    (T : ℕ → ℕ → Elt F .f32) (hT : ∀ i, X.m4.view.read (Elt F) ft i = T (i 0).val (i 1).val) (o : ℕ)
    {off : Fin 2 → ℕ} {inb : ∀ a, off a + S32x128.size a ≤ S32x1000064.size a} (ho : off = ![0, o])
    {off' : Fin 3 → ℕ} {inb' : ∀ a, off' a + S1x32x128.size a ≤ S8x32x128.size a} (ho' : off' = ![s.val, 0, 0])
    {sm sm' : SemLoc sig} (hsm : sm = sm') {N : ℕ} (hN : (slotAt X off' inb').view.amount sm = N) (hN0 : 0 < N) {α : Type}
    {hsrc : (X.m4.slice (Rect.unit (s := S32x1000064) off S32x128.size inb) (fun _ => rfl)).view.WordExact}
    {hdst : (slotAt X off' inb').view.WordExact} {hsem : DmaTarget.Typed (nD := nD) (p := Proc.scVector (cV X.L) (jV X.L)) .hbm sm (.here (slotAt X off' inb'))}
    {k : PUnit → Prog (TpuEff nD τ sig (Elt F) Λ₀ (.scVector (cV X.L) (jV X.L))) α} {Q : α → sProp 𝕄} :
    iprop(inv κ (gBody (F := F) d X π) ∗ Slot d X π s h ∗ Tab d X q ft ∗ semVal (thr d X.L, sm') 0)
      ⊢ iprop((Flight EC (thr d X.L) sm' (default : HIx 2) N iprop(Slot d X π s (colsFrom T o) ∗ Tab d X q ft) -∗ twp d X.L (k ⟨⟩) Q)
        -∗ twp d X.L (.op (.enqueueDma (p := .scVector (cV X.L) (jV X.L)) (X.m4.slice (Rect.unit (s := S32x1000064) off S32x128.size inb) (fun _ => rfl)) (.here (slotAt X off' inb')) sm hsrc hdst hsem) k) Q) := by
  subst hsm ho ho'
  iintro ⟨#Hinv, Hslot, Htab, Hv⟩ Hk
  have hsub : (X.m4.slice (Rect.unit (s := S32x1000064) ![0, o] S32x128.size inb) (fun _ => rfl)).view.set ⊆ X.m4.view.set := by
    intro p hp
    obtain ⟨i, -, hi⟩ := Finset.mem_map.mp hp
    rw [← hi]
    exact Finset.mem_map.mpr ⟨_, Finset.mem_univ _, rfl⟩
  have hD : iprop(((Slot (F := F) d X π s fun r c => (X.m4.slice (Rect.unit (s := S32x1000064) ![0, o] S32x128.size inb) (fun _ => rfl)).view.read (Elt F) ft (ix2 (Fin.ofNat 32 r) (Fin.ofNat 128 c)))
        ∗ (X.m4.view.loc (thr d X.L) ↦[X.m4.view.set \ (X.m4.slice (Rect.unit (s := S32x1000064) ![0, o] S32x128.size inb) (fun _ => rfl)).view.set]{q} ft))
        ∗ ((X.m4.slice (Rect.unit (s := S32x1000064) ![0, o] S32x128.size inb) (fun _ => rfl)).view.loc (thr d X.L) ↦[(X.m4.slice (Rect.unit (s := S32x1000064) ![0, o] S32x128.size inb) (fun _ => rfl)).view.set]{q} ft))
      ⊢ iprop(Slot d X π s (colsFrom T o) ∗ Tab d X q ft) := by
    iintro ⟨⟨Hslot, Hrest⟩, Hs⟩
    isplitl [Hslot]
    · iapply (slot_congr d X π s ?_) $$ Hslot
      intro r c hr hc
      refine (hT ((Rect.unit (s := S32x1000064) ![0, o] S32x128.size inb).emb (ix2 (Fin.ofNat 32 r) (Fin.ofNat 128 c)))).trans ?_
      rw [Rect.emb_apply, Rect.emb_apply]
      show T (0 + 1 * (r % 32)) (o + 1 * (c % 128)) = T r (o + c)
      rw [Nat.mod_eq_of_lt hr, Nat.mod_eq_of_lt hc, Nat.one_mul, Nat.one_mul, Nat.zero_add]
    · iapply (pointsTo_split_subset hsub).2
      isplitl [Hs] <;> iassumption
  ihave Htab := (pointsTo_split_subset hsub).1 $$ Htab
  icases Htab with ⟨Hs, Hrest⟩
  imod (Transfers.flight_alloc EC hN0 iprop(Slot d X π s (colsFrom T o) ∗ Tab d X q ft) (g := (thr d X.L, sm))) $$ Hv with ⟨%γ, %δ, %κ', #Hfl, Hγ, Hδ⟩
  iapply (wp_enqueueDma 𝒱₀ (thr d X.L) none Set.univ (default : HIx 2) N hN) $$ [Hs Hslot Hrest] [Hγ]
  · isplitl [Hs]; · iexact Hs
    iapply writeUpdate_frame
    isplitl [Hslot]
    · iapply (slot_writeUpdate d X π κ s _ h)
      isplitr; · iexact Hinv
      iexact Hslot
    iexact Hrest
  · iapply (Transfers.creditUpdate_anti hD)
    iapply (Transfers.flight_creditUpdate EC (δ := δ))
    isplitr; · iexact Hfl
    iexact Hγ
  iintro Hcred
  iapply Hk
  iapply (Transfers.flight_intro EC (thr d X.L) (κ := κ'))
  isplitr; · iexact Hfl
  isplitl [Hδ] <;> iassumption

/-- Entailment under an iterated conjunction. -/
theorem bs_mono {I : Type} {s : Finset I} {Φ Ψ : I → sProp 𝕄} (h : ∀ i ∈ s, Φ i ⊢ Ψ i) : bigSep s Φ ⊢ bigSep s Ψ := BI.bigSep_mono h

theorem bs_sep {I : Type} (s : Finset I) (Φ Ψ : I → sProp 𝕄) : bigSep s (fun i => iprop(Φ i ∗ Ψ i)) = iprop(bigSep s Φ ∗ bigSep s Ψ) := BI.bigSep_sep s Φ Ψ

section Blocks

variable {ℓ : Loc nD τ sig} {T : Type} [DecidableEq T] (A : Finset T) (B : T → Finset (Idx ℓ)) {q : PosShare TreeShare}

/-- A buffer's elements, dealt to disjoint blocks. -/
theorem blocks_split {S : Finset (Idx ℓ)} (hS : S = A.biUnion B) (hd : ∀ t ∈ A, ∀ t' ∈ A, t ≠ t' → Disjoint (B t) (B t')) (f : Buf (Elt F) ℓ) :
    (ℓ ↦[S]{q} f : sProp 𝕄) ⊢ bigSep A fun t => iprop(∃ f, ℓ ↦[B t]{q} f) := by
  subst hS
  rw [pointsTo_biUnion A B hd]
  exact bs_mono fun t _ => by
    iintro H
    iexists f
    iexact H

/-- And joined again. -/
theorem blocks_join {S : Finset (Idx ℓ)} (hS : S = A.biUnion B) (hd : ∀ t ∈ A, ∀ t' ∈ A, t ≠ t' → Disjoint (B t) (B t')) (f₀ : Buf (Elt F) ℓ) :
    bigSep A (fun t => iprop(∃ f, ℓ ↦[B t]{q} f)) ⊢ (iprop(∃ f, ℓ ↦[S]{q} f) : sProp 𝕄) := by
  subst hS
  have : Nonempty (Buf (Elt F) ℓ) := ⟨f₀⟩
  refine (Idealize.SL.BI.bigSep_exists_pi A (fun b (f : Buf (Elt F) ℓ) => (ℓ ↦[B b]{q} f : sProp 𝕄))).trans ?_
  iintro ⟨%fs, H⟩
  ihave H := (pointsTo_biUnion_join A B fs f₀ hd) $$ H
  icases H with ⟨%g, -, H⟩
  iexists g
  iexact H

end Blocks

/-- The buffer, held outright, is put into the invariant, and every slot taken. -/
theorem gopen (f : Buf (Elt F) (X.m15.view.loc (thr d X.L))) :
    (X.m15.view.loc (thr d X.L) ↦[X.m15.view.set]{fullShare} f : sProp 𝕄)
      ⊢ |={Set.univ}=> iprop(∃ π κ, inv κ (gBody (F := F) d X π) ∗ bigSep Finset.univ fun s : Fin 8 => iprop(∃ h, Slot d X π s h)) := by
  iintro H
  ihave H := (pointsTo_share (PosShare.mem_left_op_right fullShare)).1 $$ H
  icases H with ⟨Hl, Hr⟩
  imod (counts_alloc (EC (F := F)) (Nm := Fin 8)) $$ [] with ⟨%π, %γ₀, -, Hc, -⟩; · iempintro
  imod (inv_alloc (P := gBody (F := F) d X π) (E := Set.univ)) $$ [Hr] with ⟨%κ, Hinv⟩
  · unfold gBody
    ileft
    iexists f
    iexact Hr
  imodintro
  iexists π, κ
  isplitl [Hinv]; · iexact Hinv
  ihave Hl := (blocks_split Finset.univ (fun s : Fin 8 => (slotM X s).view.set) (slot_union X) (fun s _ t _ h => slot_disj X h) f) $$ Hl
  have hz : iprop(bigSep Finset.univ (fun s : Fin 8 => iprop(∃ f, X.m15.view.loc (thr d X.L) ↦[(slotM X s).view.set]{lf} f)) ∗ bigSep Finset.univ (fun s : Fin 8 => count (EC (F := F)) (π s) 0))
      ⊢ (bigSep Finset.univ fun s : Fin 8 => iprop(∃ h, Slot d X π s h) : sProp 𝕄) := by
    refine (Entails.of_eq (bs_sep _ _ _).symm).trans (bs_mono fun s _ => ?_)
    unfold Slot
    iintro ⟨⟨%g, Hg⟩, Ht⟩
    iexists fun r c => X.m15.view.read (Elt F) g (ix3 s (Fin.ofNat 32 r) (Fin.ofNat 128 c))
    isplitl [Hg]
    · iexists g
      isplitl [Hg]; · iexact Hg
      ipureintro
      intro r c
      show _ = X.m15.view.read (Elt F) g (ix3 s (Fin.ofNat 32 r.val) (Fin.ofNat 128 c.val))
      rw [show Fin.ofNat 32 r.val = r from Fin.ext (Nat.mod_eq_of_lt r.isLt), show Fin.ofNat 128 c.val = c from Fin.ext (Nat.mod_eq_of_lt c.isLt)]
    iexact Ht
  iapply hz
  isplitl [Hl] <;> iassumption

/-- With every slot in hand, the buffer is taken back whole. -/
theorem gclose (π : Fin 8 → ℕ) (κ : ℕ) :
    iprop(inv κ (gBody (F := F) d X π) ∗ bigSep Finset.univ fun s : Fin 8 => iprop(∃ h, Slot d X π s h))
      ⊢ |={Set.univ}=> iprop(∃ f, X.m15.view.loc (thr d X.L) ↦[X.m15.view.set]{fullShare} f) := by
  have hz : (bigSep Finset.univ fun s : Fin 8 => iprop(∃ h, Slot (F := F) d X π s h))
      ⊢ (iprop(bigSep Finset.univ (fun s : Fin 8 => iprop(∃ f, X.m15.view.loc (thr d X.L) ↦[(slotM X s).view.set]{lf} f)) ∗ bigSep Finset.univ (fun s : Fin 8 => tok (EC (F := F)) (π s))) : sProp 𝕄) := by
    refine BIBase.Entails.trans (bs_mono fun s _ => ?_) (Entails.of_eq (bs_sep _ _ _))
    unfold Slot
    iintro ⟨%h, ⟨%g, Hg, -⟩, Ht⟩
    isplitl [Hg]
    · iexists g
      iexact Hg
    iexact Ht
  iintro ⟨#Hinv, H⟩
  ihave H := hz $$ H
  icases H with ⟨Hl, Ht⟩
  imod (inv_acc (Set.mem_univ κ)) $$ Hinv with ⟨Hb, Hclose⟩
  have ht := SparseCore.bigSep_erase' (M := 𝕄) (Φ := fun s : Fin 8 => (tok (EC (F := F)) (π s) : sProp 𝕄)) (Finset.mem_univ (0 : Fin 8))
  ihave Ht := (Entails.of_eq ht) $$ Ht
  icases Ht with ⟨H0, Ht⟩
  ihave Hb := (tok_open d X π 0) $$ [H0 Hb]
  · isplitl [H0] <;> iassumption
  icases Hb with ⟨H0, %g, Hg⟩
  ihave Ht := (Entails.of_eq ht.symm) $$ [H0 Ht]
  · isplitl [H0] <;> iassumption
  ihave Hc := Hclose $$ [Ht]
  · unfold gBody
    iright
    iexact Ht
  imod Hc
  imodintro
  ihave Hl := (blocks_join Finset.univ (fun s : Fin 8 => (slotM X s).view.set) (slot_union X) (fun s _ t _ h => slot_disj X h) g) $$ Hl
  icases Hl with ⟨%f, Hf⟩
  iexists f
  ihave %hag := pointsTo_agree $$ [Hf Hg]
  · isplitl [Hf] <;> iassumption
  have e : (X.m15.view.loc (thr d X.L) ↦[X.m15.view.set]{rt} g : sProp 𝕄) ⊢ X.m15.view.loc (thr d X.L) ↦[X.m15.view.set]{rt} f :=
    Entails.of_eq (pointsTo_congr fun i hi => ((hag i (Finset.mem_inter.mpr ⟨hi, hi⟩)).1).symm)
  ihave Hg := e $$ Hg
  iapply (pointsTo_share (PosShare.mem_left_op_right fullShare)).2
  isplitl [Hf] <;> iassumption

end Cert.Proof.Gather
-- ==== Proof.Fire.lean ====
/-
  The blocks' transfers: what a slot is between transfers and during one, and the loop that fires the first eight blocks.
-/
module

public import proofs.«01_k».proof.Proof.Gbuf

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (X : Ctx)

open Transfers (tok tok_tok_false Flight)
open Idealize.ShloMosaic.ValueIdx (ix2 ix3)
open Idealize.ShloMosaic.ShareLeaves (leaf)

/-- The `o`-th nonempty block. -/
def gl (ix : ℕ → ℕ) (w o : ℕ) : ℕ := by
  classical exact if h : ∃ l, l < 245 ∧ NonE ix w l ∧ ordL ix w l = o then h.choose else 0

theorem gl_spec {ix : ℕ → ℕ} {w o : ℕ} (h : o < nGrp ix w) : gl ix w o < 245 ∧ NonE ix w (gl ix w o) ∧ ordL ix w (gl ix w o) = o := by
  classical
  have h' := exists_grp h
  unfold gl
  rw [dif_pos h']
  exact h'.choose_spec

/-- The first column of tile `w`'s block `l`. -/
def blkCol (w l : ℕ) : ℕ := (l * 32 + w) * 128

/-- What the serving of the blocks relies on: the indices fit, the list of blocks, the histogram and the binned pairs are as
    the earlier loops left them, and the table reads `T`. -/
structure Stage (ix : ℕ → ℕ) (ol hh sr sb : ℕ → Elt F .i32) (T : ℕ → ℕ → Elt F .f32) (ft : Buf (Elt F) (X.m4.view.loc (thr d X.L))) : Prop where
  fits : Fits ix
  hol : ∀ l < 245, NonE ix (widN X.L) l → ol (ordL ix (widN X.L) l) = BitVec.ofNat 32 l
  hcg : ∀ l < 245, hh l = BitVec.ofNat 32 (cg ix (widN X.L) l)
  hsr : ∀ b, Own ix (widN X.L) b → sr (lgOf ix b * 16 + rk ix (widN X.L) b) = BitVec.ofNat 32 (ix b)
  hsb : ∀ b, Own ix (widN X.L) b → sb (lgOf ix b * 16 + rk ix (widN X.L) b) = BitVec.ofNat 32 b
  hT : ∀ i, X.m4.view.read (Elt F) ft i = T (i 0).val (i 1).val

theorem sem_inb (s : Fin 8) : ∀ a, (![s.val] : Fin 1 → ℕ) a + S1.size a ≤ S8.size a := by
  intro a
  obtain rfl := Fin.eq_zero a
  have := s.isLt
  show s.val + 1 ≤ 8
  omega

/-- The semaphore of the block buffer at the offset `off`. -/
abbrev semAt (off : Fin 1 → ℕ) (inb : ∀ a, off a + S1.size a ≤ S8.size a) : SemLoc sig :=
  .dma ((X.gsem.slice (Rect.unit (s := S8) off S1.size inb)).squeeze S_ squeezes_S1_S_).sem
/-- Slot `s`'s semaphore. -/
abbrev gs (s : Fin 8) : SemLoc sig := semAt X ![s.val] (sem_inb s)

theorem semAt_eq {s : Fin 8} {off : Fin 1 → ℕ} {inb : ∀ a, off a + S1.size a ≤ S8.size a} (h : off = ![s.val]) : semAt X off inb = gs X s := by
  subst h
  rfl

/-- What a block's transfer credits. -/
abbrev NB : ℕ := (slotM X 0).view.dmaCredit

theorem NB_pos : 0 < NB X := by
  exact View.dmaCredit_pos _ (by decide)

section St

variable (ix : ℕ → ℕ) (T : ℕ → ℕ → Elt F .f32) (q : PosShare TreeShare) (ft : Buf (Elt F) (X.m4.view.loc (thr d X.L))) (π : Fin 8 → ℕ)

/-- A slot no transfer is under way into. -/
def Idle (s : Fin 8) : sProp 𝕄 :=
  iprop((∃ h, Slot d X π s h) ∗ Tab d X (leaf 3 q s) ft ∗ semVal (thr d X.L, gs X s) 0)

/-- A slot the `o`-th block is under way into. -/
def Fly (s : Fin 8) (o : ℕ) : sProp 𝕄 :=
  Flight EC (thr d X.L) (gs X s) (default : HIx 2) (NB X) iprop(Slot d X π s (colsFrom T (blkCol (widN X.L) (gl ix (widN X.L) o))) ∗ Tab d X (leaf 3 q s) ft)

/-- A slot whose next block is the `o`-th. -/
def St (s : Fin 8) (o : ℕ) : sProp 𝕄 := if o < nGrp ix (widN X.L) then Fly d X ix T q ft π s o else Idle d X q ft π s

end St

theorem ivoff {o : ℕ} (h : o < 256) : (Scf.iv 0#32 1#32 o).toNat = o := by
  rw [iv_eq, toNat_of (by omega)]

theorem rem8 : ∀ o : Fin 254, (Scalar.remsi (BitVec.ofNat 32 o.val) 8#32).toNat = o.val % 8 := by decide +kernel

theorem rem8' {o : ℕ} (h : o < 254) : (Scalar.remsi (Scf.iv 0#32 1#32 o) 8#32).toNat = o % 8 := by
  rw [iv_eq]
  exact rem8 ⟨o, h⟩

theorem slt_cond {a b : ℕ} (ha : a < 2 ^ 31) (hb : b < 2 ^ 31) :
    Scalar.cmpi .ne (Scalar.extui (Scalar.cmpi .slt (BitVec.ofNat 32 a) (BitVec.ofNat 32 b)) : BitVec 32) 0#32 = 1#1 ↔ a < b := by
  have e : Scalar.cmpi .slt (BitVec.ofNat 32 a) (BitVec.ofNat 32 b) = BitVec.ofBool (decide (a < b)) := by
    rw [← slt_of ha hb]
    rfl
  rw [e]
  by_cases h : a < b
  · simp only [h, decide_true, iff_true]
    decide
  · simp only [h, decide_false, iff_false]
    decide

/-- The column the kernel computes for a block. -/
theorem col_eq {l : ℕ} (h : l < 245) : (k0_mult1 X.L (BitVec.ofNat 32 l)).toNat = blkCol (widN X.L) l := by
  have e : k0_mult1 X.L (BitVec.ofNat 32 l) = BitVec.ofNat 32 (blkCol (widN X.L) l) := by
    show (BitVec.ofNat 32 l * 32#32 + Scalar.addi (Scalar.muli (BitVec.ofNat 32 (X.L 1).val) 2#32) (BitVec.ofNat 32 (X.L 0).val)) * 128#32 = _
    rw [wid_eq, blkCol, BitVec.ofNat_mul, BitVec.ofNat_add, BitVec.ofNat_mul]
  have hw := widN_lt X.L
  rw [e, toNat_of]
  unfold blkCol
  omega

section Prime

variable {ix : ℕ → ℕ} {ol hh sr sb : ℕ → Elt F .i32} {T : ℕ → ℕ → Elt F .f32} {ft : Buf (Elt F) (X.m4.view.loc (thr d X.L))}
  (S : Stage d X ix ol hh sr sb T ft) (q : PosShare TreeShare) (π : Fin 8 → ℕ) (κ : ℕ)

include S in
theorem ol_gl {o : ℕ} (h : o < nGrp ix (widN X.L)) : ol o = BitVec.ofNat 32 (gl ix (widN X.L) o) := by
  obtain ⟨h1, h2, h3⟩ := gl_spec h
  rw [← S.hol _ h1 h2, h3]

include S in
theorem blkCol_le {o : ℕ} (h : o < nGrp ix (widN X.L)) : blkCol (widN X.L) (gl ix (widN X.L) o) + 128 ≤ 1000064 :=
  block_le S.fits (gl_spec h).2.1

include S in
theorem off_inb {o : ℕ} (h : o < nGrp ix (widN X.L)) : ∀ a, (![0, (k0_mult1 X.L (ol o)).toNat] : Fin 2 → ℕ) a + S32x128.size a ≤ S32x1000064.size a := by
  have := blkCol_le d X S h
  rw [ol_gl d X S h, col_eq X (gl_spec h).1]
  intro a
  fin_cases a
  · show 0 + 32 ≤ 32
    omega
  · exact this

include S in
theorem mult_dvd {o : ℕ} (h : o < nGrp ix (widN X.L)) : 128 ∣ (k0_mult1 X.L (ol o)).toNat := by
  rw [ol_gl d X S h, col_eq X (gl_spec h).1]
  exact Dvd.intro_left _ rfl

theorem cond2_iff (k : Fin k0_t6_loop.trips) : k0_cond2 (BitVec.ofNat 32 (nGrp ix (widN X.L))) k = 1#1 ↔ k.val < nGrp ix (widN X.L) := by
  have hk : k.val < 8 := lt_of_lt_of_eq k.isLt t6_trips
  have hn := nGrp_le ix (widN X.L)
  rw [← slt_cond (a := k.val) (b := nGrp ix (widN X.L)) (by omega) (by omega), ← iv_eq k.val]
  exact Iff.rfl

include S in
theorem chk38_ok (k : Fin k0_t6_loop.trips) : k0_chk38 X.L (BitVec.ofNat 32 (nGrp ix (widN X.L))) k (ol k.val) :=
  ⟨fun h => mult_dvd d X S ((cond2_iff X k).mp h), fun h => off_inb d X S ((cond2_iff X k).mp h)⟩

theorem ho40 (k : Fin k0_t6_loop.trips) (hk : k.val < 8) : k0_off40 k = ![k.val, 0, 0] := by
  have := rem8' (o := k.val) (by omega)
  rw [Nat.mod_eq_of_lt hk] at this
  exact congrArg (fun t => (![t, 0, 0] : Fin 3 → ℕ)) this

theorem ho42 (k : Fin k0_t6_loop.trips) (hk : k.val < 8) : k0_off42 k = ![k.val] := by
  have := rem8' (o := k.val) (by omega)
  rw [Nat.mod_eq_of_lt hk] at this
  exact congrArg (fun t => (![t] : Fin 1 → ℕ)) this

/-- After `k` of the first eight blocks. -/
def primeInv (ix : ℕ → ℕ) (ol : ℕ → Elt F .i32) (T : ℕ → ℕ → Elt F .f32) (q : PosShare TreeShare) (ft : Buf (Elt F) (X.m4.view.loc (thr d X.L)))
    (π : Fin 8 → ℕ) (k : ℕ) : sProp 𝕄 :=
  iprop(Arr d X.L X.m13 ol ∗ bigSep Finset.univ fun s : Fin 8 => if s.val < k then St d X ix T q ft π s s.val else Idle d X q ft π s)

include S in
theorem prime_body {v34 : BitVec 32} (hv : v34 = BitVec.ofNat 32 (nGrp ix (widN X.L))) (k : Fin k0_t6_loop.trips) (acc : BitVec 32) :
    iprop(inv κ (gBody (F := F) d X π) ∗ primeInv d X ix ol T q ft π k.val)
      ⊢ twp d X.L (X.primeBody (F := F) v34 k acc) (fun _ => primeInv d X ix ol T q ft π (k.val + 1)) := by
  subst hv
  have hk : k.val < 8 := lt_of_lt_of_eq k.isLt t6_trips
  have hoff : k0_off39 k 0 = k.val := ivoff (by omega)
  unfold primeInv Ctx.primeBody k0_t6_body
  iintro ⟨#Hinv, H13, H⟩
  have hu := bigSep_univ_update (M := 𝕄) (Φ := fun s : Fin 8 => if s.val < k.val then St d X ix T q ft π s s.val else Idle d X q ft π s)
    (Ψ := fun s : Fin 8 => if s.val < k.val + 1 then St d X ix T q ft π s s.val else Idle d X q ft π s) ⟨k.val, hk⟩ (fun s hs => by
      have hne : s.val ≠ k.val := fun e => hs (Fin.ext e)
      by_cases h : s.val < k.val
      · rw [if_pos h, if_pos (by omega)]
      · rw [if_neg h, if_neg (by omega)])
  simp only [if_neg (Nat.lt_irrefl _), if_pos (Nat.lt_succ_self _)] at hu
  ihave H := hu $$ H
  icases H with ⟨Hs, Hback⟩
  unfold St
  rcases Nat.lt_or_ge k.val (nGrp ix (widN X.L)) with hc | hc
  · have e := (cond2_iff X k).mpr hc
    simp only [dif_pos e]
    iapply (wp_sload d X.L (M := X.m13) (h := ol) (inb := k0_off39_inb k) (h1 := numel1_S1) (hp := rfl)) $$ H13
    iintro H13
    rw [hoff]
    iapply (wp_chk d X.L (chk38_ok d X S k))
    unfold Idle
    icases Hs with ⟨⟨%h, Hs⟩, Ht, Hv⟩
    iapply (wp_fire d X π κ ⟨k.val, hk⟩ h (leaf 3 q ⟨k.val, hk⟩) ft T S.hT (blkCol (widN X.L) (gl ix (widN X.L) k.val))
      (off := k0_off41 X.L (ol k.val)) (by rw [← col_eq X (gl_spec hc).1, ← ol_gl d X S hc]; rfl)
      (off' := k0_off40 k) (ho40 k hk) (sm' := gs X ⟨k.val, hk⟩) (semAt_eq X (ho42 k hk)) (N := NB X) (hN := rfl) (hN0 := NB_pos X)) $$ [Hs Ht Hv]
    · isplitl []; · iexact Hinv
      isplitl [Hs]; · iexact Hs
      isplitl [Ht]; · iexact Ht
      iexact Hv
    iintro Hf
    iapply (wp_done d X.L)
    isplitl [H13]; · iexact H13
    iapply Hback
    ihave Hf := (Entails.of_eq (if_pos hc).symm) $$ Hf
    iexact Hf
  · have e : ¬ k0_cond2 (BitVec.ofNat 32 (nGrp ix (widN X.L))) k = 1#1 := fun h => absurd ((cond2_iff X k).mp h) (by omega)
    simp only [dif_neg e]
    iapply (wp_done d X.L)
    isplitl [H13]; · iexact H13
    iapply Hback
    ihave Hs := (Entails.of_eq (if_neg (Nat.not_lt.mpr hc)).symm) $$ Hs
    iexact Hs

end Prime

end Cert.Proof.Gather
-- ==== Proof.Row.lean ====
/-
  The row stage and the output rows: a member's row is stored in two halves and sent to its place in the output.
-/
module

public import proofs.«01_k».proof.Proof.Fire

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (X : Ctx)

open Transfers (Batch wp_dmaBatch)
open Idealize.ShloMosaic.ValueIdx (ix1 ix2 ix3 reshapeEquiv_ix2_1ab)

/-- A row of the stage, at the offset `off`. -/
abbrev rowAt (off : Fin 2 → ℕ) (inb : ∀ a, off a + S1x32.size a ≤ S16x32.size a) : Memref sig .scVector .vmem S32 .f32 :=
  (X.m16.slice (Rect.unit (s := S16x32) off S1x32.size inb) (fun _ => rfl)).squeeze S32 squeezes_S1x32_S32

theorem row_inb (m : Fin 16) : ∀ a, (![m.val, 0] : Fin 2 → ℕ) a + S1x32.size a ≤ S16x32.size a := by
  intro a
  have := m.isLt
  fin_cases a
  · show m.val + 1 ≤ 16
    omega
  · show 0 + 32 ≤ 32
    omega

/-- Row `m` of the stage. -/
abbrev rowM (m : Fin 16) := rowAt X ![m.val, 0] (row_inb m)

/-- The `j`-th element of a list of 32. -/
abbrev i32 (j : Fin 32) : S32.Idx := ix1 j

theorem i32_eta (i : S32.Idx) : i32 (i 0) = i := by
  funext a
  fin_cases a
  rfl

theorem row_flat (j : Fin 32) (hn : S32.numel = S1x32.numel) : Shape.reshapeEquiv hn (i32 j) = ix2 (⟨0, Nat.one_pos⟩ : Fin 1) j :=
  Shape.reshapeEquiv_eq_of_rowMajor hn (by
    rw [Shape.rowMajor_val_two, Shape.rowMajor_val_one]
    show 0 * 32 + j.val = j.val
    omega)

theorem row_idx (m : Fin 16) (j : Fin 32) {hn : S32.numel = S1x32.numel} :
    (Rect.unit (s := S16x32) ![m.val, 0] S1x32.size (row_inb m)).emb (Shape.reshapeEquiv hn (i32 j)) = ix2 m j := by
  rw [row_flat]
  funext a
  apply Fin.ext
  rw [Rect.emb_apply]
  fin_cases a
  · show m.val + 1 * 0 = m.val
    omega
  · show 0 + 1 * j.val = j.val
    omega

theorem row_emb (m : Fin 16) (j : Fin 32) : (rowM X m).view.emb (i32 j) = X.m16.view.emb (ix2 m j) :=
  congrArg X.m16.view.emb (row_idx m j)

theorem mem_row (m : Fin 16) (p : X.m16.view.ty.Idx) : p ∈ (rowM X m).view.set ↔ ∃ j : Fin 32, X.m16.view.emb (ix2 m j) = p := by
  constructor
  · intro h
    obtain ⟨i, -, hi⟩ := Finset.mem_map.mp h
    refine ⟨i 0, ?_⟩
    refine (row_emb X m (i 0)).symm.trans ?_
    rw [← hi]
    exact congrArg _ (i32_eta i)
  · rintro ⟨j, rfl⟩
    rw [← row_emb]
    exact Finset.mem_map.mpr ⟨_, Finset.mem_univ _, rfl⟩

theorem row_sub (m : Fin 16) : (rowM X m).view.set ⊆ X.m16.view.set := by
  intro p h
  obtain ⟨j, rfl⟩ := (mem_row X m p).mp h
  exact Finset.mem_map.mpr ⟨_, Finset.mem_univ _, rfl⟩

theorem row_disj {s t : Fin 16} (h : s ≠ t) : Disjoint (rowM X s).view.set (rowM X t).view.set := by
  rw [Finset.disjoint_left]
  intro p h1 h2
  obtain ⟨j, rfl⟩ := (mem_row X s p).mp h1
  obtain ⟨j', e⟩ := (mem_row X t _).mp h2
  have := congrFun (X.m16.view.emb.injective e) 0
  exact h this.symm

theorem row_union : X.m16.view.set = Finset.univ.biUnion fun s : Fin 16 => (rowM X s).view.set := by
  ext p
  rw [Finset.mem_biUnion]
  constructor
  · intro h
    obtain ⟨i, -, hi⟩ := Finset.mem_map.mp h
    refine ⟨i 0, Finset.mem_univ _, (mem_row X _ p).mpr ⟨i 1, ?_⟩⟩
    rw [← hi]
    congr 1
    funext a
    fin_cases a <;> rfl
  · rintro ⟨s, -, h⟩
    exact row_sub X s h

/-- Row `m` of the stage, held outright, reading `h`. -/
def Row (m : Fin 16) (h : ℕ → Elt F .f32) : sProp 𝕄 :=
  iprop(∃ f, (X.m16.view.loc (thr d X.L) ↦[(rowM X m).view.set]{fullShare} f) ∗ ⌜∀ j : Fin 32, X.m16.view.read (Elt F) f (ix2 m j) = h j.val⌝)

instance Row_storable (m : Fin 16) (h : ℕ → Elt F .f32) : Storable (upEmb : UEmb _ 𝕄) (Row d X m h) := by
  unfold Row
  infer_instance

theorem half_inb {m : Fin 16} {c : ℕ} (hc : c ≤ 16) : ∀ a, (![m.val, c] : Fin 2 → ℕ) a + S1x16.size a ≤ S16x32.size a := by
  intro a
  have := m.isLt
  fin_cases a
  · show m.val + 1 ≤ 16
    omega
  · show c + 16 ≤ 32
    omega

theorem half_emb {m : Fin 16} {c : ℕ} {inb : ∀ a, (![m.val, c] : Fin 2 → ℕ) a + S1x16.size a ≤ S16x32.size a}
    (x : (Rect.unit (s := S16x32) ![m.val, c] S1x16.size inb).shape.Idx) :
    ((Rect.unit (s := S16x32) ![m.val, c] S1x16.size inb).emb x 0) = m
      ∧ ((Rect.unit (s := S16x32) ![m.val, c] S1x16.size inb).emb x 1).val = c + (x 1).val := by
  constructor
  · apply Fin.ext
    rw [Rect.emb_apply]
    have : (x 0).val < 1 := (x 0).isLt
    show m.val + 1 * (x 0).val = m.val
    omega
  · rw [Rect.emb_apply]
    show c + 1 * (x 1).val = _
    omega

theorem half_sub {m : Fin 16} {c : ℕ} {inb : ∀ a, (![m.val, c] : Fin 2 → ℕ) a + S1x16.size a ≤ S16x32.size a} :
    (X.m16.access (Rect.unit (s := S16x32) ![m.val, c] S1x16.size inb)).set ⊆ (rowM X m).view.set := by
  intro p hp
  obtain ⟨x, -, hx⟩ := Finset.mem_map.mp hp
  refine (mem_row X m p).mpr ⟨(Rect.unit (s := S16x32) ![m.val, c] S1x16.size inb).emb x 1, ?_⟩
  rw [← hx]
  show X.m16.view.emb _ = X.m16.view.emb ((Rect.unit (s := S16x32) ![m.val, c] S1x16.size inb).emb x)
  congr 1
  have h0 := (half_emb x).1
  funext a
  fin_cases a
  · exact h0.symm
  · rfl

/-- A load of half a row. -/
theorem wp_rload {m : Fin 16} {h : ℕ → Elt F .f32} {c : ℕ} {off : Fin 2 → ℕ} (ho : off = ![m.val, c])
    {inb : ∀ a, off a + S1x16.size a ≤ S16x32.size a} {hl : X.m16.view.LoadsAt (Rect.unit (s := S16x32) off S1x16.size inb).toLoadRect} {α : Type}
    {k : ((Rect.unit (s := S16x32) off S1x16.size inb).shape.Idx → Elt F .f32) → Prog (TpuEff nD τ sig (Elt F) Λ₀ (.scVector (cV X.L) (jV X.L))) α} {Q : α → sProp 𝕄} :
    Row d X m h ⊢ iprop((∀ v, Row d X m h -∗ twp d X.L (k v) Q)
      -∗ twp d X.L (.op (.load X.m16 (Rect.unit (s := S16x32) off S1x16.size inb).toLoadRect hl) k) Q) := by
  subst ho
  unfold Row
  iintro ⟨%f, H, %hf⟩ Hk
  iapply (wp_load_rect (defs := defs₀ (F := F)) 𝒱₀ (thr d X.L) none Set.univ (Q := Q) (m := X.m16) (r := Rect.unit (s := S16x32) ![m.val, c] S1x16.size inb) (hl := hl) (k := k)
    (q := fullShare) (f := f) (S := (rowM X m).view.set) (half_sub X)) $$ H
  iintro H
  iapply Hk
  iexists f
  isplitl [H]; · iexact H
  ipureintro; exact hf

/-- A store of half a row. -/
theorem wp_rstore {m : Fin 16} {h : ℕ → Elt F .f32} {c : ℕ} {off : Fin 2 → ℕ} (ho : off = ![m.val, c])
    {inb : ∀ a, off a + S1x16.size a ≤ S16x32.size a} {w : (Rect.unit (s := S16x32) off S1x16.size inb).shape.Idx → Elt F .f32}
    (g : ℕ → Elt F .f32) (hg : ∀ x, w x = g (x 1).val)
    {hx : (X.m16.access (Rect.unit (s := S16x32) off S1x16.size inb)).Stores Finset.univ}
    {hm : (Finset.univ : Finset (Rect.unit (s := S16x32) off S1x16.size inb).shape.Idx) = Finset.univ ∨ ∀ a, (Rect.unit (s := S16x32) off S1x16.size inb).stride a = 1} {α : Type}
    {k : PUnit → Prog (TpuEff nD τ sig (Elt F) Λ₀ (.scVector (cV X.L) (jV X.L))) α} {Q : α → sProp 𝕄} :
    Row d X m h ⊢ iprop((Row d X m (fun j => if c ≤ j ∧ j < c + 16 then g (j - c) else h j) -∗ twp d X.L (k ⟨⟩) Q)
      -∗ twp d X.L (.op (.store X.m16 (Rect.unit (s := S16x32) off S1x16.size inb) w Finset.univ hx hm) k) Q) := by
  subst ho
  unfold Row
  iintro ⟨%f, H, %hf⟩ Hk
  iapply (wp_store (defs := defs₀ (F := F)) 𝒱₀ (thr d X.L) none Set.univ (Q := Q) (m := X.m16) (r := Rect.unit (s := S16x32) ![m.val, c] S1x16.size inb) (w := w) (Mk := Finset.univ)
    (hx := hx) (hm := hm) (k := k) (S := (rowM X m).view.set) (f := f)
    (fun i hi => half_sub X ((X.m16.access _).setOn_subset_set _ hi))) $$ H
  iintro H
  iapply Hk
  iexists _
  isplitl [H]; · iexact H
  ipureintro; intro j
  by_cases hj : c ≤ j.val ∧ j.val < c + 16
  · refine Eq.trans ?_ (if_pos hj).symm
    have hx1 : ix2 m j = (Rect.unit (s := S16x32) ![m.val, c] S1x16.size inb).emb (ix2 (0 : Fin 1) (⟨j.val - c, by omega⟩ : Fin 16)) := by
      have h0 := half_emb (inb := inb) (ix2 (0 : Fin 1) (⟨j.val - c, by omega⟩ : Fin 16))
      funext a
      fin_cases a
      · exact h0.1.symm
      · refine Fin.ext ?_
        refine Eq.trans ?_ h0.2.symm
        show j.val = c + (j.val - c)
        omega
    rw [hx1]
    refine (View.read_slice_write_emb (v := X.m16.view) (Val := Elt F) _ f _ (Finset.mem_univ _)).trans ?_
    exact hg _
  · refine Eq.trans ?_ ((hf j).trans (if_neg hj).symm)
    refine View.read_slice_write_of_not_mem (v := X.m16.view) (Val := Elt F) _ f _ _ ?_
    intro hm'
    obtain ⟨x, -, hx'⟩ := Finset.mem_map.mp hm'
    have h1 := (half_emb x).2
    rw [hx'] at h1
    have h2 : (x 1).val < 16 := (x 1).isLt
    have h3 : j.val = c + (x 1).val := h1
    omega

/-! ## The output's rows -/

/-- An output row, at the offset `off`. -/
abbrev outAt (off : Fin 1 → ℕ) (inb : ∀ a, off a + S32.size a ≤ S524288.size a) : Memref sig .scVector .hbm S32 .f32 :=
  X.m6.slice (Rect.unit (s := S524288) off S32.size inb) (fun _ => rfl)

theorem out_inb (b : Fin 16384) : ∀ a, (![b.val * 32] : Fin 1 → ℕ) a + S32.size a ≤ S524288.size a := by
  intro a
  obtain rfl := Fin.eq_zero a
  have := b.isLt
  show b.val * 32 + 32 ≤ 524288
  omega

/-- Output row `b`. -/
abbrev outM (b : Fin 16384) := outAt X ![b.val * 32] (out_inb b)

/-- Element `j` of output row `b`. -/
def oix (b : Fin 16384) (j : Fin 32) : S524288.Idx := ix1 (⟨b.val * 32 + j.val, by
  have h1 := b.isLt
  have h2 := j.isLt
  omega⟩ : Fin 524288)

theorem out_emb (b : Fin 16384) (j : Fin 32) : (outM X b).view.emb (i32 j) = X.m6.view.emb (oix b j) := by
  show X.m6.view.emb ((Rect.unit (s := S524288) ![b.val * 32] S32.size (out_inb b)).emb (i32 j)) = _
  congr 1
  funext a
  fin_cases a
  refine Fin.ext ?_
  rw [Rect.emb_apply]
  show b.val * 32 + 1 * j.val = b.val * 32 + j.val
  omega

/-- The output's row `b`, held outright, at the contents `f`. -/
def ORow (b : Fin 16384) (f : Buf (Elt F) (X.m6.view.loc (thr d X.L))) : sProp 𝕄 :=
  X.m6.view.loc (thr d X.L) ↦[(outM X b).view.set]{fullShare} f

instance ORow_storable (b : Fin 16384) (f : Buf (Elt F) (X.m6.view.loc (thr d X.L))) : Storable (upEmb : UEmb _ 𝕄) (ORow d X b f) := by
  unfold ORow
  infer_instance

theorem raw_of_read {sp : Space} {s : Shape} {e : EltTy} (M : Memref sig .scVector sp s e) (f g : Buf (Elt F) (M.view.loc (thr d X.L))) (i : s.Idx)
    (h : M.view.read (Elt F) f i = M.view.read (Elt F) g i) : f (M.view.emb i) = g (M.view.emb i) := by
  rw [View.read_apply, View.read_apply] at h
  exact (cast_bijective _).1 h

theorem row_read (m : Fin 16) (f : Buf (Elt F) (X.m16.view.loc (thr d X.L))) (j : Fin 32) :
    (rowM X m).view.read (Elt F) f (i32 j) = X.m16.view.read (Elt F) f (ix2 m j) := by
  rw [View.read_apply, View.read_apply, row_emb]

theorem out_read (b : Fin 16384) (f : Buf (Elt F) (X.m6.view.loc (thr d X.L))) (j : Fin 32) :
    (outM X b).view.read (Elt F) f (i32 j) = X.m6.view.read (Elt F) f (oix b j) := by
  rw [View.read_apply, View.read_apply, out_emb]

/-- A member's row sent to the output, as the next transfer of a batch on the semaphore of the writes. -/
theorem wp_out {n N j u : ℕ} {D : Fin n → sProp 𝕄} {sm sm' : SemLoc sig} (hsm : sm = sm') (m : Fin 16) (h : ℕ → Elt F .f32) (b : Fin 16384) (f₀ fin : Buf (Elt F) (X.m6.view.loc (thr d X.L)))
    {off : Fin 2 → ℕ} {inb : ∀ a, off a + S1x32.size a ≤ S16x32.size a} (ho : off = ![m.val, 0])
    {off' : Fin 1 → ℕ} {inb' : ∀ a, off' a + S32.size a ≤ S524288.size a} (ho' : off' = ![b.val * 32])
    (hN : (outAt X off' inb').view.amount sm = N) (hj : j < n) (hu : u ≤ j * N)
    (hfin : ∀ c : Fin 32, X.m6.view.read (Elt F) fin (oix b c) = h c.val)
    (hD : iprop(Row d X m h ∗ ORow d X b fin) ⊢ D ⟨j, hj⟩) {α : Type}
    {hsrc : (rowAt X off inb).view.WordExact}
    {hdst : (outAt X off' inb').view.WordExact} {hsem : DmaTarget.Typed (nD := nD) (p := Proc.scVector (cV X.L) (jV X.L)) .vmem sm (.here (outAt X off' inb'))}
    {k : PUnit → Prog (TpuEff nD τ sig (Elt F) Λ₀ (.scVector (cV X.L) (jV X.L))) α} {Q : α → sProp 𝕄} :
    iprop(Row d X m h ∗ ORow d X b f₀ ∗ Batch EC (thr d X.L) sm' (default : HIx 2) N D j u)
      ⊢ iprop((Batch EC (thr d X.L) sm' (default : HIx 2) N D (j + 1) u -∗ twp d X.L (k ⟨⟩) Q)
        -∗ twp d X.L (.op (.enqueueDma (p := .scVector (cV X.L) (jV X.L)) (rowAt X off inb) (.here (outAt X off' inb')) sm hsrc hdst hsem) k) Q) := by
  subst hsm ho ho'
  unfold Row
  iintro ⟨⟨%f, Hr, %hf⟩, Ho, HB⟩ Hk
  iapply (wp_dmaBatch EC 𝒱₀ (thr d X.L) none (src := rowM X m) (via := .same) (dst := outM X b) (sm := sm) (q := fullShare) (fs := f)
    (Sd := (outM X b).view.set) (fd := f₀) (D := D) (j := j) (u := u) (default : HIx 2) N hN (Finset.Subset.refl _) hj hu (BIBase.Entails.trans ?_ hD)) $$ [Hr Ho HB]
  · iintro ⟨Ho, Hr⟩
    isplitl [Hr]
    · unfold Row
      iexists f
      isplitl [Hr]; · iexact Hr
      ipureintro; exact hf
    have hc : ((outM X b).view.loc (thr d X.L) ↦[(outM X b).view.set]{fullShare} ((outM X b).view.write (Elt F) f₀ (ReadAs.same.apply ((rowM X m).view.read (Elt F) f)) Finset.univ) : sProp 𝕄)
        = ORow d X b fin := by
      refine pointsTo_congr fun p hp => ?_
      obtain ⟨i, -, hi⟩ := Finset.mem_map.mp hp
      rw [← hi]
      refine raw_of_read d X (outM X b) _ fin i ?_
      obtain ⟨c, rfl⟩ : ∃ c, i = i32 c := ⟨i 0, (i32_eta i).symm⟩
      rw [View.read_write_univ]
      exact (row_read d X m f c).trans ((hf c).trans ((hfin c).symm.trans (out_read d X b fin c).symm))
    iapply (Entails.of_eq hc)
    iexact Ho
  · isplitl [Hr]; · iexact Hr
    isplitl [Ho]; · unfold ORow; iexact Ho
    iexact HB
  iexact Hk

end Cert.Proof.Gather
-- ==== Proof.Member.lean ====
/-
  Serving one block: its members' rows are read out of the block buffer and sent to the output, one transfer each,
  and then as many are waited for.
-/
module

public import proofs.«01_k».proof.Proof.Row
public import Idealize.ShloMosaic.Lib.ValueLayout

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (X : Ctx)

open Transfers (Batch)
open Idealize.ShloMosaic.ValueIdx (ix1 ix2 ix3 shapeCast_a_1a_apply)

/-- The body of the loop: send one member's row. -/
def memBody (v34 : BitVec 32) (hw : k0_chk39 v34) (g : Fin (k0_t7_loop v34).trips) (v85 : BitVec 32) (v95 v97 : Elt F .i32) (hw' : k0_chk41 v97) :
    Fin (k0_t8_loop v97).trips → BitVec 32 → Ctx.TProg X F (BitVec 32) :=
  k0_t8_body (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 X.wid Ctx.lanes v34 hw 0#32 1#32 g v85 v95 v97 hw'

/-- The body of the loop: wait for one row's transfer. -/
def drainBody (v34 : BitVec 32) (hw : k0_chk39 v34) (g : Fin (k0_t7_loop v34).trips) (v97 : Elt F .i32) (hw' : k0_chk41 v97) :
    Fin (k0_t10_loop v97).trips → BitVec 32 → Ctx.TProg X F (BitVec 32) :=
  k0_t10_body (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 X.wid Ctx.lanes v34 hw 0#32 1#32 g v97 hw'

/-- The semaphore of the row transfers. -/
abbrev wsm : SemLoc sig := .dma X.wsem.sem
/-- What a row's transfer credits. -/
abbrev NW : ℕ := (outM X 0).view.dmaCredit

theorem NW_pos : 0 < NW X := View.dmaCredit_pos _ (by decide)

section Pick

variable (ix : ℕ → ℕ) (w : ℕ)

/-- The member of block `l` of rank `m`. -/
def mb (l m : ℕ) : Fin 16384 := by
  classical exact if h : ∃ b, Own ix w b ∧ lgOf ix b = l ∧ rk ix w b = m then ⟨h.choose, h.choose_spec.1.1⟩ else 0

variable {ix w}

theorem mb_spec {l m : ℕ} (h : m < cg ix w l) : Own ix w (mb ix w l m).val ∧ lgOf ix (mb ix w l m).val = l ∧ rk ix w (mb ix w l m).val = m := by
  classical
  have h' := exists_member h
  unfold mb
  rw [dif_pos h']
  exact h'.choose_spec

theorem mb_self {b : Fin 16384} (h : Own ix w b.val) : mb ix w (lgOf ix b.val) (rk ix w b.val) = b := by
  obtain ⟨h1, h2, h3⟩ := mb_spec (rk_lt h)
  exact Fin.ext (rk_inj h1 h h2 h3)

variable (ix w)

/-- The positions still to be served when `m` members of the `o`-th block have been. -/
def rem (o m : ℕ) : Finset (Fin 16384) :=
  Finset.univ.filter fun b => Own ix w b.val ∧ (o < go ix w b.val ∨ (go ix w b.val = o ∧ m ≤ rk ix w b.val))

/-- The positions served when `o` blocks have been. -/
def don (o : ℕ) : Finset (Fin 16384) := Finset.univ.filter fun b => Own ix w b.val ∧ go ix w b.val < o

variable {ix w}

theorem mem_rem {o m : ℕ} {b : Fin 16384} : b ∈ rem ix w o m ↔ Own ix w b.val ∧ (o < go ix w b.val ∨ (go ix w b.val = o ∧ m ≤ rk ix w b.val)) := by
  unfold rem
  simp only [Finset.mem_filter, Finset.mem_univ, true_and]

theorem mem_don {o : ℕ} {b : Fin 16384} : b ∈ don ix w o ↔ Own ix w b.val ∧ go ix w b.val < o := by
  unfold don
  simp only [Finset.mem_filter, Finset.mem_univ, true_and]

theorem go_mb {o m : ℕ} (ho : o < nGrp ix w) (hm : m < cg ix w (gl ix w o)) : go ix w (mb ix w (gl ix w o) m).val = o := by
  obtain ⟨-, h2, -⟩ := mb_spec hm
  unfold go
  rw [h2]
  exact (gl_spec ho).2.2

theorem gl_go {b : ℕ} (hf : Fits ix) (h : Own ix w b) : gl ix w (go ix w b) = lgOf ix b := by
  obtain ⟨-, h2, h3⟩ := gl_spec (go_lt hf h)
  exact ((go_eq_iff h h2).mp h3.symm).symm

theorem mb_mem {o m : ℕ} (ho : o < nGrp ix w) (hm : m < cg ix w (gl ix w o)) : mb ix w (gl ix w o) m ∈ rem ix w o m :=
  mem_rem.mpr ⟨(mb_spec hm).1, Or.inr ⟨go_mb ho hm, (mb_spec hm).2.2.ge⟩⟩

theorem rem_erase {o m : ℕ} (hf : Fits ix) (ho : o < nGrp ix w) (hm : m < cg ix w (gl ix w o)) :
    (rem ix w o m).erase (mb ix w (gl ix w o) m) = rem ix w o (m + 1) := by
  obtain ⟨h1, h2, h3⟩ := mb_spec hm
  ext b
  rw [Finset.mem_erase, mem_rem, mem_rem]
  constructor
  · rintro ⟨hne, hb, h | ⟨h, h'⟩⟩
    · exact ⟨hb, Or.inl h⟩
    · refine ⟨hb, Or.inr ⟨h, ?_⟩⟩
      rcases Nat.lt_or_ge m (rk ix w b.val) with h4 | h4
      · exact h4
      · refine absurd (Fin.ext (rk_inj hb h1 ?_ ?_)) hne
        · rw [h2, ← gl_go hf hb, h]
        · omega
  · rintro ⟨hb, h | ⟨h, h'⟩⟩
    · refine ⟨?_, hb, Or.inl h⟩
      rintro rfl
      rw [go_mb ho hm] at h
      omega
    · refine ⟨?_, hb, Or.inr ⟨h, by omega⟩⟩
      rintro rfl
      omega

theorem rem_next {o : ℕ} (hf : Fits ix) (ho : o < nGrp ix w) : rem ix w o (cg ix w (gl ix w o)) = rem ix w (o + 1) 0 := by
  ext b
  rw [mem_rem, mem_rem]
  constructor
  · rintro ⟨hb, h | ⟨h, h'⟩⟩
    · refine ⟨hb, ?_⟩
      omega
    · have := rk_lt hb
      rw [← gl_go hf hb, h] at this
      omega
  · rintro ⟨hb, h⟩
    exact ⟨hb, Or.inl (by omega)⟩

/-- The members of a block, as positions. -/
def mbs (ix : ℕ → ℕ) (w l : ℕ) : Fin (cg ix w l) ↪ Fin 16384 where
  toFun m := mb ix w l m.val
  inj' := by
    intro a b h
    have h1 := (mb_spec a.isLt).2.2
    have h2 := (mb_spec b.isLt).2.2
    have h' : mb ix w l a.val = mb ix w l b.val := h
    rw [h'] at h1
    exact Fin.ext (h1.symm.trans h2)

theorem don_next {o : ℕ} (hf : Fits ix) (ho : o < nGrp ix w) : don ix w (o + 1) = don ix w o ∪ Finset.univ.map (mbs ix w (gl ix w o)) := by
  ext b
  rw [Finset.mem_union, mem_don, mem_don, Finset.mem_map]
  constructor
  · rintro ⟨hb, h⟩
    rcases Nat.lt_or_ge (go ix w b.val) o with h' | h'
    · exact Or.inl ⟨hb, h'⟩
    · have he : go ix w b.val = o := by omega
      refine Or.inr ⟨⟨rk ix w b.val, ?_⟩, Finset.mem_univ _, ?_⟩
      · rw [← he, gl_go hf hb]
        exact rk_lt hb
      · show mb ix w (gl ix w o) (rk ix w b.val) = b
        rw [← he, gl_go hf hb]
        exact mb_self hb
  · rintro (⟨hb, h⟩ | ⟨m, -, rfl⟩)
    · exact ⟨hb, by omega⟩
    · refine ⟨(mb_spec m.isLt).1, ?_⟩
      show go ix w (mb ix w (gl ix w o) m.val).val < o + 1
      rw [go_mb ho m.isLt]
      omega

theorem don_disj {o : ℕ} (ho : o < nGrp ix w) : Disjoint (don ix w o) (Finset.univ.map (mbs ix w (gl ix w o))) := by
  rw [Finset.disjoint_left]
  rintro b hb hb'
  obtain ⟨m, -, rfl⟩ := Finset.mem_map.mp hb'
  have h := (mem_don.mp hb).2
  have h' : go ix w (mb ix w (gl ix w o) m.val).val < o := h
  rw [go_mb ho m.isLt] at h'
  omega

end Pick

/-! ## A member -/

section Mem

variable {ix : ℕ → ℕ} {ol hh sr sb : ℕ → Elt F .i32} {T : ℕ → ℕ → Elt F .f32} {ft : Buf (Elt F) (X.m4.view.loc (thr d X.L))}
  (S : Stage d X ix ol hh sr sb T ft) (π : Fin 8 → ℕ) (κ : ℕ) (f₀ fin : Buf (Elt F) (X.m6.view.loc (thr d X.L)))

/-- The rows of the stage not yet sent. -/
def rowsFrom (m : ℕ) : Finset (Fin 16) := Finset.univ.filter fun r => m ≤ r.val

/-- What a member's transfer delivers: its output row, served, and its row of the stage back. -/
def Del (ix : ℕ → ℕ) (fin : Buf (Elt F) (X.m6.view.loc (thr d X.L))) (l : ℕ) (m : Fin (cg ix (widN X.L) l)) : sProp 𝕄 :=
  iprop(ORow d X (mb ix (widN X.L) l m.val) fin ∗ ∃ h, Row d X (Fin.ofNat 16 m.val) h)

instance Del_storable (ix : ℕ → ℕ) (fin : Buf (Elt F) (X.m6.view.loc (thr d X.L))) (l : ℕ) (m : Fin (cg ix (widN X.L) l)) :
    Storable (upEmb : UEmb _ 𝕄) (Del d X ix fin l m) := by
  unfold Del
  infer_instance

/-- After `m` members of the `o`-th block. -/
def memInv (ix : ℕ → ℕ) (sr sb : ℕ → Elt F .i32) (T : ℕ → ℕ → Elt F .f32) (π : Fin 8 → ℕ) (f₀ fin : Buf (Elt F) (X.m6.view.loc (thr d X.L))) (s : Fin 8) (o m : ℕ) : sProp 𝕄 :=
  iprop(Arr d X.L X.m11 sr ∗ Arr d X.L X.m12 sb ∗ Slot d X π s (colsFrom T (blkCol (widN X.L) (gl ix (widN X.L) o)))
    ∗ bigSep (rem ix (widN X.L) o m) (fun b => ORow d X b f₀) ∗ bigSep (rowsFrom m) (fun r => iprop(∃ h, Row d X r h))
    ∗ Batch EC (thr d X.L) (wsm X) (default : HIx 2) (NW X) (Del d X ix fin (gl ix (widN X.L) o)) m 0)

theorem rem16 : ∀ m : Fin 16, (Scalar.remsi (BitVec.ofNat 32 m.val) 16#32).toNat = m.val := by decide +kernel

theorem rem16' {m : ℕ} (h : m < 16) : (Scalar.remsi (Scf.iv 0#32 1#32 m) 16#32).toNat = m := by
  rw [iv_eq]
  exact rem16 ⟨m, h⟩

include S in
theorem cg_le (l : ℕ) : cg ix (widN X.L) l ≤ 16 := S.fits.blk _ (widN_lt X.L) l

theorem t8' {n : ℕ} (h : n ≤ 16) : (k0_t8_loop (BitVec.ofNat 32 n)).trips = n := t8_trips ⟨n, by omega⟩

theorem lt4096 {n : ℕ} (h : n < 4096) {a : Fin 1} : n < S4096.size a := by
  obtain rfl := Fin.eq_zero a
  exact h

theorem rows_mem {m : ℕ} (h : m < 16) : (⟨m, h⟩ : Fin 16) ∈ rowsFrom m := Finset.mem_filter.mpr ⟨Finset.mem_univ _, le_rfl⟩

theorem rows_erase {m : ℕ} (h : m < 16) : (rowsFrom m).erase ⟨m, h⟩ = rowsFrom (m + 1) := by
  ext r
  unfold rowsFrom
  rw [Finset.mem_erase, Finset.mem_filter, Finset.mem_filter]
  constructor
  · rintro ⟨h1, -, h2⟩
    have : r.val ≠ m := fun e => h1 (Fin.ext e)
    exact ⟨Finset.mem_univ _, by omega⟩
  · rintro ⟨-, h2⟩
    exact ⟨fun e => by rw [e] at h2; exact absurd h2 (Nat.not_succ_le_self _), Finset.mem_univ _, by omega⟩

theorem ho47 {v : BitVec 32} {k : Fin (k0_t8_loop v).trips} (hk : k.val < 16) : k0_off47 v k = ![(⟨k.val, hk⟩ : Fin 16).val, 0] :=
  congrArg (fun t => (![t, 0] : Fin 2 → ℕ)) (rem16' hk)

theorem ho48 {v : BitVec 32} {k : Fin (k0_t8_loop v).trips} (hk : k.val < 16) : k0_off48 v k = ![(⟨k.val, hk⟩ : Fin 16).val, 16] :=
  congrArg (fun t => (![t, 16] : Fin 2 → ℕ)) (rem16' hk)

theorem ho51 {v : BitVec 32} {k : Fin (k0_t8_loop v).trips} (hk : k.val < 16) : k0_off51 v k = ![(⟨k.val, hk⟩ : Fin 16).val, 0] :=
  congrArg (fun t => (![t, 0] : Fin 2 → ℕ)) (rem16' hk)

theorem ho50 (b : Fin 16384) : k0_off50 (BitVec.ofNat 32 b.val) = ![b.val * 32] := by
  refine congrArg (fun t => (![t] : Fin 1 → ℕ)) ?_
  have hb := b.isLt
  show (BitVec.ofNat 32 b.val * 32#32).toNat = _
  rw [← BitVec.ofNat_mul, toNat_of (by omega)]

theorem chk46_ok (b : Fin 16384) : k0_chk46 (BitVec.ofNat 32 b.val) := by
  intro a
  rw [ho50]
  exact out_inb b a

theorem row_val {α : Type} (g h : ℕ → α) (c : Fin 32) :
    g c.val = if 16 ≤ c.val ∧ c.val < 16 + 16 then g (c.val - 16 + 16) else if 0 ≤ c.val ∧ c.val < 0 + 16 then g (c.val - 0) else h c.val := by
  have hc := c.isLt
  by_cases h1 : 16 ≤ c.val
  · rw [if_pos ⟨h1, by omega⟩, Nat.sub_add_cancel h1]
  · rw [if_neg (by omega), if_pos ⟨Nat.zero_le _, by omega⟩, Nat.sub_zero]

theorem shc (v : Vec F S16 .f32) (x : S1x16.Idx) : shapeCast S1x16 v shapeCasts_S16_S1x16 x = v (ix1 (x 1)) := by
  have e : x = ix2 (x 0) (x 1) := by
    funext a
    fin_cases a <;> rfl
  rw [e]
  exact shapeCast_a_1a_apply v _ _ _

include S in
theorem mem_body (hfin : ∀ (b : Fin 16384) (c : Fin 32), X.m6.view.read (Elt F) fin (oix b c) = T c.val (ix b.val))
    (v34 : BitVec 32) (hw : k0_chk39 v34) (g : Fin (k0_t7_loop v34).trips) (s : Fin 8) {o : ℕ} (ho : o < nGrp ix (widN X.L))
    (hw' : k0_chk41 (BitVec.ofNat 32 (cg ix (widN X.L) (gl ix (widN X.L) o))))
    (k : Fin (k0_t8_loop (BitVec.ofNat 32 (cg ix (widN X.L) (gl ix (widN X.L) o)))).trips) (acc : BitVec 32) :
    iprop(inv κ (gBody (F := F) d X π) ∗ memInv d X ix sr sb T π f₀ fin s o k.val)
      ⊢ twp d X.L (memBody (F := F) X v34 hw g (BitVec.ofNat 32 s.val) (BitVec.ofNat 32 (gl ix (widN X.L) o)) (BitVec.ofNat 32 (cg ix (widN X.L) (gl ix (widN X.L) o))) hw' k acc)
          (fun _ => memInv d X ix sr sb T π f₀ fin s o (k.val + 1)) := by
  have hk : k.val < cg ix (widN X.L) (gl ix (widN X.L) o) :=
    lt_of_lt_of_eq k.isLt (t8' (cg_le d X S _))
  have hk16 : k.val < 16 := hk.trans_le (cg_le d X S _)
  obtain ⟨hl, hne, -⟩ := gl_spec ho
  obtain ⟨hb, hbl, hbr⟩ := mb_spec hk
  have hix := ix_eq hb
  rw [hbl] at hix
  have hbrng := S.fits.range _ hb.1
  have e49 : ∀ x, k0_pay49 (F := F) (BitVec.ofNat 32 (gl ix (widN X.L) o)) (BitVec.ofNat 32 (cg ix (widN X.L) (gl ix (widN X.L) o))) k x
      = BitVec.ofNat 32 (gl ix (widN X.L) o * 16 + k.val) := by
    intro x
    show BitVec.ofNat 32 (gl ix (widN X.L) o) * 16#32 + Scf.iv 0#32 1#32 k.val = _
    rw [iv_eq, BitVec.ofNat_add, BitVec.ofNat_mul]
  have n49 : ∀ x, (k0_pay49 (F := F) (BitVec.ofNat 32 (gl ix (widN X.L) o)) (BitVec.ofNat 32 (cg ix (widN X.L) (gl ix (widN X.L) o))) k x).toNat
      = gl ix (widN X.L) o * 16 + k.val := fun x => by rw [e49, toNat_of (by omega)]
  have hsr := S.hsr _ hb
  have hsb := S.hsb _ hb
  rw [hbl, hbr] at hsr hsb
  have hmem := mb_mem ho hk
  have herase := rem_erase S.fits ho hk
  generalize hbd : mb ix (widN X.L) (gl ix (widN X.L) o) k.val = b at *
  have hck : k0_chk42 (k0_pay49 (F := F) (BitVec.ofNat 32 (gl ix (widN X.L) o)) (BitVec.ofNat 32 (cg ix (widN X.L) (gl ix (widN X.L) o))) k) := fun a x => by
    obtain rfl := Fin.eq_zero a
    exact (n49 x).trans_lt (lt4096 (by omega))
  have esr : (fun x => sr (k0_pay49 (F := F) (BitVec.ofNat 32 (gl ix (widN X.L) o)) (BitVec.ofNat 32 (cg ix (widN X.L) (gl ix (widN X.L) o))) k x).toNat : Vec F S16 .i32)
      = fun _ => BitVec.ofNat 32 (ix b.val) := by
    funext x
    rw [n49, hsr]
  have esb : (fun x => sb (k0_pay50 (F := F) (BitVec.ofNat 32 (gl ix (widN X.L) o)) (BitVec.ofNat 32 (cg ix (widN X.L) (gl ix (widN X.L) o))) k x).toNat : Vec F S16 .i32)
      = fun _ => BitVec.ofNat 32 b.val := by
    funext x
    refine Eq.trans (congrArg sb (n49 x)) hsb
  have n51 : ∀ x, (k0_pay51 (F := F) (fun x => sr (k0_pay49 (F := F) (BitVec.ofNat 32 (gl ix (widN X.L) o)) (BitVec.ofNat 32 (cg ix (widN X.L) (gl ix (widN X.L) o))) k x).toNat) x).toNat = ix b.val % 128 := fun x => by
    rw [esr]
    show (BitVec.ofNat 32 (ix b.val) &&& 127#32).toNat = _
    rw [BitVec.toNat_and, toNat_of (by omega)]
    exact Nat.and_two_pow_sub_one_eq_mod _ 7
  have e138 : extractAt ![0] (k0_pay53 (F := F) (fun x => sb (k0_pay50 (F := F) (BitVec.ofNat 32 (gl ix (widN X.L) o)) (BitVec.ofNat 32 (cg ix (widN X.L) (gl ix (widN X.L) o))) k x).toNat)) inpos_S1_p0 = BitVec.ofNat 32 b.val := by
    rw [esb]
    rfl
  have hck46 : k0_chk46 (extractAt ![0] (k0_pay53 (F := F) (fun x => sb (k0_pay50 (F := F) (BitVec.ofNat 32 (gl ix (widN X.L) o)) (BitVec.ofNat 32 (cg ix (widN X.L) (gl ix (widN X.L) o))) k x).toNat)) inpos_S1_p0) := by
    rw [e138]
    exact chk46_ok b
  have h0 : ∀ x : S16.Idx, (broadcast S16 (BitVec.ofNat 32 s.val) x : BitVec 32).toNat = s.val := fun x => toNat_of (by omega)
  have nl : ∀ x : S16.Idx, (Ctx.lanes x).toNat = (x 0).val := fun x => by
    have := lane_lt x
    rw [lanes_apply, toNat_of (by omega)]
  have nl' : ∀ x : S16.Idx, (k0_pay52 Ctx.lanes x).toNat = (x 0).val + 16 := fun x => by
    have := lane_lt x
    show (Ctx.lanes x + BitVec.ofNat 32 16).toNat = _
    rw [lanes_apply, ← BitVec.ofNat_add, toNat_of (by omega)]
  have hck44 : k0_chk44 Ctx.lanes (k0_pay51 (F := F) (fun x => sr (k0_pay49 (F := F) (BitVec.ofNat 32 (gl ix (widN X.L) o)) (BitVec.ofNat 32 (cg ix (widN X.L) (gl ix (widN X.L) o))) k x).toNat)) (broadcast S16 (BitVec.ofNat 32 s.val)) := by
    rintro a x
    have := lane_lt x
    fin_cases a
    · exact (h0 x).trans_lt s.isLt
    · exact (nl x).trans_lt (by show _ < 32; omega)
    · exact (n51 x).trans_lt (Nat.mod_lt _ (by omega))
  have hck45 : k0_chk45 (k0_pay51 (F := F) (fun x => sr (k0_pay49 (F := F) (BitVec.ofNat 32 (gl ix (widN X.L) o)) (BitVec.ofNat 32 (cg ix (widN X.L) (gl ix (widN X.L) o))) k x).toNat)) (broadcast S16 (BitVec.ofNat 32 s.val)) (k0_pay52 Ctx.lanes) := by
    rintro a x
    have := lane_lt x
    fin_cases a
    · exact (h0 x).trans_lt s.isLt
    · exact (nl' x).trans_lt (by show _ < 32; omega)
    · exact (n51 x).trans_lt (Nat.mod_lt _ (by omega))
  have hcol : ∀ j, colsFrom T (blkCol (widN X.L) (gl ix (widN X.L) o)) j (ix b.val % 128) = T j (ix b.val) := fun j => by
    show T j (blkCol _ _ + _) = _
    rw [blkCol, ← hix]
  have hg1 : ∀ x : S1x16.Idx, shapeCast S1x16 (fun x => colsFrom T (blkCol (widN X.L) (gl ix (widN X.L) o)) (Ctx.lanes x).toNat (k0_pay51 (F := F) (fun x => sr (k0_pay49 (F := F) (BitVec.ofNat 32 (gl ix (widN X.L) o)) (BitVec.ofNat 32 (cg ix (widN X.L) (gl ix (widN X.L) o))) k x).toNat) x).toNat : Vec F S16 .f32) shapeCasts_S16_S1x16 x = T (x 1).val (ix b.val) := fun x => by
    refine (shc _ x).trans ?_
    rw [n51, nl]
    exact hcol _
  have hg2 : ∀ x : S1x16.Idx, shapeCast S1x16 (fun x => colsFrom T (blkCol (widN X.L) (gl ix (widN X.L) o)) (k0_pay52 Ctx.lanes x).toNat (k0_pay51 (F := F) (fun x => sr (k0_pay49 (F := F) (BitVec.ofNat 32 (gl ix (widN X.L) o)) (BitVec.ofNat 32 (cg ix (widN X.L) (gl ix (widN X.L) o))) k x).toNat) x).toNat : Vec F S16 .f32) shapeCasts_S16_S1x16 x = T ((x 1).val + 16) (ix b.val) := fun x => by
    refine (shc _ x).trans ?_
    rw [n51, nl']
    exact hcol _
  unfold memInv memBody k0_t8_body
  iintro ⟨#Hinv, H11, H12, Hslot, Hrem, Hrows, HB⟩
  iapply (wp_chk d X.L hck)
  iapply (wp_gather d X.L (M := X.m11) (h := sr) (hi := k0_idx7_inb _ hck) (hl := View.loads_vmem h_S4096)) $$ H11
  iintro H11
  iapply (wp_chk d X.L hck)
  iapply (wp_gather d X.L (M := X.m12) (h := sb) (hi := k0_idx8_inb _ hck) (hl := View.loads_vmem h_S4096)) $$ H12
  iintro H12
  iapply (wp_chk d X.L hck44)
  iapply (wp_gload d X π κ s (colsFrom T (blkCol (widN X.L) (gl ix (widN X.L) o))) (hi := k0_idx9_inb _ _ _ hck44) (hl := View.loads_vmem h_S8x32x128) h0) $$ [Hslot]
  · isplitl []; · iexact Hinv
    iexact Hslot
  iintro Hslot
  iapply (wp_chk d X.L hck45)
  iapply (wp_gload d X π κ s (colsFrom T (blkCol (widN X.L) (gl ix (widN X.L) o))) (hi := k0_idx10_inb _ _ _ hck45) (hl := View.loads_vmem h_S8x32x128) h0) $$ [Hslot]
  · isplitl []; · iexact Hinv
    iexact Hslot
  iintro Hslot
  ihave Hrows := (Entails.of_eq (SparseCore.bigSep_erase' (M := 𝕄) (Φ := fun r : Fin 16 => iprop(∃ h, Row (F := F) d X r h)) (rows_mem hk16))) $$ Hrows
  icases Hrows with ⟨⟨%h, Hrow⟩, Hrows⟩
  ihave Hrem := (Entails.of_eq (SparseCore.bigSep_erase' (M := 𝕄) (Φ := fun b : Fin 16384 => ORow (F := F) d X b f₀) hmem)) $$ Hrem
  icases Hrem with ⟨Hout, Hrem⟩
  iapply (wp_rload d X (m := ⟨k.val, hk16⟩) (c := 0) (ho47 hk16)) $$ Hrow
  iintro %_ Hrow
  iapply (wp_rstore d X (m := ⟨k.val, hk16⟩) (c := 0) (ho47 hk16) (fun j => T j (ix b.val)) hg1) $$ Hrow
  iintro Hrow
  iapply (wp_rload d X (m := ⟨k.val, hk16⟩) (c := 16) (ho48 hk16)) $$ Hrow
  iintro %_ Hrow
  iapply (wp_rstore d X (m := ⟨k.val, hk16⟩) (c := 16) (ho48 hk16) (fun j => T (j + 16) (ix b.val)) hg2) $$ Hrow
  iintro Hrow
  iapply (wp_chk d X.L hck46)
  iapply (wp_out d X (D := Del d X ix fin (gl ix (widN X.L) o)) (sm' := wsm X) rfl ⟨k.val, hk16⟩
    (fun j => if 16 ≤ j ∧ j < 16 + 16 then T (j - 16 + 16) (ix b.val) else if 0 ≤ j ∧ j < 0 + 16 then T (j - 0) (ix b.val) else h j)
    b f₀ fin (ho51 hk16) ((congrArg k0_off50 e138).trans (ho50 b)) (N := NW X) rfl hk (Nat.zero_le _) (fun c => (hfin b c).trans (row_val (fun j => T j (ix b.val)) h c)) ?_) $$ [Hrow Hout HB]
  · unfold Del
    rw [hbd, show (⟨k.val, hk16⟩ : Fin 16) = Fin.ofNat 16 k.val from Fin.ext (Nat.mod_eq_of_lt hk16).symm]
    iintro ⟨Hr, Ho⟩
    isplitl [Ho]; · iexact Ho
    iexists _
    iexact Hr
  · isplitl [Hrow]; · iexact Hrow
    isplitl [Hout]; · iexact Hout
    iexact HB
  iintro HB
  iapply (wp_done d X.L)
  isplitl [H11]; · iexact H11
  isplitl [H12]; · iexact H12
  isplitl [Hslot]; · iexact Hslot
  isplitl [Hrem]
  · ihave Hrem := (Entails.of_eq (congrArg (fun A => bigSep A fun b : Fin 16384 => ORow (F := F) d X b f₀) herase)) $$ Hrem
    iexact Hrem
  isplitl [Hrows]
  · ihave Hrows := (Entails.of_eq (congrArg (fun A => bigSep A fun r : Fin 16 => iprop(∃ h, Row (F := F) d X r h)) (rows_erase hk16))) $$ Hrows
    iexact Hrows
  iexact HB

end Mem

end Cert.Proof.Gather
-- ==== Proof.Group.lean ====
/-
  The loop over a tile's blocks: wait for the block, serve its members, and fetch the block eight further on into the
  slot.
-/
module

public import proofs.«01_k».proof.Proof.Member

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (X : Ctx)

open Transfers (Batch Flight MayWaits)
open ShareLeaves (leaf)

/-- What a tile owes while it runs: nothing of its own, and waits on its own counts only. -/
def owe (O : CellTallies nD τ sig (HIx 2)) (W : Waits sig (HIx 2)) : sProp 𝕄 :=
  iprop(∃ W' : Waits sig (HIx 2), ⌜∀ p ∈ W', p ∈ W ∨ p.2 = none⌝ ∗ owes (thr d X.L) O W')

section Wait

variable {O : CellTallies nD τ sig (HIx 2)} {W : Waits sig (HIx 2)} {κ' κ₂ : Kind} {sp sp' : Space} {sem : DmaSem sig} {s' s'' : Shape} {e e' : EltTy}
  {srcw : Memref sig (thr d X.L).2.kind sp' s' e'} {dstw : Memref sig κ' sp s'' e} {hsrc : srcw.view.WordExact} {hdst : dstw.view.WordExact}

/-- Waiting for the one transfer under way on a semaphore. -/
theorem wp_wait {sm' : SemLoc sig} (hsm : SemLoc.dma sem = sm') {N : ℕ} (hN : dstw.view.dmaCredit = N) {D : sProp 𝕄} {α : Type}
    {k : PUnit → Prog (TpuEff nD τ sig (Elt F) Λ₀ (.scVector (cV X.L) (jV X.L))) α} {Q : α → sProp 𝕄} :
    iprop(MayWaits (thr d X.L) (default : HIx 2) O ∗ Flight EC (thr d X.L) sm' (default : HIx 2) N D ∗ owe d X O W)
      ⊢ iprop((iprop(D ∗ semVal (thr d X.L, sm') 0 ∗ owe d X O W) -∗ twp d X.L (k ⟨⟩) Q)
        -∗ twp d X.L (.op (.waitDma2 sem srcw dstw hsrc hdst) k) Q) := by
  subst hsm
  unfold owe
  iintro ⟨#Hmw, HF, %W', %hW', HO⟩ Hk
  iapply (Transfers.wp_waitLocalO EC 𝒱₀ (thr d X.L) none (default : HIx 2) hN (O := O) (W := W')) $$ [HF HO]
  · isplitl [HF]; · iexact HF
    isplitl [HO]; · iexact HO
    iapply (MayWaits.elim (SemLoc.dma sem)) $$ Hmw
  iintro ⟨HD, Hv, HO⟩
  iapply Hk
  isplitl [HD]; · iexact HD
  isplitl [Hv]; · iexact Hv
  iexists (insert (SemLoc.dma sem, (default : HIx 2)) W')
  isplitr
  · ipureintro
    intro p hp
    rcases Finset.mem_insert.mp hp with rfl | hp
    · exact Or.inr rfl
    · exact hW' p hp
  · iexact HO

/-- Waiting for one of a batch of equal transfers. -/
theorem wp_waitOne {sm' : SemLoc sig} (hsm : SemLoc.dma sem = sm') {N n : ℕ} (hN : dstw.view.dmaCredit = N) {D : Fin n → sProp 𝕄} {j u : ℕ} (hu : u + N ≤ N * j) {α : Type}
    {k : PUnit → Prog (TpuEff nD τ sig (Elt F) Λ₀ (.scVector (cV X.L) (jV X.L))) α} {Q : α → sProp 𝕄} :
    iprop(MayWaits (thr d X.L) (default : HIx 2) O ∗ Batch EC (thr d X.L) sm' (default : HIx 2) N D j u ∗ owe d X O W)
      ⊢ iprop((iprop(Batch EC (thr d X.L) sm' (default : HIx 2) N D j (u + N) ∗ owe d X O W) -∗ twp d X.L (k ⟨⟩) Q)
        -∗ twp d X.L (.op (.waitDma2 sem srcw dstw hsrc hdst) k) Q) := by
  subst hsm
  unfold owe
  iintro ⟨#Hmw, HF, %W', %hW', HO⟩ Hk
  have h1 : N = 1 * N := (Nat.one_mul N).symm
  iapply (Transfers.wp_waitBatchMulO EC 𝒱₀ (thr d X.L) none (default : HIx 2) 1 (hN.trans h1) (D := D) (j := j) (u := u) (by omega) (O := O) (W := W')) $$ [HF HO]
  · isplitl [HF]; · iexact HF
    isplitl [HO]; · iexact HO
    iapply (MayWaits.elim (SemLoc.dma sem)) $$ Hmw
  iintro ⟨HB, HO⟩
  iapply Hk
  isplitl [HB]
  · ihave HB := (Entails.of_eq (congrArg (fun t => Batch EC (thr d X.L) (SemLoc.dma sem) (default : HIx 2) N D j (u + t)) (Nat.one_mul N))) $$ HB
    iexact HB
  iexists (insert (SemLoc.dma sem, (default : HIx 2)) W')
  isplitr
  · ipureintro
    intro p hp
    rcases Finset.mem_insert.mp hp with rfl | hp
    · exact Or.inr rfl
    · exact hW' p hp
  · iexact HO

end Wait

/-- A loop of no trips hands on its initial value. -/
theorem wp_for0 {σ α : Type} {w : ℕ} {lb ub st : BitVec w} {hok : Scf.OK lb ub st} {init : σ}
    {body : Fin (Scf.trips lb ub st) → σ → Prog (TpuEff nD τ sig (Elt F) Λ₀ (.scVector (cV X.L) (jV X.L))) σ} (htr : Scf.trips lb ub st = 0)
    {kk : σ → Prog (TpuEff nD τ sig (Elt F) Λ₀ (.scVector (cV X.L) (jV X.L))) α} {Q : α → sProp 𝕄} :
    twp d X.L (kk init) Q ⊢ twp d X.L (Scf.for lb ub st hok init body >>= kk) Q := by
  rw [Scf.for_eq_ret lb ub st hok init body htr]
  exact Entails.of_eq rfl

/-- A loop whose body keeps an invariant that does not name the carried value, by a context that lasts. -/
theorem wp_loop {P : sProp 𝕄} [BI.Persistent P] {σ α : Type} {w : ℕ} {lb ub st : BitVec w} {hok : Scf.OK lb ub st} {init : σ}
    {body : Fin (Scf.trips lb ub st) → σ → Prog (TpuEff nD τ sig (Elt F) Λ₀ (.scVector (cV X.L) (jV X.L))) σ} (I : ℕ → sProp 𝕄) {n : ℕ} (htr : Scf.trips lb ub st = n)
    (hbody : ∀ (k : Fin (Scf.trips lb ub st)) (acc : σ), iprop(P ∗ I k.val) ⊢ twp d X.L (body k acc) (fun _ => I (k.val + 1)))
    {kk : σ → Prog (TpuEff nD τ sig (Elt F) Λ₀ (.scVector (cV X.L) (jV X.L))) α} {Q : α → sProp 𝕄} :
    iprop(P ∗ I 0) ⊢ iprop((∀ acc, I n -∗ twp d X.L (kk acc) Q) -∗ twp d X.L (Scf.for lb ub st hok init body >>= kk) Q) := by
  subst htr
  iintro ⟨#HP, HI⟩ Hk
  iapply (Scf.wp_for_bind frame (wpE (defs₀ (F := F)) 𝒱₀ (thr d X.L) none) Set.univ lb ub st hok init body (fun k _ => iprop(P ∗ I k)) ?_) $$ [HI]
  · intro k acc
    iintro ⟨#HP, HI⟩
    iapply (wp_frame_l frame (wpE (defs₀ (F := F)) 𝒱₀ (thr d X.L) none) Set.univ)
    isplitl []; · iexact HP
    iapply (hbody k acc)
    isplitl []; · iexact HP
    iexact HI
  · isplitl []; · iexact HP
    iexact HI
  iintro %acc ⟨-, HI⟩
  ispecialize Hk $$ %acc
  iapply Hk
  iexact HI

theorem t9_trips : ∀ n : Fin 17, (k0_t9_loop (BitVec.ofNat 32 n)).trips = 0 := by decide +kernel
theorem t11_trips : ∀ n : Fin 17, (k0_t11_loop (BitVec.ofNat 32 n)).trips = 0 := by decide +kernel
theorem t9' {n : ℕ} (h : n ≤ 16) : (k0_t9_loop (BitVec.ofNat 32 n)).trips = 0 := t9_trips ⟨n, by omega⟩
theorem t10' {n : ℕ} (h : n ≤ 16) : (k0_t10_loop (BitVec.ofNat 32 n)).trips = n := t10_trips ⟨n, by omega⟩
theorem t11' {n : ℕ} (h : n ≤ 16) : (k0_t11_loop (BitVec.ofNat 32 n)).trips = 0 := t11_trips ⟨n, by omega⟩
theorem t7' {n : ℕ} (h : n ≤ 245) : (k0_t7_loop (BitVec.ofNat 32 n)).trips = n := t7_trips ⟨n, by omega⟩
theorem chk41' {n : ℕ} (h : n ≤ 16) : k0_chk41 (BitVec.ofNat 32 n) := chk41_all ⟨n, by omega⟩

/-- The next block of slot `s`, when the `o`-th is about to be served. -/
def nx (o s : ℕ) : ℕ := o + (s + 8 - o % 8) % 8

theorem nx_self (o : ℕ) : nx o (o % 8) = o := by unfold nx; omega
theorem nx_next (o : ℕ) : nx (o + 1) (o % 8) = o + 8 := by unfold nx; omega
theorem nx_other {o s : ℕ} (hs : s < 8) (h : s ≠ o % 8) : nx (o + 1) s = nx o s := by unfold nx; omega
theorem nx_zero {s : ℕ} (hs : s < 8) : nx 0 s = s := by unfold nx; omega
theorem nx_ge (o s : ℕ) : o ≤ nx o s := by unfold nx; omega

section Grp

variable {ix : ℕ → ℕ} {ol hh sr sb : ℕ → Elt F .i32} {T : ℕ → ℕ → Elt F .f32} {ft : Buf (Elt F) (X.m4.view.loc (thr d X.L))}
  (S : Stage d X ix ol hh sr sb T ft) (π : Fin 8 → ℕ) (κ : ℕ) (f₀ fin : Buf (Elt F) (X.m6.view.loc (thr d X.L))) (q : PosShare TreeShare)
  (O : CellTallies nD τ sig (HIx 2)) (W : Waits sig (HIx 2))

/-- After `u` of a block's transfers are waited for. -/
def drainInv (ix : ℕ → ℕ) (l u : ℕ) : sProp 𝕄 :=
  iprop(Batch EC (thr d X.L) (wsm X) (default : HIx 2) (NW X) (Del d X ix fin l) (cg ix (widN X.L) l) (u * NW X) ∗ owe d X O W)

include S in
theorem drain_body (v34 : BitVec 32) (hw : k0_chk39 v34) (g : Fin (k0_t7_loop v34).trips) (l : ℕ)
    (hw' : k0_chk41 (BitVec.ofNat 32 (cg ix (widN X.L) l)))
    (k : Fin (k0_t10_loop (BitVec.ofNat 32 (cg ix (widN X.L) l))).trips) (acc : BitVec 32) :
    iprop(MayWaits (thr d X.L) (default : HIx 2) O ∗ drainInv d X fin O W ix l k.val)
      ⊢ twp d X.L (drainBody (F := F) X v34 hw g (BitVec.ofNat 32 (cg ix (widN X.L) l)) hw' k acc)
          (fun _ => iprop(drainInv d X fin O W ix l (k.val + 1))) := by
  have hk : k.val < cg ix (widN X.L) l := lt_of_lt_of_eq k.isLt (t10' (cg_le d X S _))
  unfold drainInv drainBody k0_t10_body
  iintro ⟨#Hmw, HB, HO⟩
  iapply (wp_waitOne d X (sm' := wsm X) rfl (N := NW X) rfl (D := Del d X ix fin l) (j := cg ix (widN X.L) l) (u := k.val * NW X) (O := O) (W := W)
    (by rw [← Nat.succ_mul, Nat.mul_comm]; exact Nat.mul_le_mul_left _ hk)) $$ [HB HO]
  · isplitl []; · iexact Hmw
    isplitl [HB]; · iexact HB
    iexact HO
  iintro ⟨HB, HO⟩
  iapply (wp_done d X.L)
  isplitl [HB]
  · ihave HB := (Entails.of_eq (congrArg (fun t => Batch EC (thr d X.L) (wsm X) (default : HIx 2) (NW X) (Del d X ix fin l) (cg ix (widN X.L) l) t) (Nat.succ_mul k.val (NW X)).symm)) $$ HB
    iexact HB
  iexact HO

/-- When the `o`-th block is about to be served. -/
def grpInv (ix : ℕ → ℕ) (ol hh sr sb : ℕ → Elt F .i32) (T : ℕ → ℕ → Elt F .f32) (ft : Buf (Elt F) (X.m4.view.loc (thr d X.L))) (o : ℕ) : sProp 𝕄 :=
  iprop(Arr d X.L X.m13 ol ∗ Arr d X.L X.m14 hh ∗ Arr d X.L X.m11 sr ∗ Arr d X.L X.m12 sb
    ∗ bigSep Finset.univ (fun s : Fin 8 => St d X ix T q ft π s (nx o s.val))
    ∗ bigSep (rem ix (widN X.L) o 0) (fun b => ORow d X b f₀) ∗ bigSep (don ix (widN X.L) o) (fun b => ORow d X b fin)
    ∗ bigSep (rowsFrom 0) (fun r => iprop(∃ h, Row d X r h)) ∗ semVal (thr d X.L, wsm X) 0 ∗ owe d X O W)

theorem rows_all {n : ℕ} (hn : n ≤ 16) (Φ : Fin 16 → sProp 𝕄) :
    iprop(bigSep (rowsFrom n) Φ ∗ bigSep Finset.univ (fun m : Fin n => Φ (Fin.ofNat 16 m.val))) ⊢ bigSep (rowsFrom 0) Φ := by
  have e : rowsFrom 0 = rowsFrom n ∪ Finset.univ.map (Fin.castLEEmb hn) := by
    ext r
    unfold rowsFrom
    rw [Finset.mem_union, Finset.mem_filter, Finset.mem_filter, Finset.mem_map]
    refine ⟨fun _ => ?_, fun _ => ⟨Finset.mem_univ _, Nat.zero_le _⟩⟩
    rcases Nat.lt_or_ge r.val n with h | h
    · exact Or.inr ⟨⟨r.val, h⟩, Finset.mem_univ _, Fin.ext rfl⟩
    · exact Or.inl ⟨Finset.mem_univ _, h⟩
  have hdis : Disjoint (rowsFrom n) (Finset.univ.map (Fin.castLEEmb hn)) := by
    rw [Finset.disjoint_left]
    intro r h1 h2
    obtain ⟨m, -, rfl⟩ := Finset.mem_map.mp h2
    have := (Finset.mem_filter.mp h1).2
    exact absurd m.isLt (Nat.not_lt.mpr this)
  rw [e, SparseCore.bigSep_union' hdis, BI.bigSep_map]
  refine Entails.of_eq (congrArg (fun A => iprop(bigSep (rowsFrom n) Φ ∗ A)) (congrArg (bigSep Finset.univ) (funext fun m => congrArg Φ ?_)))
  exact Fin.ext (Nat.mod_eq_of_lt (m.isLt.trans_le hn))

theorem cond3_iff {o : ℕ} {v : BitVec 32} (hv : v = BitVec.ofNat 32 (nGrp ix (widN X.L))) (g : Fin (k0_t7_loop v).trips) (hg : g.val = o) (ho : o < 245) :
    k0_cond3 v g = 1#1 ↔ o + 8 < nGrp ix (widN X.L) := by
  have hn := nGrp_le ix (widN X.L)
  rw [← slt_cond (a := o + 8) (b := nGrp ix (widN X.L)) (by omega) (by omega), BitVec.ofNat_add, ← iv_eq o, ← hv, ← hg]
  exact Iff.rfl

theorem iv_add (o : ℕ) : Scalar.addi (Scf.iv 0#32 1#32 o) 8#32 = Scf.iv 0#32 1#32 (o + 8) := by
  rw [iv_eq, iv_eq, BitVec.ofNat_add]
  rfl

theorem ho43 {v : BitVec 32} (g : Fin (k0_t7_loop v).trips) (h : g.val < 245) : k0_off43 v g = ![g.val % 8, 0, 0] :=
  congrArg (fun t => (![t, 0, 0] : Fin 3 → ℕ)) (rem8' (by omega))
theorem ho44 {v : BitVec 32} (g : Fin (k0_t7_loop v).trips) (h : g.val < 245) : k0_off44 v g = ![g.val % 8] :=
  congrArg (fun t => (![t] : Fin 1 → ℕ)) (rem8' (by omega))
theorem ho45 {v : BitVec 32} (g : Fin (k0_t7_loop v).trips) (h : g.val < 245) : k0_off45 v g = ![g.val] :=
  congrArg (fun t => (![t] : Fin 1 → ℕ)) (ivoff (by omega))
theorem ho57 {v : BitVec 32} (g : Fin (k0_t7_loop v).trips) (h : g.val < 245) : k0_off57 v g = ![g.val + 8] :=
  congrArg (fun t => (![t] : Fin 1 → ℕ)) ((congrArg BitVec.toNat (iv_add g.val)).trans (ivoff (by omega)))
theorem ho58 {v : BitVec 32} (g : Fin (k0_t7_loop v).trips) (h : g.val < 245) : k0_off58 v g = ![g.val % 8, 0, 0] :=
  congrArg (fun t => (![t, 0, 0] : Fin 3 → ℕ))
    ((congrArg (fun w : BitVec 32 => (Scalar.remsi w 8#32).toNat) (iv_add g.val)).trans ((rem8' (by omega)).trans (Nat.add_mod_right _ _)))
theorem ho60 {v : BitVec 32} (g : Fin (k0_t7_loop v).trips) (h : g.val < 245) : k0_off60 v g = ![g.val % 8] :=
  congrArg (fun t => (![t] : Fin 1 → ℕ))
    ((congrArg (fun w : BitVec 32 => (Scalar.remsi w 8#32).toNat) (iv_add g.val)).trans ((rem8' (by omega)).trans (Nat.add_mod_right _ _)))

theorem t12_trips : ∀ n : Fin 246, (k0_t12_loop (BitVec.ofNat 32 n)).trips = 0 := by decide +kernel
theorem t7_oks : ∀ n : Fin 246, (k0_t7_loop (BitVec.ofNat 32 n)).OK := by decide +kernel
theorem t12_oks : ∀ n : Fin 246, (k0_t12_loop (BitVec.ofNat 32 n)).OK := by decide +kernel

/-- The bounds of the loop over the blocks hold whatever the number of blocks. -/
theorem chk39_ok {n : ℕ} (hn : n ≤ 245) : k0_chk39 (BitVec.ofNat 32 n) := by
  have e := t12_trips ⟨n, by omega⟩
  have no : ∀ g : Fin (k0_t12_loop (BitVec.ofNat 32 n)).trips, False := fun g => absurd (lt_of_lt_of_eq g.isLt e) (Nat.not_lt_zero _)
  have lt : ∀ g : Fin (k0_t7_loop (BitVec.ofNat 32 n)).trips, g.val < 245 := fun g => (lt_of_lt_of_eq g.isLt (t7' hn)).trans_le hn
  have c1 : ∀ x, x < 8 → ∀ a, (![x] : Fin 1 → ℕ) a + S1.size a ≤ S8.size a := fun x hx a => by
    obtain rfl := Fin.eq_zero a
    exact hx
  have c2 : ∀ x, x < 256 → ∀ a, (![x] : Fin 1 → ℕ) a + S1.size a ≤ S256.size a := fun x hx a => by
    obtain rfl := Fin.eq_zero a
    exact hx
  have c3 : ∀ x, x < 8 → ∀ a, (![x, 0, 0] : Fin 3 → ℕ) a + S1x32x128.size a ≤ S8x32x128.size a := fun x hx a => by
    fin_cases a
    · exact hx
    · show 0 + 32 ≤ 32
      omega
    · show 0 + 128 ≤ 128
      omega
  refine ⟨t7_oks ⟨n, by omega⟩, fun g => ?_, fun g => ?_, fun g => ?_, fun g _ => ?_, fun g _ => ?_, fun g _ => ?_, t12_oks ⟨n, by omega⟩,
    fun g => (no g).elim, fun g => (no g).elim, fun g => (no g).elim, fun g => (no g).elim, fun g => (no g).elim, fun g => (no g).elim⟩
  · rw [ho43 g (lt g)]; exact c3 _ (Nat.mod_lt _ (by omega))
  · rw [ho44 g (lt g)]; exact c1 _ (Nat.mod_lt _ (by omega))
  · rw [ho45 g (lt g)]; exact c2 _ (by have := lt g; omega)
  · rw [ho57 g (lt g)]; exact c2 _ (by have := lt g; omega)
  · rw [ho58 g (lt g)]; exact c3 _ (Nat.mod_lt _ (by omega))
  · rw [ho60 g (lt g)]; exact c1 _ (Nat.mod_lt _ (by omega))

include S in
theorem grp_body (hfin : ∀ (b : Fin 16384) (c : Fin 32), X.m6.view.read (Elt F) fin (oix b c) = T c.val (ix b.val))
    {v34 : BitVec 32} (hv : v34 = BitVec.ofNat 32 (nGrp ix (widN X.L))) (hw : k0_chk39 v34) (g : Fin (k0_t7_loop v34).trips) (acc : BitVec 32) :
    iprop((inv κ (gBody (F := F) d X π) ∗ MayWaits (thr d X.L) (default : HIx 2) O) ∗ grpInv d X π f₀ fin q O W ix ol hh sr sb T ft g.val)
      ⊢ twp d X.L (X.grpBody (F := F) v34 hw g acc)
          (fun _ => grpInv d X π f₀ fin q O W ix ol hh sr sb T ft (g.val + 1)) := by
  have hn := nGrp_le ix (widN X.L)
  have ho : g.val < nGrp ix (widN X.L) := by
    refine lt_of_lt_of_eq g.isLt ?_
    rw [hv]
    exact t7' hn
  have h245 : g.val < 245 := by omega
  have h8 : g.val % 8 < 8 := Nat.mod_lt _ (by omega)
  obtain ⟨hl, hne, -⟩ := gl_spec ho
  have hcg := cg_le d X S (gl ix (widN X.L) g.val)
  have hu := bigSep_univ_update (M := 𝕄) (Φ := fun s : Fin 8 => St d X ix T q ft π s (nx g.val s.val))
    (Ψ := fun s : Fin 8 => St d X ix T q ft π s (nx (g.val + 1) s.val)) ⟨g.val % 8, h8⟩ (fun s hs => by
      rw [nx_other s.isLt fun e => hs (Fin.ext e)])
  simp only [nx_self, nx_next] at hu
  have hol := ol_gl d X S ho
  have hhh := S.hcg _ hl
  have e85 : Scalar.remsi (Scf.iv 0#32 1#32 g.val) 8#32 = BitVec.ofNat 32 (g.val % 8) := by
    apply BitVec.eq_of_toNat_eq
    rw [rem8' (by omega), toNat_of (by omega)]
  unfold grpInv Ctx.grpBody k0_t7_body
  simp only [k0_part11_eq_skeleton]
  unfold k0_part11_skel
  iintro ⟨⟨#Hinv, #Hmw⟩, H13, H14, H11, H12, HS, Hrem, Hdon, Hrows, Hv, HO⟩
  ihave HS := hu $$ HS
  icases HS with ⟨HF, Hback⟩
  unfold St
  ihave HF := (Entails.of_eq (if_pos ho)) $$ HF
  unfold Fly
  iapply (wp_wait d X (dstw := slotAt X (k0_off43 v34 g) (k0_off43_inb v34 hw g)) (sm' := gs X ⟨g.val % 8, h8⟩) (semAt_eq X (ho44 g h245)) (N := NB X) rfl (O := O) (W := W)) $$ [HF HO]
  · isplitl []; · iexact Hmw
    isplitl [HF]; · iexact HF
    iexact HO
  iintro ⟨⟨Hslot, Htab⟩, Hsv, HO⟩
  have o45 : k0_off45 v34 g 0 = g.val := congrFun (ho45 g h245) 0
  have e95 : ol (k0_off45 v34 g 0) = BitVec.ofNat 32 (gl ix (widN X.L) g.val) := (congrArg ol o45).trans hol
  iapply (wp_sload d X.L (M := X.m13) (h := ol) (inb := k0_off45_inb v34 hw g) (h1 := numel1_S1) (hp := rfl)) $$ H13
  iintro H13
  rw [e95]
  have o46 : k0_off46 (BitVec.ofNat 32 (gl ix (widN X.L) g.val)) 0 = gl ix (widN X.L) g.val := toNat_of (by omega)
  have hck40 : k0_chk40 (BitVec.ofNat 32 (gl ix (widN X.L) g.val)) := fun a => by
    obtain rfl := Fin.eq_zero a
    show k0_off46 (BitVec.ofNat 32 (gl ix (widN X.L) g.val)) 0 + 1 ≤ 256
    rw [o46]
    omega
  iapply (wp_chk d X.L hck40)
  iapply (wp_sload d X.L (M := X.m14) (h := hh) (inb := k0_off46_inb _ hck40) (h1 := numel1_S1) (hp := rfl)) $$ H14
  iintro H14
  rw [show hh (k0_off46 (BitVec.ofNat 32 (gl ix (widN X.L) g.val)) 0) = BitVec.ofNat 32 (cg ix (widN X.L) (gl ix (widN X.L) g.val)) from (congrArg hh o46).trans hhh]
  iapply (wp_chk d X.L (chk41' hcg))
  imod (Transfers.batch_alloc' EC (thr d X.L) (default : HIx 2) (NW X) (Del d X ix fin (gl ix (widN X.L) g.val))) $$ Hv with HB
  iapply (wp_loop d X (P := inv κ (gBody (F := F) d X π)) (memInv d X ix sr sb T π f₀ fin ⟨g.val % 8, h8⟩ g.val) (t8' hcg) ?_) $$ [H11 H12 Hslot Hrem Hrows HB]
  · intro k acc
    rw [e85]
    exact mem_body d X S π κ f₀ fin hfin v34 hw g ⟨g.val % 8, h8⟩ ho (chk41' hcg) k acc
  · unfold memInv
    isplitl []; · iexact Hinv
    isplitl [H11]; · iexact H11
    isplitl [H12]; · iexact H12
    isplitl [Hslot]; · iexact Hslot
    isplitl [Hrem]; · iexact Hrem
    isplitl [Hrows]; · iexact Hrows
    iexact HB
  iintro %acc1 H
  unfold memInv
  icases H with ⟨H11, H12, Hslot, Hrem, Hrows, HB⟩
  iapply (wp_for0 d X (t9' hcg))
  iapply (wp_loop d X (P := MayWaits (thr d X.L) (default : HIx 2) O) (drainInv d X fin O W ix (gl ix (widN X.L) g.val)) (t10' hcg) ?_) $$ [HB HO]
  · intro k acc
    exact drain_body d X S fin O W v34 hw g _ (chk41' hcg) k acc
  · unfold drainInv
    isplitl []; · iexact Hmw
    isplitl [HB]
    · ihave HB := (Entails.of_eq (congrArg (fun t => Batch EC (thr d X.L) (wsm X) (default : HIx 2) (NW X) (Del d X ix fin (gl ix (widN X.L) g.val)) (cg ix (widN X.L) (gl ix (widN X.L) g.val)) t) (Nat.zero_mul (NW X)).symm)) $$ HB
      iexact HB
    iexact HO
  iintro %acc2 H
  unfold drainInv
  icases H with ⟨HB, HO⟩
  ihave HB := (Entails.of_eq (congrArg (fun t => Batch EC (thr d X.L) (wsm X) (default : HIx 2) (NW X) (Del d X ix fin (gl ix (widN X.L) g.val)) (cg ix (widN X.L) (gl ix (widN X.L) g.val)) t) (Nat.mul_comm _ (NW X)))) $$ HB
  imod (Transfers.batch_collect' EC (thr d X.L) (NW_pos X)) $$ HB with ⟨HD, Hv⟩
  unfold Del
  ihave HD := (Entails.of_eq (bs_sep _ _ _)) $$ HD
  icases HD with ⟨HDo, HDr⟩
  ihave Hdon := (Entails.of_eq ((congrArg (fun A => iprop(bigSep (don ix (widN X.L) g.val) (fun b => ORow d X b fin) ∗ A)) (BI.bigSep_map (mbs ix (widN X.L) (gl ix (widN X.L) g.val)) (Φ := fun b => ORow d X b fin)).symm).trans
    ((SparseCore.bigSep_union' (don_disj ho)).symm.trans (congrArg (fun A => bigSep A (fun b => ORow d X b fin)) (don_next S.fits ho).symm)))) $$ [Hdon HDo]
  · isplitl [Hdon]; · iexact Hdon
    iexact HDo
  ihave Hrows := (rows_all hcg (fun r => iprop(∃ h, Row d X r h))) $$ [Hrows HDr]
  · isplitl [Hrows]; · iexact Hrows
    iexact HDr
  ihave Hrem := (Entails.of_eq (congrArg (fun A => bigSep A (fun b => ORow d X b f₀)) (rem_next S.fits ho))) $$ Hrem
  iapply (wp_for0 d X (t11' hcg))
  rcases Nat.lt_or_ge (g.val + 8) (nGrp ix (widN X.L)) with hc | hc
  · have e := (cond3_iff X hv g rfl h245).mpr hc
    simp only [dif_pos e]
    have o57 : k0_off57 v34 g 0 = g.val + 8 := congrFun (ho57 g h245) 0
    iapply (wp_sload d X.L (M := X.m13) (h := ol) (inb := k0_off57_inb v34 hw g e) (h1 := numel1_S1) (hp := rfl)) $$ H13
    iintro H13
    rw [o57]
    have hck : k0_chk52 X.L v34 g (ol (g.val + 8)) := ⟨fun _ => mult_dvd d X S hc, fun _ => off_inb d X S hc⟩
    iapply (wp_chk d X.L hck)
    iapply (wp_fire d X π κ ⟨g.val % 8, h8⟩ (colsFrom T (blkCol (widN X.L) (gl ix (widN X.L) g.val))) (leaf 3 q ⟨g.val % 8, h8⟩) ft T S.hT (blkCol (widN X.L) (gl ix (widN X.L) (g.val + 8)))
      (off := k0_off59 X.L (ol (g.val + 8))) (by rw [← col_eq X (gl_spec hc).1, ← ol_gl d X S hc]; rfl)
      (off' := k0_off58 v34 g) (ho58 g h245) (sm' := gs X ⟨g.val % 8, h8⟩) (semAt_eq X (ho60 g h245)) (N := NB X) (hN := rfl) (hN0 := NB_pos X)) $$ [Hslot Htab Hsv]
    · isplitl []; · iexact Hinv
      isplitl [Hslot]; · iexact Hslot
      isplitl [Htab]; · iexact Htab
      iexact Hsv
    iintro Hf
    iapply (wp_done d X.L)
    ihave Hf := (Entails.of_eq (if_pos hc).symm) $$ Hf
    ihave HS := Hback $$ Hf
    isplitl [H13]; · iexact H13
    isplitl [H14]; · iexact H14
    isplitl [H11]; · iexact H11
    isplitl [H12]; · iexact H12
    isplitl [HS]; · iexact HS
    isplitl [Hrem]; · iexact Hrem
    isplitl [Hdon]; · iexact Hdon
    isplitl [Hrows]; · iexact Hrows
    isplitl [Hv]; · iexact Hv
    iexact HO
  · have e : ¬ k0_cond3 v34 g = 1#1 := fun h => absurd ((cond3_iff X hv g rfl h245).mp h) (by omega)
    simp only [dif_neg e]
    iapply (wp_done d X.L)
    ihave Hf := (Entails.of_eq (if_neg (Nat.not_lt.mpr hc)).symm) $$ [Hslot Htab Hsv]
    rotate_left
    · ihave HS := Hback $$ Hf
      isplitl [H13]; · iexact H13
      isplitl [H14]; · iexact H14
      isplitl [H11]; · iexact H11
      isplitl [H12]; · iexact H12
      isplitl [HS]; · iexact HS
      isplitl [Hrem]; · iexact Hrem
      isplitl [Hdon]; · iexact Hdon
      isplitl [Hrows]; · iexact Hrows
      isplitl [Hv]; · iexact Hv
      iexact HO
    · unfold Idle
      isplitl [Hslot]; · iexists _; iexact Hslot
      isplitl [Htab]; · iexact Htab
      iexact Hsv

end Grp

end Cert.Proof.Gather
-- ==== Proof.Table.lean ====
/-
  One table's part of the gather kernel, from the fetch of its indices to the last of its rows.
-/
module

public import proofs.«01_k».proof.Proof.Group

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (X : Ctx)

open Transfers (Batch Flight MayWaits)
open ShareLeaves (leaf)
open Idealize.ShloMosaic.ValueIdx (ix1)

/-! ## What the binning leaves -/

section Stage

variable {hx hr hb h sr sb : ℕ → BitVec 32} {w n : ℕ}

theorem sel_lg (hs : SelSpec hx hr hb w 16384) (b : ℕ) (h : Own (ixN hx) w b) : lgL hr (cntO (ixN hx) w 16384) (cntO (ixN hx) w b) = lgOf (ixN hx) b := by
  unfold lgL
  rw [if_pos (show cntO (ixN hx) w b < cntO (ixN hx) w 16384 from count_lt _ h h.1), (hs b h.1 h).1]
  rfl

theorem sel_ex (n : ℕ) (h : n < cntO (ixN hx) w 16384) : ∃ b, Own (ixN hx) w b ∧ cntO (ixN hx) w b = n := by
  obtain ⟨b, -, h1, h2⟩ := exists_count _ h
  exact ⟨b, h1, h2⟩

theorem sel_small (hf : Fits (ixN hx)) (hs : SelSpec hx hr hb w 16384) (n : ℕ) (h : n < cntO (ixN hx) w 16384) : (hr n).toNat / 4096 < 245 := by
  obtain ⟨b, hb', rfl⟩ := sel_ex n h
  rw [(hs b hb'.1 hb').1]
  exact lgOf_lt hf hb'

theorem sel_sixteen (hf : Fits (ixN hx)) (hw : w < 32) (hs : SelSpec hx hr hb w 16384) (n : ℕ) (h : n < cntO (ixN hx) w 16384) :
    Nat.count (fun i => lgL hr (cntO (ixN hx) w 16384) i = lgL hr (cntO (ixN hx) w 16384) n) n < 16 := by
  obtain ⟨b, hb', rfl⟩ := sel_ex n h
  rw [sel_lg hs b hb', count_lgv (sel_lg hs)]
  exact rk_lt16 hf hw hb'

theorem hist_cg (hs : SelSpec hx hr hb w 16384) (hn : cntO (ixN hx) w 16384 ≤ n) (hh : HistSpec (lgL hr (cntO (ixN hx) w 16384)) h n) (l : ℕ) (hl : l < 245) :
    h l = BitVec.ofNat 32 (cg (ixN hx) w l) := by
  rw [hh l (by omega), count_lgv_end (sel_lg hs) hn fun i hi => by unfold lgL; rw [if_neg (by omega)]; omega]

theorem slot_pair (hs : SelSpec hx hr hb w 16384) (hn : cntO (ixN hx) w 16384 ≤ n) (hsl : SlotSpec (lgL hr (cntO (ixN hx) w 16384)) (cntO (ixN hx) w 16384) hr hb sr sb n)
    (b : ℕ) (ho : Own (ixN hx) w b) :
    sr (lgOf (ixN hx) b * 16 + rk (ixN hx) w b) = BitVec.ofNat 32 (ixN hx b) ∧ sb (lgOf (ixN hx) b * 16 + rk (ixN hx) w b) = BitVec.ofNat 32 b := by
  have hi : cntO (ixN hx) w b < cntO (ixN hx) w 16384 := count_lt _ ho ho.1
  have h1 := hsl _ (hi.trans_le hn) hi
  have e : slotN (lgL hr (cntO (ixN hx) w 16384)) (cntO (ixN hx) w b) = lgOf (ixN hx) b * 16 + rk (ixN hx) w b := by
    unfold slotN
    rw [sel_lg hs b ho, count_lgv (sel_lg hs)]
    rfl
  rw [e, (hs b ho.1 ho).1, (hs b ho.1 ho).2] at h1
  refine ⟨h1.1.trans ?_, h1.2⟩
  show hx b = BitVec.ofNat 32 (hx b).toNat
  rw [BitVec.ofNat_toNat, BitVec.setWidth_eq]

end Stage

theorem chk2' {n : ℕ} (h : n ≤ 1008) : k0_chk2 (BitVec.ofNat 32 n) := chk2_all ⟨n, by omega⟩
theorem t3' {n : ℕ} (h : n ≤ 1008) : (k0_t3_loop (BitVec.ofNat 32 n)).trips = (n + 15) / 16 := t3_trips ⟨n, by omega⟩

/-! ## One table -/

/-- An array at some contents. -/
def AnyArr {n : ℕ} {e : EltTy} {sp : Space} (M : Memref sig .scVector sp ⟨1, ![n]⟩ e) : sProp 𝕄 := iprop(∃ h, Arr d X.L M h)

/-- The index array, as the tile reads it. -/
def Src (q : PosShare TreeShare) (f : Buf (Elt F) (X.m2.view.loc (thr d X.L))) : sProp 𝕄 := X.m2.view.loc (thr d X.L) ↦[X.m2.view.set]{q} f

/-- The first part of a table's run: the indices are fetched, the histogram zeroed and the tile's positions selected. -/
def front {α : Type} (kk : (v6 : BitVec 32) → k0_chk2 v6 → X.TProg F α) : X.TProg F α := do
  Prog.lift (.enqueueDma X.m2 (.here X.m8) (.dma X.r0.sem) X.w2.wordExact X.w8.wordExact ⟨Or.inl rfl, trivial⟩)
  Prog.lift (.waitDma2 X.r0.sem X.m2 X.m8 X.w2.wordExact X.w8.wordExact)
  let _ ← Scf.Loop.for k0_t1_loop k0_t1_ok 0#32 X.zeroBody
  let v6 ← Scf.Loop.for k0_t2_loop k0_t2_ok 0#32 X.selBody
  have hw : k0_chk2 v6 := (← Prog.lift (TpuEff.assume (k0_chk2 v6) (k0_chk2.dec v6))).down
  kk v6 hw

/-- The serving of the blocks, once they are listed. -/
def serve {α : Type} (v34 : BitVec 32) (b12 : (v34 : BitVec 32) → k0_chk39 v34 → Fin (k0_t12_loop v34).trips → BitVec 32 → X.TProg F (BitVec 32)) (kk : X.TProg F α) : X.TProg F α := do
  have hw39 : k0_chk39 v34 := (← Prog.lift (TpuEff.assume (k0_chk39 v34) (k0_chk39.dec v34))).down
  let _ ← Scf.Loop.for k0_t6_loop k0_t6_ok 0#32 (X.primeBody v34)
  let v42 ← Scf.Loop.for (k0_t7_loop v34) (k0_t7_ok v34 hw39) 0#32 (X.grpBody v34 hw39)
  let _ ← Scf.Loop.for (k0_t12_loop v34) (k0_t12_ok v34 hw39) v42 (b12 v34 hw39)
  kk

/-- The second part: the positions are binned, the nonempty blocks listed, and the blocks served. -/
def back {α : Type} (v6 : BitVec 32) (hw : k0_chk2 v6) (b4 : Fin (k0_t4_loop v6).trips → BitVec 32 → X.TProg F (BitVec 32))
    (b12 : (v34 : BitVec 32) → k0_chk39 v34 → Fin (k0_t12_loop v34).trips → BitVec 32 → X.TProg F (BitVec 32)) (kk : X.TProg F α) : X.TProg F α := do
  let v31 ← Scf.Loop.for (k0_t3_loop v6) (k0_t3_ok v6 hw) 0#32 (X.binBody v6 hw)
  let _ ← Scf.Loop.for (k0_t4_loop v6) (k0_t4_ok v6 hw) v31 b4
  let v34 ← Scf.Loop.for k0_t5_loop k0_t5_ok 0#32 X.listBody
  serve X v34 b12 kk

set_option maxRecDepth 65536 in
theorem part25_eq : ∃ v30 : BitVec 32 → BitVec 32, k0_part25 (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1
    = front X fun v6 hw => pure ⟨X.wid, Ctx.lanes, v6, hw, 0#32, 0#32, v30 v6, 1#32⟩ := ⟨_, rfl⟩

set_option maxRecDepth 65536 in
theorem part26_eq (v6 : BitVec 32) (hw : k0_chk2 v6) (v30 : BitVec 32) : ∃ b4 b12, ∃ v49 v50 v55 : BitVec 32 → BitVec 32, k0_part26 (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 X.wid Ctx.lanes v6 hw 0#32 0#32 v30 1#32
    = back X v6 hw b4 b12 (front X.swap fun v47 h67 => pure ⟨v47, h67, v49 v47, 16#32, v50 v47, v55 v47⟩) := by
  refine ⟨k0_t4_body (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 X.wid Ctx.lanes v6 hw 0#32 0#32 v30 1#32,
    fun v34 h => k0_t12_body (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 X.wid Ctx.lanes v6 hw 0#32 0#32 v30 1#32 v34 h (Scalar.addi 0#32 (Scalar.muli (Scalar.divsi (Scalar.subi v34 0#32) 1#32) 1#32)),
    fun v47 => Scalar.subi (Scalar.addi v47 16#32) 1#32, fun v47 => Scalar.divsi (Scalar.subi (Scalar.addi v47 16#32) 1#32) 16#32,
    fun v47 => Scalar.subi (Scalar.extui (Scalar.cmpi .sgt (Scalar.subi (Scalar.addi v47 16#32) 1#32) 0#32)) (Scalar.extui (Scalar.cmpi .slt (Scalar.subi (Scalar.addi v47 16#32) 1#32) 0#32)), ?_⟩
  rw [k0_part26_eq_skeleton]
  unfold k0_part26_skel back serve
  rfl

/-- What the second part of a table's run needs: the selected positions, and everything the blocks go through. -/
def Mid (hx : ℕ → BitVec 32) : sProp 𝕄 :=
  iprop((∃ hr hb, Arr d X.L X.m9 hr ∗ Arr d X.L X.m10 hb ∗ ⌜SelSpec hx hr hb (widN X.L) 16384⌝) ∗ (∃ h, Arr d X.L X.m14 h ∗ ⌜∀ l < 256, h l = 0#32⌝))

section Front

variable (q : PosShare TreeShare) (f2 : Buf (Elt F) (X.m2.view.loc (thr d X.L))) (O : CellTallies nD τ sig (HIx 2)) (W : Waits sig (HIx 2))

theorem front_wp {hx : ℕ → BitVec 32} (h2 : ∀ i, X.m2.view.read (Elt F) f2 i = hx (i 0).val) (hf : Fits (ixN hx)) {α : Type} {kk : (v6 : BitVec 32) → k0_chk2 v6 → X.TProg F α} {Q : α → sProp 𝕄} :
    iprop(MayWaits (thr d X.L) (default : HIx 2) O ∗ Src d X q f2 ∗ AnyArr (F := F) d X X.m8 ∗ AnyArr (F := F) d X X.m9 ∗ AnyArr (F := F) d X X.m10 ∗ AnyArr (F := F) d X X.m14 ∗ semVal (thr d X.L, SemLoc.dma X.r0.sem) 0 ∗ owe d X O W)
      ⊢ iprop((∀ hw : k0_chk2 (BitVec.ofNat 32 (cntO (ixN hx) (widN X.L) 16384)),
          iprop(Src d X q f2 ∗ AnyArr (F := F) d X X.m8 ∗ Mid (F := F) d X hx ∗ semVal (thr d X.L, SemLoc.dma X.r0.sem) 0 ∗ owe d X O W) -∗ twp d X.L (kk _ hw) Q)
        -∗ twp d X.L (front X kk) Q) := by
  have hN : cntO (ixN hx) (widN X.L) 16384 ≤ 1008 := hf.tile _ (widN_lt X.L)
  have hck : k0_chk2 (BitVec.ofNat 32 (cntO (ixN hx) (widN X.L) 16384)) := chk2' hN
  unfold front AnyArr Src
  iintro ⟨#Hmw, H2, ⟨%h8, H8⟩, ⟨%h9, H9⟩, ⟨%h10, H10⟩, ⟨%h14, H14⟩, Hv, HO⟩ Hk
  ihave H8 := (Entails.of_eq (show Arr (F := F) d X.L X.m8 h8 = iprop(∃ f, (X.m8.view.loc (thr d X.L) ↦[X.m8.view.set]{fullShare} f) ∗ ⌜∀ i, X.m8.view.read (Elt F) f i = h8 (i 0).val⌝) from rfl)) $$ H8
  icases H8 with ⟨%f8, H8, -⟩
  iapply (Transfers.wp_dmaLocal EC 𝒱₀ (thr d X.L) none (src := X.m2) (via := .same) (dst := X.m8) (fs := f2) (Sd := X.m8.view.set) (fd := f8) (sm := SemLoc.dma X.r0.sem) (default : HIx 2)
    (X.m8.view.dmaCredit) rfl (View.dmaCredit_pos _ (by decide)) (Finset.Subset.refl _)) $$ [H2 H8 Hv]
  · isplitl [H2]; · iexact H2
    isplitl [H8]; · iexact H8
    iexact Hv
  iintro HF
  iapply (wp_wait d X (dstw := X.m8) (sm' := SemLoc.dma X.r0.sem) rfl (N := X.m8.view.dmaCredit) rfl (O := O) (W := W)) $$ [HF HO]
  · isplitl []; · iexact Hmw
    isplitl [HF]; · iexact HF
    iexact HO
  iintro ⟨⟨H8, H2⟩, Hv, HO⟩
  iapply (Scf.wp_for_bind frame (wpE (defs₀ (F := F)) 𝒱₀ (thr d X.L) none) Set.univ _ _ _ _ _ _ (fun k _ => zeroInv (F := F) d X k) (fun k acc => zero_body d X k acc)) $$ [H14]
  · unfold zeroInv
    iexists h14
    isplitl [H14]; · iexact H14
    ipureintro
    intro l hl
    exact absurd hl (Nat.not_lt_zero _)
  iintro %acc1 H14
  ihave H14 := (Entails.of_eq (congrArg (zeroInv (F := F) d X) t1_trips)) $$ H14
  iapply (Scf.wp_for_bind frame (wpE (defs₀ (F := F)) 𝒱₀ (thr d X.L) none) Set.univ _ _ _ _ _ _ (fun k acc => selInv (F := F) d X hx k acc) (fun k acc => sel_body d X hN k acc)) $$ [H8 H9 H10]
  · unfold selInv
    isplitl [H8]
    · unfold Arr
      iexists _
      isplitl [H8]; · iexact H8
      ipureintro
      intro i
      rw [View.read_write_univ]
      exact h2 i
    iexists h9
    iexists h10
    isplitl [H9]; · iexact H9
    isplitl [H10]; · iexact H10
    ipureintro
    exact ⟨rfl, fun b hb => absurd hb (Nat.not_lt_zero _)⟩
  iintro %v6 H
  ihave H := (Entails.of_eq (congrArg (fun t => selInv (F := F) d X hx t v6) t2_trips)) $$ H
  unfold selInv
  icases H with ⟨H8, %hr, %hb, H9, H10, %hv6, %hs⟩
  subst hv6
  iapply (wp_chk d X.L hck)
  ispecialize Hk $$ %hck
  iapply Hk
  isplitl [H2]; · iexact H2
  isplitl [H8]; · iexists _; iexact H8
  isplitl [H9 H10 H14]
  · unfold Mid zeroInv
    isplitr [H14]
    · iexists hr
      iexists hb
      isplitl [H9]; · iexact H9
      isplitl [H10]; · iexact H10
      ipureintro
      exact hs
    iexact H14
  isplitl [Hv]; · iexact Hv
  iexact HO

end Front

/-- The positions of the tile. -/
def own (ix : ℕ → ℕ) (w : ℕ) : Finset (Fin 16384) := Finset.univ.filter fun b => Own ix w b.val

theorem rem_zero (ix : ℕ → ℕ) (w : ℕ) : rem ix w 0 0 = own ix w := by
  ext b
  rw [mem_rem]
  unfold own
  rw [Finset.mem_filter]
  exact ⟨fun h => ⟨Finset.mem_univ _, h.1⟩, fun h => ⟨h.2, by omega⟩⟩

theorem don_zero (ix : ℕ → ℕ) (w : ℕ) : don ix w 0 = ∅ := by
  ext b
  rw [mem_don]
  simp

theorem don_all {ix : ℕ → ℕ} (hf : Fits ix) (w : ℕ) : don ix w (nGrp ix w) = own ix w := by
  ext b
  rw [mem_don]
  unfold own
  rw [Finset.mem_filter]
  exact ⟨fun h => ⟨Finset.mem_univ _, h.1⟩, fun h => ⟨h.2, go_lt hf h.2⟩⟩

/-- What every block of either table goes through: the block buffer's slots, their semaphores, the rows of the stage and theirs. -/
def Pool (π : Fin 8 → ℕ) : sProp 𝕄 :=
  iprop(AnyArr (F := F) d X X.m11 ∗ AnyArr (F := F) d X X.m12 ∗ AnyArr (F := F) d X X.m13
    ∗ bigSep Finset.univ (fun s : Fin 8 => iprop(∃ h, Slot (F := F) d X π s h)) ∗ bigSep Finset.univ (fun s : Fin 8 => semVal (thr d X.L, gs X s) 0)
    ∗ bigSep (rowsFrom 0) (fun r => iprop(∃ h, Row (F := F) d X r h)) ∗ semVal (thr d X.L, wsm X) 0)

section Back

variable (π : Fin 8 → ℕ) (κ : ℕ) (f₀ fin : Buf (Elt F) (X.m6.view.loc (thr d X.L))) (q : PosShare TreeShare) {T : ℕ → ℕ → Elt F .f32} {ft : Buf (Elt F) (X.m4.view.loc (thr d X.L))}
  (O : CellTallies nD τ sig (HIx 2)) (W : Waits sig (HIx 2))

theorem idle_in : iprop(bigSep Finset.univ (fun s : Fin 8 => iprop(∃ h, Slot (F := F) d X π s h)) ∗ Tab d X q ft ∗ bigSep Finset.univ (fun s : Fin 8 => semVal (thr d X.L, gs X s) 0))
    = bigSep Finset.univ (fun s : Fin 8 => Idle d X q ft π s) := by
  unfold Idle
  rw [bs_sep, bs_sep]
  exact congrArg (fun A => iprop(bigSep Finset.univ (fun s : Fin 8 => iprop(∃ h, Slot (F := F) d X π s h)) ∗ A ∗ bigSep Finset.univ (fun s : Fin 8 => semVal (thr d X.L, gs X s) 0)))
    (ShareLeaves.pointsTo_leaves _ ft 3 q)

theorem St_all (ix : ℕ → ℕ) (T : ℕ → ℕ → Elt F .f32) (q : PosShare TreeShare) (ft : Buf (Elt F) (X.m4.view.loc (thr d X.L))) (π : Fin 8 → ℕ) (s : Fin 8) :
    St d X ix T q ft π s (nx (nGrp ix (widN X.L)) s.val) = Idle d X q ft π s := by
  unfold St
  exact if_neg (Nat.not_lt.mpr (nx_ge _ _))

/-- The serving of the blocks, from where the lists are made: every position of the tile gets its row. -/
theorem serve_wp {ix : ℕ → ℕ} {ol hh sr sb : ℕ → Elt F .i32} (S : Stage d X ix ol hh sr sb T ft) (hf : Fits ix)
    (hfin : ∀ (b : Fin 16384) (c : Fin 32), X.m6.view.read (Elt F) fin (oix b c) = T c.val (ix b.val))
    {v34 : BitVec 32} (hv : v34 = BitVec.ofNat 32 (nGrp ix (widN X.L))) {b12} {α : Type} {kk : X.TProg F α} {Q : α → sProp 𝕄} :
    iprop((inv κ (gBody (F := F) d X π) ∗ MayWaits (thr d X.L) (default : HIx 2) O)
        ∗ Arr (F := F) d X.L X.m14 hh ∗ Arr (F := F) d X.L X.m11 sr ∗ Arr (F := F) d X.L X.m12 sb ∗ Arr (F := F) d X.L X.m13 ol
        ∗ bigSep Finset.univ (fun s : Fin 8 => iprop(∃ h, Slot (F := F) d X π s h)) ∗ bigSep Finset.univ (fun s : Fin 8 => semVal (thr d X.L, gs X s) 0)
        ∗ bigSep (rowsFrom 0) (fun r => iprop(∃ h, Row (F := F) d X r h)) ∗ semVal (thr d X.L, wsm X) 0 ∗ Tab d X q ft ∗ bigSep (own ix (widN X.L)) (fun b => ORow d X b f₀) ∗ owe d X O W)
      ⊢ iprop((iprop(Arr (F := F) d X.L X.m14 hh ∗ Arr (F := F) d X.L X.m11 sr ∗ Arr (F := F) d X.L X.m12 sb ∗ Arr (F := F) d X.L X.m13 ol
        ∗ bigSep Finset.univ (fun s : Fin 8 => iprop(∃ h, Slot (F := F) d X π s h)) ∗ bigSep Finset.univ (fun s : Fin 8 => semVal (thr d X.L, gs X s) 0)
        ∗ bigSep (rowsFrom 0) (fun r => iprop(∃ h, Row (F := F) d X r h)) ∗ semVal (thr d X.L, wsm X) 0 ∗ Tab d X q ft ∗ bigSep (own ix (widN X.L)) (fun b => ORow d X b fin) ∗ owe d X O W) -∗ twp d X.L kk Q)
        -∗ twp d X.L (serve X v34 b12 kk) Q) := by
  have hn : nGrp ix (widN X.L) ≤ 245 := nGrp_le _ _
  unfold serve
  iintro ⟨⟨#Hinv, #Hmw⟩, H14, H11, H12, H13, Hsl, Hsem, Hrows, Hwv, Htab, Hout, HO⟩ Hk
  iapply (wp_chk d X.L (hv ▸ chk39_ok hn))
  ihave Hidle := (Entails.of_eq (idle_in d X π q (ft := ft))) $$ [Hsl Htab Hsem]
  · isplitl [Hsl]; · iexact Hsl
    isplitl [Htab]; · iexact Htab
    iexact Hsem
  iapply (wp_loop d X (P := inv κ (gBody (F := F) d X π)) (primeInv d X ix ol T q ft π) t6_trips (fun k acc => prime_body d X S q π κ hv k acc)) $$ [H13 Hidle]
  · isplitl []; · iexact Hinv
    unfold primeInv
    isplitl [H13]; · iexact H13
    iexact Hidle
  iintro %acc2 H
  unfold primeInv
  icases H with ⟨H13, HS⟩
  iapply (wp_loop d X (P := iprop(inv κ (gBody (F := F) d X π) ∗ MayWaits (thr d X.L) (default : HIx 2) O))
    (grpInv d X π f₀ fin q O W ix ol hh sr sb T ft) (hv ▸ t7' hn) (fun g acc => grp_body d X S π κ f₀ fin q O W hfin hv (hv ▸ chk39_ok hn) g acc)) $$ [H11 H12 H13 H14 HS Hout Hrows Hwv HO]
  · isplitl []
    · isplitl []; · iexact Hinv
      iexact Hmw
    unfold grpInv
    isplitl [H13]; · iexact H13
    isplitl [H14]; · iexact H14
    isplitl [H11]; · iexact H11
    isplitl [H12]; · iexact H12
    isplitl [HS]
    · ihave HS := (Entails.of_eq (congrArg (bigSep Finset.univ) (funext fun s : Fin 8 => (if_pos s.isLt).trans (congrArg (St d X ix T q ft π s) (nx_zero s.isLt).symm)))) $$ HS
      iexact HS
    isplitl [Hout]
    · ihave Hout := (Entails.of_eq (congrArg (fun A => bigSep A fun b : Fin 16384 => ORow d X b f₀) (rem_zero ix (widN X.L)).symm)) $$ Hout
      iexact Hout
    isplitl []
    · rw [don_zero]
      iempintro
    isplitl [Hrows]; · iexact Hrows
    isplitl [Hwv]; · iexact Hwv
    iexact HO
  iintro %acc3 H
  unfold grpInv
  icases H with ⟨H13, H14, H11, H12, HS, -, Hout, Hrows, Hwv, HO⟩
  ihave HS := (Entails.of_eq (congrArg (bigSep Finset.univ) (funext fun s : Fin 8 => St_all d X ix T q ft π s))) $$ HS
  ihave HS := (Entails.of_eq (idle_in d X π q (ft := ft)).symm) $$ HS
  icases HS with ⟨Hsl, Htab, Hsem⟩
  ihave Hout := (Entails.of_eq (congrArg (fun A => bigSep A fun b : Fin 16384 => ORow d X b fin) (don_all hf (widN X.L)))) $$ Hout
  iapply (wp_for0 d X (Scf.rem_trips _ _))
  iapply Hk
  isplitl [H14]; · iexact H14
  isplitl [H11]; · iexact H11
  isplitl [H12]; · iexact H12
  isplitl [H13]; · iexact H13
  isplitl [Hsl]; · iexact Hsl
  isplitl [Hsem]; · iexact Hsem
  isplitl [Hrows]; · iexact Hrows
  isplitl [Hwv]; · iexact Hwv
  isplitl [Htab]; · iexact Htab
  isplitl [Hout]; · iexact Hout
  iexact HO

theorem back_wp {hx : ℕ → BitVec 32} (hf : Fits (ixN hx)) (hT : ∀ i, X.m4.view.read (Elt F) ft i = T (i 0).val (i 1).val)
    (hfin : ∀ (b : Fin 16384) (c : Fin 32), X.m6.view.read (Elt F) fin (oix b c) = T c.val (ixN hx b.val))
    (hw : k0_chk2 (BitVec.ofNat 32 (cntO (ixN hx) (widN X.L) 16384))) {b4 b12} {α : Type} {kk : X.TProg F α} {Q : α → sProp 𝕄} :
    iprop((inv κ (gBody (F := F) d X π) ∗ MayWaits (thr d X.L) (default : HIx 2) O) ∗ Mid (F := F) d X hx ∗ Pool (F := F) d X π ∗ Tab d X q ft
        ∗ bigSep (own (ixN hx) (widN X.L)) (fun b => ORow d X b f₀) ∗ owe d X O W)
      ⊢ iprop((iprop(AnyArr (F := F) d X X.m9 ∗ AnyArr (F := F) d X X.m10 ∗ AnyArr (F := F) d X X.m14 ∗ Pool (F := F) d X π ∗ Tab d X q ft
          ∗ bigSep (own (ixN hx) (widN X.L)) (fun b => ORow d X b fin) ∗ owe d X O W) -∗ twp d X.L kk Q)
        -∗ twp d X.L (back X (BitVec.ofNat 32 (cntO (ixN hx) (widN X.L) 16384)) hw b4 b12 kk) Q) := by
  have hwl := widN_lt X.L
  have hN : cntO (ixN hx) (widN X.L) 16384 ≤ 1008 := hf.tile _ hwl
  unfold back Mid Pool AnyArr
  iintro ⟨⟨#Hinv, #Hmw⟩, ⟨⟨%hr, %hb, H9, H10, %hs⟩, %h14, H14, %hz⟩, ⟨⟨%s0, H11⟩, ⟨%s1, H12⟩, ⟨%s2, H13⟩, Hsl, Hsem, Hrows, Hwv⟩, Htab, Hout, HO⟩ Hk
  iapply (Scf.wp_for_bind frame (wpE (defs₀ (F := F)) 𝒱₀ (thr d X.L) none) Set.univ _ _ _ _ _ _ (fun k _ => binInv (F := F) d X hr hb (cntO (ixN hx) (widN X.L) 16384) k)
    (fun k acc => bin_body d X k (sel_small hf hs) (sel_sixteen hf hwl hs) hw hN acc)) $$ [H9 H10 H14 H11 H12]
  · unfold binInv
    isplitl [H9]; · iexact H9
    isplitl [H10]; · iexact H10
    iexists h14
    iexists s0
    iexists s1
    isplitl [H14]; · iexact H14
    isplitl [H11]; · iexact H11
    isplitl [H12]; · iexact H12
    ipureintro
    refine ⟨fun l hl => ?_, fun i hi => absurd hi (by omega)⟩
    rw [hz l hl, Nat.zero_mul, Nat.count_zero]
  iintro %acc1 H
  ihave H := (Entails.of_eq (congrArg (binInv (F := F) d X hr hb (cntO (ixN hx) (widN X.L) 16384)) (t3' hN))) $$ H
  unfold binInv
  icases H with ⟨H9, H10, %hh, %sr, %sb, H14, H11, H12, %hhist, %hslot⟩
  have hK : cntO (ixN hx) (widN X.L) 16384 ≤ (cntO (ixN hx) (widN X.L) 16384 + 15) / 16 * 16 := by omega
  have hcg := hist_cg hs hK hhist
  have hpair := slot_pair hs hK hslot
  iapply (wp_for0 d X (Scf.rem_trips _ _))
  iapply (Scf.wp_for_bind frame (wpE (defs₀ (F := F)) 𝒱₀ (thr d X.L) none) Set.univ _ _ _ _ _ _ (fun k acc => listInv (F := F) d X (ixN hx) (widN X.L) hh k acc)
    (fun k acc => list_body d X hcg (fun l => hf.blk _ hwl l) k acc)) $$ [H14 H13]
  · unfold listInv
    isplitl [H14]; · iexact H14
    iexists s2
    isplitl [H13]; · iexact H13
    ipureintro
    exact ⟨rfl, fun l hl => absurd hl (Nat.not_lt_zero _)⟩
  iintro %v34 H
  ihave H := (Entails.of_eq (congrArg (fun t => listInv (F := F) d X (ixN hx) (widN X.L) hh t v34) t5_trips)) $$ H
  unfold listInv
  icases H with ⟨H14, %ol, H13, %hv34, %hol⟩
  have hv34' : v34 = BitVec.ofNat 32 (nGrp (ixN hx) (widN X.L)) := hv34
  have S : Stage d X (ixN hx) ol hh sr sb T ft := ⟨hf, hol, hcg, fun b h => (hpair b h).1, fun b h => (hpair b h).2, hT⟩
  iapply (serve_wp d X π κ f₀ fin q O W S hf hfin hv34') $$ [H14 H11 H12 H13 Hsl Hsem Hrows Hwv Htab Hout HO]
  · isplitl []
    · isplitl []; · iexact Hinv
      iexact Hmw
    isplitl [H14]; · iexact H14
    isplitl [H11]; · iexact H11
    isplitl [H12]; · iexact H12
    isplitl [H13]; · iexact H13
    isplitl [Hsl]; · iexact Hsl
    isplitl [Hsem]; · iexact Hsem
    isplitl [Hrows]; · iexact Hrows
    isplitl [Hwv]; · iexact Hwv
    isplitl [Htab]; · iexact Htab
    isplitl [Hout]; · iexact Hout
    iexact HO
  iintro ⟨H14, H11, H12, H13, Hsl, Hsem, Hrows, Hwv, Htab, Hout, HO⟩
  iapply Hk
  isplitl [H9]; · iexists _; iexact H9
  isplitl [H10]; · iexists _; iexact H10
  isplitl [H14]; · iexists _; iexact H14
  isplitl [H11 H12 H13 Hsl Hsem Hrows Hwv]
  · isplitl [H11]; · iexists _; iexact H11
    isplitl [H12]; · iexists _; iexact H12
    isplitl [H13]; · iexists _; iexact H13
    isplitl [Hsl]; · iexact Hsl
    isplitl [Hsem]; · iexact Hsem
    isplitl [Hrows]; · iexact Hrows
    iexact Hwv
  isplitl [Htab]; · iexact Htab
  isplitl [Hout]; · iexact Hout
  iexact HO

end Back

end Cert.Proof.Gather
-- ==== Proof.Dot.lean ====
/-
  The second kernel on one tile: the products of the tile's rows of the two gathered arrays, summed.
-/
module

public import proofs.«01_k».proof.Proof.Table

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Transfers (Batch Flight MayWaits)
open ShareLeaves (leaf)

/-! ## One row's products, summed in order -/

/-- The sum of the first `j` products of row `p` of the two arrays, taken in order from zero. -/
def dacc (hu hv : ℕ → F .f32) (p : ℕ) : ℕ → F .f32
  | 0 => Scalar.ofBits .f32 0x00000000#32
  | j + 1 => FloatOps.addf (dacc hu hv p j) (FloatOps.mulf (hu (p * 32 + j)) (hv (p * 32 + j)))

/-- The lanes' numbers. -/
abbrev lanes1 : IVec S16 32 := iota .scVector S16 32 [0] iota_S16_d0_w32_scVector
/-- The position of the first word of a turn's rows. -/
def bs1 (k : ℕ) : BitVec 32 := Scalar.muli (Scalar.muli (Scf.iv 0#32 1#32 k) 16#32) 32#32
/-- The positions a turn reads for column `c`. -/
def idx1 (k : ℕ) (c : BitVec 32) : IVec S16 32 := addi (addi (broadcast S16 (bs1 k)) (muli lanes1 (broadcast S16 32#32))) (broadcast S16 c)

theorem k1_trips : k1_t1_loop.trips = 32 := by decide +kernel

theorem bs1_eq {k : ℕ} : bs1 k = BitVec.ofNat 32 (k * 16 * 32) := by
  unfold bs1
  rw [iv_eq]
  show BitVec.ofNat 32 k * 16#32 * 32#32 = _
  rw [BitVec.ofNat_mul, BitVec.ofNat_mul]

theorem idx1_toNat {k : ℕ} (hk : k < 32) {c : ℕ} (hc : c < 32) (x : S16.Idx) : (idx1 k (BitVec.ofNat 32 c) x).toNat = (k * 16 + (x 0).val) * 32 + c := by
  have hx : (x 0).val < 16 := (x 0).isLt
  show (bs1 k + lanes1 x * 32#32 + BitVec.ofNat 32 c).toNat = _
  have hl : lanes1 x = BitVec.ofNat 32 (x 0).val := lanes_apply x
  rw [hl, bs1_eq]
  simp only [BitVec.toNat_add, BitVec.toNat_mul, BitVec.toNat_ofNat]
  omega

section Dot

variable (d : Dev nD) (L : grid0.Coords)
  (m2 : Memref sig .scVector .hbm S524288 .f32) (w2 : m2.IsWhole) (m3 : Memref sig .scVector .hbm S524288 .f32) (w3 : m3.IsWhole)
  (m4 : Memref sig .scVector .hbm S16384 .f32) (w4 : m4.IsWhole) (m5 : Memref sig .scVector .vmem S16384 .f32) (w5 : m5.IsWhole)
  (m6 : Memref sig .scVector .vmem S16384 .f32) (w6 : m6.IsWhole) (m7 : Memref sig .scVector .vmem S512 .f32) (w7 : m7.IsWhole)
  (s8 s9 r0 : DmaSems sig S_)

abbrev TP (L : grid0.Coords) (F : FTy → Type) (α : Type) := Prog (TpuEff nD τ sig (Elt F) Λ₀ (.scVector (cV L) (jV L))) α

/-- What the checks of the turn's positions say. -/
abbrev Chk1 (v : IVec S16 32) : Prop := ∀ (a : Fin 1) (x : S16.Idx), ((![v] : Fin 1 → IVec S16 32) a x).toNat < S16384.size a

theorem chk1_ok {k : ℕ} (hk : k < 32) {c : ℕ} (hc : c < 32) : Chk1 (idx1 k (BitVec.ofNat 32 c)) := by
  intro a x
  obtain rfl := Fin.eq_zero a
  have hx : (x 0).val < 16 := (x 0).isLt
  show (idx1 k (BitVec.ofNat 32 c) x).toNat < 16384
  rw [idx1_toNat hk hc]
  omega

/-- The same for both arrays. -/
abbrev Chk2 (v : IVec S16 32) : Prop := Chk1 v ∧ Chk1 v

theorem chk2_ok {k : ℕ} (hk : k < 32) {c : ℕ} (hc : c < 32) : Chk2 (idx1 k (BitVec.ofNat 32 c)) := ⟨chk1_ok hk hc, chk1_ok hk hc⟩

/-- The two arrays' words at the turn's positions for column `c`. -/
abbrev at1 (h : ℕ → F .f32) (k c : ℕ) : FVec F S16 .f32 := fun x => h ((k * 16 + (x 0).val) * 32 + c)

/-- The lanes' sums over the first `j` columns. -/
abbrev dacc1 (hu hv : ℕ → F .f32) (k j : ℕ) : FVec F S16 .f32 := fun x => dacc hu hv (k * 16 + (x 0).val) j

variable {hu hv : ℕ → F .f32}

/-- One read at the turn's positions for a column. -/
theorem wp_read {k : ℕ} (hk : k < 32) (c : ℕ) (hc : c < 32) {M : Memref sig .scVector .vmem S16384 .f32} {h : ℕ → F .f32}
    {hi : Chk1 (idx1 k (BitVec.ofNat 32 c))} {hl : M.view.Loads} {α : Type} {kk : Vec F S16 .f32 → TP L F α} {Q : α → sProp 𝕄} :
    Arr d L M h ⊢ iprop((Arr d L M h -∗ twp d L (kk (at1 h k c)) Q)
      -∗ twp d L (SparseCore.vectorLoadIdx (p := .scVector (cV L) (jV L)) M ![idx1 k (BitVec.ofNat 32 c)] hi hl >>= kk) Q) := by
  have e : (fun x : S16.Idx => h (idx1 k (BitVec.ofNat 32 c) x).toNat) = at1 h k c := funext fun x => congrArg h (idx1_toNat hk hc x)
  rw [← e]
  exact wp_gather d L

/-- One column: the check and the two reads. -/
theorem wp_col {k : ℕ} (hk : k < 32) (c : ℕ) (hc : c < 32) {dec : Decidable (Chk2 (idx1 k (BitVec.ofNat 32 c)))} {hl : m5.view.Loads} {hl' : m6.view.Loads}
    {α : Type} {kk : PLift (Chk2 (idx1 k (BitVec.ofNat 32 c))) → Vec F S16 .f32 → Vec F S16 .f32 → TP L F α} {Q : α → sProp 𝕄} :
    iprop(Arr d L m5 hu ∗ Arr d L m6 hv) ⊢ iprop((iprop(Arr d L m5 hu ∗ Arr d L m6 hv) -∗ twp d L (kk ⟨chk2_ok hk hc⟩ (at1 hu k c) (at1 hv k c)) Q)
      -∗ twp d L (.op (.assume (Chk2 (idx1 k (BitVec.ofNat 32 c))) dec) fun h =>
        SparseCore.vectorLoadIdx (p := .scVector (cV L) (jV L)) m5 ![idx1 k (BitVec.ofNat 32 c)] h.down.1 hl >>= fun a =>
        SparseCore.vectorLoadIdx (p := .scVector (cV L) (jV L)) m6 ![idx1 k (BitVec.ofNat 32 c)] h.down.2 hl' >>= fun b => kk h a b) Q) := by
  iintro ⟨H5, H6⟩ Hk
  iapply (wp_chk d L (chk2_ok hk hc))
  iapply (wp_read d L hk c hc) $$ H5
  iintro H5
  iapply (wp_read d L hk c hc) $$ H6
  iintro H6
  iapply Hk
  isplitl [H5]; · iexact H5
  iexact H6

section Parts

variable {k : Fin k1_t1_loop.trips} (hk : k.val < 32)

include hk

/-- The first four columns. -/
theorem part1_wp {α : Type} {kk : _ → TP L F α} {Q : α → sProp 𝕄} :
    iprop(Arr d L m5 hu ∗ Arr d L m6 hv) ⊢ iprop((iprop(Arr d L m5 hu ∗ Arr d L m6 hv) -∗ twp d L (kk ⟨Scf.iv 0#32 1#32 k.val, bs1 k.val, (dacc1 hu hv k.val 4), 32#32⟩) Q)
      -∗ twp d L (k1_part1 (F := F) L m2 w2 m3 w3 m4 w4 m5 w5 m6 w6 m7 w7 s8 s9 r0 lanes1 0#32 1#32 k >>= kk) Q) := by
  rw [k1_part1_eq_skeleton]
  unfold twp
  rw [wp_bind]
  unfold k1_part1_skel
  iintro H Hk
  iapply (wp_col d L m5 m6 hk 0 (by decide) (hl := View.loads_vmem h_S16384) (hl' := View.loads_vmem h_S16384)) $$ H; iintro H
  iapply (wp_col d L m5 m6 hk 1 (by decide) (hl := View.loads_vmem h_S16384) (hl' := View.loads_vmem h_S16384)) $$ H; iintro H
  iapply (wp_col d L m5 m6 hk 2 (by decide) (hl := View.loads_vmem h_S16384) (hl' := View.loads_vmem h_S16384)) $$ H; iintro H
  iapply (wp_col d L m5 m6 hk 3 (by decide) (hl := View.loads_vmem h_S16384) (hl' := View.loads_vmem h_S16384)) $$ H; iintro H
  iapply (wp_done d L)
  iapply Hk $$ H

/-- Four more columns, and the check of the next. -/
theorem part2_wp {α : Type} {kk : _ → TP L F α} {Q : α → sProp 𝕄} :
    iprop(Arr d L m5 hu ∗ Arr d L m6 hv) ⊢ iprop((iprop(Arr d L m5 hu ∗ Arr d L m6 hv) -∗ twp d L (kk ⟨(dacc1 hu hv k.val 8), idx1 k.val 8#32, chk2_ok hk (by decide : 8 < 32)⟩) Q)
      -∗ twp d L (k1_part2 (F := F) L m2 w2 m3 w3 m4 w4 m5 w5 m6 w6 m7 w7 s8 s9 r0 lanes1 (bs1 k.val) (dacc1 hu hv k.val 4) 32#32 >>= kk) Q) := by
  rw [k1_part2_eq_skeleton]
  unfold twp
  rw [wp_bind]
  unfold k1_part2_skel
  iintro H Hk
  iapply (wp_col d L m5 m6 hk 4 (by decide) (hl := View.loads_vmem h_S16384) (hl' := View.loads_vmem h_S16384)) $$ H; iintro H
  iapply (wp_col d L m5 m6 hk 5 (by decide) (hl := View.loads_vmem h_S16384) (hl' := View.loads_vmem h_S16384)) $$ H; iintro H
  iapply (wp_col d L m5 m6 hk 6 (by decide) (hl := View.loads_vmem h_S16384) (hl' := View.loads_vmem h_S16384)) $$ H; iintro H
  iapply (wp_col d L m5 m6 hk 7 (by decide) (hl := View.loads_vmem h_S16384) (hl' := View.loads_vmem h_S16384)) $$ H; iintro H
  iapply (wp_chk d L (chk2_ok hk (by decide : 8 < 32)))
  iapply (wp_done d L)
  iapply Hk $$ H

/-- Five more columns. -/
theorem part3_wp {α : Type} {kk : _ → TP L F α} {Q : α → sProp 𝕄} :
    iprop(Arr d L m5 hu ∗ Arr d L m6 hv) ⊢ iprop((iprop(Arr d L m5 hu ∗ Arr d L m6 hv) -∗ twp d L (kk ⟨(dacc1 hu hv k.val 13), muli lanes1 (broadcast S16 32#32), broadcast S16 (bs1 k.val)⟩) Q)
      -∗ twp d L (k1_part3 (F := F) L m2 w2 m3 w3 m4 w4 m5 w5 m6 w6 m7 w7 s8 s9 r0 lanes1 (bs1 k.val) (dacc1 hu hv k.val 8) (idx1 k.val 8#32) (chk2_ok hk (by decide : 8 < 32)) >>= kk) Q) := by
  rw [k1_part3_eq_skeleton]
  unfold twp
  rw [wp_bind]
  unfold k1_part3_skel
  iintro H Hk
  icases H with ⟨H5, H6⟩
  iapply (wp_read d L hk 8 (by decide) (hi := chk1_ok hk (by decide)) (hl := View.loads_vmem h_S16384)) $$ H5; iintro H5
  iapply (wp_read d L hk 8 (by decide) (hi := chk1_ok hk (by decide)) (hl := View.loads_vmem h_S16384)) $$ H6; iintro H6
  ihave H := (BIBase.Entails.rfl (P := iprop(Arr d L m5 hu ∗ Arr d L m6 hv))) $$ [H5 H6]
  · isplitl [H5]; · iexact H5
    iexact H6
  iapply (wp_col d L m5 m6 hk 9 (by decide) (hl := View.loads_vmem h_S16384) (hl' := View.loads_vmem h_S16384)) $$ H; iintro H
  iapply (wp_col d L m5 m6 hk 10 (by decide) (hl := View.loads_vmem h_S16384) (hl' := View.loads_vmem h_S16384)) $$ H; iintro H
  iapply (wp_col d L m5 m6 hk 11 (by decide) (hl := View.loads_vmem h_S16384) (hl' := View.loads_vmem h_S16384)) $$ H; iintro H
  iapply (wp_col d L m5 m6 hk 12 (by decide) (hl := View.loads_vmem h_S16384) (hl' := View.loads_vmem h_S16384)) $$ H; iintro H
  iapply (wp_done d L)
  iapply Hk $$ H

/-- Four more columns and the product of a fifth. -/
theorem part4_wp {α : Type} {kk : _ → TP L F α} {Q : α → sProp 𝕄} :
    iprop(Arr d L m5 hu ∗ Arr d L m6 hv) ⊢ iprop((iprop(Arr d L m5 hu ∗ Arr d L m6 hv) -∗ twp d L (kk ⟨(dacc1 hu hv k.val 17), mulf (at1 hu k.val 17) (at1 hv k.val 17)⟩) Q)
      -∗ twp d L (k1_part4 (F := F) L m2 w2 m3 w3 m4 w4 m5 w5 m6 w6 m7 w7 s8 s9 r0 lanes1 (bs1 k.val) (dacc1 hu hv k.val 13) (muli lanes1 (broadcast S16 32#32)) (broadcast S16 (bs1 k.val)) >>= kk) Q) := by
  rw [k1_part4_eq_skeleton]
  unfold twp
  rw [wp_bind]
  unfold k1_part4_skel
  iintro H Hk
  iapply (wp_col d L m5 m6 hk 13 (by decide) (hl := View.loads_vmem h_S16384) (hl' := View.loads_vmem h_S16384)) $$ H; iintro H
  iapply (wp_col d L m5 m6 hk 14 (by decide) (hl := View.loads_vmem h_S16384) (hl' := View.loads_vmem h_S16384)) $$ H; iintro H
  iapply (wp_col d L m5 m6 hk 15 (by decide) (hl := View.loads_vmem h_S16384) (hl' := View.loads_vmem h_S16384)) $$ H; iintro H
  iapply (wp_col d L m5 m6 hk 16 (by decide) (hl := View.loads_vmem h_S16384) (hl' := View.loads_vmem h_S16384)) $$ H; iintro H
  iapply (wp_col d L m5 m6 hk 17 (by decide) (hl := View.loads_vmem h_S16384) (hl' := View.loads_vmem h_S16384)) $$ H; iintro H
  iapply (wp_done d L)
  iapply Hk $$ H

/-- The fifth, and four more columns. -/
theorem part5_wp {α : Type} {kk : _ → TP L F α} {Q : α → sProp 𝕄} :
    iprop(Arr d L m5 hu ∗ Arr d L m6 hv) ⊢ iprop((iprop(Arr d L m5 hu ∗ Arr d L m6 hv) -∗ twp d L (kk ⟨(dacc1 hu hv k.val 22), addi (broadcast S16 (bs1 k.val)) (muli lanes1 (broadcast S16 32#32)), broadcast S16 22#32⟩) Q)
      -∗ twp d L (k1_part5 (F := F) L m2 w2 m3 w3 m4 w4 m5 w5 m6 w6 m7 w7 s8 s9 r0 lanes1 (bs1 k.val) (dacc1 hu hv k.val 17) (mulf (at1 hu k.val 17) (at1 hv k.val 17)) >>= kk) Q) := by
  rw [k1_part5_eq_skeleton]
  unfold twp
  rw [wp_bind]
  unfold k1_part5_skel
  iintro H Hk
  iapply (wp_col d L m5 m6 hk 18 (by decide) (hl := View.loads_vmem h_S16384) (hl' := View.loads_vmem h_S16384)) $$ H; iintro H
  iapply (wp_col d L m5 m6 hk 19 (by decide) (hl := View.loads_vmem h_S16384) (hl' := View.loads_vmem h_S16384)) $$ H; iintro H
  iapply (wp_col d L m5 m6 hk 20 (by decide) (hl := View.loads_vmem h_S16384) (hl' := View.loads_vmem h_S16384)) $$ H; iintro H
  iapply (wp_col d L m5 m6 hk 21 (by decide) (hl := View.loads_vmem h_S16384) (hl' := View.loads_vmem h_S16384)) $$ H; iintro H
  iapply (wp_done d L)
  iapply Hk $$ H

/-- Five more columns. -/
theorem part6_wp {α : Type} {kk : _ → TP L F α} {Q : α → sProp 𝕄} :
    iprop(Arr d L m5 hu ∗ Arr d L m6 hv) ⊢ iprop((iprop(Arr d L m5 hu ∗ Arr d L m6 hv) -∗ twp d L (kk ⟨(dacc1 hu hv k.val 27), broadcast S16 32#32⟩) Q)
      -∗ twp d L (k1_part6 (F := F) L m2 w2 m3 w3 m4 w4 m5 w5 m6 w6 m7 w7 s8 s9 r0 lanes1 (bs1 k.val) (dacc1 hu hv k.val 22) (addi (broadcast S16 (bs1 k.val)) (muli lanes1 (broadcast S16 32#32))) (broadcast S16 22#32) >>= kk) Q) := by
  rw [k1_part6_eq_skeleton]
  unfold twp
  rw [wp_bind]
  unfold k1_part6_skel
  iintro H Hk
  iapply (wp_col d L m5 m6 hk 22 (by decide) (hl := View.loads_vmem h_S16384) (hl' := View.loads_vmem h_S16384)) $$ H; iintro H
  iapply (wp_col d L m5 m6 hk 23 (by decide) (hl := View.loads_vmem h_S16384) (hl' := View.loads_vmem h_S16384)) $$ H; iintro H
  iapply (wp_col d L m5 m6 hk 24 (by decide) (hl := View.loads_vmem h_S16384) (hl' := View.loads_vmem h_S16384)) $$ H; iintro H
  iapply (wp_col d L m5 m6 hk 25 (by decide) (hl := View.loads_vmem h_S16384) (hl' := View.loads_vmem h_S16384)) $$ H; iintro H
  iapply (wp_col d L m5 m6 hk 26 (by decide) (hl := View.loads_vmem h_S16384) (hl' := View.loads_vmem h_S16384)) $$ H; iintro H
  iapply (wp_done d L)
  iapply Hk $$ H

/-- Four more columns, and the first read of the last. -/
theorem part7_wp {α : Type} {kk : _ → TP L F α} {Q : α → sProp 𝕄} :
    iprop(Arr d L m5 hu ∗ Arr d L m6 hv) ⊢ iprop((iprop(Arr d L m5 hu ∗ Arr d L m6 hv) -∗ twp d L (kk ⟨(dacc1 hu hv k.val 31), idx1 k.val 31#32, chk2_ok hk (by decide : 31 < 32), at1 hu k.val 31⟩) Q)
      -∗ twp d L (k1_part7 (F := F) L m2 w2 m3 w3 m4 w4 m5 w5 m6 w6 m7 w7 s8 s9 r0 lanes1 (bs1 k.val) (dacc1 hu hv k.val 27) (broadcast S16 32#32) >>= kk) Q) := by
  rw [k1_part7_eq_skeleton]
  unfold twp
  rw [wp_bind]
  unfold k1_part7_skel
  iintro H Hk
  iapply (wp_col d L m5 m6 hk 27 (by decide) (hl := View.loads_vmem h_S16384) (hl' := View.loads_vmem h_S16384)) $$ H; iintro H
  iapply (wp_col d L m5 m6 hk 28 (by decide) (hl := View.loads_vmem h_S16384) (hl' := View.loads_vmem h_S16384)) $$ H; iintro H
  iapply (wp_col d L m5 m6 hk 29 (by decide) (hl := View.loads_vmem h_S16384) (hl' := View.loads_vmem h_S16384)) $$ H; iintro H
  iapply (wp_col d L m5 m6 hk 30 (by decide) (hl := View.loads_vmem h_S16384) (hl' := View.loads_vmem h_S16384)) $$ H; iintro H
  iapply (wp_chk d L (chk2_ok hk (by decide : 31 < 32)))
  icases H with ⟨H5, H6⟩
  iapply (wp_read d L hk 31 (by decide) (hi := chk1_ok hk (by decide)) (hl := View.loads_vmem h_S16384)) $$ H5; iintro H5
  ihave H := (BIBase.Entails.rfl (P := iprop(Arr d L m5 hu ∗ Arr d L m6 hv))) $$ [H5 H6]
  · isplitl [H5]; · iexact H5
    iexact H6
  iapply (wp_done d L)
  iapply Hk $$ H

end Parts

end Dot

end Cert.Proof.Gather
-- ==== Proof.Tile.lean ====
/-
  The gather kernel on one tile: the two tables' parts one after the other.
-/
module

public import proofs.«01_k».proof.Proof.Table

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2)

variable {F : FTy → Type} [FloatOps F]

local notation "𝕄" => MT nD τ sig (HIx 2) (Elt F) ℕ UU ℕ

variable (d : Dev nD) (X : Ctx)

open Transfers (Batch Flight MayWaits)
open ShareLeaves (leaf)

/-! ## The kernel's program in parts -/

set_option maxRecDepth 65536 in
theorem gather_parts : ∃ G1, cc0__gather_kernel (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 = k0_part25 (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 >>= G1
    ∧ ∀ v6 hw v30, ∃ G2, G1 ⟨X.wid, Ctx.lanes, v6, hw, 0#32, 0#32, v30, 1#32⟩ = k0_part26 (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 X.wid Ctx.lanes v6 hw 0#32 0#32 v30 1#32 >>= G2
    ∧ ∀ v47 h67 v49 v50 v55, ∃ b20 b28, G2 ⟨v47, h67, v49, 16#32, v50, v55⟩ = back X.swap v47 h67 b20 b28 (pure ⟨⟩) := by
  rw [cc0__gather_kernel_eq_skeleton]
  unfold cc0__gather_kernel_skel
  refine ⟨_, rfl, fun v6 hw v30 => ⟨_, rfl, fun v47 h67 v49 v50 v55 => ⟨k0_t20_body (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 Ctx.lanes v47 h67 (Scalar.addi 0#32 (Scalar.muli (Scalar.divsi (Scalar.subi (Scalar.select (Scalar.andi (Scalar.cmpi .ne v55 (Scalar.subi (Scalar.extui (Scalar.cmpi .sgt 16#32 0#32)) (Scalar.extui (Scalar.cmpi .slt 16#32 0#32)))) (Scalar.cmpi .ne (Scalar.remsi v49 16#32) 0#32)) (Scalar.subi v50 1#32) v50) 0#32) 1#32) 1#32)),
    fun v75 h => k0_t28_body (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1 X.wid Ctx.lanes v75 h (Scalar.addi 0#32 (Scalar.muli (Scalar.divsi (Scalar.subi v75 0#32) 1#32) 1#32)), ?_⟩⟩⟩
  unfold back serve
  rfl

theorem twp_eq {α : Type} {p p' : X.TProg F α} (h : p = p') {Q : α → sProp 𝕄} : twp d X.L p' Q ⊢ twp d X.L p Q := Entails.of_eq (congrArg (fun p => twp d X.L p Q) h.symm)

theorem twp_bind {α β : Type} {p : X.TProg F α} {k : α → X.TProg F β} {Q : β → sProp 𝕄} : twp d X.L p (fun a => twp d X.L (k a) Q) ⊢ twp d X.L (p >>= k) Q := by
  unfold twp
  rw [wp_bind]

/-! ## What the tile holds -/

/-- The scratch of the tile, at some contents. -/
def Scratch : sProp 𝕄 :=
  iprop(AnyArr (F := F) d X X.m8 ∗ AnyArr (F := F) d X X.m9 ∗ AnyArr (F := F) d X X.m10 ∗ AnyArr (F := F) d X X.m11 ∗ AnyArr (F := F) d X X.m12 ∗ AnyArr (F := F) d X X.m13 ∗ AnyArr (F := F) d X X.m14
    ∗ (∃ f, X.m15.view.loc (thr d X.L) ↦[X.m15.view.set]{fullShare} f) ∗ (∃ f, X.m16.view.loc (thr d X.L) ↦[X.m16.view.set]{fullShare} f))

/-- The semaphores of the tile, at zero. -/
def Sems : sProp 𝕄 :=
  iprop(bigSep Finset.univ (fun s : Fin 8 => semVal (thr d X.L, gs X s) 0) ∗ semVal (thr d X.L, wsm X) 0 ∗ semVal (thr d X.L, SemLoc.dma X.r0.sem) 0 ∗ semVal (thr d X.L, SemLoc.dma X.r1.sem) 0)

theorem rowsFrom_zero : rowsFrom 0 = Finset.univ := by
  ext r
  simp [rowsFrom]

theorem rows_in (f : Buf (Elt F) (X.m16.view.loc (thr d X.L))) :
    (X.m16.view.loc (thr d X.L) ↦[X.m16.view.set]{fullShare} f : sProp 𝕄) ⊢ bigSep (rowsFrom 0) (fun r => iprop(∃ h, Row (F := F) d X r h)) := by
  rw [rowsFrom_zero]
  refine (blocks_split _ _ (row_union X) (fun s _ t _ h => row_disj X h) f).trans (bs_mono fun m _ => ?_)
  iintro ⟨%g, H⟩
  iexists fun j => X.m16.view.read (Elt F) g (ix2 m (⟨j % 32, Nat.mod_lt _ (by decide)⟩ : Fin 32))
  unfold Row
  iexists g
  isplitl [H]; · iexact H
  ipureintro
  intro j
  exact congrArg (fun t => X.m16.view.read (Elt F) g (ix2 m t)) (Fin.ext (Nat.mod_eq_of_lt j.isLt).symm)

theorem rows_out (f : Buf (Elt F) (X.m16.view.loc (thr d X.L))) :
    bigSep (rowsFrom 0) (fun r => iprop(∃ h, Row (F := F) d X r h)) ⊢ (iprop(∃ f, X.m16.view.loc (thr d X.L) ↦[X.m16.view.set]{fullShare} f) : sProp 𝕄) := by
  rw [rowsFrom_zero]
  refine BIBase.Entails.trans (bs_mono fun m _ => ?_) (blocks_join _ _ (row_union X) (fun s _ t _ h => row_disj X h) f)
  unfold Row
  iintro ⟨%h, %g, H, -⟩
  iexists g
  iexact H

section Gather

variable (q2 q3 q4 q5 : PosShare TreeShare) (f2 : Buf (Elt F) (X.m2.view.loc (thr d X.L))) (f3 : Buf (Elt F) (X.m3.view.loc (thr d X.L)))
  (f4 : Buf (Elt F) (X.m4.view.loc (thr d X.L))) (f5 : Buf (Elt F) (X.m5.view.loc (thr d X.L))) (ix iy : ℕ → ℕ)

/-- What the tile takes of the launch: its shares of the index arrays and of the tables, and the rows of both outputs whose positions are its own. -/
def Res (f6 : Buf (Elt F) (X.m6.view.loc (thr d X.L))) (f7 : Buf (Elt F) (X.m7.view.loc (thr d X.L))) : sProp 𝕄 :=
  iprop(Src d X q2 f2 ∗ Src d X.swap q3 f3 ∗ Tab d X q4 f4 ∗ Tab d X.swap q5 f5
    ∗ bigSep (own ix (widN X.L)) (fun b => ORow d X b f6) ∗ bigSep (own iy (widN X.L)) (fun b => ORow d X.swap b f7))

set_option maxHeartbeats 4000000 in
/-- The gather kernel on one tile: every row of either output that is the tile's own gets its table's column. -/
theorem gather_wp {hx hy : ℕ → BitVec 32} (h2 : ∀ i, X.m2.view.read (Elt F) f2 i = hx (i 0).val) (h3 : ∀ i, X.m3.view.read (Elt F) f3 i = hy (i 0).val)
    (hfx : Fits (ixN hx)) (hfy : Fits (ixN hy)) {T T' : ℕ → ℕ → Elt F .f32} (h4 : ∀ i, X.m4.view.read (Elt F) f4 i = T (i 0).val (i 1).val) (h5 : ∀ i, X.m5.view.read (Elt F) f5 i = T' (i 0).val (i 1).val)
    (f6 fin6 : Buf (Elt F) (X.m6.view.loc (thr d X.L))) (f7 fin7 : Buf (Elt F) (X.m7.view.loc (thr d X.L)))
    (h6 : ∀ (b : Fin 16384) (c : Fin 32), X.m6.view.read (Elt F) fin6 (oix b c) = T c.val (ixN hx b.val))
    (h7 : ∀ (b : Fin 16384) (c : Fin 32), X.m7.view.read (Elt F) fin7 (oix b c) = T' c.val (ixN hy b.val))
    (O : CellTallies nD τ sig (HIx 2)) (W : Waits sig (HIx 2)) :
    iprop(MayWaits (thr d X.L) (default : HIx 2) O ∗ Res d X q2 q3 q4 q5 f2 f3 f4 f5 (ixN hx) (ixN hy) f6 f7 ∗ Scratch (F := F) d X ∗ Sems (F := F) d X ∗ owe d X O W)
      ⊢ twp d X.L (cc0__gather_kernel (F := F) X.L X.m2 X.w2 X.m3 X.w3 X.m4 X.w4 X.m5 X.w5 X.m6 X.w6 X.m7 X.w7 X.m8 X.w8 X.m9 X.w9 X.m10 X.w10 X.m11 X.w11 X.m12 X.w12 X.m13 X.w13 X.m14 X.w14 X.m15 X.w15 X.m16 X.w16 X.gsem X.wsem X.r0 X.r1) (fun _ => iprop(Res d X q2 q3 q4 q5 f2 f3 f4 f5 (ixN hx) (ixN hy) fin6 fin7 ∗ Scratch (F := F) d X ∗ Sems (F := F) d X ∗ owe d X O W)) := by
  obtain ⟨G1, e1, hG1⟩ := gather_parts (F := F) X
  obtain ⟨v30, e25⟩ := part25_eq (F := F) X
  rw [e1, e25]
  unfold twp
  rw [wp_bind]
  unfold Res Scratch Sems
  iintro ⟨#Hmw, ⟨H2, H3, H4, H5, H6, H7⟩, ⟨H8, H9, H10, H11, H12, H13, H14, ⟨%g15, H15⟩, ⟨%g16, H16⟩⟩, ⟨Hsem, Hw, Hr0, Hr1⟩, HO⟩
  imod (gopen d X g15) $$ H15 with ⟨%π, %κ, #Hinv, Hsl⟩
  ihave Hrows := (rows_in d X g16) $$ H16
  iapply (front_wp d X q2 f2 O W h2 hfx) $$ [H2 H8 H9 H10 H14 Hr0 HO]
  · isplitl []; · iexact Hmw
    isplitl [H2]; · iexact H2
    isplitl [H8]; · iexact H8
    isplitl [H9]; · iexact H9
    isplitl [H10]; · iexact H10
    isplitl [H14]; · iexact H14
    isplitl [Hr0]; · iexact Hr0
    iexact HO
  iintro %hw ⟨H2, H8, HM, Hr0, HO⟩
  obtain ⟨G2, e2, hG2⟩ := hG1 _ hw (v30 _)
  obtain ⟨b4, b12, v49, v50, v55, e26⟩ := part26_eq (F := F) X _ hw (v30 _)
  iapply (wp_done d X.L)
  iapply (twp_eq d X e2)
  iapply (twp_bind d X)
  iapply (twp_eq d X e26)
  iapply (back_wp d X π κ f6 fin6 q4 O W hfx h4 h6 hw) $$ [HM H11 H12 H13 Hsl Hsem Hrows Hw H4 H6 HO]
  · isplitl []
    · isplitl []; · iexact Hinv
      iexact Hmw
    isplitl [HM]; · iexact HM
    isplitl [H11 H12 H13 Hsl Hsem Hrows Hw]
    · unfold Pool
      isplitl [H11]; · iexact H11
      isplitl [H12]; · iexact H12
      isplitl [H13]; · iexact H13
      isplitl [Hsl]; · iexact Hsl
      isplitl [Hsem]; · iexact Hsem
      isplitl [Hrows]; · iexact Hrows
      iexact Hw
    isplitl [H4]; · iexact H4
    isplitl [H6]; · iexact H6
    iexact HO
  iintro ⟨H9, H10, H14, HP, H4, H6, HO⟩
  iapply (front_wp d X.swap q3 f3 O W h3 hfy) $$ [H3 H8 H9 H10 H14 Hr1 HO]
  · isplitl []; · iexact Hmw
    isplitl [H3]; · iexact H3
    isplitl [H8]; · iexact H8
    isplitl [H9]; · iexact H9
    isplitl [H10]; · iexact H10
    isplitl [H14]; · iexact H14
    isplitl [Hr1]; · iexact Hr1
    iexact HO
  iintro %hw' ⟨H3, H8, HM, Hr1, HO⟩
  obtain ⟨b20, b28, e3⟩ := hG2 _ hw' (v49 _) (v50 _) (v55 _)
  iapply (wp_done d X.L)
  iapply (twp_eq d X e3)
  iapply (back_wp d X.swap π κ f7 fin7 q5 O W hfy h5 h7 hw') $$ [HM HP H5 H7 HO]
  · isplitl []
    · isplitl []; · iexact Hinv
      iexact Hmw
    isplitl [HM]; · iexact HM
    isplitl [HP]; · iexact HP
    isplitl [H5]; · iexact H5
    isplitl [H7]; · iexact H7
    iexact HO
  iintro ⟨H9, H10, H14, HP, H5, H7, HO⟩
  ihave HP := (Entails.of_eq (show Pool (F := F) d X.swap π = Pool d X π from rfl)) $$ HP
  ihave H9 := (Entails.of_eq (show AnyArr (F := F) d X.swap X.swap.m9 = AnyArr d X X.m9 from rfl)) $$ H9
  ihave H10 := (Entails.of_eq (show AnyArr (F := F) d X.swap X.swap.m10 = AnyArr d X X.m10 from rfl)) $$ H10
  ihave H14 := (Entails.of_eq (show AnyArr (F := F) d X.swap X.swap.m14 = AnyArr d X X.m14 from rfl)) $$ H14
  ihave H8 := (Entails.of_eq (show AnyArr (F := F) d X.swap X.swap.m8 = AnyArr d X X.m8 from rfl)) $$ H8
  ihave HO := (Entails.of_eq (show owe d X.swap O W = owe d X O W from rfl)) $$ HO
  unfold Pool
  icases HP with ⟨H11, H12, H13, Hsl, Hsem, Hrows, Hw⟩
  ihave H16 := (rows_out d X g16) $$ Hrows
  imod (gclose d X π κ) $$ [Hsl] with H15
  · isplitl []; · iexact Hinv
    iexact Hsl
  iapply (wp_done d X.L)
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H8 H9 H10 H11 H12 H13 H14 H15 H16]
  · isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [Hsem Hw Hr0 Hr1]
  · isplitl [Hsem]; · iexact Hsem
    isplitl [Hw]; · iexact Hw
    isplitl [Hr0]; · iexact Hr0
    iexact Hr1
  iexact HO

end Gather

end Cert.Proof.Gather
-- ==== Proof.DotTile.lean ====
/-
  The second kernel on one tile: its loop, and its run from the fetch of the tile's rows to the writing of their sums.
-/
module

public import proofs.«01_k».proof.Proof.Dot
public import proofs.«01_k».proof.Proof.Tile

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Transfers (Batch Flight MayWaits)
open ShareLeaves (leaf)
section Store

variable (d : Dev nD) (L : grid0.Coords) {e : EltTy} {n : ℕ}

/-- A store of a run of elements: the run is as stored, everything else as it was. -/
theorem wp_astore {cs : CoreSpace} {M : Memref sig .scVector cs ⟨1, ![n]⟩ e} {h : ℕ → Elt F e} {off size : Fin 1 → ℕ}
    {inb : ∀ a, off a + size a ≤ (⟨1, ![n]⟩ : Shape).size a} {v : (Rect.unit (s := ⟨1, ![n]⟩) off size inb).shape.Idx → Elt F e}
    {hx : (M.access (Rect.unit (s := ⟨1, ![n]⟩) off size inb)).Stores Finset.univ}
    {hm : (Finset.univ : Finset (Rect.unit (s := ⟨1, ![n]⟩) off size inb).shape.Idx) = Finset.univ ∨ ∀ a, (Rect.unit (s := ⟨1, ![n]⟩) off size inb).stride a = 1} {α : Type}
    {k : PUnit → Prog (TpuEff nD τ sig (Elt F) Λ₀ (.scVector (cV L) (jV L))) α} {Q : α → sProp 𝕄} :
    Arr d L M h ⊢ iprop((∀ h', ⌜(∀ x, h' (off 0 + (x 0).val) = v x) ∧ ∀ p, p < off 0 ∨ off 0 + size 0 ≤ p → h' p = h p⌝ -∗ Arr d L M h' -∗ twp d L (k ⟨⟩) Q)
      -∗ twp d L (.op (.store M (Rect.unit (s := ⟨1, ![n]⟩) off size inb) v Finset.univ hx hm) k) Q) := by
  classical
  unfold Arr
  iintro ⟨%f, H, %hf⟩ Hk
  iapply (wp_store (defs := defs₀ (F := F)) 𝒱₀ (thr d L) none Set.univ (Q := Q) (m := M) (r := Rect.unit (s := ⟨1, ![n]⟩) off size inb) (w := v) (Mk := Finset.univ)
    (hx := hx) (hm := hm) (k := k) (S := M.view.set) (f := f)
    (fun i hi => access_sub M _ ((M.access _).setOn_subset_set _ hi))) $$ H
  iintro H
  have hinj : ∀ x y : (Rect.unit (s := ⟨1, ![n]⟩) off size inb).shape.Idx, off 0 + (x 0).val = off 0 + (y 0).val → x = y := by
    intro x y hxy
    funext a
    obtain rfl := Fin.eq_zero a
    exact Fin.ext (by omega)
  iapply Hk $$ %(fun p => if hx : ∃ x : (Rect.unit (s := ⟨1, ![n]⟩) off size inb).shape.Idx, off 0 + (x 0).val = p then v hx.choose else h p) [] [H]
  · ipureintro
    constructor
    · intro x
      have hx : ∃ y : (Rect.unit (s := ⟨1, ![n]⟩) off size inb).shape.Idx, off 0 + (y 0).val = off 0 + (x 0).val := ⟨x, rfl⟩
      show dite _ _ _ = _
      rw [dif_pos hx, hinj _ _ hx.choose_spec]
    · intro p hp
      show dite _ _ _ = _
      rw [dif_neg]
      rintro ⟨x, rfl⟩
      have : (x 0).val < size 0 := (x 0).isLt
      omega
  · iexists _
    isplitl [H]; · iexact H
    ipureintro
    intro i
    by_cases hx : ∃ x : (Rect.unit (s := ⟨1, ![n]⟩) off size inb).shape.Idx, off 0 + (x 0).val = (i 0).val
    · show _ = dite _ _ _
      rw [dif_pos hx]
      have hi : i = (Rect.unit (s := ⟨1, ![n]⟩) off size inb).emb hx.choose := by
        funext a; obtain rfl := Fin.eq_zero a
        exact Fin.ext (by rw [rect_unit_emb]; exact hx.choose_spec.symm)
      refine (congrArg _ hi).trans ?_
      exact View.read_slice_write_emb (v := M.view) (Val := Elt F) _ f _ (Finset.mem_univ _)
    · show _ = dite _ _ _
      rw [dif_neg hx, ← hf i]
      refine View.read_slice_write_of_not_mem (v := M.view) (Val := Elt F) _ f _ _ ?_
      intro hm'
      obtain ⟨x, -, hx'⟩ := Finset.mem_map.mp hm'
      refine hx ⟨x, ?_⟩
      rw [← hx', rect_unit_emb]

end Store

theorem dacc_shift (hu hv : ℕ → F .f32) (w p j : ℕ) :
    dacc (fun i => hu (w * 16384 + i)) (fun i => hv (w * 16384 + i)) p j = dacc hu hv (w * 512 + p) j := by
  induction j with
  | zero => rfl
  | succ j ih =>
    show FloatOps.addf (dacc _ _ p j) (FloatOps.mulf (hu (w * 16384 + (p * 32 + j))) (hv (w * 16384 + (p * 32 + j)))) = _
    rw [ih, show w * 16384 + (p * 32 + j) = (w * 512 + p) * 32 + j by omega]
    rfl

/-! ## The kernel's offsets -/

theorem k1_off1_val (L : grid0.Coords) : k1_off1 L 0 = widN L * 16384 := by
  have h0 : (L 0).val < 2 := (L 0).isLt
  have h1 : (L 1).val < 16 := (L 1).isLt
  show ((BitVec.ofNat 32 (L 1).val * 2#32 + BitVec.ofNat 32 (L 0).val) * 512#32 * 32#32).toNat = _
  simp only [BitVec.toNat_add, BitVec.toNat_mul, BitVec.toNat_ofNat]
  unfold widN
  omega

theorem k1_off3_val (L : grid0.Coords) : k1_off3 L 0 = widN L * 512 := by
  have h0 : (L 0).val < 2 := (L 0).isLt
  have h1 : (L 1).val < 16 := (L 1).isLt
  show ((BitVec.ofNat 32 (L 1).val * 2#32 + BitVec.ofNat 32 (L 0).val) * 512#32).toNat = _
  simp only [BitVec.toNat_add, BitVec.toNat_mul, BitVec.toNat_ofNat]
  unfold widN
  omega

theorem k1_off2_val (k : Fin k1_t1_loop.trips) (hk : k.val < 32) : k1_off2 k 0 = k.val * 16 := by
  have e : k1_off2 k 0 = (Scf.iv 0#32 1#32 k.val * 16#32).toNat := rfl
  rw [e, iv_eq]
  simp only [BitVec.toNat_mul, BitVec.toNat_ofNat]
  omega

/-! ## The kernel -/

section Dot

variable (d : Dev nD) (X : Ctx)
  (m2 : Memref sig .scVector .hbm S524288 .f32) (w2 : m2.IsWhole) (m3 : Memref sig .scVector .hbm S524288 .f32) (w3 : m3.IsWhole)
  (m4 : Memref sig .scVector .hbm S16384 .f32) (w4 : m4.IsWhole) (m5 : Memref sig .scVector .vmem S16384 .f32) (w5 : m5.IsWhole)
  (m6 : Memref sig .scVector .vmem S16384 .f32) (w6 : m6.IsWhole) (m7 : Memref sig .scVector .vmem S512 .f32) (w7 : m7.IsWhole)
  (s8 s9 r0 : DmaSems sig S_)

/-- A tile's words of a gathered array. -/
abbrev inSl (L : grid0.Coords) (M : Memref sig .scVector .hbm S524288 .f32) : Memref sig .scVector .hbm S16384 .f32 :=
  M.slice (Rect.unit (s := S524288) (k1_off1 L) S16384.size (k1_off1_inb L)) (fun _ => rfl)

/-- A tile's words of the result. -/
abbrev outSl (L : grid0.Coords) (M : Memref sig .scVector .hbm S16384 .f32) : Memref sig .scVector .hbm S512 .f32 :=
  M.slice (Rect.unit (s := S16384) (k1_off3 L) S512.size (k1_off3_inb L)) (fun _ => rfl)

/-- The end of a turn: the last column's second read, and the store of the sixteen sums. -/
def dotEnd (k : Fin k1_t1_loop.trips) (v328 : FVec F S16 .f32) (v334 : IVec S16 32) (h : k1_chk32 v334) (v335 : Vec F S16 .f32) : X.TProg F (BitVec 32) := do
  let v336 : Vec F S16 .f32 ← SparseCore.vectorLoadIdx m6 ![v334] (k1_idx64_inb v334 h) (View.loads_vmem h_S16384)
  let _ ← Prog.lift (.load m7 (Rect.unit (s := S512) (k1_off2 k) S16.size (k1_off2_inb k)).toLoadRect (View.loadsAt_vmem h_S16))
  Prog.lift (.store m7 (Rect.unit (s := S512) (k1_off2 k) S16.size (k1_off2_inb k)) (k1_pay1 v328 v335 v336) Finset.univ (View.stores_vmem_bits_univ h_S16 rfl) (.inl rfl))
  pure 0#32

set_option maxRecDepth 65536 in
/-- A turn of the loop is its seven runs of columns, the last read, and the store of the sums. -/
theorem dot_parts (k : Fin k1_t1_loop.trips) (acc : BitVec 32) : ∃ G1, k1_t1_body (F := F) X.L m2 w2 m3 w3 m4 w4 m5 w5 m6 w6 m7 w7 s8 s9 r0 lanes1 k acc = k1_part1 (F := F) X.L m2 w2 m3 w3 m4 w4 m5 w5 m6 w6 m7 w7 s8 s9 r0 lanes1 0#32 1#32 k >>= G1
    ∧ ∀ a v17 v58 c, ∃ G2, G1 ⟨a, v17, v58, c⟩ = k1_part2 (F := F) X.L m2 w2 m3 w3 m4 w4 m5 w5 m6 w6 m7 w7 s8 s9 r0 lanes1 v17 v58 c >>= G2
    ∧ ∀ v98 v104 h9, ∃ G3, G2 ⟨v98, v104, h9⟩ = k1_part3 (F := F) X.L m2 w2 m3 w3 m4 w4 m5 w5 m6 w6 m7 w7 s8 s9 r0 lanes1 v17 v98 v104 h9 >>= G3
    ∧ ∀ v148 v150 v151, ∃ G4, G3 ⟨v148, v150, v151⟩ = k1_part4 (F := F) X.L m2 w2 m3 w3 m4 w4 m5 w5 m6 w6 m7 w7 s8 s9 r0 lanes1 v17 v148 v150 v151 >>= G4
    ∧ ∀ v188 v197, ∃ G5, G4 ⟨v188, v197⟩ = k1_part5 (F := F) X.L m2 w2 m3 w3 m4 w4 m5 w5 m6 w6 m7 w7 s8 s9 r0 lanes1 v17 v188 v197 >>= G5
    ∧ ∀ v238 v242 v243, ∃ G6, G5 ⟨v238, v242, v243⟩ = k1_part6 (F := F) X.L m2 w2 m3 w3 m4 w4 m5 w5 m6 w6 m7 w7 s8 s9 r0 lanes1 v17 v238 v242 v243 >>= G6
    ∧ ∀ v288 v289, ∃ G7, G6 ⟨v288, v289⟩ = k1_part7 (F := F) X.L m2 w2 m3 w3 m4 w4 m5 w5 m6 w6 m7 w7 s8 s9 r0 lanes1 v17 v288 v289 >>= G7
    ∧ ∀ v328 v334 h32 v335, G7 ⟨v328, v334, h32, v335⟩ = dotEnd X m6 m7 k v328 v334 h32 v335 :=
  ⟨_, rfl, fun _ _ _ _ => ⟨_, rfl, fun _ _ _ => ⟨_, rfl, fun _ _ _ => ⟨_, rfl, fun _ _ => ⟨_, rfl, fun _ _ _ => ⟨_, rfl, fun _ _ => ⟨_, rfl, fun _ _ _ _ => rfl⟩⟩⟩⟩⟩⟩⟩

variable {hu hv : ℕ → F .f32}

/-- What the loop keeps: the two arrays, and the sums of the rows done. -/
def dotInv (k : ℕ) : sProp 𝕄 :=
  iprop(iprop(Arr d X.L m5 hu ∗ Arr d X.L m6 hv) ∗ ∃ h, Arr d X.L m7 h ∗ ⌜∀ p < k * 16, h p = dacc hu hv p 32⌝)

set_option maxHeartbeats 400000 in
/-- One turn of the loop: sixteen rows' sums. -/
theorem dot_body (k : Fin k1_t1_loop.trips) (acc : BitVec 32) :
    dotInv (F := F) d X m5 m6 m7 (hu := hu) (hv := hv) k.val
      ⊢ twp d X.L (k1_t1_body (F := F) X.L m2 w2 m3 w3 m4 w4 m5 w5 m6 w6 m7 w7 s8 s9 r0 lanes1 k acc) (fun _ => dotInv (F := F) d X m5 m6 m7 (hu := hu) (hv := hv) (k.val + 1)) := by
  have hk : k.val < 32 := lt_of_lt_of_eq k.isLt k1_trips
  unfold dotInv
  obtain ⟨G1, e1, hG1⟩ := dot_parts (F := F) X m2 w2 m3 w3 m4 w4 m5 w5 m6 w6 m7 w7 s8 s9 r0 k acc
  rw [e1]
  iintro ⟨H, %h7, H7, %hh⟩
  iapply (part1_wp d X.L m2 w2 m3 w3 m4 w4 m5 w5 m6 w6 m7 w7 s8 s9 r0 (hu := hu) (hv := hv) hk) $$ H; iintro H
  obtain ⟨G2, e2, hG2⟩ := hG1 _ _ _ _
  iapply (twp_eq d X e2)
  iapply (part2_wp d X.L m2 w2 m3 w3 m4 w4 m5 w5 m6 w6 m7 w7 s8 s9 r0 (hu := hu) (hv := hv) hk) $$ H; iintro H
  obtain ⟨G3, e3, hG3⟩ := hG2 _ _ (chk2_ok hk (by decide : 8 < 32))
  iapply (twp_eq d X e3)
  iapply (part3_wp d X.L m2 w2 m3 w3 m4 w4 m5 w5 m6 w6 m7 w7 s8 s9 r0 (hu := hu) (hv := hv) hk) $$ H; iintro H
  obtain ⟨G4, e4, hG4⟩ := hG3 _ _ _
  iapply (twp_eq d X e4)
  iapply (part4_wp d X.L m2 w2 m3 w3 m4 w4 m5 w5 m6 w6 m7 w7 s8 s9 r0 (hu := hu) (hv := hv) hk) $$ H; iintro H
  obtain ⟨G5, e5, hG5⟩ := hG4 _ _
  iapply (twp_eq d X e5)
  iapply (part5_wp d X.L m2 w2 m3 w3 m4 w4 m5 w5 m6 w6 m7 w7 s8 s9 r0 (hu := hu) (hv := hv) hk) $$ H; iintro H
  obtain ⟨G6, e6, hG6⟩ := hG5 _ _ _
  iapply (twp_eq d X e6)
  iapply (part6_wp d X.L m2 w2 m3 w3 m4 w4 m5 w5 m6 w6 m7 w7 s8 s9 r0 (hu := hu) (hv := hv) hk) $$ H; iintro H
  obtain ⟨G7, e7, hG7⟩ := hG6 _ _
  iapply (twp_eq d X e7)
  iapply (part7_wp d X.L m2 w2 m3 w3 m4 w4 m5 w5 m6 w6 m7 w7 s8 s9 r0 (hu := hu) (hv := hv) hk) $$ H; iintro H
  iapply (twp_eq d X (hG7 _ _ (chk2_ok hk (by decide : 31 < 32)) _))
  unfold dotEnd
  icases H with ⟨H5, H6⟩
  iapply (wp_read d X.L hk 31 (by decide) (hi := chk1_ok hk (by decide)) (hl := View.loads_vmem h_S16384)) $$ H6; iintro H6
  iapply (wp_aload d X.L (hl := View.loadsAt_vmem h_S16)) $$ H7; iintro H7
  iapply (wp_astore d X.L (hx := View.stores_vmem_bits_univ h_S16 rfl)) $$ H7
  iintro %h8 %hs H7
  iapply (wp_done d X.L)
  isplitl [H5 H6]
  · isplitl [H5]; · iexact H5
    iexact H6
  iexists h8
  isplitl [H7]; · iexact H7
  ipureintro
  intro p hp
  have ho := k1_off2_val k hk
  by_cases hlt : p < k.val * 16
  · rw [hs.2 p (Or.inl (by omega))]
    exact hh p hlt
  · have hq : p - k.val * 16 < 16 := by omega
    have h1 := hs.1 (ln ⟨p - k.val * 16, hq⟩)
    have h2 : k1_off2 k 0 + (ln ⟨p - k.val * 16, hq⟩ 0).val = p := by
      show k1_off2 k 0 + (p - k.val * 16) = p
      omega
    rw [h2] at h1
    rw [h1]
    show FloatOps.addf (dacc hu hv (k.val * 16 + (p - k.val * 16)) 31) (FloatOps.mulf (hu ((k.val * 16 + (p - k.val * 16)) * 32 + 31)) (hv ((k.val * 16 + (p - k.val * 16)) * 32 + 31))) = _
    rw [show k.val * 16 + (p - k.val * 16) = p by omega]
    rfl

/-- A tile's words of the result, held outright. -/
def DOut (f : Buf (Elt F) (m4.view.loc (thr d X.L))) : sProp 𝕄 := m4.view.loc (thr d X.L) ↦[(outSl X.L m4).view.set]{fullShare} f

/-- A gathered array, as the tile reads it. -/
def DIn (M : Memref sig .scVector .hbm S524288 .f32) (q : PosShare TreeShare) (f : Buf (Elt F) (M.view.loc (thr d X.L))) : sProp 𝕄 := M.view.loc (thr d X.L) ↦[M.view.set]{q} f

theorem inSl_sub (M : Memref sig .scVector .hbm S524288 .f32) : (inSl X.L M).view.set ⊆ M.view.set := access_sub M _

theorem inSl_read (M : Memref sig .scVector .hbm S524288 .f32) (f : Buf (Elt F) (M.view.loc (thr d X.L))) {h : ℕ → F .f32}
    (hh : ∀ i, M.view.read (Elt F) f i = h (i 0).val) (i : S16384.Idx) :
    (inSl X.L M).view.read (Elt F) f i = h (widN X.L * 16384 + (i 0).val) := by
  refine (hh ((Rect.unit (s := S524288) (k1_off1 X.L) S16384.size (k1_off1_inb X.L)).emb i)).trans ?_
  congr 1
  have h1 : ((Rect.unit (s := S524288) (k1_off1 X.L) S16384.size (k1_off1_inb X.L)).emb i 0).val = k1_off1 X.L 0 + (i 0).val := by
    rw [Rect.emb_apply]
    show k1_off1 X.L 0 + 1 * (i 0).val = _
    omega
  rw [h1, k1_off1_val]

theorem outSl_read (f : Buf (Elt F) (m4.view.loc (thr d X.L))) {h : ℕ → F .f32} (hh : ∀ i, m4.view.read (Elt F) f i = h (i 0).val) (i : S512.Idx) :
    (outSl X.L m4).view.read (Elt F) f i = h (widN X.L * 512 + (i 0).val) := by
  refine (hh ((Rect.unit (s := S16384) (k1_off3 X.L) S512.size (k1_off3_inb X.L)).emb i)).trans ?_
  congr 1
  have h1 : ((Rect.unit (s := S16384) (k1_off3 X.L) S512.size (k1_off3_inb X.L)).emb i 0).val = k1_off3 X.L 0 + (i 0).val := by
    rw [Rect.emb_apply]
    show k1_off3 X.L 0 + 1 * (i 0).val = _
    omega
  rw [h1, k1_off3_val]

/-- The second kernel on one tile: from shares of the gathered arrays and the tile's words of the result, the words hold
    their rows' sums. -/
theorem dot_wp (q2 q3 : PosShare TreeShare) (f2 : Buf (Elt F) (m2.view.loc (thr d X.L))) (f3 : Buf (Elt F) (m3.view.loc (thr d X.L)))
    (h2 : ∀ i, m2.view.read (Elt F) f2 i = hu (i 0).val) (h3 : ∀ i, m3.view.read (Elt F) f3 i = hv (i 0).val)
    (f4 fin4 : Buf (Elt F) (m4.view.loc (thr d X.L))) (h4 : ∀ i, m4.view.read (Elt F) fin4 i = dacc hu hv (i 0).val 32)
    (O : CellTallies nD τ sig (HIx 2)) (W : Waits sig (HIx 2)) :
    iprop(MayWaits (thr d X.L) (default : HIx 2) O ∗ (DIn d X m2 q2 f2 ∗ DIn d X m3 q3 f3 ∗ DOut d X m4 f4)
        ∗ (AnyArr (F := F) d X m5 ∗ AnyArr (F := F) d X m6 ∗ AnyArr (F := F) d X m7)
        ∗ (semVal (thr d X.L, SemLoc.dma s8.sem) 0 ∗ semVal (thr d X.L, SemLoc.dma s9.sem) 0 ∗ semVal (thr d X.L, SemLoc.dma r0.sem) 0) ∗ owe d X O W)
      ⊢ twp d X.L (cc1__dot_kernel (F := F) X.L m2 w2 m3 w3 m4 w4 m5 w5 m6 w6 m7 w7 s8 s9 r0)
        (fun _ => iprop((DIn d X m2 q2 f2 ∗ DIn d X m3 q3 f3 ∗ DOut d X m4 fin4)
          ∗ (AnyArr (F := F) d X m5 ∗ AnyArr (F := F) d X m6 ∗ AnyArr (F := F) d X m7)
          ∗ (semVal (thr d X.L, SemLoc.dma s8.sem) 0 ∗ semVal (thr d X.L, SemLoc.dma s9.sem) 0 ∗ semVal (thr d X.L, SemLoc.dma r0.sem) 0) ∗ owe d X O W)) := by
  rw [cc1__dot_kernel_eq_skeleton]
  unfold cc1__dot_kernel_skel AnyArr DIn
  iintro ⟨#Hmw, ⟨H2, H3, H4⟩, ⟨⟨%h5, H5⟩, ⟨%h6, H6⟩, H7⟩, ⟨Hs8, Hs9, Hr0⟩, HO⟩
  ihave H5 := (Entails.of_eq (show Arr (F := F) d X.L m5 h5 = iprop(∃ f, (m5.view.loc (thr d X.L) ↦[m5.view.set]{fullShare} f) ∗ ⌜∀ i, m5.view.read (Elt F) f i = h5 (i 0).val⌝) from rfl)) $$ H5
  ihave H6 := (Entails.of_eq (show Arr (F := F) d X.L m6 h6 = iprop(∃ f, (m6.view.loc (thr d X.L) ↦[m6.view.set]{fullShare} f) ∗ ⌜∀ i, m6.view.read (Elt F) f i = h6 (i 0).val⌝) from rfl)) $$ H6
  icases H5 with ⟨%f5, H5, -⟩
  icases H6 with ⟨%f6, H6, -⟩
  ihave H2 := (pointsTo_split_subset (q := q2) (f := f2) (inSl_sub X m2)).1 $$ H2
  icases H2 with ⟨H2, H2r⟩
  ihave H3 := (pointsTo_split_subset (q := q3) (f := f3) (inSl_sub X m3)).1 $$ H3
  icases H3 with ⟨H3, H3r⟩
  iapply (Transfers.wp_dmaLocal EC 𝒱₀ (thr d X.L) none (src := inSl X.L m2) (via := .same) (dst := m5) (fs := f2) (Sd := m5.view.set) (fd := f5) (sm := SemLoc.dma s8.sem) (default : HIx 2)
    (m5.view.dmaCredit) rfl (View.dmaCredit_pos _ (by decide)) (Finset.Subset.refl _)) $$ [H2 H5 Hs8]
  · isplitl [H2]; · iexact H2
    isplitl [H5]; · iexact H5
    iexact Hs8
  iintro HF
  iapply (Transfers.wp_dmaLocal EC 𝒱₀ (thr d X.L) none (src := inSl X.L m3) (via := .same) (dst := m6) (fs := f3) (Sd := m6.view.set) (fd := f6) (sm := SemLoc.dma s9.sem) (default : HIx 2)
    (m6.view.dmaCredit) rfl (View.dmaCredit_pos _ (by decide)) (Finset.Subset.refl _)) $$ [H3 H6 Hs9]
  · isplitl [H3]; · iexact H3
    isplitl [H6]; · iexact H6
    iexact Hs9
  iintro HF'
  iapply (wp_wait d X (dstw := m5) (sm' := SemLoc.dma s8.sem) rfl (N := m5.view.dmaCredit) rfl (O := O) (W := W)) $$ [HF HO]
  · isplitl []; · iexact Hmw
    isplitl [HF]; · iexact HF
    iexact HO
  iintro ⟨⟨H5, H2⟩, Hs8, HO⟩
  iapply (wp_wait d X (dstw := m6) (sm' := SemLoc.dma s9.sem) rfl (N := m6.view.dmaCredit) rfl (O := O) (W := W)) $$ [HF' HO]
  · isplitl []; · iexact Hmw
    isplitl [HF']; · iexact HF'
    iexact HO
  iintro ⟨⟨H6, H3⟩, Hs9, HO⟩
  ihave H2 := (pointsTo_split_subset (q := q2) (f := f2) (inSl_sub X m2)).2 $$ [H2 H2r]
  · isplitl [H2]; · iexact H2
    iexact H2r
  ihave H3 := (pointsTo_split_subset (q := q3) (f := f3) (inSl_sub X m3)).2 $$ [H3 H3r]
  · isplitl [H3]; · iexact H3
    iexact H3r
  iapply (Scf.wp_for_bind frame (wpE (defs₀ (F := F)) 𝒱₀ (thr d X.L) none) Set.univ _ _ _ _ _ _
    (fun k _ => dotInv (F := F) d X m5 m6 m7 (hu := fun i => hu (widN X.L * 16384 + i)) (hv := fun i => hv (widN X.L * 16384 + i)) k) (fun k acc => dot_body d X m2 w2 m3 w3 m4 w4 m5 w5 m6 w6 m7 w7 s8 s9 r0 k acc)) $$ [H5 H6 H7]
  · unfold dotInv
    isplitl [H5 H6]
    · unfold Arr
      isplitl [H5]
      · iexists _
        isplitl [H5]; · iexact H5
        ipureintro
        intro i
        rw [View.read_write_univ]
        exact inSl_read d X m2 f2 h2 i
      · iexists _
        isplitl [H6]; · iexact H6
        ipureintro
        intro i
        rw [View.read_write_univ]
        exact inSl_read d X m3 f3 h3 i
    icases H7 with ⟨%h7, H7⟩
    iexists h7
    isplitl [H7]; · iexact H7
    ipureintro
    intro p hp
    exact absurd hp (by omega)
  iintro %acc HI
  ihave HI := (Entails.of_eq (congrArg (dotInv (F := F) d X m5 m6 m7 (hu := fun i => hu (widN X.L * 16384 + i)) (hv := fun i => hv (widN X.L * 16384 + i))) k1_trips)) $$ HI
  unfold dotInv DOut
  icases HI with ⟨⟨H5, H6⟩, %h7, H7, %hh⟩
  ihave H7 := (Entails.of_eq (show Arr (F := F) d X.L m7 h7 = iprop(∃ f, (m7.view.loc (thr d X.L) ↦[m7.view.set]{fullShare} f) ∗ ⌜∀ i, m7.view.read (Elt F) f i = h7 (i 0).val⌝) from rfl)) $$ H7
  icases H7 with ⟨%f7, H7, %hf7⟩
  iapply (Transfers.wp_dmaLocal EC 𝒱₀ (thr d X.L) none (src := m7) (via := .same) (dst := outSl X.L m4) (fs := f7) (Sd := (outSl X.L m4).view.set) (fd := f4) (sm := SemLoc.dma r0.sem) (default : HIx 2)
    ((outSl X.L m4).view.dmaCredit) rfl (View.dmaCredit_pos _ (by decide)) (Finset.Subset.refl _)) $$ [H7 H4 Hr0]
  · isplitl [H7]; · iexact H7
    isplitl [H4]; · iexact H4
    iexact Hr0
  iintro HF
  iapply (wp_wait d X (dstw := outSl X.L m4) (sm' := SemLoc.dma r0.sem) rfl (N := (outSl X.L m4).view.dmaCredit) rfl (O := O) (W := W)) $$ [HF HO]
  · isplitl []; · iexact Hmw
    isplitl [HF]; · iexact HF
    iexact HO
  iintro ⟨⟨H4, H7⟩, Hr0, HO⟩
  have hc : (m4.view.loc (thr d X.L) ↦[(outSl X.L m4).view.set]{fullShare} ((outSl X.L m4).view.write (Elt F) f4 (ReadAs.same.apply (m7.view.read (Elt F) f7)) Finset.univ) : sProp 𝕄)
      = m4.view.loc (thr d X.L) ↦[(outSl X.L m4).view.set]{fullShare} fin4 := by
    refine pointsTo_congr fun p hp => ?_
    obtain ⟨i, -, hi⟩ := Finset.mem_map.mp hp
    rw [← hi]
    refine raw_of_read d X (outSl X.L m4) _ fin4 i ?_
    rw [View.read_write_univ]
    refine (hf7 i).trans ?_
    have hi : (i 0).val < 512 := (i 0).isLt
    rw [hh _ (by omega), outSl_read d X m4 fin4 (h := fun p => dacc hu hv p 32) h4, dacc_shift]
  ihave H4 := (Entails.of_eq hc) $$ H4
  iapply (wp_done d X.L)
  isplitl [H2 H3 H4]
  · isplitl [H2]; · iexact H2
    isplitl [H3]; · iexact H3
    iexact H4
  isplitl [H5 H6 H7]
  · isplitl [H5]; · iexists _; iexact H5
    isplitl [H6]; · iexists _; iexact H6
    iexists h7
    unfold Arr
    iexists f7
    isplitl [H7]; · iexact H7
    ipureintro; exact hf7
  isplitl [Hs8 Hs9 Hr0]
  · isplitl [Hs8]; · iexact Hs8
    isplitl [Hs9]; · iexact Hs9
    iexact Hr0
  iexact HO

end Dot

end Cert.Proof.Gather
-- ==== Proof.Task.lean ====
/-
  The two kernels' scratch and semaphores among what the launch deals a vector subcore.
-/
module

public import proofs.«01_k».proof.Proof.DotTile

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid0.Coords)

open Transfers (MayWaits)

/-- The gather kernel's arguments at the launch, on the tile at `L`. -/
abbrev XL : Ctx where
  L := L
  m2 := Memref.whole main_arg0_scv
  w2 := Memref.isWhole_whole _
  m3 := Memref.whole main_arg1_scv
  w3 := Memref.isWhole_whole _
  m4 := Memref.whole main_v1_scv
  w4 := Memref.isWhole_whole _
  m5 := Memref.whole main_v3_scv
  w5 := Memref.isWhole_whole _
  m6 := Memref.whole main_v4_0_scv
  w6 := Memref.isWhole_whole _
  m7 := Memref.whole main_v4_1_scv
  w7 := Memref.isWhole_whole _
  m8 := Memref.whole cc0_scratch0
  w8 := Memref.isWhole_whole _
  m9 := Memref.whole cc0_scratch1
  w9 := Memref.isWhole_whole _
  m10 := Memref.whole cc0_scratch2
  w10 := Memref.isWhole_whole _
  m11 := Memref.whole cc0_scratch3
  w11 := Memref.isWhole_whole _
  m12 := Memref.whole cc0_scratch4
  w12 := Memref.isWhole_whole _
  m13 := Memref.whole cc0_scratch5
  w13 := Memref.isWhole_whole _
  m14 := Memref.whole cc0_scratch6
  w14 := Memref.isWhole_whole _
  m15 := Memref.whole cc0_scratch7
  w15 := Memref.isWhole_whole _
  m16 := Memref.whole cc0_scratch8
  w16 := Memref.isWhole_whole _
  gsem := cc0_scratch9
  wsem := cc0_scratch10
  r0 := cc0_scoped0
  r1 := cc0_scoped1

/-! ## Buffers -/

/-- A subcore's buffer, at some contents. -/
abbrev SomeBuf (r : Ref sig .scVector) : sProp 𝕄 := iprop(∃ f, (thr d L).loc r ↦{fullShare} f)

omit [FloatOps F] in
/-- Some of a subcore's own buffers, and the others. -/
theorem ownBufs_some {n : ℕ} (refs : Fin n → Ref sig .scVector) (hi : Function.Injective refs)
    (ho : ∀ k, ((Proc.scVector (cV L) (jV L)).devRef (refs k)).owner = .proc (.scVector (cV L) (jV L))) :
    ∃ R : sProp 𝕄, ownBufs (thr d L) = iprop(bigSep Finset.univ (fun k => SomeBuf (F := F) d L (refs k)) ∗ R) := by
  classical
  refine ⟨bigSep (ownRefs (τ := τ) (.scVector (cV L) (jV L)) \ Finset.univ.image fun k => (Proc.scVector (cV L) (jV L)).devRef (refs k)) fun b => iprop(∃ f, ((d, b) : Loc nD τ sig) ↦{fullShare} f), ?_⟩
  unfold SparseCore.Cfg.ownBufs
  rw [SparseCore.bigSep_sdiff_split' (t := Finset.univ.image fun k => (Proc.scVector (cV L) (jV L)).devRef (refs k)) (fun b hb => by
    obtain ⟨k, -, rfl⟩ := Finset.mem_image.mp hb
    exact SparseCore.Cfg.mem_ownRefs_of_owner (p := Proc.scVector (cV L) (jV L)) (ho k))]
  rw [SparseCore.bigSep_image_of_injOn (fun a _ b _ e => hi (Proc.devRef_injective _ e))]

omit [FloatOps F] in
/-- Some of a subcore's own semaphores, and the others. -/
theorem ownSems0_some {n : ℕ} (sems : Fin n → SemLoc sig) (hi : Function.Injective sems) (ho : ∀ k, (sems k).isScoped .scVector = true) :
    ∃ R : sProp 𝕄, ownSems0 (thr d L) = iprop(bigSep Finset.univ (fun k => semVal (thr d L, sems k) 0) ∗ R) := by
  classical
  refine ⟨bigSep (ownCells (thr d L) \ Finset.univ.image fun k => ((thr d L, sems k) : GSem nD τ sig)) fun g => semVal g 0, ?_⟩
  unfold SparseCore.Cfg.ownSems0
  rw [SparseCore.bigSep_sdiff_split' (t := Finset.univ.image fun k => ((thr d L, sems k) : GSem nD τ sig)) (fun b hb => by
    obtain ⟨k, -, rfl⟩ := Finset.mem_image.mp hb
    exact (mem_ownCells (g := (thr d L, sems k))).mpr ⟨rfl, ho k⟩)]
  rw [SparseCore.bigSep_image_of_injOn (fun a _ b _ e => hi (Prod.mk.inj e).2)]

/-- The gather kernel's scratch buffers. -/
abbrev refs0 : Fin 9 → Ref sig .scVector := ![cc0_scratch0, cc0_scratch1, cc0_scratch2, cc0_scratch3, cc0_scratch4, cc0_scratch5, cc0_scratch6, cc0_scratch7, cc0_scratch8]
/-- The second kernel's scratch buffers. -/
abbrev refs1 : Fin 3 → Ref sig .scVector := ![cc1_scratch0, cc1_scratch1, cc1_scratch2]

omit [FloatOps F] in
theorem fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) := by
  rw [show (Finset.univ : Finset (Fin 9)) = {0, 1, 2, 3, 4, 5, 6, 7, 8} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

omit [FloatOps F] in
theorem fin3 (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

variable [∀ e, Nonempty (Elt F e)]

omit [FloatOps F] in
/-- A whole buffer of rank one is an array. -/
theorem any_whole (X : Ctx) {n : ℕ} {e : EltTy} {sp : Space} (M : Memref sig .scVector sp ⟨1, ![n]⟩ e) (hM : M.view.set = Finset.univ) :
    (iprop(∃ f, M.view.loc (thr d X.L) ↦{fullShare} f) : sProp 𝕄) = AnyArr d X M := by
  have h1 : (iprop(∃ f, M.view.loc (thr d X.L) ↦{fullShare} f) : sProp 𝕄) ⊢ AnyArr d X M := by
    iintro ⟨%f, H⟩
    unfold AnyArr
    iapply (arr_intro d X.L M f)
    rw [hM]
    iexact H
  have h2 : (AnyArr d X M : sProp 𝕄) ⊢ iprop(∃ f, M.view.loc (thr d X.L) ↦{fullShare} f) := by
    unfold AnyArr Arr
    rw [hM]
    iintro ⟨%h, %f, H, -⟩
    iexists f
    iexact H
  exact BI.Entails.antisymm h1 h2

/-- The gather kernel's scratch is the subcore's. -/
theorem scratch_eq : (Scratch (F := F) d (XL L) : sProp 𝕄) = bigSep Finset.univ (fun k => SomeBuf (F := F) d L (refs0 k)) := by
  rw [fin9]
  unfold Scratch
  rw [← any_whole d (XL L) (XL L).m8 (View.set_whole _), ← any_whole d (XL L) (XL L).m9 (View.set_whole _), ← any_whole d (XL L) (XL L).m10 (View.set_whole _),
    ← any_whole d (XL L) (XL L).m11 (View.set_whole _), ← any_whole d (XL L) (XL L).m12 (View.set_whole _), ← any_whole d (XL L) (XL L).m13 (View.set_whole _),
    ← any_whole d (XL L) (XL L).m14 (View.set_whole _), show (XL L).m15.view.set = Finset.univ from View.set_whole _, show (XL L).m16.view.set = Finset.univ from View.set_whole _]
  rfl

/-- The second kernel's scratch is the subcore's. -/
theorem scratch1_eq : (iprop(AnyArr (F := F) d (XL L) (Memref.whole cc1_scratch0) ∗ AnyArr (F := F) d (XL L) (Memref.whole cc1_scratch1) ∗ AnyArr (F := F) d (XL L) (Memref.whole cc1_scratch2)) : sProp 𝕄)
    = bigSep Finset.univ (fun k => SomeBuf (F := F) d L (refs1 k)) := by
  rw [fin3, ← any_whole d (XL L) (Memref.whole cc1_scratch0) (View.set_whole _), ← any_whole d (XL L) (Memref.whole cc1_scratch1) (View.set_whole _),
    ← any_whole d (XL L) (Memref.whole cc1_scratch2) (View.set_whole _)]
  rfl

/-! ## Semaphores -/

omit [FloatOps F] [∀ e, Nonempty (Elt F e)] in
theorem dma_scoped (k : Fin 14) : (SemLoc.dma k : SemLoc sig).isScoped .scVector = true := by
  revert k
  decide

theorem gs_eq (s : Fin 8) : gs (XL L) s = .dma (⟨s.val, lt_of_lt_of_le s.isLt (by decide)⟩ : Fin 14) := by
  have h : ∀ s : Fin 8, (SemLoc.dma ((cc0_scratch9.slice (Rect.unit (s := S8) ![s.val] S1.size (sem_inb s))).squeeze S_ squeezes_S1_S_).sem : SemLoc sig)
    = .dma (⟨s.val, lt_of_lt_of_le s.isLt (by decide)⟩ : Fin 14) := by decide
  exact h s

omit [FloatOps F] [∀ e, Nonempty (Elt F e)] in
theorem fin_split {a b c : ℕ} (h : a + b = c) (Φ : Fin c → sProp 𝕄) :
    bigSep Finset.univ Φ = iprop(bigSep Finset.univ (fun s : Fin a => Φ ⟨s.val, by omega⟩) ∗ bigSep Finset.univ fun s : Fin b => Φ ⟨a + s.val, by omega⟩) := by
  subst h
  rw [bigSep_univ_equiv finSumFinEquiv Φ, bigSep_univ_sum]
  rfl

/-- The gather kernel's semaphores, and the others of the subcore. -/
theorem sems0_split : ∃ R : sProp 𝕄, ownSems0 (thr d L) = iprop(Sems (F := F) d (XL L) ∗ R) := by
  obtain ⟨R, h⟩ := ownSems0_some (F := F) d L (fun k : Fin 11 => .dma (⟨k.val, lt_of_lt_of_le k.isLt (by decide)⟩ : Fin 14))
    (fun a b e => Fin.ext (Fin.mk.inj (SemLoc.dma.inj e))) (fun k => dma_scoped _)
  refine ⟨R, h.trans ?_⟩
  rw [fin_split (a := 8) (b := 3) rfl, fin3]
  congr 1

/-- The second kernel's semaphores, and the others of the subcore. -/
theorem sems1_split : ∃ R : sProp 𝕄, ownSems0 (thr d L) = iprop((semVal (thr d L, SemLoc.dma cc1_scratch3.sem) 0 ∗ semVal (thr d L, SemLoc.dma cc1_scratch4.sem) 0
    ∗ semVal (thr d L, SemLoc.dma cc1_scoped0.sem) 0) ∗ R) := by
  obtain ⟨R, h⟩ := ownSems0_some (F := F) d L (fun k : Fin 3 => .dma (⟨11 + k.val, by omega⟩ : Fin 14))
    (fun a b e => Fin.ext (by have := Fin.mk.inj (SemLoc.dma.inj e); omega)) (fun k => dma_scoped _)
  refine ⟨R, h.trans ?_⟩
  rw [fin3, show (SemLoc.dma cc1_scratch3.sem : SemLoc sig) = .dma (11 : Fin 14) by decide, show (SemLoc.dma cc1_scratch4.sem : SemLoc sig) = .dma (12 : Fin 14) by decide,
    show (SemLoc.dma cc1_scoped0.sem : SemLoc sig) = .dma (13 : Fin 14) by decide]
  rfl

/-! ## The two kernels from what the launch deals -/

section Tile

variable (hF : (K (F := F)).Facts) (O : CellTallies nD τ sig (HIx 2)) (W : Waits sig (HIx 2)) (hO : ∀ g, O g none = 0)

include hF hO in
/-- The gather kernel on one tile, among what the launch deals the subcore. -/
theorem tile0 (q2 q3 q4 q5 : PosShare TreeShare) (f2 : Buf (Elt F) ((XL L).m2.view.loc (thr d L))) (f3 : Buf (Elt F) ((XL L).m3.view.loc (thr d L)))
    (f4 : Buf (Elt F) ((XL L).m4.view.loc (thr d L))) (f5 : Buf (Elt F) ((XL L).m5.view.loc (thr d L)))
    {hx hy : ℕ → BitVec 32} (h2 : ∀ i, (XL L).m2.view.read (Elt F) f2 i = hx (i 0).val) (h3 : ∀ i, (XL L).m3.view.read (Elt F) f3 i = hy (i 0).val)
    (hfx : Fits (ixN hx)) (hfy : Fits (ixN hy)) {T T' : ℕ → ℕ → Elt F .f32} (h4 : ∀ i, (XL L).m4.view.read (Elt F) f4 i = T (i 0).val (i 1).val) (h5 : ∀ i, (XL L).m5.view.read (Elt F) f5 i = T' (i 0).val (i 1).val)
    (f6 fin6 : Buf (Elt F) ((XL L).m6.view.loc (thr d L))) (f7 fin7 : Buf (Elt F) ((XL L).m7.view.loc (thr d L)))
    (h6 : ∀ (b : Fin 16384) (c : Fin 32), (XL L).m6.view.read (Elt F) fin6 (oix b c) = T c.val (ixN hx b.val))
    (h7 : ∀ (b : Fin 16384) (c : Fin 32), (XL L).m7.view.read (Elt F) fin7 (oix b c) = T' c.val (ixN hy b.val)) :
    iprop(levAts (K (F := F)).L (K (F := F)).lev ∗ emp ∗ Res d (XL L) q2 q3 q4 q5 f2 f3 f4 f5 (ixN hx) (ixN hy) f6 f7
        ∗ scopedBufs (thr d L) ∗ scopedSems0 (thr d L) ∗ owes (thr d L) O W)
      ⊢ twp d L (cc0__gather_kernel (F := F) L (XL L).m2 (XL L).w2 (XL L).m3 (XL L).w3 (XL L).m4 (XL L).w4 (XL L).m5 (XL L).w5 (XL L).m6 (XL L).w6 (XL L).m7 (XL L).w7 (XL L).m8 (XL L).w8 (XL L).m9 (XL L).w9 (XL L).m10 (XL L).w10 (XL L).m11 (XL L).w11 (XL L).m12 (XL L).w12 (XL L).m13 (XL L).w13 (XL L).m14 (XL L).w14 (XL L).m15 (XL L).w15 (XL L).m16 (XL L).w16 cc0_scratch9 cc0_scratch10 cc0_scoped0 cc0_scoped1)
          (fun _ => iprop(Res d (XL L) q2 q3 q4 q5 f2 f3 f4 f5 (ixN hx) (ixN hy) fin6 fin7 ∗ scopedBufs (thr d L) ∗ scopedSems0 (thr d L)
            ∗ ∃ W', ⌜∀ p ∈ W', p ∈ W ∨ p.2 = none⌝ ∗ owes (thr d L) O W')) := by
  obtain ⟨RB, eB⟩ := ownBufs_some (F := F) d L refs0 (by decide) (by intro k; fin_cases k <;> rfl)
  obtain ⟨RS, eS⟩ := sems0_split (F := F) d L
  rw [(K (F := F)).scopedBufs_V hF d (cV L) (jV L), SparseCore.Cfg.scopedSems0_V (Val := Elt F) d (cV L) (jV L), eS, eB, ← scratch_eq]
  iintro ⟨#Hlv, -, HR, ⟨HB, HRB⟩, ⟨HS, HRS⟩, HO⟩
  ihave Hmw := (show levAts (K (F := F)).L (K (F := F)).lev ⊢ MayWaits (thr d L) (default : HIx 2) O from
    (K (F := F)).mayWaits_none (thr := thr d L) hO) $$ Hlv
  iapply ((gather_wp d (XL L) q2 q3 q4 q5 f2 f3 f4 f5 h2 h3 hfx hfy h4 h5 f6 fin6 f7 fin7 h6 h7 O W).trans (wp_wand frame (wpE (defs₀ (F := F)) 𝒱₀ (thr d L) none) Set.univ)) $$ [HR HB HS HO]
  · isplitl []; · iexact Hmw
    isplitl [HR]; · iexact HR
    isplitl [HB]; · iexact HB
    isplitl [HS]; · iexact HS
    unfold owe
    iexists W
    isplitr; · ipureintro; exact fun p hp => .inl hp
    iexact HO
  iintro %_ ⟨HR, HB, HS, HO⟩
  isplitl [HR]; · iexact HR
  isplitl [HB HRB]
  · isplitl [HB] <;> iassumption
  isplitl [HS HRS]
  · isplitl [HS] <;> iassumption
  unfold owe
  iexact HO

include hF hO in
/-- The second kernel on one tile, among what the launch deals the subcore. -/
theorem tile1 {hu hv : ℕ → F .f32} (q2 q3 : PosShare TreeShare) (f2 : Buf (Elt F) ((XL L).m6.view.loc (thr d L))) (f3 : Buf (Elt F) ((XL L).m7.view.loc (thr d L)))
    (h2 : ∀ i, (XL L).m6.view.read (Elt F) f2 i = hu (i 0).val) (h3 : ∀ i, (XL L).m7.view.read (Elt F) f3 i = hv (i 0).val)
    (f4 fin4 : Buf (Elt F) ((Memref.whole main_v5_scv).view.loc (thr d L))) (h4 : ∀ i, (Memref.whole main_v5_scv).view.read (Elt F) fin4 i = dacc hu hv (i 0).val 32) :
    iprop(levAts (K (F := F)).L (K (F := F)).lev ∗ emp ∗ (DIn d (XL L) (XL L).m6 q2 f2 ∗ DIn d (XL L) (XL L).m7 q3 f3 ∗ DOut d (XL L) (Memref.whole main_v5_scv) f4)
        ∗ scopedBufs (thr d L) ∗ scopedSems0 (thr d L) ∗ owes (thr d L) O W)
      ⊢ twp d L (cc1__dot_kernel (F := F) L (XL L).m6 (XL L).w6 (XL L).m7 (XL L).w7 (Memref.whole main_v5_scv) (Memref.isWhole_whole _) (Memref.whole cc1_scratch0) (Memref.isWhole_whole _)
          (Memref.whole cc1_scratch1) (Memref.isWhole_whole _) (Memref.whole cc1_scratch2) (Memref.isWhole_whole _) cc1_scratch3 cc1_scratch4 cc1_scoped0)
          (fun _ => iprop((DIn d (XL L) (XL L).m6 q2 f2 ∗ DIn d (XL L) (XL L).m7 q3 f3 ∗ DOut d (XL L) (Memref.whole main_v5_scv) fin4) ∗ scopedBufs (thr d L) ∗ scopedSems0 (thr d L)
            ∗ ∃ W', ⌜∀ p ∈ W', p ∈ W ∨ p.2 = none⌝ ∗ owes (thr d L) O W')) := by
  obtain ⟨RB, eB⟩ := ownBufs_some (F := F) d L refs1 (by decide) (by intro k; fin_cases k <;> rfl)
  obtain ⟨RS, eS⟩ := sems1_split (F := F) d L
  rw [(K (F := F)).scopedBufs_V hF d (cV L) (jV L), SparseCore.Cfg.scopedSems0_V (Val := Elt F) d (cV L) (jV L), eS, eB, ← scratch1_eq]
  iintro ⟨#Hlv, -, HR, ⟨HB, HRB⟩, ⟨HS, HRS⟩, HO⟩
  ihave Hmw := (show levAts (K (F := F)).L (K (F := F)).lev ⊢ MayWaits (thr d L) (default : HIx 2) O from
    (K (F := F)).mayWaits_none (thr := thr d L) hO) $$ Hlv
  iapply ((dot_wp d (XL L) (XL L).m6 (XL L).w6 (XL L).m7 (XL L).w7 (Memref.whole main_v5_scv) (Memref.isWhole_whole _) (Memref.whole cc1_scratch0) (Memref.isWhole_whole _)
      (Memref.whole cc1_scratch1) (Memref.isWhole_whole _) (Memref.whole cc1_scratch2) (Memref.isWhole_whole _) cc1_scratch3 cc1_scratch4 cc1_scoped0 q2 q3 f2 f3 h2 h3 f4 fin4 h4 O W).trans (wp_wand frame (wpE (defs₀ (F := F)) 𝒱₀ (thr d L) none) Set.univ)) $$ [HR HB HS HO]
  · isplitl []; · iexact Hmw
    isplitl [HR]; · iexact HR
    isplitl [HB]; · iexact HB
    isplitl [HS]; · iexact HS
    unfold owe
    iexists W
    isplitr; · ipureintro; exact fun p hp => .inl hp
    iexact HO
  iintro %_ ⟨HR, HB, HS, HO⟩
  isplitl [HR]; · iexact HR
  isplitl [HB HRB]
  · isplitl [HB] <;> iassumption
  isplitl [HS HRS]
  · isplitl [HS] <;> iassumption
  unfold owe
  iexact HO

end Tile

end Cert.Proof.Gather
-- ==== Proof.Pay.lean ====
/-
  What the two calls hand their tiles and take back: shares of the arrays they read, and each tile's own rows of the
  arrays they write.
-/
module

public import proofs.«01_k».proof.Proof.Task

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open ShareLeaves (leaf)
open Idealize.ShloMosaic.ValueIdx (ix1 ix2)

/-! ## An array dealt by classes of its elements -/

section Deal

variable {ℓ : Loc nD τ sig} {q : PosShare TreeShare}

/-- An array held on a set is its elements' classes at once. -/
theorem pts_classes {ι : Type} [DecidableEq ι] (S : Finset (Idx ℓ)) (s : Finset ι) (cls : Idx ℓ → ι) (h : ∀ p ∈ S, cls p ∈ s) (f : Buf (Elt F) ℓ) :
    (ℓ ↦[S]{q} f : sProp 𝕄) = bigSep s fun k => ℓ ↦[S.filter fun p => cls p = k]{q} f := by
  classical
  rw [← pointsTo_biUnion s (ℓ := ℓ) (fun k => S.filter fun p => cls p = k) (fun t _ t' _ hne => by
    rw [Finset.disjoint_left]
    intro p h1 h2
    exact hne ((Finset.mem_filter.mp h1).2.symm.trans (Finset.mem_filter.mp h2).2))]
  congr 1
  ext p
  rw [Finset.mem_biUnion]
  constructor
  · intro hp
    exact ⟨_, h p hp, Finset.mem_filter.mpr ⟨hp, rfl⟩⟩
  · rintro ⟨k, -, hp⟩
    exact (Finset.mem_filter.mp hp).1

/-- An array dealt to the 32 tiles by a tile number of each element. -/
theorem deal_tiles (w : Idx ℓ → ℕ) (hw : ∀ p, w p < 32) (f : Buf (Elt F) ℓ) :
    (ℓ ↦{q} f : sProp 𝕄) = bigSep (Finset.univ : Finset (Fin 2)) fun c => bigSep (Finset.univ : Finset (Fin 16)) fun i =>
      ℓ ↦[Finset.univ.filter fun p => w p = i.val * 2 + c.val]{q} f := by
  refine (pts_classes Finset.univ Finset.univ (fun p => (⟨w p % 2, Nat.mod_lt _ (by decide)⟩ : Fin 2)) (fun _ _ => Finset.mem_univ _) f).trans (bigSep_congr fun c _ => ?_)
  refine (pts_classes _ Finset.univ (fun p => (⟨w p / 2, by have := hw p; omega⟩ : Fin 16)) (fun _ _ => Finset.mem_univ _) f).trans (bigSep_congr fun i _ => ?_)
  congr 1
  ext p
  simp only [Finset.mem_filter, Finset.mem_univ, true_and, Fin.ext_iff]
  omega

/-- An array of 16384 rows dealt to the tiles their indices belong to, row by row. -/
theorem deal_rows (row : Idx ℓ → ℕ) (hrow : ∀ p, row p < 16384) (ix : ℕ → ℕ) (f : Buf (Elt F) ℓ) :
    (ℓ ↦{q} f : sProp 𝕄) = bigSep (Finset.univ : Finset (Fin 2)) fun c => bigSep (Finset.univ : Finset (Fin 16)) fun i =>
      bigSep (own ix (i.val * 2 + c.val)) fun b => ℓ ↦[Finset.univ.filter fun p => row p = b.val]{q} f := by
  refine (deal_tiles (fun p => ix (row p) / 128 % 32) (fun p => Nat.mod_lt _ (by decide)) f).trans (bigSep_congr fun c _ => bigSep_congr fun i _ => ?_)
  refine (pts_classes _ (own ix (i.val * 2 + c.val)) (fun p => (⟨row p, hrow p⟩ : Fin 16384)) (fun p hp => ?_) f).trans (bigSep_congr fun b hb => ?_)
  · exact Finset.mem_filter.mpr ⟨Finset.mem_univ _, hrow p, (Finset.mem_filter.mp hp).2⟩
  · congr 1
    ext p
    simp only [Finset.mem_filter, Finset.mem_univ, true_and, Fin.ext_iff]
    constructor
    · exact fun h => h.2
    · intro h
      exact ⟨by rw [h]; exact (Finset.mem_filter.mp hb).2.2, h⟩

/-- The tile at core `c`, subcore `i`. -/
def tl (c : Fin 2) (i : Fin 16) : grid0.Coords := fun | 0 => c | 1 => i | ⟨_ + 2, h⟩ => absurd h (Nat.not_lt.2 (Nat.le_add_left _ _))

/-- A tile's share of an array all tiles read. -/
def sh (L : grid0.Coords) : PosShare TreeShare := leaf 4 (leaf 1 fullShare (L 0)) (L 1)

theorem deal_shares (f : Buf (Elt F) ℓ) :
    (ℓ ↦{fullShare} f : sProp 𝕄) = bigSep (Finset.univ : Finset (Fin 2)) fun c => bigSep (Finset.univ : Finset (Fin 16)) fun i => ℓ ↦{sh (tl c i)} f :=
  (ShareLeaves.pointsTo_leaves Finset.univ f 1 fullShare).trans (bigSep_congr fun c _ => ShareLeaves.pointsTo_leaves Finset.univ f 4 (leaf 1 fullShare c))

end Deal

/-! ## The rows' elements -/

theorem row_set (b : Fin 16384) : (Rect.unit (s := S524288) ![b.val * 32] S32.size (out_inb b)).set = (Finset.univ.filter fun p : S524288.Idx => (p 0).val / 32 = b.val) := by
  ext p
  rw [Rect.mem_set_unit, Finset.mem_filter]
  have hp : (p 0).val < 524288 := (p 0).isLt
  constructor
  · intro h
    have h0 : b.val * 32 ≤ (p 0).val ∧ (p 0).val < b.val * 32 + 32 := h 0
    exact ⟨Finset.mem_univ _, by omega⟩
  · rintro ⟨-, h⟩ a
    obtain rfl := Fin.eq_zero a
    show b.val * 32 ≤ (p 0).val ∧ (p 0).val < b.val * 32 + 32
    omega

theorem out_set6 (L : grid0.Coords) (b : Fin 16384) : (outM (XL L) b).view.set = (Finset.univ.filter fun p : S524288.Idx => (p 0).val / 32 = b.val) := by
  rw [← row_set]
  show ((View.whole (main_v4_0_scv : Ref sig .scVector)).slice (Rect.unit (s := S524288) ![b.val * 32] S32.size (out_inb b))).set = _
  rw [View.set_slice]
  exact Finset.map_refl

theorem out_set7 (L : grid0.Coords) (b : Fin 16384) : (outM (XL L).swap b).view.set = (Finset.univ.filter fun p : S524288.Idx => (p 0).val / 32 = b.val) := by
  rw [← row_set]
  show ((View.whole (main_v4_1_scv : Ref sig .scVector)).slice (Rect.unit (s := S524288) ![b.val * 32] S32.size (out_inb b))).set = _
  rw [View.set_slice]
  exact Finset.map_refl

theorem out_set5 (L : grid0.Coords) : (outSl L (Memref.whole main_v5_scv)).view.set = (Finset.univ.filter fun p : S16384.Idx => (p 0).val / 512 = widN L) := by
  have e : (outSl L (Memref.whole main_v5_scv)).view.set = (Rect.unit (s := S16384) (k1_off3 L) S512.size (k1_off3_inb L)).set := by
    show ((View.whole (main_v5_scv : Ref sig .scVector)).slice (Rect.unit (s := S16384) (k1_off3 L) S512.size (k1_off3_inb L))).set = _
    rw [View.set_slice]
    exact Finset.map_refl
  rw [e]
  have hv := k1_off3_val L
  ext p
  rw [Rect.mem_set_unit, Finset.mem_filter]
  constructor
  · intro h
    have h0 : k1_off3 L 0 ≤ (p 0).val ∧ (p 0).val < k1_off3 L 0 + 512 := h 0
    exact ⟨Finset.mem_univ _, by omega⟩
  · rintro ⟨-, h⟩ a
    obtain rfl := Fin.eq_zero a
    show k1_off3 L 0 ≤ (p 0).val ∧ (p 0).val < k1_off3 L 0 + 512
    omega

/-! ## The arrays' values -/

/-- An index array by position. -/
def idxs (f : S16384.Idx → BitVec 32) (k : ℕ) : BitVec 32 := f (ix1 (⟨k % 16384, Nat.mod_lt _ (by decide)⟩ : Fin 16384))
/-- A transposed table by row and column. -/
def tbl (t : S32x1000064.Idx → F .f32) (r c : ℕ) : F .f32 := t (ix2 (⟨r % 32, Nat.mod_lt _ (by decide)⟩ : Fin 32) (⟨c % 1000064, Nat.mod_lt _ (by decide)⟩ : Fin 1000064))
/-- The gathered array by position: position `p * 32 + j` holds row `j` of the table's column that index `p` names. -/
def gath (t : S32x1000064.Idx → F .f32) (f : S16384.Idx → BitVec 32) (k : ℕ) : F .f32 := tbl t (k % 32) (ixN (idxs f) (k / 32))
/-- The gathered array. -/
def gathB (t : S32x1000064.Idx → F .f32) (f : S16384.Idx → BitVec 32) : S524288.Idx → F .f32 := fun i => gath t f (i 0).val
/-- The result: each position's ordered sum of products. -/
def dotB [FloatOps F] (hu hv : ℕ → F .f32) : S16384.Idx → F .f32 := fun i => dacc hu hv (i 0).val 32

theorem idxs_val (f : S16384.Idx → BitVec 32) (i : S16384.Idx) : f i = idxs f (i 0).val := by
  unfold idxs
  congr 1
  funext a
  obtain rfl := Fin.eq_zero a
  exact Fin.ext (Nat.mod_eq_of_lt (i 0).isLt).symm

theorem tbl_val (t : S32x1000064.Idx → F .f32) (i : S32x1000064.Idx) : t i = tbl t (i 0).val (i 1).val := by
  unfold tbl
  congr 1
  funext a
  fin_cases a
  · exact Fin.ext (Nat.mod_eq_of_lt (i 0).isLt).symm
  · exact Fin.ext (Nat.mod_eq_of_lt (i 1).isLt).symm

theorem gathB_val (t : S32x1000064.Idx → F .f32) (f : S16384.Idx → BitVec 32) (b : Fin 16384) (c : Fin 32) :
    gathB t f (oix b c) = tbl t c.val (ixN (idxs f) b.val) := by
  have h := c.isLt
  have h1 : (b.val * 32 + c.val) % 32 = c.val := by omega
  have h2 : (b.val * 32 + c.val) / 32 = b.val := by omega
  show tbl t ((b.val * 32 + c.val) % 32) (ixN (idxs f) ((b.val * 32 + c.val) / 32)) = _
  rw [h1, h2]

/-! ## What the calls hand over -/

variable (m : (ℓ : Loc nD τ sig) → Buf (Elt F) ℓ) (ρ : Dev nD → PrngReg)

abbrev lA0 (d : Dev nD) : Loc nD τ sig := (SparseCore.T d).loc main_arg0
abbrev lA1 (d : Dev nD) : Loc nD τ sig := (SparseCore.T d).loc main_arg1
abbrev lA2 (d : Dev nD) : Loc nD τ sig := (SparseCore.T d).loc main_arg2
abbrev lA3 (d : Dev nD) : Loc nD τ sig := (SparseCore.T d).loc main_arg3
abbrev lT (d : Dev nD) : Loc nD τ sig := (SparseCore.T d).loc main_v1
abbrev lT' (d : Dev nD) : Loc nD τ sig := (SparseCore.T d).loc main_v3
abbrev lG (d : Dev nD) : Loc nD τ sig := (SparseCore.T d).loc main_v4_0
abbrev lG' (d : Dev nD) : Loc nD τ sig := (SparseCore.T d).loc main_v4_1
abbrev lR (d : Dev nD) : Loc nD τ sig := (SparseCore.T d).loc main_v5

variable (tu : (d : Dev nD) → Buf (Elt F) (lT d)) (tv : (d : Dev nD) → Buf (Elt F) (lT' d))

/-- The arrays the first call leaves, and the one the second leaves. -/
abbrev gU (d : Dev nD) : Buf (Elt F) (lG d) := gathB (tu d) (m (lA0 d))
abbrev gV (d : Dev nD) : Buf (Elt F) (lG' d) := gathB (tv d) (m (lA1 d))
abbrev rR [FloatOps F] (d : Dev nD) : Buf (Elt F) (lR d) := dotB (gath (tu d) (m (lA0 d))) (gath (tv d) (m (lA1 d)))

/-- What a tile holds at the first call, the gathered arrays at the given contents. -/
def Go0 [FloatOps F] (d : Dev nD) (L : grid0.Coords) (f6 : Buf (Elt F) (lG d)) (f7 : Buf (Elt F) (lG' d)) : sProp 𝕄 :=
  Res d (XL L) (sh L) (sh L) (sh L) (sh L) (m (lA0 d)) (m (lA1 d)) (tu d) (tv d) (ixN (idxs (m (lA0 d)))) (ixN (idxs (m (lA1 d)))) f6 f7

/-- What a tile holds at the second call, the result at the given contents. -/
def Go1 [FloatOps F] (d : Dev nD) (L : grid0.Coords) (f : Buf (Elt F) (lR d)) : sProp 𝕄 :=
  iprop(DIn d (XL L) (XL L).m6 (sh L) (gU m tu d) ∗ DIn d (XL L) (XL L).m7 (sh L) (gV m tv d) ∗ DOut d (XL L) (Memref.whole main_v5_scv) f)

variable [FloatOps F]

set_option maxRecDepth 16384 in
/-- A tile's holdings at the first call, over the arrays' own places. -/
theorem go0_eq (d : Dev nD) (L : grid0.Coords) (f6 : Buf (Elt F) (lG d)) (f7 : Buf (Elt F) (lG' d)) :
    Go0 m tu tv d L f6 f7
      = (iprop((lA0 d ↦{sh L} m (lA0 d)) ∗ (lA1 d ↦{sh L} m (lA1 d)) ∗ (lT d ↦{sh L} tu d) ∗ (lT' d ↦{sh L} tv d)
          ∗ (bigSep (own (ixN (idxs (m (lA0 d)))) (widN L)) fun b => lG d ↦[Finset.univ.filter fun p : S524288.Idx => (p 0).val / 32 = b.val]{fullShare} f6)
          ∗ bigSep (own (ixN (idxs (m (lA1 d)))) (widN L)) fun b => lG' d ↦[Finset.univ.filter fun p : S524288.Idx => (p 0).val / 32 = b.val]{fullShare} f7) : sProp 𝕄) := by
  have e1 : Src d (XL L) (sh L) (m (lA0 d)) = (lA0 d ↦{sh L} m (lA0 d) : sProp 𝕄) := by
    unfold Src
    rw [show (XL L).m2.view.set = Finset.univ from View.set_whole _]
  have e2 : Src d (XL L).swap (sh L) (m (lA1 d)) = (lA1 d ↦{sh L} m (lA1 d) : sProp 𝕄) := by
    unfold Src
    rw [show (XL L).swap.m2.view.set = Finset.univ from View.set_whole _]
    rfl
  have e3 : Tab d (XL L) (sh L) (tu d) = (lT d ↦{sh L} tu d : sProp 𝕄) := by
    unfold Tab
    rw [show (XL L).m4.view.set = Finset.univ from View.set_whole _]
  have e4 : Tab d (XL L).swap (sh L) (tv d) = (lT' d ↦{sh L} tv d : sProp 𝕄) := by
    unfold Tab
    rw [show (XL L).swap.m4.view.set = Finset.univ from View.set_whole _]
    rfl
  have e5 : ∀ b, ORow d (XL L) b f6 = (lG d ↦[Finset.univ.filter fun p : S524288.Idx => (p 0).val / 32 = b.val]{fullShare} f6 : sProp 𝕄) := fun b => by
    unfold ORow
    rw [out_set6]
  have e6 : ∀ b, ORow d (XL L).swap b f7 = (lG' d ↦[Finset.univ.filter fun p : S524288.Idx => (p 0).val / 32 = b.val]{fullShare} f7 : sProp 𝕄) := fun b => by
    unfold ORow
    rw [out_set7]
    rfl
  unfold Go0 Res
  rw [e1, e2, e3, e4, bigSep_congr fun b _ => e5 b, bigSep_congr fun b _ => e6 b]

set_option maxRecDepth 16384 in
/-- All the tiles' holdings at the first call are the arrays themselves. -/
theorem go0_all (d : Dev nD) (f6 : Buf (Elt F) (lG d)) (f7 : Buf (Elt F) (lG' d)) :
    (bigSep (Finset.univ : Finset (Fin 2)) fun c => bigSep (Finset.univ : Finset (Fin 16)) fun i => Go0 m tu tv d (tl c i) f6 f7)
      = (iprop((lA0 d ↦{fullShare} m (lA0 d)) ∗ (lA1 d ↦{fullShare} m (lA1 d)) ∗ (lT d ↦{fullShare} tu d) ∗ (lT' d ↦{fullShare} tv d)
          ∗ (lG d ↦{fullShare} f6) ∗ lG' d ↦{fullShare} f7) : sProp 𝕄) := by
  rw [deal_shares (m (lA0 d)), deal_shares (m (lA1 d)), deal_shares (tu d), deal_shares (tv d),
    deal_rows (ℓ := lG d) (fun p : S524288.Idx => (p 0).val / 32) (fun p => by have : (p 0).val < 524288 := (p 0).isLt; omega) (ixN (idxs (m (lA0 d)))) f6,
    deal_rows (ℓ := lG' d) (fun p : S524288.Idx => (p 0).val / 32) (fun p => by have : (p 0).val < 524288 := (p 0).isLt; omega) (ixN (idxs (m (lA1 d)))) f7]
  simp only [← bs_sep]
  refine bigSep_congr fun c _ => bigSep_congr fun i _ => ?_
  exact (go0_eq m tu tv d (tl c i) f6 f7).trans rfl

set_option maxRecDepth 16384 in
/-- All the tiles' holdings at the second call are the arrays themselves. -/
theorem go1_all (d : Dev nD) (f : Buf (Elt F) (lR d)) :
    (bigSep (Finset.univ : Finset (Fin 2)) fun c => bigSep (Finset.univ : Finset (Fin 16)) fun i => Go1 m tu tv d (tl c i) f)
      = (iprop((lG d ↦{fullShare} gU m tu d) ∗ (lG' d ↦{fullShare} gV m tv d) ∗ lR d ↦{fullShare} f) : sProp 𝕄) := by
  rw [deal_shares (gU m tu d), deal_shares (gV m tv d),
    deal_tiles (ℓ := lR d) (fun p : S16384.Idx => (p 0).val / 512) (fun p => by have : (p 0).val < 16384 := (p 0).isLt; omega) f]
  simp only [← bs_sep]
  refine bigSep_congr fun c _ => bigSep_congr fun i _ => ?_
  unfold Go1 DIn DOut
  rw [show (XL (tl c i)).m6.view.set = Finset.univ from View.set_whole _, show (XL (tl c i)).m7.view.set = Finset.univ from View.set_whole _, out_set5]
  rfl

instance Src_storable (d : Dev nD) (X : Ctx) (q : PosShare TreeShare) (f : Buf (Elt F) (X.m2.view.loc (thr d X.L))) : Storable (upEmb : UEmb _ 𝕄) (Src d X q f) := by
  unfold Src
  infer_instance
instance Tab_storable (d : Dev nD) (X : Ctx) (q : PosShare TreeShare) (f : Buf (Elt F) (X.m4.view.loc (thr d X.L))) : Storable (upEmb : UEmb _ 𝕄) (Tab d X q f) := by
  unfold Tab
  infer_instance
instance Res_storable (d : Dev nD) (X : Ctx) {q2 q3 q4 q5} {f2 f3 f4 f5} (ix iy : ℕ → ℕ) {f6 f7} : Storable (upEmb : UEmb _ 𝕄) (Res (F := F) d X q2 q3 q4 q5 f2 f3 f4 f5 ix iy f6 f7) := by
  have h2 : Storable (upEmb : UEmb _ 𝕄) (Src d X.swap q3 f3) := Src_storable d X.swap q3 f3
  have h6 : Storable (upEmb : UEmb _ 𝕄) (Tab d X.swap q5 f5) := Tab_storable d X.swap q5 f5
  have h3 : Storable (upEmb : UEmb _ 𝕄) (bigSep (own ix (widN X.L)) (fun b => ORow d X b f6)) := inferInstance
  have h4 : ∀ b, Storable (upEmb : UEmb _ 𝕄) (ORow d X.swap b f7) := fun b => ORow_storable d X.swap b f7
  have h5 : Storable (upEmb : UEmb _ 𝕄) (bigSep (own iy (widN X.L)) (fun b => ORow d X.swap b f7)) := inferInstance
  unfold Res
  infer_instance
instance Go0_storable (d : Dev nD) (L : grid0.Coords) (f6 : Buf (Elt F) (lG d)) (f7 : Buf (Elt F) (lG' d)) : Storable (upEmb : UEmb _ 𝕄) (Go0 m tu tv d L f6 f7) := by
  unfold Go0
  exact Res_storable ..
instance Go1_storable (d : Dev nD) (L : grid0.Coords) (f : Buf (Elt F) (lR d)) : Storable (upEmb : UEmb _ 𝕄) (Go1 m tu tv d L f) := by
  unfold Go1 DIn DOut
  infer_instance

theorem nCore_two (q : Fin 2) : (K (F := F)).nCore q = 2 := by fin_cases q <;> rfl
theorem nSub_sixteen (q : Fin 2) : (K (F := F)).nSub q = 16 := by fin_cases q <;> rfl

/-- The tile of a call at core `c`, subcore `i`. -/
abbrev tq (q : Fin 2) (c : Fin ((K (F := F)).nCore q)) (i : Fin ((K (F := F)).nSub q)) : grid0.Coords := tl (Fin.cast (nCore_two (F := F) q) c) (Fin.cast (nSub_sixteen (F := F) q) i)

/-- What a call hands the tile at `L`. -/
def goQ (q : Fin 2) (d : Dev nD) (L : grid0.Coords) : sProp 𝕄 :=
  match q with
  | 0 => Go0 m tu tv d L (m (lG d)) (m (lG' d))
  | 1 => Go1 m tu tv d L (m (lR d))
/-- What a call takes back from the tile at `L`. -/
def tdQ (q : Fin 2) (d : Dev nD) (L : grid0.Coords) : sProp 𝕄 :=
  match q with
  | 0 => Go0 m tu tv d L (gU m tu d) (gV m tv d)
  | 1 => Go1 m tu tv d L (rR m tu tv d)

instance goQ_storable (q : Fin 2) (d : Dev nD) (L : grid0.Coords) : Storable (upEmb : UEmb _ 𝕄) (goQ m tu tv q d L) := by
  unfold goQ
  split <;> infer_instance
instance tdQ_storable (q : Fin 2) (d : Dev nD) (L : grid0.Coords) : Storable (upEmb : UEmb _ 𝕄) (tdQ m tu tv q d L) := by
  unfold tdQ
  split <;> infer_instance

/-- What the calls hand over and take back. -/
def P : (K (F := F)).Pay (nD := nD) (Val := Elt F) (Name := ℕ) (U := UU) where
  st := fun q d c => bigSep Finset.univ fun i : Fin ((K (F := F)).nSub q) => goQ m tu tv q d (tq (F := F) q c i)
  dn := fun q d c => bigSep Finset.univ fun i : Fin ((K (F := F)).nSub q) => tdQ m tu tv q d (tq (F := F) q c i)
  go := fun q d c i => goQ m tu tv q d (tq (F := F) q c i)
  td := fun q d c i => tdQ m tu tv q d (tq (F := F) q c i)
  x := fun _ _ => iprop(emp)

instance P_storable : (P (F := F) m tu tv).IsStorable where
  st q d c := (inferInstance : Storable (upEmb : UEmb _ 𝕄) (bigSep Finset.univ fun i : Fin ((K (F := F)).nSub q) => goQ m tu tv q d (tq (F := F) q c i)))
  dn q d c := (inferInstance : Storable (upEmb : UEmb _ 𝕄) (bigSep Finset.univ fun i : Fin ((K (F := F)).nSub q) => tdQ m tu tv q d (tq (F := F) q c i)))
  go q d c i := (inferInstance : Storable (upEmb : UEmb _ 𝕄) (goQ m tu tv q d (tq (F := F) q c i)))
  td q d c i := (inferInstance : Storable (upEmb : UEmb _ 𝕄) (tdQ m tu tv q d (tq (F := F) q c i)))

theorem vecSplit (q : Fin 2) : (K (F := F)).VecSplit' (P m tu tv) q := by
  intro d c
  show (bigSep Finset.univ fun i : Fin ((K (F := F)).nSub q) => goQ m tu tv q d (tq (F := F) q c i)) ⊢ |={Set.univ}=> iprop(
    (bigSep Finset.univ fun i : Fin ((K (F := F)).nSub q) => goQ m tu tv q d (tq (F := F) q c i))
      ∗ ((bigSep Finset.univ fun i : Fin ((K (F := F)).nSub q) => tdQ m tu tv q d (tq (F := F) q c i))
        -∗ bigSep Finset.univ fun i : Fin ((K (F := F)).nSub q) => tdQ m tu tv q d (tq (F := F) q c i)))
  iintro H
  imodintro
  isplitl [H]; · iexact H
  iintro H
  iexact H

/-- A call's cores and subcores are the grid's. -/
theorem tiles_eq (q : Fin 2) (Φ : grid0.Coords → sProp 𝕄) :
    (bigSep Finset.univ fun c : Fin ((K (F := F)).nCore q) => bigSep Finset.univ fun i : Fin ((K (F := F)).nSub q) => Φ (tq (F := F) q c i))
      = bigSep (Finset.univ : Finset (Fin 2)) fun c => bigSep (Finset.univ : Finset (Fin 16)) fun i => Φ (tl c i) := by
  fin_cases q <;> rfl

set_option maxRecDepth 16384 in
theorem st0_eq (d : Dev nD) : (bigSep Finset.univ fun c : Fin ((K (F := F)).nCore 0) => (P m tu tv).st 0 d c)
    = iprop((lA0 d ↦{fullShare} m (lA0 d)) ∗ (lA1 d ↦{fullShare} m (lA1 d)) ∗ (lT d ↦{fullShare} tu d) ∗ (lT' d ↦{fullShare} tv d)
          ∗ (lG d ↦{fullShare} m (lG d)) ∗ lG' d ↦{fullShare} m (lG' d)) :=
  (tiles_eq 0 fun L => goQ m tu tv 0 d L).trans (go0_all m tu tv d (m (lG d)) (m (lG' d)))
set_option maxRecDepth 16384 in
theorem dn0_eq (d : Dev nD) : (bigSep Finset.univ fun c : Fin ((K (F := F)).nCore 0) => (P m tu tv).dn 0 d c)
    = iprop((lA0 d ↦{fullShare} m (lA0 d)) ∗ (lA1 d ↦{fullShare} m (lA1 d)) ∗ (lT d ↦{fullShare} tu d) ∗ (lT' d ↦{fullShare} tv d)
          ∗ (lG d ↦{fullShare} gU m tu d) ∗ lG' d ↦{fullShare} gV m tv d) :=
  (tiles_eq 0 fun L => tdQ m tu tv 0 d L).trans (go0_all m tu tv d (gU m tu d) (gV m tv d))
set_option maxRecDepth 16384 in
theorem st1_eq (d : Dev nD) : (bigSep Finset.univ fun c : Fin ((K (F := F)).nCore 1) => (P m tu tv).st 1 d c)
    = iprop((lG d ↦{fullShare} gU m tu d) ∗ (lG' d ↦{fullShare} gV m tv d) ∗ lR d ↦{fullShare} m (lR d)) :=
  (tiles_eq 1 fun L => goQ m tu tv 1 d L).trans (go1_all m tu tv d (m (lR d)))
set_option maxRecDepth 16384 in
theorem dn1_eq (d : Dev nD) : (bigSep Finset.univ fun c : Fin ((K (F := F)).nCore 1) => (P m tu tv).dn 1 d c)
    = iprop((lG d ↦{fullShare} gU m tu d) ∗ (lG' d ↦{fullShare} gV m tv d) ∗ lR d ↦{fullShare} rR m tu tv d) :=
  (tiles_eq 1 fun L => tdQ m tu tv 1 d L).trans (go1_all m tu tv d (rR m tu tv d))

end Cert.Proof.Gather

end
-- ==== Proof.Launch.lean ====
/-
  The whole program: the host's operations before the two calls, the calls' obligations, and the run.
-/
module

public import proofs.«01_k».proof.Proof.Pay
public import Idealize.ShloMosaic.Lib.StableHlo.Run
public import Idealize.ShloMosaic.Lib.Pipeline.Frame

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.StableHlo (held seq after wp_seq)
open Idealize.ShloMosaic.ValueIdx (ix1 ix2)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-- What the kernel asks of the launch memory: either index array's indices fit the kernel's lists. -/
def PreOK : Prop := ∀ d : Dev nD, Fits (ixN (idxs (m (lA0 d)))) ∧ Fits (ixN (idxs (m (lA1 d))))

/-! ## The two calls' obligations -/

section Obl

variable (tu : (d : Dev nD) → Buf (Elt F) (lT d)) (tv : (d : Dev nD) → Buf (Elt F) (lT' d))

def coordsV (c : Fin (grid0.bound 0)) (s : Fin (grid0.bound 1)) : grid0.Coords := fun | 0 => c | 1 => s | ⟨_ + 2, h⟩ => absurd h (Nat.not_lt.2 (Nat.le_add_left _ _))

theorem defs₀_gather (c : Fin τ.nSC) (s : Fin τ.nSub) :
    defs₀ (F := F) (.scVector c s) 0 () = SparseCore.onTile hcore0 hsub0 (fun c s => (fun L => cc0__gather_kernel (F := F) L (XL L).m2 (XL L).w2 (XL L).m3 (XL L).w3 (XL L).m4 (XL L).w4 (XL L).m5 (XL L).w5 (XL L).m6 (XL L).w6 (XL L).m7 (XL L).w7 (XL L).m8 (XL L).w8 (XL L).m9 (XL L).w9 (XL L).m10 (XL L).w10 (XL L).m11 (XL L).w11 (XL L).m12 (XL L).w12 (XL L).m13 (XL L).w13 (XL L).m14 (XL L).w14 (XL L).m15 (XL L).w15 (XL L).m16 (XL L).w16 cc0_scratch9 cc0_scratch10 cc0_scoped0 cc0_scoped1) (coordsV c s)) ⟨⟩ c s := rfl

theorem defs₀_dot (c : Fin τ.nSC) (s : Fin τ.nSub) :
    defs₀ (F := F) (.scVector c s) 1 () = SparseCore.onTile hcore1 hsub1 (fun c s => (fun L => cc1__dot_kernel (F := F) L (XL L).m6 (XL L).w6 (XL L).m7 (XL L).w7 (Memref.whole main_v5_scv) (Memref.isWhole_whole _) (Memref.whole cc1_scratch0) (Memref.isWhole_whole _)
      (Memref.whole cc1_scratch1) (Memref.isWhole_whole _) (Memref.whole cc1_scratch2) (Memref.isWhole_whole _) cc1_scratch3 cc1_scratch4 cc1_scoped0) (coordsV c s)) ⟨⟩ c s := rfl

theorem obl_post {thr : Thread nD τ} {A B C : sProp 𝕄} {O : CellTallies nD τ sig (HIx 2)} {W : Waits sig (HIx 2)} {q : HIx 2} :
    iprop(A ∗ B ∗ C ∗ ∃ W', ⌜∀ p ∈ W', p ∈ W ∨ p.2 = none⌝ ∗ owes thr O W')
      ⊢ (iprop(A ∗ B ∗ C ∗ ∃ W', ⌜∀ p ∈ W', p ∈ W ∨ p.2 = none ∨ p.2 = q⌝ ∗ owes thr O W') : sProp 𝕄) := by
  iintro ⟨HA, HB, HC, %W', %hW, HO⟩
  isplitl [HA]; · iexact HA
  isplitl [HB]; · iexact HB
  isplitl [HC]; · iexact HC
  iexists W'
  isplitr
  · ipureintro
    exact fun p hp => (hW p hp).imp_right Or.inl
  · iexact HO

variable [∀ e, Nonempty (Elt F e)]

set_option maxRecDepth 16384 in
/-- The gather kernel's tile, from what the first call hands it. -/
theorem tile_gather (hpre : PreOK m) (d : Dev nD) (L : grid0.Coords) (O : CellTallies nD τ sig (HIx 2)) (W : Waits sig (HIx 2)) (hO : ∀ g, O g none = 0) :
    iprop(levAts (K (F := F)).L (K (F := F)).lev ∗ emp ∗ Go0 m tu tv d L (m (lG d)) (m (lG' d)) ∗ scopedBufs (thr d L) ∗ scopedSems0 (thr d L) ∗ owes (thr d L) O W)
      ⊢ twp d L (cc0__gather_kernel (F := F) L (XL L).m2 (XL L).w2 (XL L).m3 (XL L).w3 (XL L).m4 (XL L).w4 (XL L).m5 (XL L).w5 (XL L).m6 (XL L).w6 (XL L).m7 (XL L).w7 (XL L).m8 (XL L).w8 (XL L).m9 (XL L).w9 (XL L).m10 (XL L).w10 (XL L).m11 (XL L).w11 (XL L).m12 (XL L).w12 (XL L).m13 (XL L).w13 (XL L).m14 (XL L).w14 (XL L).m15 (XL L).w15 (XL L).m16 (XL L).w16 cc0_scratch9 cc0_scratch10 cc0_scoped0 cc0_scoped1)
          (fun _ => iprop(Go0 m tu tv d L (gU m tu d) (gV m tv d) ∗ scopedBufs (thr d L) ∗ scopedSems0 (thr d L)
            ∗ ∃ W', ⌜∀ p ∈ W', p ∈ W ∨ p.2 = none⌝ ∗ owes (thr d L) O W')) := by
  unfold Go0
  refine tile0 d L facts O W hO (sh L) (sh L) (sh L) (sh L) (m (lA0 d)) (m (lA1 d)) (tu d) (tv d) (hx := idxs (m (lA0 d))) (hy := idxs (m (lA1 d))) ?_ ?_ (hpre d).1 (hpre d).2
    (T := tbl (tu d)) (T' := tbl (tv d)) ?_ ?_ (m (lG d)) (gU m tu d) (m (lG' d)) (gV m tv d) ?_ ?_
  · exact fun i => idxs_val (m (lA0 d)) i
  · exact fun i => idxs_val (m (lA1 d)) i
  · exact fun i => tbl_val (tu d) i
  · exact fun i => tbl_val (tv d) i
  · exact fun b c => gathB_val (tu d) (m (lA0 d)) b c
  · exact fun b c => gathB_val (tv d) (m (lA1 d)) b c

set_option maxRecDepth 16384 in
/-- The second kernel's tile, from what the second call hands it. -/
theorem tile_dot (d : Dev nD) (L : grid0.Coords) (O : CellTallies nD τ sig (HIx 2)) (W : Waits sig (HIx 2)) (hO : ∀ g, O g none = 0) :
    iprop(levAts (K (F := F)).L (K (F := F)).lev ∗ emp ∗ Go1 m tu tv d L (m (lR d)) ∗ scopedBufs (thr d L) ∗ scopedSems0 (thr d L) ∗ owes (thr d L) O W)
      ⊢ twp d L (cc1__dot_kernel (F := F) L (XL L).m6 (XL L).w6 (XL L).m7 (XL L).w7 (Memref.whole main_v5_scv) (Memref.isWhole_whole _) (Memref.whole cc1_scratch0) (Memref.isWhole_whole _)
          (Memref.whole cc1_scratch1) (Memref.isWhole_whole _) (Memref.whole cc1_scratch2) (Memref.isWhole_whole _) cc1_scratch3 cc1_scratch4 cc1_scoped0)
          (fun _ => iprop(Go1 m tu tv d L (rR m tu tv d) ∗ scopedBufs (thr d L) ∗ scopedSems0 (thr d L)
            ∗ ∃ W', ⌜∀ p ∈ W', p ∈ W ∨ p.2 = none⌝ ∗ owes (thr d L) O W')) := by
  unfold Go1
  refine tile1 d L facts O W hO (hu := gath (tu d) (m (lA0 d))) (hv := gath (tv d) (m (lA1 d))) (sh L) (sh L) (gU m tu d) (gV m tv d) ?_ ?_ (m (lR d)) (rR m tu tv d) ?_
  · exact fun i => rfl
  · exact fun i => rfl
  · exact fun i => rfl

set_option maxRecDepth 16384 in
theorem oblGather (hpre : PreOK m) : (K (F := F)).TileObl (D (F := F)) 𝒱 (P m tu tv) v₀ 0 := by
  intro d c i O W hO _ _
  simp only [show (P m tu tv).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_gather]
  simp only [SparseCore.onTile, hci, and_self, ↓reduceDIte]
  exact (tile_gather m tu tv hpre d (coordsV ⟨_, hci.1⟩ ⟨_, hci.2⟩) O W hO).trans (wp_mono frame _ _ fun _ => obl_post)

set_option maxRecDepth 16384 in
theorem oblDot : (K (F := F)).TileObl (D (F := F)) 𝒱 (P m tu tv) v₀ 1 := by
  intro d c i O W hO _ _
  simp only [show (P m tu tv).ox = fun _ _ => 0 from rfl, add_zero]
  have hci : ((K (F := F)).core 1 c).val < grid0.bound 0 ∧ ((K (F := F)).sub 1 i).val < grid0.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_dot]
  simp only [SparseCore.onTile, hci, and_self, ↓reduceDIte]
  exact (tile_dot m tu tv d (coordsV ⟨_, hci.1⟩ ⟨_, hci.2⟩) O W hO).trans (wp_mono frame _ _ fun _ => obl_post)

end Obl

/-! ## The launch's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ (m : (ℓ : Loc nD τ sig) → Buf (Elt F) ℓ) (tu : (d : Dev nD) → Buf (Elt F) (lT d)) (tv : (d : Dev nD) → Buf (Elt F) (lT' d)) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m tu tv).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 2 => (P m tu tv).x q thr) = bigSep Finset.univ fun _ : Thread nD τ => (iprop(emp) : sProp 𝕄)
    from bigSep_congr fun _ _ => (bigSep_emp_const _), bigSep_emp']
  iempintro

/-! ## The host's operations -/

/-- The operations before the calls: either table transposed and padded. -/
abbrev ops : List (HloOp τ sig (Elt F)) :=
  [ StableHlo.unary main_arg2 main_v0 ((transpose S32x1000000 [1, 0] · transposes_S1000000x32_S32x1000000_1_0) : (⟨S1000000x32, .f32⟩ : BufTy).Contents (Elt F) → (⟨S32x1000000, .f32⟩ : BufTy).Contents (Elt F)),
    StableHlo.nullary main_c (constantI S_ 32 0#32),
    StableHlo.TRef.unary (.of (T := ⟨S_, .i32⟩) main_c) main_call0.v0 (sitofp .f32),
    StableHlo.TRef.binary (.of (T := ⟨S32x1000000, .f32⟩) main_v0) main_call0.v0 main_call0.v1 (fun x v => pad S32x1000064 ![0, 0] ![0, 64] ![0, 0] x v pads_S32x1000000_S32x1000064_000_0640 h_S_),
    StableHlo.unary main_arg3 main_v2 ((transpose S32x1000000 [1, 0] · transposes_S1000000x32_S32x1000000_1_0) : (⟨S1000000x32, .f32⟩ : BufTy).Contents (Elt F) → (⟨S32x1000000, .f32⟩ : BufTy).Contents (Elt F)),
    StableHlo.nullary main_c_0 (constantI S_ 32 0#32),
    StableHlo.TRef.unary (.of (T := ⟨S_, .i32⟩) main_c_0) main_call1.v0 (sitofp .f32),
    StableHlo.TRef.binary (.of (T := ⟨S32x1000000, .f32⟩) main_v2) main_call1.v0 main_call1.v1 (fun x v => pad S32x1000064 ![0, 0] ![0, 64] ![0, 0] x v pads_S32x1000000_S32x1000064_000_0640 h_S_) ]

theorem main_eq (d : Dev nD) : main (F := F) d = seq ops >>= fun _ => (do (K (F := F)).run d 0; (K (F := F)).run d 1; pure ⟨⟩) := rfl

theorem ops_sub : (ops : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub ..⟩
theorem ops_fresh : (ops : List (HloOp τ sig (Elt F))).Forall fun op => op.fresh = ∅ := ⟨rfl, rfl, rfl, rfl, rfl, rfl, rfl, rfl⟩

/-- The launch contents of a device's arrays. -/
def V0 (d : Dev nD) : Valuation τ sig (Elt F) := fun b => m (d, b)
/-- Their contents when the calls begin. -/
def V8 (d : Dev nD) : Valuation τ sig (Elt F) := after ops (V0 m d)

/-- A table transposed, with 64 columns of zero after its own. -/
def padT (w : S1000000x32.Idx → F .f32) : S32x1000064.Idx → F .f32 :=
  pad S32x1000064 ![0, 0] ![0, 64] ![0, 0] (transpose S32x1000000 [1, 0] w transposes_S1000000x32_S32x1000000_1_0) (sitofp (F := F) .f32 (constantI S_ 32 0#32)) pads_S32x1000000_S32x1000064_000_0640 h_S_

/-- The tables as the calls find them. -/
def tuT (d : Dev nD) : Buf (Elt F) (lT d) := padT (m (lA2 d))
def tvT (d : Dev nD) : Buf (Elt F) (lT' d) := padT (m (lA3 d))

theorem V8_T (d : Dev nD) : V8 m d (Proc.devRef .tc (main_v1 : Ref sig .tc)) = tuT m d := by
  unfold V8
  simp only [ops, StableHlo.TRef.binary, StableHlo.TRef.nullary, StableHlo.TRef.unary, StableHlo.TRef.toBuf, StableHlo.TRef.ofBuf, cast_eq]
  after_results_simp
  rfl
theorem V8_T' (d : Dev nD) : V8 m d (Proc.devRef .tc (main_v3 : Ref sig .tc)) = tvT m d := by
  unfold V8
  simp only [ops, StableHlo.TRef.binary, StableHlo.TRef.nullary, StableHlo.TRef.unary, StableHlo.TRef.toBuf, StableHlo.TRef.ofBuf, cast_eq]
  after_results_simp
  rfl
/-- The operations leave every array but the eight they write. -/
theorem V8_keep (d : Dev nD) (b : Ref sig .tc) (hb : b ∉ ([main_v0, main_c, main_call0_v0, main_v1, main_v2, main_c_0, main_call1_v0, main_v3] : List (Ref sig .tc))) :
    V8 m d (Proc.devRef .tc b) = m ((SparseCore.T d).loc b) := by
  have hne : ∀ r ∈ ([main_v0, main_c, main_call0_v0, main_v1, main_v2, main_c_0, main_call1_v0, main_v3] : List (Ref sig .tc)), (Proc.devRef .tc b : DevRef τ sig) ∉ ({Proc.devRef .tc r} : Finset (DevRef τ sig)) := by
    intro r hr h
    exact hb (Proc.devRef_injective _ (Finset.mem_singleton.mp h) ▸ hr)
  simp only [List.forall_mem_cons] at hne
  obtain ⟨h0, h1, h2, h3, h4, h5, h6, h7, -⟩ := hne
  unfold V8
  simp only [ops, StableHlo.after_cons, StableHlo.after_nil]
  rw [HloOp.result_of_not_mem _ _ h7, HloOp.result_of_not_mem _ _ h6, HloOp.result_of_not_mem _ _ h5, HloOp.result_of_not_mem _ _ h4,
    HloOp.result_of_not_mem _ _ h3, HloOp.result_of_not_mem _ _ h2, HloOp.result_of_not_mem _ _ h1, HloOp.result_of_not_mem _ _ h0]
  rfl

theorem unscopedBufs_eq (d : Dev nD) (W : (b : Ref sig .tc) → Buf (Elt F) ((d.tc : Thread nD τ).loc b)) :
    (unscopedBufs d W : sProp 𝕄)
      = iprop((lA0 d ↦{fullShare} W main_arg0) ∗ (lA1 d ↦{fullShare} W main_arg1) ∗ (lA2 d ↦{fullShare} W main_arg2) ∗ (lA3 d ↦{fullShare} W main_arg3)
          ∗ (lT d ↦{fullShare} W main_v1) ∗ (lT' d ↦{fullShare} W main_v3) ∗ (lG d ↦{fullShare} W main_v4_0) ∗ (lG' d ↦{fullShare} W main_v4_1) ∗ (lR d ↦{fullShare} W main_v5)
          ∗ bigSep ({main_v0, main_c, main_call0_v0, main_v2, main_c_0, main_call1_v0} : Finset (Ref sig .tc)) fun b => (SparseCore.T d).loc b ↦{fullShare} W b) := by
  unfold unscopedBufs
  rw [show (Finset.univ.filter fun b : Ref sig .tc => ¬ b.isScoped) = {main_arg0, main_arg1, main_arg2, main_arg3, main_v1, main_v3, main_v4_0, main_v4_1, main_v5,
      main_v0, main_c, main_call0_v0, main_v2, main_c_0, main_call1_v0} by decide]
  iterate 9 rw [SparseCore.bigSep_insert' (by decide)]

/-- The arrays the calls find. -/
theorem held_V8 (d : Dev nD) : (held (SparseCore.T d) (Pipeline.ucRefs τ sig) (V8 m d) : sProp 𝕄)
    ⊢ iprop((lA0 d ↦{fullShare} m (lA0 d)) ∗ (lA1 d ↦{fullShare} m (lA1 d)) ∗ (lA2 d ↦{fullShare} m (lA2 d)) ∗ (lA3 d ↦{fullShare} m (lA3 d))
          ∗ (lT d ↦{fullShare} tuT m d) ∗ (lT' d ↦{fullShare} tvT m d) ∗ (lG d ↦{fullShare} m (lG d)) ∗ (lG' d ↦{fullShare} m (lG' d)) ∗ (lR d ↦{fullShare} m (lR d))) := by
  rw [show (held (SparseCore.T d) (Pipeline.ucRefs τ sig) (V8 m d) : sProp 𝕄) = unscopedBufs d (fun b => V8 m d (Proc.devRef .tc b)) from
    (Pipeline.unscopedBufs_held (Ix := HIx 2) (Name := ℕ) (U := UU) (Lvl := ℕ) d (V8 m d)).symm, unscopedBufs_eq, V8_T, V8_T',
    V8_keep m d main_arg0 (by decide), V8_keep m d main_arg1 (by decide), V8_keep m d main_arg2 (by decide), V8_keep m d main_arg3 (by decide),
    V8_keep m d main_v4_0 (by decide), V8_keep m d main_v4_1 (by decide), V8_keep m d main_v5 (by decide)]
  iintro ⟨H0, H1, H2, H3, H4, H5, H6, H7, H8, -⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- What @main leaves the claims: the four arguments as they were, the result at its value. -/
abbrev FIN (d : Dev nD) : sProp 𝕄 :=
  iprop((lA0 d ↦{fullShare} m (lA0 d)) ∗ (lA1 d ↦{fullShare} m (lA1 d)) ∗ (lA2 d ↦{fullShare} m (lA2 d)) ∗ (lA3 d ↦{fullShare} m (lA3 d)) ∗ lR d ↦{fullShare} rR m (tuT m) (tvT m) d)

theorem hmain (κ : GSem nD τ sig → ℕ) (d : Dev nD) :
    iprop((K (F := F)).ctx EH (P m (tuT m) (tvT m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (V0 m d) from
    Pipeline.unscopedBufs_held (Ix := HIx 2) (Name := ℕ) (U := UU) (Lvl := ℕ) d (V0 m d), main_eq]
  iintro ⟨#Hctx, Hst, ⟨Hb, Hheld, Hts, -⟩, -⟩
  iapply (wp_seq 𝒱 none Set.univ d (Pipeline.ucRefs τ sig) _ ops
    (fun op h => Pipeline.sub_ucRefs op ((List.forall_iff_forall_mem.mp ops_sub) op h)) (fun op h => (List.forall_iff_forall_mem.mp ops_fresh) op h) (V0 m d)) $$ [Hb Hheld]
  · isplitl [Hb] <;> iassumption
  iintro ⟨Hb, Hheld⟩
  ihave Hh := (show (held (d.tc : Thread nD τ) (Pipeline.ucRefs τ sig) (after ops (V0 m d)) : sProp 𝕄) ⊢ _ from held_V8 m d) $$ Hheld
  icases Hh with ⟨H0, H1, H2, H3, H4, H5, H6, H7, H8⟩
  simp only [wp_bind, wp_pure]
  iapply ((K (F := F)).wp_run (D (F := F)) 𝒱 (EH := EH) (P := P m (tuT m) (tvT m)) κ d 0) $$ [Hst Hb H0 H1 H2 H3 H4 H5 H6 H7 H8 Hts]
  isplitr; · iexact Hctx
  isplitl [Hst]; · iexact Hst
  isplitl [H0 H1 H4 H5 H6 H7]
  · rw [st0_eq]
    isplitl [H0]; · iexact H0
    isplitl [H1]; · iexact H1
    isplitl [H4]; · iexact H4
    isplitl [H5]; · iexact H5
    isplitl [H6]; · iexact H6
    iexact H7
  iintro ⟨Hst, Hdn⟩
  ihave Hdn' := (Entails.of_eq (dn0_eq m (tuT m) (tvT m) d)) $$ Hdn
  icases Hdn' with ⟨H0, H1, -, -, H6, H7⟩
  iapply ((K (F := F)).wp_run (D (F := F)) 𝒱 (EH := EH) (P := P m (tuT m) (tvT m)) κ d 1) $$ [Hst Hb H0 H1 H2 H3 H6 H7 H8 Hts]
  isplitr; · iexact Hctx
  isplitl [Hst]; · iexact Hst
  isplitl [H6 H7 H8]
  · rw [st1_eq]
    isplitl [H6]; · iexact H6
    isplitl [H7]; · iexact H7
    iexact H8
  iintro ⟨Hst, Hdn⟩
  ihave Hdn' := (Entails.of_eq (dn1_eq m (tuT m) (tvT m) d)) $$ Hdn
  icases Hdn' with ⟨-, -, H8⟩
  imodintro
  isplitl [Hst]; · iexact Hst
  isplitr [Hb Hts]
  · isplitl [H0]; · iexact H0
    isplitl [H1]; · iexact H1
    isplitl [H2]; · iexact H2
    isplitl [H3]; · iexact H3
    iexact H8
  isplitl [Hb] <;> iassumption

/-! ## The run -/

/-- What the claims read of a device's final state. -/
def fq (d : Dev nD) (s' : Phys nD τ sig (Elt F)) : Prop :=
  s'.mem.mem (lA0 d) = m (lA0 d) ∧ s'.mem.mem (lA1 d) = m (lA1 d) ∧ s'.mem.mem (lA2 d) = m (lA2 d) ∧ s'.mem.mem (lA3 d) = m (lA3 d) ∧ s'.mem.mem (lR d) = rR m (tuT m) (tvT m) d

/-- A held array's contents are the memory's. -/
theorem read_fin (s' : Phys nD τ sig (Elt F)) (ℓ : Loc nD τ sig) (f : Buf (Elt F) ℓ) (A : sProp 𝕄) :
    iprop(((ℓ ↦{fullShare} f) ∗ A) ∗ SI s') ⊢ iprop(⌜s'.mem.mem ℓ = f⌝ ∗ A ∗ SI s') := by
  iintro ⟨⟨Hx, HA⟩, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr
  · ipureintro
    exact funext fun i => hx i (Finset.mem_univ i)
  isplitl [HA] <;> iassumption

theorem hfin (d : Dev nD) (s' : Phys nD τ sig (Elt F)) : iprop(FIN m d ∗ SI s') ⊢ (⌜fq m d s'⌝ : sProp 𝕄) := by
  iintro H
  ihave H := (read_fin s' (lA0 d) (m (lA0 d)) _) $$ H
  icases H with ⟨%h0, H⟩
  ihave H := (read_fin s' (lA1 d) (m (lA1 d)) _) $$ H
  icases H with ⟨%h1, H⟩
  ihave H := (read_fin s' (lA2 d) (m (lA2 d)) _) $$ H
  icases H with ⟨%h2, H⟩
  ihave H := (read_fin s' (lA3 d) (m (lA3 d)) _) $$ H
  icases H with ⟨%h3, Hr, HSI⟩
  ihave H := (SI_pointsTo_agree (st := s') (ℓ := lR d) (I := Finset.univ) (q := fullShare) (f := rR m (tuT m) (tvT m) d)) $$ [HSI Hr]
  · isplitl [HSI] <;> iassumption
  icases H with %hr
  ipureintro
  exact ⟨h0, h1, h2, h3, funext fun i => hr i (Finset.mem_univ i)⟩

def QC : PUnit × MemSt nD τ sig (Elt F) → Prop := fun r =>
  (∀ d : Dev nD, r.2.mem (lA0 d) = m (lA0 d) ∧ r.2.mem (lA1 d) = m (lA1 d) ∧ r.2.mem (lA2 d) = m (lA2 d) ∧ r.2.mem (lA3 d) = m (lA3 d) ∧ r.2.mem (lR d) = rR m (tuT m) (tvT m) d)
    ∧ r.2.sem = fun _ => 0

/-- Every run from a launch memory whose indices fit ends with the arguments as they were, the result at its value and
    every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (tuT m) (tvT m)) (A := ∅) facts v₀
    (fun q hq => match q with | 0 => nomatch hq | 1 => nomatch hq)
    (fun q _ => match q with | 0 => oblGather m (tuT m) (tvT m) hpre | 1 => oblDot m (tuT m) (tvT m))
    (fun q _ => SparseCore.Cfg.VecSplit.of_plain (vecSplit m (tuT m) (tvT m) q))
    m ρ main (fun _ => iprop(emp)) (FIN m) (u₀ (F := F)) (sep_elim_left.trans (hu₀ m (tuT m) (tvT m))) (hmain m ρ) (fq m) (hfin m) (QC m) (fun _ h hz => ⟨h, hz⟩)

end Cert.Proof.Gather

end
-- ==== Proof.Pre.lean ====
/-
  The precondition read back: what `indices_fit` being all ones says of the two lists of indices.
-/
module

public import proofs.«01_k».proof.Defs
public import proofs.«01_k».proof.Proof.Launch
public import proofs.«01_k».proof.Proof.Gen.Pre_indices_fit
public import Idealize.ShloMosaic.Lib.Routing.Ops

@[expose] public section

noncomputable section

namespace Cert.Proof.Gather

open Idealize.ShloMosaic
open Idealize.ShloMosaic.ValueIdx (ix0 ix1 ix2)
open Cert.Pre_indices_fit (S16384 S_ S16384x1 S1x16384 S16384x16384)
open Cert.Pre_indices_fit.Gen

variable {F : FTy → Type} [FloatOps F]

/-! ## The predicate of one list -/

/-- The block of 128 table rows each index lies in. -/
def blkW (f : IVec S16384 32) : IVec S16384 32 := Host.shrui f (broadcastInDim S16384 ![] bcast_S_S16384 (constantI S_ 32 7#32))

/-- The tile that block belongs to. -/
def tileW (f : IVec S16384 32) : IVec S16384 32 := andi (blkW f) (broadcastInDim S16384 ![] bcast_S_S16384 (constantI S_ 32 31#32))

/-- Whether two entries of a list hold the same word. -/
def sameW (x : IVec S16384 32) : IVec S16384x16384 1 :=
  cmpi .eq (broadcastInDim S16384x16384 ![0, 1] bcast_S16384x1_S16384x16384_0_1 (broadcastInDim S16384x1 ![0] bcast_S16384_S16384x1_0 x))
    (broadcastInDim S16384x16384 ![0, 1] bcast_S1x16384_S16384x16384_0_1 (broadcastInDim S1x16384 ![1] bcast_S16384_S1x16384_1 x))

/-- For each entry, how many entries hold the same word. -/
def countW (x : IVec S16384 32) : IVec S16384 32 :=
  Host.reduce IntOp.addi (extui 32 (sameW x) natLt_1_32) (constantI S_ 32 0#32) reducesTo_S16384x16384_S16384_d1 h_S_

/-- The predicate, of one list. -/
def fitsW (f : IVec S16384 32) : IVec S16384 1 :=
  andi (andi (andi (cmpi .sge f (broadcastInDim S16384 ![] bcast_S_S16384 (constantI S_ 32 0#32)))
        (cmpi .slt f (broadcastInDim S16384 ![] bcast_S_S16384 (constantI S_ 32 1000000#32))))
      (cmpi .sle (countW (blkW f)) (broadcastInDim S16384 ![] bcast_S_S16384 (constantI S_ 32 16#32))))
    (cmpi .sle (countW (tileW f)) (broadcastInDim S16384 ![] bcast_S_S16384 (constantI S_ 32 1008#32)))

/-- The precondition is the predicate of the one list and of the other. -/
theorem fn_eq (a0 a1 : IVec S16384 32) (a2 a3 : FVec F Cert.Pre_indices_fit.S1000000x32 .f32) :
    Cert.Pre_indices_fit.fn (F := F) a0 a1 a2 a3 = andi (fitsW a0) (fitsW a1) := rfl

/-! ## Its words -/

theorem andi_ofBool (p q : Bool) : IntOp.andi (BitVec.ofBool p) (BitVec.ofBool q) = BitVec.ofBool (p && q) := by cases p <;> cases q <;> decide

theorem ofBool_eq_one (p : Bool) : BitVec.ofBool p = 1#1 ↔ p = true := by cases p <;> decide

theorem blkW_val (f : IVec S16384 32) (i : S16384.Idx) : (blkW f i).toNat = (f i).toNat / 128 := by
  show (IntOp.shrui .host (f i) 7#32).toNat = _
  simp [IntOp.shrui, Nat.shiftRight_eq_div_pow]

theorem tileW_val (f : IVec S16384 32) (i : S16384.Idx) : (tileW f i).toNat = (f i).toNat / 128 % 32 := by
  show (blkW f i &&& 31#32).toNat = _
  rw [BitVec.toNat_and, blkW_val, show (31#32).toNat = 2 ^ 5 - 1 from rfl, Nat.and_two_pow_sub_one_eq_mod]

theorem sameW_iff (x : IVec S16384 32) (i j : Fin 16384) : sameW x (ix2 i j) = 1#1 ↔ (x (ix1 j)).toNat = (x (ix1 i)).toNat := by
  have e1 : broadcastInDim S16384x16384 ![0, 1] bcast_S16384x1_S16384x16384_0_1 (broadcastInDim S16384x1 ![0] bcast_S16384_S16384x1_0 x) (ix2 i j) = x (ix1 i) := by
    show x _ = x _
    refine congrArg x (funext fun a => ?_)
    match a with
    | ⟨0, _⟩ => rfl
  have e2 : broadcastInDim S16384x16384 ![0, 1] bcast_S1x16384_S16384x16384_0_1 (broadcastInDim S1x16384 ![1] bcast_S16384_S1x16384_1 x) (ix2 i j) = x (ix1 j) := by
    show x _ = x _
    refine congrArg x (funext fun a => ?_)
    match a with
    | ⟨0, _⟩ => rfl
  show IntOp.cmpi .eq _ _ = 1#1 ↔ _
  rw [e1, e2]
  show BitVec.ofBool (decide (x (ix1 i) = x (ix1 j))) = 1#1 ↔ _
  rw [ofBool_eq_one, decide_eq_true_iff, ← BitVec.toNat_inj]
  exact eq_comm

theorem countW_val (x : IVec S16384 32) (i : Fin 16384) (g : ℕ → ℕ) (hg : ∀ j : Fin 16384, (x (ix1 j)).toNat = g j.val) :
    (countW x (ix1 i)).toNat = Nat.count (fun b => g b = g i.val) 16384 := by
  unfold countW
  rw [Routing.reduce_count (n := 16384) (m := 16384) (by norm_num) (sameW x) natLt_1_32 reducesTo_S16384x16384_S16384_d1 h_S_ i
    (fun b => g b = g i.val) (fun q => by rw [sameW_iff, hg, hg]), BitVec.toNat_ofNat]
  exact Nat.mod_eq_of_lt (Nat.lt_of_le_of_lt (Nat.count_le _) (by norm_num))

/-- A count under a weaker predicate is at least as large. -/
theorem count_mono_of {p q : ℕ → Prop} [DecidablePred p] [DecidablePred q] {n : ℕ} (h : ∀ b < n, p b → q b) : Nat.count p n ≤ Nat.count q n := by
  rw [Nat.count_eq_card_filter_range, Nat.count_eq_card_filter_range]
  refine Finset.card_le_card fun b hb => ?_
  rw [Finset.mem_filter, Finset.mem_range] at hb ⊢
  exact ⟨hb.1, h b hb.1 hb.2⟩

/-- What the predicate being one at an entry says. -/
theorem fitsW_at (f : IVec S16384 32) (i : Fin 16384) (h : fitsW f (ix1 i) = 1#1) :
    (f (ix1 i)).toNat < 1000000 ∧ Nat.count (fun b => ixN (idxs f) b / 128 = ixN (idxs f) i.val / 128) 16384 ≤ 16
      ∧ Nat.count (fun b => ixN (idxs f) b / 128 % 32 = ixN (idxs f) i.val / 128 % 32) 16384 ≤ 1008 := by
  have hv : ∀ j : Fin 16384, (f (ix1 j)).toNat = ixN (idxs f) j.val := fun j => by rw [idxs_val f (ix1 j)]
  rw [← countW_val (blkW f) i (fun b => ixN (idxs f) b / 128) (fun j => by rw [blkW_val, hv]),
    ← countW_val (tileW f) i (fun b => ixN (idxs f) b / 128 % 32) (fun j => by rw [tileW_val, hv])]
  have hc1 : (countW (blkW f) (ix1 i)).toNat ≤ 16384 := by
    rw [countW_val (blkW f) i (fun b => ixN (idxs f) b / 128) (fun j => by rw [blkW_val, hv])]; exact Nat.count_le _
  have hc2 : (countW (tileW f) (ix1 i)).toNat ≤ 16384 := by
    rw [countW_val (tileW f) i (fun b => ixN (idxs f) b / 128 % 32) (fun j => by rw [tileW_val, hv])]; exact Nat.count_le _
  change IntOp.andi (IntOp.andi (IntOp.andi (IntOp.cmpi .sge (f (ix1 i)) 0#32) (IntOp.cmpi .slt (f (ix1 i)) 1000000#32))
    (IntOp.cmpi .sle (countW (blkW f) (ix1 i)) 16#32)) (IntOp.cmpi .sle (countW (tileW f) (ix1 i)) 1008#32) = 1#1 at h
  generalize countW (blkW f) (ix1 i) = c1 at h hc1 ⊢
  generalize countW (tileW f) (ix1 i) = c2 at h hc2 ⊢
  generalize f (ix1 i) = x at h ⊢
  simp only [IntOp.cmpi, andi_ofBool, ofBool_eq_one, Bool.and_eq_true, BitVec.sle_eq_decide, BitVec.slt_eq_decide, decide_eq_true_eq,
    BitVec.toInt_eq_toNat_cond, BitVec.toNat_ofNat, Nat.reducePow, Nat.reduceMod] at h
  omega

/-- Where the predicate is all ones, the list's indices are in range, at most 16 share a block, and at most 1008 share a tile. -/
theorem fits_of (f : IVec S16384 32) (h : ∀ i, fitsW f i = 1#1) : Fits (ixN (idxs f)) := by
  refine ⟨fun b hb => ?_, fun w hw l => ?_, fun w hw => ?_⟩
  · have := (fitsW_at f ⟨b, hb⟩ (h _)).1
    rwa [idxs_val f (ix1 ⟨b, hb⟩)] at this
  · rcases Nat.eq_zero_or_pos (cg (ixN (idxs f)) w l) with h0 | h0
    · omega
    obtain ⟨b, hb, hp, -⟩ := exists_count _ h0
    refine le_trans (count_mono_of fun c _ hc => ?_) (fitsW_at f ⟨b, hb⟩ (h _)).2.1
    obtain ⟨⟨-, h1⟩, h2⟩ := hp
    obtain ⟨⟨-, h3⟩, h4⟩ := hc
    change ixN (idxs f) b / 4096 = l at h2
    change ixN (idxs f) c / 4096 = l at h4
    show ixN (idxs f) c / 128 = ixN (idxs f) b / 128
    omega
  · rcases Nat.eq_zero_or_pos (cntO (ixN (idxs f)) w 16384) with h0 | h0
    · omega
    obtain ⟨b, hb, hp, -⟩ := exists_count _ h0
    exact le_trans (count_mono_of fun c _ hc => hc.2.trans hp.2.symm) (fitsW_at f ⟨b, hb⟩ (h _)).2.2

/-- The precondition's term being all ones is what the run asks of the two lists. -/
theorem fits_of_fn (a0 a1 : IVec S16384 32) (a2 a3 : FVec F Cert.Pre_indices_fit.S1000000x32 .f32)
    (h : Cert.Pre_indices_fit.fn (F := F) a0 a1 a2 a3 = fun _ => 1#1) : Fits (ixN (idxs a0)) ∧ Fits (ixN (idxs a1)) := by
  rw [fn_eq] at h
  have hb : ∀ i, fitsW a0 i = 1#1 ∧ fitsW a1 i = 1#1 := fun i => by
    have e : IntOp.andi (fitsW a0 i) (fitsW a1 i) = 1#1 := congrFun h i
    generalize fitsW a0 i = p at e ⊢
    generalize fitsW a1 i = q at e ⊢
    revert p q
    decide
  exact ⟨fits_of a0 fun i => (hb i).1, fits_of a1 fun i => (hb i).2⟩

end Cert.Proof.Gather

end
-- ==== Proof.Ref.lean ====
/-
  The result as a sum, the reference's term read at an index, and the equality of the two.
-/
module

public import proofs.«01_k».proof.Proof.Pre
public import proofs.«01_k».proof.Proof.Gen.ReferenceIdeal.Run
public import Idealize.ShloMosaic.Lib.ReduceAll
public import Idealize.ShloMosaic.Lib.KernelVsHost
public import Idealize.ShloMosaic.Lib.Pointwise.Contract
public import Idealize.ShloMosaic.Lib.ValueIdx

@[expose] public section

noncomputable section

namespace Cert.Proof.Gather

open Idealize.ShloMosaic hiding ix1 ix2
open Idealize.ShloMosaic.ValueIdx (ix0 ix1 ix2)
open Cert.ReferenceIdeal (S16384 S_ S1 S1x1 S16384x1 S16384x32 S1000000x32)
open Cert.ReferenceIdeal Cert.ReferenceIdeal.Gen

/-! ## The program's result -/

section Kernel

variable {F : FTy → Type} [FloatOps F]

/-- A column of the padded transposed table below the padding is the table's row. -/
theorem padT_val (w : S1000000x32.Idx → F .f32) (c : ℕ) (hc : c < 1000000) (r : Fin 32) :
    tbl (padT w) r.val c = w (ix2 (⟨c, hc⟩ : Fin 1000000) r) := by
  unfold tbl padT
  rw [pad_apply_of_inside _ _ _ _ _ _ _ _ (ix2 r (⟨c, hc⟩ : Fin 1000000)) (fun a => by
    match a with
    | ⟨0, _⟩ => show r.val % 32 = 0 + r.val * (0 + 1); have := r.isLt; omega
    | ⟨1, _⟩ => show c % 1000064 = 0 + c * (0 + 1); omega)]
  show w _ = w _
  refine congrArg w (funext fun a => ?_)
  match a with
  | ⟨0, _⟩ => rfl
  | ⟨1, _⟩ => rfl

/-- What the gathering call leaves for position `b`, row `r`: entry `r` of the table's row that index `b` names. -/
theorem gath_val (w : S1000000x32.Idx → F .f32) (f : S16384.Idx → BitVec 32) (hf : Fits (ixN (idxs f))) (b : Fin 16384) (r : Fin 32) :
    gath (padT w) f (b.val * 32 + r.val) = w (ix2 (⟨ixN (idxs f) b.val, hf.range _ b.isLt⟩ : Fin 1000000) r) := by
  unfold gath
  rw [show (b.val * 32 + r.val) % 32 = r.val by have := r.isLt; omega, show (b.val * 32 + r.val) / 32 = b.val by have := r.isLt; omega]
  exact padT_val w _ _ r

end Kernel

/-- Over the extended reals the ordered sum of products is the sum. -/
theorem dacc_sum (hu hv : ℕ → Ideal .f32) (p : ℕ) : ∀ j, dacc (F := Ideal) hu hv p j = ∑ k ∈ Finset.range j, hu (p * 32 + k) * hv (p * 32 + k)
  | 0 => by
    rw [Finset.sum_range_zero]
    show (Scalar.ofBits .f32 0x00000000#32 : Ideal .f32) = 0
    exact Idealize.ShloMosaic.Ideal.ofBits_zero_f32
  | j + 1 => by
    rw [Finset.sum_range_succ, ← dacc_sum hu hv p j]
    rfl

/-- The program's result at position `b`: the sum over the 32 entries of the product of the two tables' rows. -/
theorem res_val (w0 w1 : S1000000x32.Idx → Ideal .f32) (f0 f1 : S16384.Idx → BitVec 32) (h0 : Fits (ixN (idxs f0))) (h1 : Fits (ixN (idxs f1))) (b : Fin 16384) :
    dotB (F := Ideal) (gath (padT w0) f0) (gath (padT w1) f1) (ix1 b)
      = ∑ k : Fin 32, w0 (ix2 (⟨ixN (idxs f0) b.val, h0.range _ b.isLt⟩ : Fin 1000000) k) * w1 (ix2 (⟨ixN (idxs f1) b.val, h1.range _ b.isLt⟩ : Fin 1000000) k) := by
  show dacc (F := Ideal) _ _ b.val 32 = _
  rw [dacc_sum, Finset.sum_range]
  exact Finset.sum_congr rfl fun k _ => by rw [gath_val w0 f0 h0, gath_val w1 f1 h1]

/-! ## The reference's term -/

/-- The row numbers the reference's gather takes. -/
def rowW (f : IVec S16384 32) : IVec S16384x1 32 :=
  broadcastInDim S16384x1 ![0] bcast_S16384_S16384x1_0 (select (cmpi .slt f (broadcastInDim S16384 ![] bcast_S_S16384 (constantI S_ 32 0#32)))
    (addi f (broadcastInDim S16384 ![] bcast_S_S16384 (constantI S_ 32 1000000#32))) f)

/-- Whether each row number is in range. -/
def inW (f : IVec S16384 32) : IVec S16384x1 1 :=
  andi (cmpi .sge (rowW f) (broadcastInDim S16384x1 ![] bcast_S_S16384x1 (constantI S_ 32 0#32)))
    (cmpi .sle (rowW f) (broadcastInDim S16384x1 ![0, 1] bcast_S1x1_S16384x1_0_1 (broadcastInDim S1x1 ![1] bcast_S1_S1x1_1 (constantI S1 32 999999#32))))

/-- The rows the reference takes of a table. -/
def takeW (w : FVec Ideal S1000000x32 .f32) (f : IVec S16384 32) : FVec Ideal S16384x32 .f32 :=
  select (broadcastInDim S16384x32 ![0] bcast_S16384_S16384x32_0 (Host.reduce IntOp.andi (inW f) (constantI S_ 1 1#1) reducesTo_S16384x1_S16384_d1 h_S_))
    (Host.gather gather_S1000000x32_S16384x1_S16384x32_1_0_n_n_0_1_132 w (rowW f))
    (broadcastInDim S16384x32 ![] bcast_S_S16384x32 (constant S_ .f32 0x7FC00000#32))

/-- The reference's result. -/
def refW (w0 w1 : FVec Ideal S1000000x32 .f32) (f0 f1 : IVec S16384 32) : FVec Ideal S16384 .f32 :=
  Host.dotGeneral dot_S16384x32_S16384x32_S16384_1_1_n_n_0_0 none (takeW w0 f0) (takeW w1 f1)

/-- A list as a column. -/
theorem col_val {α : Type} (x : S16384.Idx → α) (i : S16384x1.Idx) :
    broadcastInDim S16384x1 ![0] bcast_S16384_S16384x1_0 x i = x (ix1 (⟨(i 0).val, (i 0).isLt⟩ : Fin 16384)) := by
  show x _ = x _
  refine congrArg x (funext fun a => ?_)
  match a with
  | ⟨0, _⟩ => rfl

/-- A row of the gather, where its row number is in range. -/
theorem gatherW_val (w : FVec Ideal S1000000x32 .f32) (x : IVec S16384x1 32) (b : Fin 16384) (k : Fin 32) (c : Fin 1000000)
    (hb : x (ix2 b (0 : Fin 1)) = BitVec.ofNat 32 c.val) :
    Host.gather gather_S1000000x32_S16384x1_S16384x32_1_0_n_n_0_1_132 w x (ix2 b k) = w (ix2 c k) := by
  have h := @Routing.gather_row (Ideal .f32) 1000000 32 16384 gather_S1000000x32_S16384x1_S16384x32_1_0_n_n_0_1_132
  exact h rfl rfl rfl rfl rfl w x b k c hb (by norm_num)

section Take

variable (f : IVec S16384 32) (hf : Fits (ixN (idxs f)))

include hf in
/-- An index in range is the row number taken. -/
theorem rowW_val (i : S16384x1.Idx) : rowW f i = BitVec.ofNat 32 (ixN (idxs f) (i 0).val) := by
  have hi : (i 0).val < 16384 := (i 0).isLt
  have e : rowW f i = Scalar.select (IntOp.cmpi .slt (f (ix1 (⟨(i 0).val, hi⟩ : Fin 16384))) 0#32) (f (ix1 (⟨(i 0).val, hi⟩ : Fin 16384)) + 1000000#32) (f (ix1 (⟨(i 0).val, hi⟩ : Fin 16384))) := by
    unfold rowW
    rw [col_val]
    rfl
  rw [e, idxs_val f]
  have hr := hf.range _ hi
  have h1 : (idxs f (i 0).val).toNat < 1000000 := hr
  show Scalar.select (IntOp.cmpi .slt (idxs f (i 0).val) 0#32) (idxs f (i 0).val + 1000000#32) (idxs f (i 0).val) = BitVec.ofNat 32 (idxs f (i 0).val).toNat
  generalize idxs f (i 0).val = x at h1 ⊢
  rw [show IntOp.cmpi .slt x 0#32 = 0#1 from ?_, ValueIdx.select_zero]
  · simp
  · simp only [IntOp.cmpi]
    rw [show x.slt 0#32 = false from ?_]
    · rfl
    · rw [BitVec.slt_eq_decide, decide_eq_false_iff_not, BitVec.toInt_eq_toNat_cond]
      simp only [BitVec.toInt_zero]
      omega

include hf in
/-- Every row number is in range. -/
theorem inW_val (i : S16384x1.Idx) : inW f i = 1#1 := by
  show IntOp.andi (IntOp.cmpi .sge (rowW f i) 0#32) (IntOp.cmpi .sle (rowW f i) 999999#32) = 1#1
  have hi : (i 0).val < 16384 := (i 0).isLt
  have hr := hf.range _ hi
  rw [rowW_val f hf]
  generalize ixN (idxs f) (i 0).val = x at hr ⊢
  simp only [IntOp.cmpi, andi_ofBool, ofBool_eq_one, Bool.and_eq_true, BitVec.sle_eq_decide, decide_eq_true_eq,
    BitVec.toInt_eq_toNat_cond, BitVec.toNat_ofNat, Nat.reducePow, Nat.reduceMod]
  omega

/-- The row taken at position `b` is the table's row that index `b` names. -/
theorem takeW_val (w : FVec Ideal S1000000x32 .f32) (b : Fin 16384) (k : Fin 32) :
    takeW w f (ix2 b k) = w (ix2 (⟨ixN (idxs f) b.val, hf.range _ b.isLt⟩ : Fin 1000000) k) := by
  have e : broadcastInDim S16384x32 ![0] bcast_S16384_S16384x32_0 (Host.reduce IntOp.andi (inW f) (constantI S_ 1 1#1) reducesTo_S16384x1_S16384_d1 h_S_) (ix2 b k) = 1#1 :=
    Host.reduce_andi_one _ _ _ _ _ rfl (inW_val f hf)
  unfold takeW
  rw [ValueIdx.select_apply, e, ValueIdx.select_one]
  have hb : rowW f (ix2 b (0 : Fin 1)) = BitVec.ofNat 32 (ixN (idxs f) b.val) := rowW_val f hf _
  exact gatherW_val w _ b k ⟨ixN (idxs f) b.val, hf.range _ b.isLt⟩ hb

end Take

/-- The reference's result at position `b`: the sum over the 32 entries of the product of the two tables' rows. -/
theorem refW_val (w0 w1 : FVec Ideal S1000000x32 .f32) (f0 f1 : IVec S16384 32) (h0 : Fits (ixN (idxs f0))) (h1 : Fits (ixN (idxs f1))) (b : Fin 16384) :
    refW w0 w1 f0 f1 (ix1 b)
      = ∑ k : Fin 32, w0 (ix2 (⟨ixN (idxs f0) b.val, h0.range _ b.isLt⟩ : Fin 1000000) k) * w1 (ix2 (⟨ixN (idxs f1) b.val, h1.range _ b.isLt⟩ : Fin 1000000) k) := by
  have e : refW w0 w1 f0 f1 (ix1 b) = (0 : Ideal .f32) + ∑ k : Fin 32, takeW w0 f0 (ix2 b k) * takeW w1 f1 (ix2 b k) := by
    unfold refW
    generalize takeW w0 f0 = a0
    generalize takeW w1 f1 = a1
    simp only [pointwise]
    rfl
  rw [e, zero_add]
  exact Finset.sum_congr rfl fun k _ => by rw [takeW_val f0 h0, takeW_val f1 h1]

/-- The program's result is the reference's. -/
theorem res_eq (w0 w1 : FVec Ideal S1000000x32 .f32) (f0 f1 : IVec S16384 32) (h0 : Fits (ixN (idxs f0))) (h1 : Fits (ixN (idxs f1))) :
    refW w0 w1 f0 f1 = dotB (F := Ideal) (gath (padT w0) f0) (gath (padT w1) f1) := by
  funext i
  have hi : i = ix1 (⟨(i 0).val, (i 0).isLt⟩ : Fin 16384) := funext fun a => by
    match a with
    | ⟨0, _⟩ => rfl
  rw [hi]
  exact (refW_val w0 w1 f0 f1 h0 h1 _).trans (res_val w0 w1 f0 f1 h0 h1 _).symm

end Cert.Proof.Gather

end
-- ==== Proof.lean ====
/- The proof of the certificate's claim: the frames of the two readings of the program and of the reference, and the
   equality of the program's result with the reference's over the extended reals. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_indices_fit
public import proofs.«01_k».proof.Proof.Ref
public import Idealize.ShloMosaic.Adequacy
public import Idealize.ShloMosaic.Init
public import Idealize.ShloMosaic.Lib.Claim

@[expose] public section

noncomputable section

namespace Cert.Proof

open Idealize.ShloMosaic Idealize.SL.Sem

set_option maxHeartbeats 8000000 in
/-- `Cert.quiescent_Kernel`: the program runs to the end from any memory whose indices fit, its arguments unchanged and
    every semaphore counter back at zero. -/
theorem frame_kernel : Cert.quiescent_Kernel := fun m ρ hpre =>
  (θ_run Cert.KernelIdeal.defs _ _).mono (fun _ h => ⟨fun c => ⟨(h.1 c).1, (h.1 c).2.1, (h.1 c).2.2.1, (h.1 c).2.2.2.1⟩, h.2⟩)
    (Gather.run_main (F := Bits) m ρ fun d => Gather.fits_of_fn _ _ _ _ (hpre d))

/-- `Cert.quiescent_KernelIdeal`: the same run, over the extended reals. -/
theorem frame_kernelIdeal : Cert.quiescent_KernelIdeal := fun m ρ hpre =>
  (θ_run Cert.KernelIdeal.defs _ _).mono (fun _ h => ⟨fun c => ⟨(h.1 c).1, (h.1 c).2.1, (h.1 c).2.2.1, (h.1 c).2.2.2.1⟩, h.2⟩)
    (Gather.run_main (F := Ideal) m ρ fun d => Gather.fits_of_fn _ _ _ _ (hpre d))

/-- `Cert.quiescent_ReferenceIdeal`: the reference runs, its arguments unchanged; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- `Cert.quiescent_ReferenceIdeal_pre_indices_fit`: so it does where the indices fit. -/
theorem frame_reference_pre : Cert.quiescent_ReferenceIdeal_pre_indices_fit := fun m ρ _ => frame_reference m ρ trivial

/-- `Cert.algebraic_KernelIdeal_ReferenceIdeal`: from memories that agree on the arguments, the program's result is, over
    the extended reals, the reference's. -/
theorem algebraic : Cert.algebraic_KernelIdeal_ReferenceIdeal := by
  intro m ρ m' ρ' hpre hagree
  have hok : Gather.PreOK m := fun d => Gather.fits_of_fn _ _ _ _ (hpre d)
  refine ⟨fun c => Gather.rR m (Gather.tuT m) (Gather.tvT m) c,
    (θ_run Cert.KernelIdeal.defs _ _).mono (fun _ h c => ⟨(h.1 c).2.2.2.2, (h.1 c).1, (h.1 c).2.1, (h.1 c).2.2.1, (h.1 c).2.2.2.1⟩)
      (Gather.run_main (F := Ideal) m ρ hok),
    (θ_run Cert.ReferenceIdeal.defs _ _).mono (fun _ h c => ⟨(h c).1.trans ?_, (h c).2⟩) (Cert.ReferenceIdeal.Value.run (F := Ideal) m' ρ')⟩
  obtain ⟨e0, e1, e2, e3⟩ := hagree c
  rw [e0, e1, e2, e3]
  exact Gather.res_eq _ _ _ _ (hok c).1 (hok c).2

/-- `Cert.Claim`. -/
theorem claim : Cert.Claim :=
  ⟨Cert.Kernel.Gen.facts, Cert.KernelIdeal.Gen.facts, Cert.ReferenceIdeal.Gen.facts, Cert.Pre_indices_fit.Gen.facts,
    frame_kernel, frame_kernelIdeal, frame_reference, frame_reference_pre, trivial, algebraic⟩

end Cert.Proof

end
